-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12)
      ∧ r.2.mem ((c.tc : Thread Cert.Kernel9.nD Cert.Kernel9.τ).loc Cert.Kernel9.main_arg13) = m ((c.tc : Thread Cert.Kernel9.nD Cert.Kernel9.τ).loc Cert.Kernel9.main_arg13)
      ∧ r.2.mem ((c.tc : Thread Cert.Kernel9.nD Cert.Kernel9.τ).loc Cert.Kernel9.main_arg14) = m ((c.tc : Thread Cert.Kernel9.nD Cert.Kernel9.τ).loc Cert.Kernel9.main_arg14)
      ∧ r.2.mem ((c.tc : Thread Cert.Kernel9.nD Cert.Kernel9.τ).loc Cert.Kernel9.main_arg15) = m ((c.tc : Thread Cert.Kernel9.nD Cert.Kernel9.τ).loc Cert.Kernel9.main_arg15))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
      ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
      ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
      ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13)
      ∧ r.2.mem ((c.tc : Thread Cert.Reference9Ideal.nD Cert.Reference9Ideal.τ).loc Cert.Reference9Ideal.main_arg14) = m ((c.tc : Thread Cert.Reference9Ideal.nD Cert.Reference9Ideal.τ).loc Cert.Reference9Ideal.main_arg14)
      ∧ r.2.mem ((c.tc : Thread Cert.Reference9Ideal.nD Cert.Reference9Ideal.τ).loc Cert.Reference9Ideal.main_arg15) = m ((c.tc : Thread Cert.Reference9Ideal.nD Cert.Reference9Ideal.τ).loc Cert.Reference9Ideal.main_arg15))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)) (v6 : (c : Dev Cert.KernelIdeal.nD) → Buf (Elt Ideal) ((c.tc : Thread Cert.KernelIdeal.nD Cert.KernelIdeal.τ).loc Cert.KernelIdeal.main_v2_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_v2_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_v65) = v4 c
          ∧ r.2.mem ((c.tc : Thread Cert.ReferenceIdeal.nD Cert.ReferenceIdeal.τ).loc Cert.ReferenceIdeal.main_v71) = v5 c
          ∧ r.2.mem ((c.tc : Thread Cert.ReferenceIdeal.nD Cert.ReferenceIdeal.τ).loc Cert.ReferenceIdeal.main_v64) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)) (v2 : (c : Dev Cert.Kernel2Ideal.nD) → Buf (Elt Ideal) ((c.tc : Thread Cert.Kernel2Ideal.nD Cert.Kernel2Ideal.τ).loc Cert.Kernel2Ideal.main_v13_2)) (v3 : (c : Dev Cert.Kernel2Ideal.nD) → Buf (Elt Ideal) ((c.tc : Thread Cert.Kernel2Ideal.nD Cert.Kernel2Ideal.τ).loc Cert.Kernel2Ideal.main_v13_3)) (v4 : (c : Dev Cert.Kernel2Ideal.nD) → Buf (Elt Ideal) ((c.tc : Thread Cert.Kernel2Ideal.nD Cert.Kernel2Ideal.τ).loc Cert.Kernel2Ideal.main_v13_4)) (v5 : (c : Dev Cert.Kernel2Ideal.nD) → Buf (Elt Ideal) ((c.tc : Thread Cert.Kernel2Ideal.nD Cert.Kernel2Ideal.τ).loc Cert.Kernel2Ideal.main_v13_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_v13_2) = v2 c
          ∧ r.2.mem ((c.tc : Thread Cert.Kernel2Ideal.nD Cert.Kernel2Ideal.τ).loc Cert.Kernel2Ideal.main_v13_3) = v3 c
          ∧ r.2.mem ((c.tc : Thread Cert.Kernel2Ideal.nD Cert.Kernel2Ideal.τ).loc Cert.Kernel2Ideal.main_v13_4) = v4 c
          ∧ r.2.mem ((c.tc : Thread Cert.Kernel2Ideal.nD Cert.Kernel2Ideal.τ).loc Cert.Kernel2Ideal.main_v13_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_v76) = v1 c
          ∧ r.2.mem ((c.tc : Thread Cert.Reference2Ideal.nD Cert.Reference2Ideal.τ).loc Cert.Reference2Ideal.main_v77) = v2 c
          ∧ r.2.mem ((c.tc : Thread Cert.Reference2Ideal.nD Cert.Reference2Ideal.τ).loc Cert.Reference2Ideal.main_v79) = v3 c
          ∧ r.2.mem ((c.tc : Thread Cert.Reference2Ideal.nD Cert.Reference2Ideal.τ).loc Cert.Reference2Ideal.main_v80) = v4 c
          ∧ r.2.mem ((c.tc : Thread Cert.Reference2Ideal.nD Cert.Reference2Ideal.τ).loc Cert.Reference2Ideal.main_v81) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)) (v3 : (c : Dev Cert.Kernel5Ideal.nD) → Buf (Elt Ideal) ((c.tc : Thread Cert.Kernel5Ideal.nD Cert.Kernel5Ideal.τ).loc Cert.Kernel5Ideal.main_v8_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_v8_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v60) = v0 c
          ∧ r.2.mem ((c.tc : Thread Cert.Reference5Ideal.nD Cert.Reference5Ideal.τ).loc Cert.Reference5Ideal.main_v61) = v1 c
          ∧ r.2.mem ((c.tc : Thread Cert.Reference5Ideal.nD Cert.Reference5Ideal.τ).loc Cert.Reference5Ideal.main_v62) = v2 c
          ∧ r.2.mem ((c.tc : Thread Cert.Reference5Ideal.nD Cert.Reference5Ideal.τ).loc Cert.Reference5Ideal.main_v63) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)) →
    ∃ (v0 : (c : Dev Cert.Kernel6Ideal.nD) → Buf (Elt Ideal) ((c.tc : Thread Cert.Kernel6Ideal.nD Cert.Kernel6Ideal.τ).loc Cert.Kernel6Ideal.main_v31)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v31) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v29_0)) (v1 : (c : Dev Cert.Kernel7Ideal.nD) → Buf (Elt Ideal) ((c.tc : Thread Cert.Kernel7Ideal.nD Cert.Kernel7Ideal.τ).loc Cert.Kernel7Ideal.main_v29_1)) (v2 : (c : Dev Cert.Kernel7Ideal.nD) → Buf (Elt Ideal) ((c.tc : Thread Cert.Kernel7Ideal.nD Cert.Kernel7Ideal.τ).loc Cert.Kernel7Ideal.main_v29_2)) (v3 : (c : Dev Cert.Kernel7Ideal.nD) → Buf (Elt Ideal) ((c.tc : Thread Cert.Kernel7Ideal.nD Cert.Kernel7Ideal.τ).loc Cert.Kernel7Ideal.main_v29_3)) (v4 : (c : Dev Cert.Kernel7Ideal.nD) → Buf (Elt Ideal) ((c.tc : Thread Cert.Kernel7Ideal.nD Cert.Kernel7Ideal.τ).loc Cert.Kernel7Ideal.main_v29_4)) (v5 : (c : Dev Cert.Kernel7Ideal.nD) → Buf (Elt Ideal) ((c.tc : Thread Cert.Kernel7Ideal.nD Cert.Kernel7Ideal.τ).loc Cert.Kernel7Ideal.main_v29_5)) (v6 : (c : Dev Cert.Kernel7Ideal.nD) → Buf (Elt Ideal) ((c.tc : Thread Cert.Kernel7Ideal.nD Cert.Kernel7Ideal.τ).loc Cert.Kernel7Ideal.main_v29_6)) (v7 : (c : Dev Cert.Kernel7Ideal.nD) → Buf (Elt Ideal) ((c.tc : Thread Cert.Kernel7Ideal.nD Cert.Kernel7Ideal.τ).loc Cert.Kernel7Ideal.main_v29_7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v29_0) = v0 c
          ∧ r.2.mem ((c.tc : Thread Cert.Kernel7Ideal.nD Cert.Kernel7Ideal.τ).loc Cert.Kernel7Ideal.main_v29_1) = v1 c
          ∧ r.2.mem ((c.tc : Thread Cert.Kernel7Ideal.nD Cert.Kernel7Ideal.τ).loc Cert.Kernel7Ideal.main_v29_2) = v2 c
          ∧ r.2.mem ((c.tc : Thread Cert.Kernel7Ideal.nD Cert.Kernel7Ideal.τ).loc Cert.Kernel7Ideal.main_v29_3) = v3 c
          ∧ r.2.mem ((c.tc : Thread Cert.Kernel7Ideal.nD Cert.Kernel7Ideal.τ).loc Cert.Kernel7Ideal.main_v29_4) = v4 c
          ∧ r.2.mem ((c.tc : Thread Cert.Kernel7Ideal.nD Cert.Kernel7Ideal.τ).loc Cert.Kernel7Ideal.main_v29_5) = v5 c
          ∧ r.2.mem ((c.tc : Thread Cert.Kernel7Ideal.nD Cert.Kernel7Ideal.τ).loc Cert.Kernel7Ideal.main_v29_6) = v6 c
          ∧ r.2.mem ((c.tc : Thread Cert.Kernel7Ideal.nD Cert.Kernel7Ideal.τ).loc Cert.Kernel7Ideal.main_v29_7) = v7 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v2) = v1 c
          ∧ r.2.mem ((c.tc : Thread Cert.Reference7Ideal.nD Cert.Reference7Ideal.τ).loc Cert.Reference7Ideal.main_v4) = v2 c
          ∧ r.2.mem ((c.tc : Thread Cert.Reference7Ideal.nD Cert.Reference7Ideal.τ).loc Cert.Reference7Ideal.main_v7) = v3 c
          ∧ r.2.mem ((c.tc : Thread Cert.Reference7Ideal.nD Cert.Reference7Ideal.τ).loc Cert.Reference7Ideal.main_v8) = v4 c
          ∧ r.2.mem ((c.tc : Thread Cert.Reference7Ideal.nD Cert.Reference7Ideal.τ).loc Cert.Reference7Ideal.main_v9) = v5 c
          ∧ r.2.mem ((c.tc : Thread Cert.Reference7Ideal.nD Cert.Reference7Ideal.τ).loc Cert.Reference7Ideal.main_v11) = v6 c
          ∧ r.2.mem ((c.tc : Thread Cert.Reference7Ideal.nD Cert.Reference7Ideal.τ).loc Cert.Reference7Ideal.main_v13) = v7 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_v28) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)
      ∧ m' ((c.tc : Thread Cert.Reference9Ideal.nD Cert.Reference9Ideal.τ).loc Cert.Reference9Ideal.main_arg12) = m ((c.tc : Thread Cert.Kernel9Ideal.nD Cert.Kernel9Ideal.τ).loc Cert.Kernel9Ideal.main_arg12)
      ∧ m' ((c.tc : Thread Cert.Reference9Ideal.nD Cert.Reference9Ideal.τ).loc Cert.Reference9Ideal.main_arg13) = m ((c.tc : Thread Cert.Kernel9Ideal.nD Cert.Kernel9Ideal.τ).loc Cert.Kernel9Ideal.main_arg13)
      ∧ m' ((c.tc : Thread Cert.Reference9Ideal.nD Cert.Reference9Ideal.τ).loc Cert.Reference9Ideal.main_arg14) = m ((c.tc : Thread Cert.Kernel9Ideal.nD Cert.Kernel9Ideal.τ).loc Cert.Kernel9Ideal.main_arg14)
      ∧ m' ((c.tc : Thread Cert.Reference9Ideal.nD Cert.Reference9Ideal.τ).loc Cert.Reference9Ideal.main_arg15) = m ((c.tc : Thread Cert.Kernel9Ideal.nD Cert.Kernel9Ideal.τ).loc Cert.Kernel9Ideal.main_arg15)) →
    ∃ (v0 : (c : Dev Cert.Kernel9Ideal.nD) → Buf (Elt Ideal) ((c.tc : Thread Cert.Kernel9Ideal.nD Cert.Kernel9Ideal.τ).loc Cert.Kernel9Ideal.main_v33_0)) (v1 : (c : Dev Cert.Kernel9Ideal.nD) → Buf (Elt Ideal) ((c.tc : Thread Cert.Kernel9Ideal.nD Cert.Kernel9Ideal.τ).loc Cert.Kernel9Ideal.main_v33_1)) (v2 : (c : Dev Cert.Kernel9Ideal.nD) → Buf (Elt Ideal) ((c.tc : Thread Cert.Kernel9Ideal.nD Cert.Kernel9Ideal.τ).loc Cert.Kernel9Ideal.main_v33_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v33_0) = v0 c
          ∧ r.2.mem ((c.tc : Thread Cert.Kernel9Ideal.nD Cert.Kernel9Ideal.τ).loc Cert.Kernel9Ideal.main_v33_1) = v1 c
          ∧ r.2.mem ((c.tc : Thread Cert.Kernel9Ideal.nD Cert.Kernel9Ideal.τ).loc Cert.Kernel9Ideal.main_v33_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
          ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
          ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13)
          ∧ r.2.mem ((c.tc : Thread Cert.Kernel9Ideal.nD Cert.Kernel9Ideal.τ).loc Cert.Kernel9Ideal.main_arg14) = m ((c.tc : Thread Cert.Kernel9Ideal.nD Cert.Kernel9Ideal.τ).loc Cert.Kernel9Ideal.main_arg14)
          ∧ r.2.mem ((c.tc : Thread Cert.Kernel9Ideal.nD Cert.Kernel9Ideal.τ).loc Cert.Kernel9Ideal.main_arg15) = m ((c.tc : Thread Cert.Kernel9Ideal.nD Cert.Kernel9Ideal.τ).loc Cert.Kernel9Ideal.main_arg15))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v74) = v0 c
          ∧ r.2.mem ((c.tc : Thread Cert.Reference9Ideal.nD Cert.Reference9Ideal.τ).loc Cert.Reference9Ideal.main_v75) = v1 c
          ∧ r.2.mem ((c.tc : Thread Cert.Reference9Ideal.nD Cert.Reference9Ideal.τ).loc Cert.Reference9Ideal.main_v76) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11)
          ∧ r.2.mem ((c.tc : Thread Cert.Reference9Ideal.nD Cert.Reference9Ideal.τ).loc Cert.Reference9Ideal.main_arg12) = m' ((c.tc : Thread Cert.Reference9Ideal.nD Cert.Reference9Ideal.τ).loc Cert.Reference9Ideal.main_arg12)
          ∧ r.2.mem ((c.tc : Thread Cert.Reference9Ideal.nD Cert.Reference9Ideal.τ).loc Cert.Reference9Ideal.main_arg13) = m' ((c.tc : Thread Cert.Reference9Ideal.nD Cert.Reference9Ideal.τ).loc Cert.Reference9Ideal.main_arg13)
          ∧ r.2.mem ((c.tc : Thread Cert.Reference9Ideal.nD Cert.Reference9Ideal.τ).loc Cert.Reference9Ideal.main_arg14) = m' ((c.tc : Thread Cert.Reference9Ideal.nD Cert.Reference9Ideal.τ).loc Cert.Reference9Ideal.main_arg14)
          ∧ r.2.mem ((c.tc : Thread Cert.Reference9Ideal.nD Cert.Reference9Ideal.τ).loc Cert.Reference9Ideal.main_arg15) = m' ((c.tc : Thread Cert.Reference9Ideal.nD Cert.Reference9Ideal.τ).loc Cert.Reference9Ideal.main_arg15))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v36) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v4_0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v50) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Kernel.lean ====
abbrev S4096x512 : Shape := ⟨2, ![4096, 512]⟩
abbrev S4096x4096 : Shape := ⟨2, ![4096, 4096]⟩
abbrev S4x1024 : Shape := ⟨2, ![4, 1024]⟩
abbrev S4x512x1024 : Shape := ⟨3, ![4, 512, 1024]⟩
abbrev S4096x1024 : Shape := ⟨2, ![4096, 1024]⟩
abbrev S1x4x512x1024 : Shape := ⟨4, ![1, 4, 512, 1024]⟩
abbrev S256x512 : Shape := ⟨2, ![256, 512]⟩
abbrev S256x4096 : Shape := ⟨2, ![256, 4096]⟩
abbrev S256x1024 : Shape := ⟨2, ![256, 1024]⟩
abbrev S1x1x512x1024 : Shape := ⟨4, ![1, 1, 512, 1024]⟩
abbrev S512x1024 : Shape := ⟨2, ![512, 1024]⟩
abbrev S1x1024 : Shape := ⟨2, ![1, 1024]⟩
abbrev S1024 : Shape := ⟨1, ![1024]⟩

abbrev nBuf : Space → Nat
  | .hbm => 17
  | .vmem => 27
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x4096, .f32⟩
  | .hbm, ⟨5, _⟩ => ⟨S4x1024, .f32⟩
  | .hbm, ⟨6, _⟩ => ⟨S4x512x1024, .f32⟩
  | .hbm, ⟨7, _⟩ => ⟨S4096x1024, .f32⟩
  | .hbm, ⟨8, _⟩ => ⟨S4x512x1024, .bf16⟩
  | .hbm, ⟨9, _⟩ => ⟨S1x4x512x1024, .bf16⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x4096, .f32⟩
  | .hbm, ⟨15, _⟩ => ⟨S4096x4096, .bf16⟩
  | .hbm, ⟨16, _⟩ => ⟨S4x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x4096, .f32⟩
  | .local _ .vmem, ⟨9, _⟩ => ⟨S256x4096, .f32⟩
  | .local _ .vmem, ⟨10, _⟩ => ⟨S4x1024, .f32⟩
  | .local _ .vmem, ⟨11, _⟩ => ⟨S1x4x512x1024, .bf16⟩
  | .local _ .vmem, ⟨12, _⟩ => ⟨S256x1024, .f32⟩
  | .local _ .vmem, ⟨13, _⟩ => ⟨S256x1024, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x4096, .f32⟩
  | .local _ .vmem, ⟨23, _⟩ => ⟨S256x4096, .f32⟩
  | .local _ .vmem, ⟨24, _⟩ => ⟨S256x4096, .bf16⟩
  | .local _ .vmem, ⟨25, _⟩ => ⟨S256x4096, .bf16⟩
  | .local _ .vmem, ⟨26, _⟩ => ⟨S4x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev main_v2_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v27 : BitVec 32 := Scalar.extui v1
  let c0_i32_24 : BitVec 32 := 0#32
  let v28 : BitVec 1 := Scalar.cmpi .ne v27 c0_i32_24
  v28

def k0_cond2 (i : grid0.Coords) : BitVec 1 :=
  let arg0 : BitVec 32 := BitVec.ofNat 32 (i 0).val
  let c0_i32 : BitVec 32 := 0#32
  let v1 : BitVec 1 := Scalar.cmpi .eq arg0 c0_i32
  let v_true : BitVec 1 := 1#1
  let v29 : BitVec 1 := Scalar.xori v1 v_true
  let v30 : BitVec 32 := Scalar.extui v29
  let c0_i32_25 : BitVec 32 := 0#32
  let v31 : BitVec 1 := Scalar.cmpi .ne v30 c0_i32_25
  v31

def k0_cond3 (i : grid0.Coords) : BitVec 1 :=
  let arg0 : BitVec 32 := BitVec.ofNat 32 (i 0).val
  let c0_i32 : BitVec 32 := 0#32
  let v1 : BitVec 1 := Scalar.cmpi .eq arg0 c0_i32
  let v57 : BitVec 32 := Scalar.extui v1
  let c0_i32_48 : BitVec 32 := 0#32
  let v58 : BitVec 1 := Scalar.cmpi .ne v57 c0_i32_48
  v58

def k0_cond4 (i : grid0.Coords) : BitVec 1 :=
  let arg0 : BitVec 32 := BitVec.ofNat 32 (i 0).val
  let c0_i32 : BitVec 32 := 0#32
  let v1 : BitVec 1 := Scalar.cmpi .eq arg0 c0_i32
  let true_49 : BitVec 1 := 1#1
  let v59 : BitVec 1 := Scalar.xori v1 true_49
  let v60 : BitVec 32 := Scalar.extui v59
  let c0_i32_50 : BitVec 32 := 0#32
  let v61 : BitVec 1 := Scalar.cmpi .ne v60 c0_i32_50
  v61

def k0_cond5 (i : grid0.Coords) : BitVec 1 :=
  let arg0 : BitVec 32 := BitVec.ofNat 32 (i 0).val
  let c0_i32 : BitVec 32 := 0#32
  let v1 : BitVec 1 := Scalar.cmpi .eq arg0 c0_i32
  let v87 : BitVec 32 := Scalar.extui v1
  let c0_i32_73 : BitVec 32 := 0#32
  let v88 : BitVec 1 := Scalar.cmpi .ne v87 c0_i32_73
  v88

def k0_cond6 (i : grid0.Coords) : BitVec 1 :=
  let arg0 : BitVec 32 := BitVec.ofNat 32 (i 0).val
  let c0_i32 : BitVec 32 := 0#32
  let v1 : BitVec 1 := Scalar.cmpi .eq arg0 c0_i32
  let true_74 : BitVec 1 := 1#1
  let v89 : BitVec 1 := Scalar.xori v1 true_74
  let v90 : BitVec 32 := Scalar.extui v89
  let c0_i32_75 : BitVec 32 := 0#32
  let v91 : BitVec 1 := Scalar.cmpi .ne v90 c0_i32_75
  v91

def k0_cond7 (i : grid0.Coords) : BitVec 1 :=
  let arg0 : BitVec 32 := BitVec.ofNat 32 (i 0).val
  let c0_i32 : BitVec 32 := 0#32
  let v1 : BitVec 1 := Scalar.cmpi .eq arg0 c0_i32
  let v117 : BitVec 32 := Scalar.extui v1
  let c0_i32_98 : BitVec 32 := 0#32
  let v118 : BitVec 1 := Scalar.cmpi .ne v117 c0_i32_98
  v118

def k0_cond8 (i : grid0.Coords) : BitVec 1 :=
  let arg0 : BitVec 32 := BitVec.ofNat 32 (i 0).val
  let c0_i32 : BitVec 32 := 0#32
  let v1 : BitVec 1 := Scalar.cmpi .eq arg0 c0_i32
  let true_99 : BitVec 1 := 1#1
  let v119 : BitVec 1 := Scalar.xori v1 true_99
  let v120 : BitVec 32 := Scalar.extui v119
  let c0_i32_100 : BitVec 32 := 0#32
  let v121 : BitVec 1 := Scalar.cmpi .ne v120 c0_i32_100
  v121

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S4x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S4096x512 : Shape := ⟨2, ![4096, 512]⟩
abbrev S4096x4096 : Shape := ⟨2, ![4096, 4096]⟩
abbrev S4x1024 : Shape := ⟨2, ![4, 1024]⟩
abbrev S4x512x1024 : Shape := ⟨3, ![4, 512, 1024]⟩
abbrev S4096x1024 : Shape := ⟨2, ![4096, 1024]⟩
abbrev S1x512x1024 : Shape := ⟨3, ![1, 512, 1024]⟩
abbrev S512x1024 : Shape := ⟨2, ![512, 1024]⟩
abbrev S4096x4x1024 : Shape := ⟨3, ![4096, 4, 1024]⟩
abbrev S1x4x1024 : Shape := ⟨3, ![1, 4, 1024]⟩
abbrev S_ : Shape := ⟨0, ![]⟩
abbrev S4096x1x1024 : Shape := ⟨3, ![4096, 1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x4096, .f32⟩
  | .hbm, ⟨5, _⟩ => ⟨S4x1024, .f32⟩
  | .hbm, ⟨6, _⟩ => ⟨S4x512x1024, .f32⟩
  | .hbm, ⟨7, _⟩ => ⟨S4096x1024, .f32⟩
  | .hbm, ⟨8, _⟩ => ⟨S1x512x1024, .f32⟩
  | .hbm, ⟨9, _⟩ => ⟨S512x1024, .f32⟩
  | .hbm, ⟨10, _⟩ => ⟨S4096x1024, .f32⟩
  | .hbm, ⟨11, _⟩ => ⟨S1x512x1024, .f32⟩
  | .hbm, ⟨12, _⟩ => ⟨S512x1024, .f32⟩
  | .hbm, ⟨13, _⟩ => ⟨S4096x1024, .f32⟩
  | .hbm, ⟨14, _⟩ => ⟨S1x512x1024, .f32⟩
  | .hbm, ⟨15, _⟩ => ⟨S512x1024, .f32⟩
  | .hbm, ⟨16, _⟩ => ⟨S4096x1024, .f32⟩
  | .hbm, ⟨17, _⟩ => ⟨S1x512x1024, .f32⟩
  | .hbm, ⟨18, _⟩ => ⟨S512x1024, .f32⟩
  | .hbm, ⟨19, _⟩ => ⟨S4096x1024, .f32⟩
  | .hbm, ⟨20, _⟩ => ⟨S4096x4x1024, .f32⟩
  | .hbm, ⟨21, _⟩ => ⟨S1x4x1024, .f32⟩
  | .hbm, ⟨22, _⟩ => ⟨S4096x4x1024, .f32⟩
  | .hbm, ⟨23, _⟩ => ⟨S4096x4x1024, .f32⟩
  | .hbm, ⟨24, _⟩ => ⟨S4096x4x1024, .f32⟩
  | .hbm, ⟨25, _⟩ => ⟨S4096x4x1024, .f32⟩
  | .hbm, ⟨26, _⟩ => ⟨S_, .f32⟩
  | .hbm, ⟨27, _⟩ => ⟨S4096x4x1024, .f32⟩
  | .hbm, ⟨28, _⟩ => ⟨S4096x4x1024, .f32⟩
  | .hbm, ⟨29, _⟩ => ⟨S_, .f32⟩
  | .hbm, ⟨30, _⟩ => ⟨S4096x4x1024, .f32⟩
  | .hbm, ⟨31, _⟩ => ⟨S4096x4x1024, .f32⟩
  | .hbm, ⟨32, _⟩ => ⟨S_, .f32⟩
  | .hbm, ⟨33, _⟩ => ⟨S4096x4x1024, .f32⟩
  | .hbm, ⟨34, _⟩ => ⟨S4096x4x1024, .f32⟩
  | .hbm, ⟨35, _⟩ => ⟨S4096x4x1024, .f32⟩
  | .hbm, ⟨36, _⟩ => ⟨S4096x1x1024, .f32⟩
  | .hbm, ⟨37, _⟩ => ⟨S4096x1024, .f32⟩
  | .hbm, ⟨38, _⟩ => ⟨S4096x1024, .f32⟩
  | .hbm, ⟨39, _⟩ => ⟨S4096x1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1x1024, .f32⟩
  | .hbm, ⟨56, _⟩ => ⟨S_, .f32⟩
  | .hbm, ⟨57, _⟩ => ⟨S4096x4x1024, .f32⟩
  | .hbm, ⟨58, _⟩ => ⟨S4096x1024, .f32⟩
  | .hbm, ⟨59, _⟩ => ⟨S4096x1024, .f32⟩
  | .hbm, ⟨60, _⟩ => ⟨S4096x1x1024, .f32⟩
  | .hbm, ⟨61, _⟩ => ⟨S_, .f32⟩
  | .hbm, ⟨62, _⟩ => ⟨S4096x4x1024, .f32⟩
  | .hbm, ⟨63, _⟩ => ⟨S4096x4x1024, .f32⟩
  | .hbm, ⟨64, _⟩ => ⟨S4096x1024, .f32⟩
  | .hbm, ⟨65, _⟩ => ⟨S4096x1024, .f32⟩
  | .hbm, ⟨66, _⟩ => ⟨S4096x1x1024, .f32⟩
  | .hbm, ⟨67, _⟩ => ⟨S_, .f32⟩
  | .hbm, ⟨68, _⟩ => ⟨S4096x4x1024, .f32⟩
  | .hbm, ⟨69, _⟩ => ⟨S4096x4x1024, .f32⟩
  | .hbm, ⟨70, _⟩ => ⟨S4096x1024, .f32⟩
  | .hbm, ⟨71, _⟩ => ⟨S4096x1024, .f32⟩
  | .hbm, ⟨72, _⟩ => ⟨S4096x1x1024, .f32⟩
  | .hbm, ⟨73, _⟩ => ⟨S_, .f32⟩
  | .hbm, ⟨74, _⟩ => ⟨S4096x4x1024, .f32⟩
  | .hbm, ⟨75, _⟩ => ⟨S4096x4x1024, .f32⟩
  | .hbm, ⟨76, _⟩ => ⟨S4096x4x1024, .f32⟩
  | .hbm, ⟨77, _⟩ => ⟨S_, .f32⟩
  | .hbm, ⟨78, _⟩ => ⟨S4x1024, .f32⟩
  | .hbm, ⟨79, _⟩ => ⟨S1x4x1024, .f32⟩
  | .hbm, ⟨80, _⟩ => ⟨S_, .f32⟩
  | .hbm, ⟨81, _⟩ => ⟨S4x1024, .f32⟩
  | .hbm, ⟨82, _⟩ => ⟨S4096x4096, .f32⟩
  | .hbm, ⟨83, _⟩ => ⟨S4096x512, .f32⟩
  | .hbm, ⟨84, _⟩ => ⟨S4096x512, .f32⟩
  | .hbm, ⟨85, _⟩ => ⟨S4096x512, .f32⟩
  | .hbm, ⟨86, _⟩ => ⟨S4096x512, .f32⟩
  | .hbm, ⟨87, _⟩ => ⟨S4096x4096, .f32⟩
  | .hbm, ⟨88, _⟩ => ⟨S4096x4096, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_2 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_3 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_4 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_5 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_6 : Ref sig .tc := ⟨.hbm, 77, rfl⟩
abbrev main_v62 : Ref sig .tc := ⟨.hbm, 78, rfl⟩
abbrev main_v63 : Ref sig .tc := ⟨.hbm, 79, rfl⟩
abbrev main_cst_7 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096x4096 : Shape := ⟨2, ![4096, 4096]⟩
abbrev S1x1024 : Shape := ⟨2, ![1, 1024]⟩
abbrev S1x1024x4096 : Shape := ⟨3, ![1, 1024, 4096]⟩
abbrev S1x4096x1024 : Shape := ⟨3, ![1, 4096, 1024]⟩
abbrev S512x1024 : Shape := ⟨2, ![512, 1024]⟩
abbrev S1x1024x1024 : Shape := ⟨3, ![1, 1024, 1024]⟩
abbrev S1024x512 : Shape := ⟨2, ![1024, 512]⟩
abbrev S512 : Shape := ⟨1, ![512]⟩
abbrev S512x1 : Shape := ⟨2, ![512, 1]⟩
abbrev S1024x1024 : Shape := ⟨2, ![1024, 1024]⟩

abbrev nBuf : Space → Nat
  | .hbm => 28
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S1x1024, .f32⟩
  | .hbm, ⟨18, _⟩ => ⟨S1024x4096, .bf16⟩
  | .hbm, ⟨19, _⟩ => ⟨S1x1024x4096, .bf16⟩
  | .hbm, ⟨20, _⟩ => ⟨S4096x1024, .bf16⟩
  | .hbm, ⟨21, _⟩ => ⟨S1x4096x1024, .bf16⟩
  | .hbm, ⟨22, _⟩ => ⟨S4096x1024, .f32⟩
  | .hbm, ⟨23, _⟩ => ⟨S4096x1024, .f32⟩
  | .hbm, ⟨24, _⟩ => ⟨S4096x4096, .bf16⟩
  | .hbm, ⟨25, _⟩ => ⟨S4096x4096, .bf16⟩
  | .hbm, ⟨26, _⟩ => ⟨S1x1024, .f32⟩
  | .hbm, ⟨27, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1024x512, .bf16⟩
  | .local _ .vmem, ⟨19, _⟩ => ⟨S1024x512, .bf16⟩
  | .local _ .vmem, ⟨20, _⟩ => ⟨S1x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_cst : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond8 (i : grid0.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_24 : BitVec 32 := 0#32
  let v35 : BitVec 1 := Scalar.cmpi .ne v34 c0_i32_24
  v35

def k0_cond2 (i : grid0.Coords) : BitVec 1 :=
  let arg0 : BitVec 32 := BitVec.ofNat 32 (i 0).val
  let c0_i32_50 : BitVec 32 := 0#32
  let v97 : BitVec 1 := Scalar.cmpi .eq arg0 c0_i32_50
  let v98 : BitVec 32 := Scalar.extui v97
  let c0_i32_51 : BitVec 32 := 0#32
  let v99 : BitVec 1 := Scalar.cmpi .ne v98 c0_i32_51
  v99

def k0_cond3 (i : grid0.Coords) : BitVec 1 :=
  let arg0 : BitVec 32 := BitVec.ofNat 32 (i 0).val
  let c0_i32_50 : BitVec 32 := 0#32
  let v97 : BitVec 1 := Scalar.cmpi .eq arg0 c0_i32_50
  let true_52 : BitVec 1 := 1#1
  let v100 : BitVec 1 := Scalar.xori v97 true_52
  let v101 : BitVec 32 := Scalar.extui v100
  let c0_i32_53 : BitVec 32 := 0#32
  let v102 : BitVec 1 := Scalar.cmpi .ne v101 c0_i32_53
  v102

def k0_cond4 (i : grid0.Coords) : BitVec 1 :=
  let arg0 : BitVec 32 := BitVec.ofNat 32 (i 0).val
  let c0_i32_54 : BitVec 32 := 0#32
  let v103 : BitVec 1 := Scalar.cmpi .eq arg0 c0_i32_54
  let v104 : BitVec 32 := Scalar.extui v103
  let c0_i32_55 : BitVec 32 := 0#32
  let v105 : BitVec 1 := Scalar.cmpi .ne v104 c0_i32_55
  v105

def k0_cond5 (i : grid0.Coords) : BitVec 1 :=
  let arg0 : BitVec 32 := BitVec.ofNat 32 (i 0).val
  let c0_i32_54 : BitVec 32 := 0#32
  let v103 : BitVec 1 := Scalar.cmpi .eq arg0 c0_i32_54
  let true_56 : BitVec 1 := 1#1
  let v106 : BitVec 1 := Scalar.xori v103 true_56
  let v107 : BitVec 32 := Scalar.extui v106
  let c0_i32_57 : BitVec 32 := 0#32
  let v108 : BitVec 1 := Scalar.cmpi .ne v107 c0_i32_57
  v108

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference2Ideal.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 113
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S4096x1024, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .i1⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x1024, .f32⟩
  | .hbm, ⟨77, _⟩ => ⟨S4096x1024, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096, .f32⟩
  | .hbm, ⟨96, _⟩ => ⟨S4096x1024, .f32⟩
  | .hbm, ⟨97, _⟩ => ⟨S4096x1024, .f32⟩
  | .hbm, ⟨98, _⟩ => ⟨S4096x4096, .f32⟩
  | .hbm, ⟨99, _⟩ => ⟨S4096x4096, .f32⟩
  | .hbm, ⟨100, _⟩ => ⟨S_, .f32⟩
  | .hbm, ⟨101, _⟩ => ⟨S4096x4096, .f32⟩
  | .hbm, ⟨102, _⟩ => ⟨S4096x4096, .f32⟩
  | .hbm, ⟨103, _⟩ => ⟨S4096x1024, .f32⟩
  | .hbm, ⟨104, _⟩ => ⟨S_, .f32⟩
  | .hbm, ⟨105, _⟩ => ⟨S4096x1024, .f32⟩
  | .hbm, ⟨106, _⟩ => ⟨S4096x1024, .f32⟩
  | .hbm, ⟨107, _⟩ => ⟨S4096x1024, .f32⟩
  | .hbm, ⟨108, _⟩ => ⟨S4096x4096, .bf16⟩
  | .hbm, ⟨109, _⟩ => ⟨S4096x4096, .f32⟩
  | .hbm, ⟨110, _⟩ => ⟨S4096x4096, .bf16⟩
  | .hbm, ⟨111, _⟩ => ⟨S1x1024, .f32⟩
  | .hbm, ⟨112, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_13 : Ref sig .tc := ⟨.hbm, 70, rfl⟩
abbrev main_v48 : Ref sig .tc := ⟨.hbm, 71, rfl⟩
abbrev main_v49 : Ref sig .tc := ⟨.hbm, 72, rfl⟩
abbrev main_cst_14 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_15 : Ref sig .tc := ⟨.hbm, 79, rfl⟩
abbrev main_v55 : Ref sig .tc := ⟨.hbm, 80, rfl⟩
abbrev main_v56 : Ref sig .tc := ⟨.hbm, 81, rfl⟩
abbrev main_cst_16 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_17 : Ref sig .tc := ⟨.hbm, 88, rfl⟩
abbrev main_v62 : Ref sig .tc := ⟨.hbm, 89, rfl⟩
abbrev main_v63 : Ref sig .tc := ⟨.hbm, 90, rfl⟩
abbrev main_cst_18 : Ref sig .tc := ⟨.hbm, 91, rfl⟩
abbrev main_v64 : Ref sig .tc := ⟨.hbm, 92, rfl⟩
abbrev main_v65 : Ref sig .tc := ⟨.hbm, 93, rfl⟩
abbrev main_cst_19 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_20 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_21 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩

abbrev nD : Nat := 1
abbrev τ : Topo := Topo.v7x

variable {F : FTy → Type} [FloatOps F]
-- ==== Kernel3.lean ====
abbrev S4096x1024 : Shape := ⟨2, ![4096, 1024]⟩
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x4096, .f32⟩
  | .hbm, ⟨3, _⟩ => ⟨S1024x4096, .bf16⟩
  | .hbm, ⟨4, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .f32⟩
  | .hbm, ⟨3, _⟩ => ⟨S4096x4096, .bf16⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S1x1024 : Shape := ⟨2, ![1, 1024]⟩
abbrev S1x1024x1024 : Shape := ⟨3, ![1, 1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 19
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1x1024, .f32⟩
  | .hbm, ⟨12, _⟩ => ⟨S1x1024, .f32⟩
  | .hbm, ⟨13, _⟩ => ⟨S1024x1024, .bf16⟩
  | .hbm, ⟨14, _⟩ => ⟨S1x1024x1024, .bf16⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v63 : BitVec 1 := Scalar.cmpi .eq arg0 c0_i32
  let v64 : BitVec 32 := Scalar.extui v63
  let c0_i32_27 : BitVec 32 := 0#32
  let v65 : BitVec 1 := Scalar.cmpi .ne v64 c0_i32_27
  v65

def k0_cond2 (i : grid0.Coords) : BitVec 1 :=
  let arg0 : BitVec 32 := BitVec.ofNat 32 (i 0).val
  let c0_i32 : BitVec 32 := 0#32
  let v63 : BitVec 1 := Scalar.cmpi .eq arg0 c0_i32
  let v_true : BitVec 1 := 1#1
  let v66 : BitVec 1 := Scalar.xori v63 v_true
  let v67 : BitVec 32 := Scalar.extui v66
  let c0_i32_28 : BitVec 32 := 0#32
  let v68 : BitVec 1 := Scalar.cmpi .ne v67 c0_i32_28
  v68

def k0_cond3 (i : grid0.Coords) : BitVec 1 :=
  let arg0 : BitVec 32 := BitVec.ofNat 32 (i 0).val
  let c0_i32 : BitVec 32 := 0#32
  let v63 : BitVec 1 := Scalar.cmpi .eq arg0 c0_i32
  let v69 : BitVec 32 := Scalar.extui v63
  let c0_i32_29 : BitVec 32 := 0#32
  let v70 : BitVec 1 := Scalar.cmpi .ne v69 c0_i32_29
  v70

def k0_cond4 (i : grid0.Coords) : BitVec 1 :=
  let arg0 : BitVec 32 := BitVec.ofNat 32 (i 0).val
  let c0_i32 : BitVec 32 := 0#32
  let v63 : BitVec 1 := Scalar.cmpi .eq arg0 c0_i32
  let true_30 : BitVec 1 := 1#1
  let v71 : BitVec 1 := Scalar.xori v63 true_30
  let v72 : BitVec 32 := Scalar.extui v71
  let c0_i32_31 : BitVec 32 := 0#32
  let v73 : BitVec 1 := Scalar.cmpi .ne v72 c0_i32_31
  v73

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S1x1024, .f32⟩
  | .hbm, ⟨87, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_cst_13 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_cst_15 : Ref sig .tc := ⟨.hbm, 78, rfl⟩
abbrev main_v56 : Ref sig .tc := ⟨.hbm, 79, rfl⟩
abbrev main_v57 : Ref sig .tc := ⟨.hbm, 80, rfl⟩
abbrev main_cst_16 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]
-- ==== Kernel6.lean ====
abbrev S4096x512 : Shape := ⟨2, ![4096, 512]⟩
abbrev S4096x1024 : Shape := ⟨2, ![4096, 1024]⟩
abbrev S4096x8 : Shape := ⟨2, ![4096, 8]⟩
abbrev S4096x1536 : Shape := ⟨2, ![4096, 1536]⟩
abbrev S4096x4 : Shape := ⟨2, ![4096, 4]⟩
abbrev S4096x4096 : Shape := ⟨2, ![4096, 4096]⟩
abbrev S1024x10264 : Shape := ⟨2, ![1024, 10264]⟩
abbrev S_ : Shape := ⟨0, ![]⟩
abbrev S4096x104 : Shape := ⟨2, ![4096, 104]⟩
abbrev S4096x128 : Shape := ⟨2, ![4096, 128]⟩
abbrev S1024x512 : Shape := ⟨2, ![1024, 512]⟩
abbrev S1024x1024 : Shape := ⟨2, ![1024, 1024]⟩
abbrev S1024x8 : Shape := ⟨2, ![1024, 8]⟩
abbrev S1024x1536 : Shape := ⟨2, ![1024, 1536]⟩
abbrev S1024x4 : Shape := ⟨2, ![1024, 4]⟩
abbrev S1024x4096 : Shape := ⟨2, ![1024, 4096]⟩
abbrev S1024x104 : Shape := ⟨2, ![1024, 104]⟩
abbrev S1024x128 : Shape := ⟨2, ![1024, 128]⟩
abbrev S1x1024x512 : Shape := ⟨3, ![1, 1024, 512]⟩
abbrev S1x1024x1024 : Shape := ⟨3, ![1, 1024, 1024]⟩
abbrev S1x1024x1536 : Shape := ⟨3, ![1, 1024, 1536]⟩
abbrev S1x1024x4096 : Shape := ⟨3, ![1, 1024, 4096]⟩
abbrev S1x1024x128 : Shape := ⟨3, ![1, 1024, 128]⟩
abbrev S256x512 : Shape := ⟨2, ![256, 512]⟩
abbrev S256x1024 : Shape := ⟨2, ![256, 1024]⟩
abbrev S256x1536 : Shape := ⟨2, ![256, 1536]⟩
abbrev S256x4096 : Shape := ⟨2, ![256, 4096]⟩
abbrev S256x128 : Shape := ⟨2, ![256, 128]⟩

abbrev nBuf : Space → Nat
  | .hbm => 47
  | .vmem => 28
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x8, .f32⟩
  | .hbm, ⟨3, _⟩ => ⟨S4096x1536, .f32⟩
  | .hbm, ⟨4, _⟩ => ⟨S4096x4, .f32⟩
  | .hbm, ⟨5, _⟩ => ⟨S4096x4, .f32⟩
  | .hbm, ⟨6, _⟩ => ⟨S4096x512, .f32⟩
  | .hbm, ⟨7, _⟩ => ⟨S4096x1024, .f32⟩
  | .hbm, ⟨8, _⟩ => ⟨S4096x1536, .f32⟩
  | .hbm, ⟨9, _⟩ => ⟨S4096x8, .f32⟩
  | .hbm, ⟨10, _⟩ => ⟨S4096x4096, .f32⟩
  | .hbm, ⟨11, _⟩ => ⟨S1024x10264, .f32⟩
  | .hbm, ⟨12, _⟩ => ⟨S4096x1024, .f32⟩
  | .hbm, ⟨13, _⟩ => ⟨S_, .f32⟩
  | .hbm, ⟨14, _⟩ => ⟨S4096x104, .f32⟩
  | .hbm, ⟨15, _⟩ => ⟨S4096x128, .f32⟩
  | .hbm, ⟨16, _⟩ => ⟨S1024x512, .f32⟩
  | .hbm, ⟨17, _⟩ => ⟨S1024x1024, .f32⟩
  | .hbm, ⟨18, _⟩ => ⟨S1024x8, .f32⟩
  | .hbm, ⟨19, _⟩ => ⟨S1024x1536, .f32⟩
  | .hbm, ⟨20, _⟩ => ⟨S1024x4, .f32⟩
  | .hbm, ⟨21, _⟩ => ⟨S1024x4, .f32⟩
  | .hbm, ⟨22, _⟩ => ⟨S1024x512, .f32⟩
  | .hbm, ⟨23, _⟩ => ⟨S1024x1024, .f32⟩
  | .hbm, ⟨24, _⟩ => ⟨S1024x1536, .f32⟩
  | .hbm, ⟨25, _⟩ => ⟨S1024x8, .f32⟩
  | .hbm, ⟨26, _⟩ => ⟨S1024x4096, .f32⟩
  | .hbm, ⟨27, _⟩ => ⟨S_, .f32⟩
  | .hbm, ⟨28, _⟩ => ⟨S1024x104, .f32⟩
  | .hbm, ⟨29, _⟩ => ⟨S1024x128, .f32⟩
  | .hbm, ⟨30, _⟩ => ⟨S1024x512, .bf16⟩
  | .hbm, ⟨31, _⟩ => ⟨S1x1024x512, .bf16⟩
  | .hbm, ⟨32, _⟩ => ⟨S1024x1024, .bf16⟩
  | .hbm, ⟨33, _⟩ => ⟨S1x1024x1024, .bf16⟩
  | .hbm, ⟨34, _⟩ => ⟨S1024x1536, .bf16⟩
  | .hbm, ⟨35, _⟩ => ⟨S1x1024x1536, .bf16⟩
  | .hbm, ⟨36, _⟩ => ⟨S1024x512, .bf16⟩
  | .hbm, ⟨37, _⟩ => ⟨S1x1024x512, .bf16⟩
  | .hbm, ⟨38, _⟩ => ⟨S1024x1024, .bf16⟩
  | .hbm, ⟨39, _⟩ => ⟨S1x1024x1024, .bf16⟩
  | .hbm, ⟨40, _⟩ => ⟨S1024x1536, .bf16⟩
  | .hbm, ⟨41, _⟩ => ⟨S1x1024x1536, .bf16⟩
  | .hbm, ⟨42, _⟩ => ⟨S1024x4096, .bf16⟩
  | .hbm, ⟨43, _⟩ => ⟨S1x1024x4096, .bf16⟩
  | .hbm, ⟨44, _⟩ => ⟨S1024x128, .bf16⟩
  | .hbm, ⟨45, _⟩ => ⟨S1x1024x128, .bf16⟩
  | .hbm, ⟨46, _⟩ => ⟨S4096x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1536, .f32⟩
  | .local _ .vmem, ⟨5, _⟩ => ⟨S256x1536, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x1536, .f32⟩
  | .local _ .vmem, ⟨11, _⟩ => ⟨S256x1536, .f32⟩
  | .local _ .vmem, ⟨12, _⟩ => ⟨S256x4096, .f32⟩
  | .local _ .vmem, ⟨13, _⟩ => ⟨S256x4096, .f32⟩
  | .local _ .vmem, ⟨14, _⟩ => ⟨S256x128, .f32⟩
  | .local _ .vmem, ⟨15, _⟩ => ⟨S256x128, .f32⟩
  | .local _ .vmem, ⟨16, _⟩ => ⟨S1x1024x512, .bf16⟩
  | .local _ .vmem, ⟨17, _⟩ => ⟨S1x1024x1024, .bf16⟩
  | .local _ .vmem, ⟨18, _⟩ => ⟨S1x1024x1536, .bf16⟩
  | .local _ .vmem, ⟨19, _⟩ => ⟨S1x1024x512, .bf16⟩
  | .local _ .vmem, ⟨20, _⟩ => ⟨S1x1024x1024, .bf16⟩
  | .local _ .vmem, ⟨21, _⟩ => ⟨S1x1024x1536, .bf16⟩
  | .local _ .vmem, ⟨22, _⟩ => ⟨S1x1024x4096, .bf16⟩
  | .local _ .vmem, ⟨23, _⟩ => ⟨S1x1024x128, .bf16⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024x1536 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024x4096 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference6Ideal.lean ====
abbrev S4096x512 : Shape := ⟨2, ![4096, 512]⟩
abbrev S4096x1024 : Shape := ⟨2, ![4096, 1024]⟩
abbrev S4096x8 : Shape := ⟨2, ![4096, 8]⟩
abbrev S4096x1536 : Shape := ⟨2, ![4096, 1536]⟩
abbrev S4096x4 : Shape := ⟨2, ![4096, 4]⟩
abbrev S4096x4096 : Shape := ⟨2, ![4096, 4096]⟩
abbrev S1024x10264 : Shape := ⟨2, ![1024, 10264]⟩
abbrev S_ : Shape := ⟨0, ![]⟩
abbrev S4096x10264 : Shape := ⟨2, ![4096, 10264]⟩

abbrev nBuf : Space → Nat
  | .hbm => 36
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x8, .f32⟩
  | .hbm, ⟨3, _⟩ => ⟨S4096x1536, .f32⟩
  | .hbm, ⟨4, _⟩ => ⟨S4096x4, .f32⟩
  | .hbm, ⟨5, _⟩ => ⟨S4096x4, .f32⟩
  | .hbm, ⟨6, _⟩ => ⟨S4096x512, .f32⟩
  | .hbm, ⟨7, _⟩ => ⟨S4096x1024, .f32⟩
  | .hbm, ⟨8, _⟩ => ⟨S4096x1536, .f32⟩
  | .hbm, ⟨9, _⟩ => ⟨S4096x8, .f32⟩
  | .hbm, ⟨10, _⟩ => ⟨S4096x4096, .f32⟩
  | .hbm, ⟨11, _⟩ => ⟨S1024x10264, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x10264, .f32⟩
  | .hbm, ⟨19, _⟩ => ⟨S4096x512, .f32⟩
  | .hbm, ⟨20, _⟩ => ⟨S4096x1024, .f32⟩
  | .hbm, ⟨21, _⟩ => ⟨S4096x8, .f32⟩
  | .hbm, ⟨22, _⟩ => ⟨S4096x1536, .f32⟩
  | .hbm, ⟨23, _⟩ => ⟨S4096x4, .f32⟩
  | .hbm, ⟨24, _⟩ => ⟨S4096x4, .f32⟩
  | .hbm, ⟨25, _⟩ => ⟨S4096x512, .f32⟩
  | .hbm, ⟨26, _⟩ => ⟨S4096x1024, .f32⟩
  | .hbm, ⟨27, _⟩ => ⟨S4096x1536, .f32⟩
  | .hbm, ⟨28, _⟩ => ⟨S4096x8, .f32⟩
  | .hbm, ⟨29, _⟩ => ⟨S4096x4096, .f32⟩
  | .hbm, ⟨30, _⟩ => ⟨S4096x10264, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Kernel7.lean ====
abbrev S4096x1024 : Shape := ⟨2, ![4096, 1024]⟩
abbrev S1024x10264 : Shape := ⟨2, ![1024, 10264]⟩
abbrev S1024x512 : Shape := ⟨2, ![1024, 512]⟩
abbrev S1024x1024 : Shape := ⟨2, ![1024, 1024]⟩
abbrev S1024x8 : Shape := ⟨2, ![1024, 8]⟩
abbrev S1024x1536 : Shape := ⟨2, ![1024, 1536]⟩
abbrev S1024x4 : Shape := ⟨2, ![1024, 4]⟩
abbrev S1024x4096 : Shape := ⟨2, ![1024, 4096]⟩
abbrev S_ : Shape := ⟨0, ![]⟩
abbrev S1024x104 : Shape := ⟨2, ![1024, 104]⟩
abbrev S1024x128 : Shape := ⟨2, ![1024, 128]⟩
abbrev S1x1024x512 : Shape := ⟨3, ![1, 1024, 512]⟩
abbrev S1x1024x1024 : Shape := ⟨3, ![1, 1024, 1024]⟩
abbrev S1x1024x1536 : Shape := ⟨3, ![1, 1024, 1536]⟩
abbrev S1x1024x4096 : Shape := ⟨3, ![1, 1024, 4096]⟩
abbrev S1x1024x128 : Shape := ⟨3, ![1, 1024, 128]⟩
abbrev S4096x512 : Shape := ⟨2, ![4096, 512]⟩
abbrev S4096x1536 : Shape := ⟨2, ![4096, 1536]⟩
abbrev S4096x4096 : Shape := ⟨2, ![4096, 4096]⟩
abbrev S4096x128 : Shape := ⟨2, ![4096, 128]⟩
abbrev S256x1024 : Shape := ⟨2, ![256, 1024]⟩
abbrev S256x512 : Shape := ⟨2, ![256, 512]⟩
abbrev S256x1536 : Shape := ⟨2, ![256, 1536]⟩
abbrev S256x4096 : Shape := ⟨2, ![256, 4096]⟩
abbrev S256x128 : Shape := ⟨2, ![256, 128]⟩

abbrev nBuf : Space → Nat
  | .hbm => 40
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S1024x10264, .f32⟩
  | .hbm, ⟨2, _⟩ => ⟨S1024x512, .f32⟩
  | .hbm, ⟨3, _⟩ => ⟨S1024x1024, .f32⟩
  | .hbm, ⟨4, _⟩ => ⟨S1024x8, .f32⟩
  | .hbm, ⟨5, _⟩ => ⟨S1024x1536, .f32⟩
  | .hbm, ⟨6, _⟩ => ⟨S1024x4, .f32⟩
  | .hbm, ⟨7, _⟩ => ⟨S1024x4, .f32⟩
  | .hbm, ⟨8, _⟩ => ⟨S1024x512, .f32⟩
  | .hbm, ⟨9, _⟩ => ⟨S1024x1024, .f32⟩
  | .hbm, ⟨10, _⟩ => ⟨S1024x1536, .f32⟩
  | .hbm, ⟨11, _⟩ => ⟨S1024x8, .f32⟩
  | .hbm, ⟨12, _⟩ => ⟨S1024x4096, .f32⟩
  | .hbm, ⟨13, _⟩ => ⟨S_, .f32⟩
  | .hbm, ⟨14, _⟩ => ⟨S1024x104, .f32⟩
  | .hbm, ⟨15, _⟩ => ⟨S1024x128, .f32⟩
  | .hbm, ⟨16, _⟩ => ⟨S1024x512, .bf16⟩
  | .hbm, ⟨17, _⟩ => ⟨S1x1024x512, .bf16⟩
  | .hbm, ⟨18, _⟩ => ⟨S1024x1024, .bf16⟩
  | .hbm, ⟨19, _⟩ => ⟨S1x1024x1024, .bf16⟩
  | .hbm, ⟨20, _⟩ => ⟨S1024x1536, .bf16⟩
  | .hbm, ⟨21, _⟩ => ⟨S1x1024x1536, .bf16⟩
  | .hbm, ⟨22, _⟩ => ⟨S1024x512, .bf16⟩
  | .hbm, ⟨23, _⟩ => ⟨S1x1024x512, .bf16⟩
  | .hbm, ⟨24, _⟩ => ⟨S1024x1024, .bf16⟩
  | .hbm, ⟨25, _⟩ => ⟨S1x1024x1024, .bf16⟩
  | .hbm, ⟨26, _⟩ => ⟨S1024x1536, .bf16⟩
  | .hbm, ⟨27, _⟩ => ⟨S1x1024x1536, .bf16⟩
  | .hbm, ⟨28, _⟩ => ⟨S1024x4096, .bf16⟩
  | .hbm, ⟨29, _⟩ => ⟨S1x1024x4096, .bf16⟩
  | .hbm, ⟨30, _⟩ => ⟨S1024x128, .bf16⟩
  | .hbm, ⟨31, _⟩ => ⟨S1x1024x128, .bf16⟩
  | .hbm, ⟨32, _⟩ => ⟨S4096x512, .f32⟩
  | .hbm, ⟨33, _⟩ => ⟨S4096x1024, .f32⟩
  | .hbm, ⟨34, _⟩ => ⟨S4096x1536, .f32⟩
  | .hbm, ⟨35, _⟩ => ⟨S4096x512, .f32⟩
  | .hbm, ⟨36, _⟩ => ⟨S4096x1024, .f32⟩
  | .hbm, ⟨37, _⟩ => ⟨S4096x1536, .f32⟩
  | .hbm, ⟨38, _⟩ => ⟨S4096x4096, .f32⟩
  | .hbm, ⟨39, _⟩ => ⟨S4096x128, .f32⟩
  | .local _ .vmem, ⟨0, _⟩ => ⟨S256x1024, .f32⟩
  | .local _ .vmem, ⟨1, _⟩ => ⟨S256x1024, .f32⟩
  | .local _ .vmem, ⟨2, _⟩ => ⟨S1x1024x512, .bf16⟩
  | .local _ .vmem, ⟨3, _⟩ => ⟨S1x1024x1024, .bf16⟩
  | .local _ .vmem, ⟨4, _⟩ => ⟨S1x1024x1536, .bf16⟩
  | .local _ .vmem, ⟨5, _⟩ => ⟨S1x1024x512, .bf16⟩
  | .local _ .vmem, ⟨6, _⟩ => ⟨S1x1024x1024, .bf16⟩
  | .local _ .vmem, ⟨7, _⟩ => ⟨S1x1024x1536, .bf16⟩
  | .local _ .vmem, ⟨8, _⟩ => ⟨S1x1024x4096, .bf16⟩
  | .local _ .vmem, ⟨9, _⟩ => ⟨S1x1024x128, .bf16⟩
  | .local _ .vmem, ⟨10, _⟩ => ⟨S256x512, .f32⟩
  | .local _ .vmem, ⟨11, _⟩ => ⟨S256x512, .f32⟩
  | .local _ .vmem, ⟨12, _⟩ => ⟨S256x1024, .f32⟩
  | .local _ .vmem, ⟨13, _⟩ => ⟨S256x1024, .f32⟩
  | .local _ .vmem, ⟨14, _⟩ => ⟨S256x1536, .f32⟩
  | .local _ .vmem, ⟨15, _⟩ => ⟨S256x1536, .f32⟩
  | .local _ .vmem, ⟨16, _⟩ => ⟨S256x512, .f32⟩
  | .local _ .vmem, ⟨17, _⟩ => ⟨S256x512, .f32⟩
  | .local _ .vmem, ⟨18, _⟩ => ⟨S256x1024, .f32⟩
  | .local _ .vmem, ⟨19, _⟩ => ⟨S256x1024, .f32⟩
  | .local _ .vmem, ⟨20, _⟩ => ⟨S256x1536, .f32⟩
  | .local _ .vmem, ⟨21, _⟩ => ⟨S256x1536, .f32⟩
  | .local _ .vmem, ⟨22, _⟩ => ⟨S256x4096, .f32⟩
  | .local _ .vmem, ⟨23, _⟩ => ⟨S256x4096, .f32⟩
  | .local _ .vmem, ⟨24, _⟩ => ⟨S256x128, .f32⟩
  | .local _ .vmem, ⟨25, _⟩ => ⟨S256x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29_0 : Ref sig .tc := ⟨.hbm, 32, rfl⟩
abbrev main_v29_1 : Ref sig .tc := ⟨.hbm, 33, rfl⟩
abbrev main_v29_2 : Ref sig .tc := ⟨.hbm, 34, rfl⟩
abbrev main_v29_3 : Ref sig .tc := ⟨.hbm, 35, rfl⟩
abbrev main_v29_4 : Ref sig .tc := ⟨.hbm, 36, rfl⟩
abbrev main_v29_5 : Ref sig .tc := ⟨.hbm, 37, rfl⟩
abbrev main_v29_6 : Ref sig .tc := ⟨.hbm, 38, rfl⟩
abbrev main_v29_7 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x4096 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference7Ideal.lean ====
abbrev S4096x1024 : Shape := ⟨2, ![4096, 1024]⟩
abbrev S1024x10264 : Shape := ⟨2, ![1024, 10264]⟩
abbrev S4096x10264 : Shape := ⟨2, ![4096, 10264]⟩
abbrev S4096x512 : Shape := ⟨2, ![4096, 512]⟩
abbrev S4096x8 : Shape := ⟨2, ![4096, 8]⟩
abbrev S4096x1536 : Shape := ⟨2, ![4096, 1536]⟩
abbrev S4096x4 : Shape := ⟨2, ![4096, 4]⟩
abbrev S4096x4096 : Shape := ⟨2, ![4096, 4096]⟩
abbrev S_ : Shape := ⟨0, ![]⟩
abbrev S4096x104 : Shape := ⟨2, ![4096, 104]⟩
abbrev S4096x128 : Shape := ⟨2, ![4096, 128]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x10264, .f32⟩
  | .hbm, ⟨2, _⟩ => ⟨S4096x10264, .f32⟩
  | .hbm, ⟨3, _⟩ => ⟨S4096x512, .f32⟩
  | .hbm, ⟨4, _⟩ => ⟨S4096x1024, .f32⟩
  | .hbm, ⟨5, _⟩ => ⟨S4096x8, .f32⟩
  | .hbm, ⟨6, _⟩ => ⟨S4096x1536, .f32⟩
  | .hbm, ⟨7, _⟩ => ⟨S4096x4, .f32⟩
  | .hbm, ⟨8, _⟩ => ⟨S4096x4, .f32⟩
  | .hbm, ⟨9, _⟩ => ⟨S4096x512, .f32⟩
  | .hbm, ⟨10, _⟩ => ⟨S4096x1024, .f32⟩
  | .hbm, ⟨11, _⟩ => ⟨S4096x1536, .f32⟩
  | .hbm, ⟨12, _⟩ => ⟨S4096x8, .f32⟩
  | .hbm, ⟨13, _⟩ => ⟨S4096x4096, .f32⟩
  | .hbm, ⟨14, _⟩ => ⟨S_, .f32⟩
  | .hbm, ⟨15, _⟩ => ⟨S4096x104, .f32⟩
  | .hbm, ⟨16, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel8.lean ====
abbrev S4096x1024 : Shape := ⟨2, ![4096, 1024]⟩
abbrev S1024 : Shape := ⟨1, ![1024]⟩
abbrev S1024x4096 : Shape := ⟨2, ![1024, 4096]⟩
abbrev S1x1024x4096 : Shape := ⟨3, ![1, 1024, 4096]⟩
abbrev S1x4096x1024 : Shape := ⟨3, ![1, 4096, 1024]⟩
abbrev S1x1024 : Shape := ⟨2, ![1, 1024]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024x4096, .bf16⟩
  | .hbm, ⟨6, _⟩ => ⟨S1x1024x4096, .bf16⟩
  | .hbm, ⟨7, _⟩ => ⟨S4096x1024, .bf16⟩
  | .hbm, ⟨8, _⟩ => ⟨S1x4096x1024, .bf16⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference8Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel9.lean ====
abbrev S4096x512 : Shape := ⟨2, ![4096, 512]⟩
abbrev S4096x1024 : Shape := ⟨2, ![4096, 1024]⟩
abbrev S4096x8 : Shape := ⟨2, ![4096, 8]⟩
abbrev S4096x1536 : Shape := ⟨2, ![4096, 1536]⟩
abbrev S4096x4 : Shape := ⟨2, ![4096, 4]⟩
abbrev S4096x4096 : Shape := ⟨2, ![4096, 4096]⟩
abbrev S1024x10264 : Shape := ⟨2, ![1024, 10264]⟩
abbrev S1024 : Shape := ⟨1, ![1024]⟩
abbrev S_ : Shape := ⟨0, ![]⟩
abbrev S4096x104 : Shape := ⟨2, ![4096, 104]⟩
abbrev S4096x128 : Shape := ⟨2, ![4096, 128]⟩
abbrev S1024x512 : Shape := ⟨2, ![1024, 512]⟩
abbrev S1024x1024 : Shape := ⟨2, ![1024, 1024]⟩
abbrev S1024x8 : Shape := ⟨2, ![1024, 8]⟩
abbrev S1024x1536 : Shape := ⟨2, ![1024, 1536]⟩
abbrev S1024x4 : Shape := ⟨2, ![1024, 4]⟩
abbrev S1024x4096 : Shape := ⟨2, ![1024, 4096]⟩
abbrev S1024x104 : Shape := ⟨2, ![1024, 104]⟩
abbrev S1024x128 : Shape := ⟨2, ![1024, 128]⟩
abbrev S1x1024x512 : Shape := ⟨3, ![1, 1024, 512]⟩
abbrev S1x1024x1024 : Shape := ⟨3, ![1, 1024, 1024]⟩
abbrev S1x1024x1536 : Shape := ⟨3, ![1, 1024, 1536]⟩
abbrev S1x1024x4096 : Shape := ⟨3, ![1, 1024, 4096]⟩
abbrev S1x1024x128 : Shape := ⟨3, ![1, 1024, 128]⟩
abbrev S1x1024 : Shape := ⟨2, ![1, 1024]⟩
abbrev S256x512 : Shape := ⟨2, ![256, 512]⟩
abbrev S256x1024 : Shape := ⟨2, ![256, 1024]⟩
abbrev S256x1536 : Shape := ⟨2, ![256, 1536]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩

abbrev nBuf : Space → Nat
  | .hbm => 54
  | .vmem => 34
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x8, .f32⟩
  | .hbm, ⟨3, _⟩ => ⟨S4096x1536, .f32⟩
  | .hbm, ⟨4, _⟩ => ⟨S4096x4, .f32⟩
  | .hbm, ⟨5, _⟩ => ⟨S4096x4, .f32⟩
  | .hbm, ⟨6, _⟩ => ⟨S4096x512, .f32⟩
  | .hbm, ⟨7, _⟩ => ⟨S4096x1024, .f32⟩
  | .hbm, ⟨8, _⟩ => ⟨S4096x1536, .f32⟩
  | .hbm, ⟨9, _⟩ => ⟨S4096x8, .f32⟩
  | .hbm, ⟨10, _⟩ => ⟨S4096x4096, .f32⟩
  | .hbm, ⟨11, _⟩ => ⟨S1024x10264, .f32⟩
  | .hbm, ⟨12, _⟩ => ⟨S4096x1024, .f32⟩
  | .hbm, ⟨13, _⟩ => ⟨S4096x1024, .f32⟩
  | .hbm, ⟨14, _⟩ => ⟨S1024, .f32⟩
  | .hbm, ⟨15, _⟩ => ⟨S1024, .f32⟩
  | .hbm, ⟨16, _⟩ => ⟨S_, .f32⟩
  | .hbm, ⟨17, _⟩ => ⟨S4096x104, .f32⟩
  | .hbm, ⟨18, _⟩ => ⟨S4096x128, .f32⟩
  | .hbm, ⟨19, _⟩ => ⟨S1024x512, .f32⟩
  | .hbm, ⟨20, _⟩ => ⟨S1024x1024, .f32⟩
  | .hbm, ⟨21, _⟩ => ⟨S1024x8, .f32⟩
  | .hbm, ⟨22, _⟩ => ⟨S1024x1536, .f32⟩
  | .hbm, ⟨23, _⟩ => ⟨S1024x4, .f32⟩
  | .hbm, ⟨24, _⟩ => ⟨S1024x4, .f32⟩
  | .hbm, ⟨25, _⟩ => ⟨S1024x512, .f32⟩
  | .hbm, ⟨26, _⟩ => ⟨S1024x1024, .f32⟩
  | .hbm, ⟨27, _⟩ => ⟨S1024x1536, .f32⟩
  | .hbm, ⟨28, _⟩ => ⟨S1024x8, .f32⟩
  | .hbm, ⟨29, _⟩ => ⟨S1024x4096, .f32⟩
  | .hbm, ⟨30, _⟩ => ⟨S_, .f32⟩
  | .hbm, ⟨31, _⟩ => ⟨S1024x104, .f32⟩
  | .hbm, ⟨32, _⟩ => ⟨S1024x128, .f32⟩
  | .hbm, ⟨33, _⟩ => ⟨S1024x512, .bf16⟩
  | .hbm, ⟨34, _⟩ => ⟨S1x1024x512, .bf16⟩
  | .hbm, ⟨35, _⟩ => ⟨S1024x1024, .bf16⟩
  | .hbm, ⟨36, _⟩ => ⟨S1x1024x1024, .bf16⟩
  | .hbm, ⟨37, _⟩ => ⟨S1024x1536, .bf16⟩
  | .hbm, ⟨38, _⟩ => ⟨S1x1024x1536, .bf16⟩
  | .hbm, ⟨39, _⟩ => ⟨S1024x512, .bf16⟩
  | .hbm, ⟨40, _⟩ => ⟨S1x1024x512, .bf16⟩
  | .hbm, ⟨41, _⟩ => ⟨S1024x1024, .bf16⟩
  | .hbm, ⟨42, _⟩ => ⟨S1x1024x1024, .bf16⟩
  | .hbm, ⟨43, _⟩ => ⟨S1024x1536, .bf16⟩
  | .hbm, ⟨44, _⟩ => ⟨S1x1024x1536, .bf16⟩
  | .hbm, ⟨45, _⟩ => ⟨S1024x4096, .bf16⟩
  | .hbm, ⟨46, _⟩ => ⟨S1x1024x4096, .bf16⟩
  | .hbm, ⟨47, _⟩ => ⟨S1024x128, .bf16⟩
  | .hbm, ⟨48, _⟩ => ⟨S1x1024x128, .bf16⟩
  | .hbm, ⟨49, _⟩ => ⟨S1x1024, .f32⟩
  | .hbm, ⟨50, _⟩ => ⟨S1x1024, .f32⟩
  | .hbm, ⟨51, _⟩ => ⟨S4096x1024, .f32⟩
  | .hbm, ⟨52, _⟩ => ⟨S1x1024, .f32⟩
  | .hbm, ⟨53, _⟩ => ⟨S1x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1536, .f32⟩
  | .local _ .vmem, ⟨5, _⟩ => ⟨S256x1536, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x1536, .f32⟩
  | .local _ .vmem, ⟨11, _⟩ => ⟨S256x1536, .f32⟩
  | .local _ .vmem, ⟨12, _⟩ => ⟨S256x4096, .f32⟩
  | .local _ .vmem, ⟨13, _⟩ => ⟨S256x4096, .f32⟩
  | .local _ .vmem, ⟨14, _⟩ => ⟨S256x128, .f32⟩
  | .local _ .vmem, ⟨15, _⟩ => ⟨S256x128, .f32⟩
  | .local _ .vmem, ⟨16, _⟩ => ⟨S1x1024x512, .bf16⟩
  | .local _ .vmem, ⟨17, _⟩ => ⟨S1x1024x1024, .bf16⟩
  | .local _ .vmem, ⟨18, _⟩ => ⟨S1x1024x1536, .bf16⟩
  | .local _ .vmem, ⟨19, _⟩ => ⟨S1x1024x512, .bf16⟩
  | .local _ .vmem, ⟨20, _⟩ => ⟨S1x1024x1024, .bf16⟩
  | .local _ .vmem, ⟨21, _⟩ => ⟨S1x1024x1536, .bf16⟩
  | .local _ .vmem, ⟨22, _⟩ => ⟨S1x1024x4096, .bf16⟩
  | .local _ .vmem, ⟨23, _⟩ => ⟨S1x1024x128, .bf16⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S1x1024, .f32⟩
  | .local _ .vmem, ⟨29, _⟩ => ⟨S1x1024, .f32⟩
  | .local _ .vmem, ⟨30, _⟩ => ⟨S256x1024, .f32⟩
  | .local _ .vmem, ⟨31, _⟩ => ⟨S256x1024, .f32⟩
  | .local _ .vmem, ⟨32, _⟩ => ⟨S1x1024, .f32⟩
  | .local _ .vmem, ⟨33, _⟩ => ⟨S1x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33_0 : Ref sig .tc := ⟨.hbm, 51, rfl⟩
abbrev main_v33_1 : Ref sig .tc := ⟨.hbm, 52, rfl⟩
abbrev main_v33_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg22_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem19_0 : DmaSem sig := 29
abbrev cc0_sem20_0 : DmaSem sig := 30
abbrev cc0_sem20_1 : DmaSem sig := 31
abbrev cc0_sem21_0 : DmaSem sig := 32
abbrev cc0_sem22_0 : DmaSem sig := 33

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v107 : BitVec 1 := Scalar.cmpi .eq arg0 c0_i32
  let v108 : BitVec 32 := Scalar.extui v107
  let c0_i32_70 : BitVec 32 := 0#32
  let v109 : BitVec 1 := Scalar.cmpi .ne v108 c0_i32_70
  v109

def k0_cond2 (i : grid0.Coords) : BitVec 1 :=
  let arg0 : BitVec 32 := BitVec.ofNat 32 (i 0).val
  let c0_i32 : BitVec 32 := 0#32
  let v107 : BitVec 1 := Scalar.cmpi .eq arg0 c0_i32
  let v_true : BitVec 1 := 1#1
  let v110 : BitVec 1 := Scalar.xori v107 v_true
  let v111 : BitVec 32 := Scalar.extui v110
  let c0_i32_71 : BitVec 32 := 0#32
  let v112 : BitVec 1 := Scalar.cmpi .ne v111 c0_i32_71
  v112

def k0_cond3 (i : grid0.Coords) : BitVec 1 :=
  let arg0 : BitVec 32 := BitVec.ofNat 32 (i 0).val
  let c0_i32 : BitVec 32 := 0#32
  let v107 : BitVec 1 := Scalar.cmpi .eq arg0 c0_i32
  let v113 : BitVec 32 := Scalar.extui v107
  let c0_i32_72 : BitVec 32 := 0#32
  let v114 : BitVec 1 := Scalar.cmpi .ne v113 c0_i32_72
  v114

def k0_cond4 (i : grid0.Coords) : BitVec 1 :=
  let arg0 : BitVec 32 := BitVec.ofNat 32 (i 0).val
  let c0_i32 : BitVec 32 := 0#32
  let v107 : BitVec 1 := Scalar.cmpi .eq arg0 c0_i32
  let true_73 : BitVec 1 := 1#1
  let v115 : BitVec 1 := Scalar.xori v107 true_73
  let v116 : BitVec 32 := Scalar.extui v115
  let c0_i32_74 : BitVec 32 := 0#32
  let v117 : BitVec 1 := Scalar.cmpi .ne v116 c0_i32_74
  v117

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024x1536 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024x4096 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== Reference9Ideal.lean ====
abbrev S4096x512 : Shape := ⟨2, ![4096, 512]⟩
abbrev S4096x1024 : Shape := ⟨2, ![4096, 1024]⟩
abbrev S4096x8 : Shape := ⟨2, ![4096, 8]⟩
abbrev S4096x1536 : Shape := ⟨2, ![4096, 1536]⟩
abbrev S4096x4 : Shape := ⟨2, ![4096, 4]⟩
abbrev S4096x4096 : Shape := ⟨2, ![4096, 4096]⟩
abbrev S1024x10264 : Shape := ⟨2, ![1024, 10264]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x10264 : Shape := ⟨2, ![4096, 10264]⟩

abbrev nBuf : Space → Nat
  | .hbm => 112
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x8, .f32⟩
  | .hbm, ⟨3, _⟩ => ⟨S4096x1536, .f32⟩
  | .hbm, ⟨4, _⟩ => ⟨S4096x4, .f32⟩
  | .hbm, ⟨5, _⟩ => ⟨S4096x4, .f32⟩
  | .hbm, ⟨6, _⟩ => ⟨S4096x512, .f32⟩
  | .hbm, ⟨7, _⟩ => ⟨S4096x1024, .f32⟩
  | .hbm, ⟨8, _⟩ => ⟨S4096x1536, .f32⟩
  | .hbm, ⟨9, _⟩ => ⟨S4096x8, .f32⟩
  | .hbm, ⟨10, _⟩ => ⟨S4096x4096, .f32⟩
  | .hbm, ⟨11, _⟩ => ⟨S1024x10264, .f32⟩
  | .hbm, ⟨12, _⟩ => ⟨S4096x1024, .f32⟩
  | .hbm, ⟨13, _⟩ => ⟨S4096x1024, .f32⟩
  | .hbm, ⟨14, _⟩ => ⟨S1024, .f32⟩
  | .hbm, ⟨15, _⟩ => ⟨S1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x10264, .f32⟩
  | .hbm, ⟨54, _⟩ => ⟨S4096x512, .f32⟩
  | .hbm, ⟨55, _⟩ => ⟨S4096x1024, .f32⟩
  | .hbm, ⟨56, _⟩ => ⟨S4096x8, .f32⟩
  | .hbm, ⟨57, _⟩ => ⟨S4096x1536, .f32⟩
  | .hbm, ⟨58, _⟩ => ⟨S4096x4, .f32⟩
  | .hbm, ⟨59, _⟩ => ⟨S4096x4, .f32⟩
  | .hbm, ⟨60, _⟩ => ⟨S4096x512, .f32⟩
  | .hbm, ⟨61, _⟩ => ⟨S4096x1024, .f32⟩
  | .hbm, ⟨62, _⟩ => ⟨S4096x1536, .f32⟩
  | .hbm, ⟨63, _⟩ => ⟨S4096x8, .f32⟩
  | .hbm, ⟨64, _⟩ => ⟨S4096x4096, .f32⟩
  | .hbm, ⟨65, _⟩ => ⟨S4096x10264, .f32⟩
  | .hbm, ⟨66, _⟩ => ⟨S4096x1024, .f32⟩
  | .hbm, ⟨67, _⟩ => ⟨S_, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S_, .f32⟩
  | .hbm, ⟨75, _⟩ => ⟨S1024, .f32⟩
  | .hbm, ⟨76, _⟩ => ⟨S4096x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S4096x1024, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x1024, .f32⟩
  | .hbm, ⟨89, _⟩ => ⟨S4096x1024, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S_, .f32⟩
  | .hbm, ⟨101, _⟩ => ⟨S4096, .f32⟩
  | .hbm, ⟨102, _⟩ => ⟨S4096x1, .f32⟩
  | .hbm, ⟨103, _⟩ => ⟨S_, .f32⟩
  | .hbm, ⟨104, _⟩ => ⟨S4096x1, .f32⟩
  | .hbm, ⟨105, _⟩ => ⟨S4096x1, .f32⟩
  | .hbm, ⟨106, _⟩ => ⟨S_, .f32⟩
  | .hbm, ⟨107, _⟩ => ⟨S4096, .f32⟩
  | .hbm, ⟨108, _⟩ => ⟨S4096x1024, .f32⟩
  | .hbm, ⟨109, _⟩ => ⟨S4096x1024, .f32⟩
  | .hbm, ⟨110, _⟩ => ⟨S1x1024, .f32⟩
  | .hbm, ⟨111, _⟩ => ⟨S1x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_5 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_11 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_13 : Ref sig .tc := ⟨.hbm, 91, rfl⟩
abbrev main_v61 : Ref sig .tc := ⟨.hbm, 92, rfl⟩
abbrev main_v62 : Ref sig .tc := ⟨.hbm, 93, rfl⟩
abbrev main_cst_14 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_v68 : Ref sig .tc := ⟨.hbm, 101, rfl⟩
abbrev main_v69 : Ref sig .tc := ⟨.hbm, 102, rfl⟩
abbrev main_cst_16 : Ref sig .tc := ⟨.hbm, 103, rfl⟩
abbrev main_v70 : Ref sig .tc := ⟨.hbm, 104, rfl⟩
abbrev main_v71 : Ref sig .tc := ⟨.hbm, 105, rfl⟩
abbrev main_cst_17 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩

abbrev nD : Nat := 1
abbrev τ : Topo := Topo.v7x

variable {F : FTy → Type} [FloatOps F]
-- ==== Kernel10.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S1024x4096, .bf16⟩
  | .hbm, ⟨4, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x1024 : Shape := ⟨2, ![4096, 1024]⟩
abbrev S1024 : Shape := ⟨1, ![1024]⟩
abbrev S1024x1024 : Shape := ⟨2, ![1024, 1024]⟩
abbrev S1x1024x1024 : Shape := ⟨3, ![1, 1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024x1024, .bf16⟩
  | .hbm, ⟨6, _⟩ => ⟨S1x1024x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel12.lean ====
abbrev S4096x512 : Shape := ⟨2, ![4096, 512]⟩
abbrev S4096x4096 : Shape := ⟨2, ![4096, 4096]⟩
abbrev S4x1024 : Shape := ⟨2, ![4, 1024]⟩
abbrev S4x512x1024 : Shape := ⟨3, ![4, 512, 1024]⟩
abbrev S1x4x512x1024 : Shape := ⟨4, ![1, 4, 512, 1024]⟩
abbrev S4096x1024 : Shape := ⟨2, ![4096, 1024]⟩
abbrev S256x512 : Shape := ⟨2, ![256, 512]⟩
abbrev S256x4096 : Shape := ⟨2, ![256, 4096]⟩
abbrev S256x1024 : Shape := ⟨2, ![256, 1024]⟩
abbrev S1x1x512x1024 : Shape := ⟨4, ![1, 1, 512, 1024]⟩
abbrev S512x1024 : Shape := ⟨2, ![512, 1024]⟩
abbrev S1x1024 : Shape := ⟨2, ![1, 1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x4096, .f32⟩
  | .hbm, ⟨5, _⟩ => ⟨S4x1024, .f32⟩
  | .hbm, ⟨6, _⟩ => ⟨S4x512x1024, .f32⟩
  | .hbm, ⟨7, _⟩ => ⟨S4x512x1024, .bf16⟩
  | .hbm, ⟨8, _⟩ => ⟨S1x4x512x1024, .bf16⟩
  | .hbm, ⟨9, _⟩ => ⟨S4096x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x4096, .f32⟩
  | .local _ .vmem, ⟨9, _⟩ => ⟨S256x4096, .f32⟩
  | .local _ .vmem, ⟨10, _⟩ => ⟨S4x1024, .f32⟩
  | .local _ .vmem, ⟨11, _⟩ => ⟨S1x4x512x1024, .bf16⟩
  | .local _ .vmem, ⟨12, _⟩ => ⟨S256x1024, .f32⟩
  | .local _ .vmem, ⟨13, _⟩ => ⟨S256x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S4096x512 : Shape := ⟨2, ![4096, 512]⟩
abbrev S4096x4096 : Shape := ⟨2, ![4096, 4096]⟩
abbrev S4x1024 : Shape := ⟨2, ![4, 1024]⟩
abbrev S4x512x1024 : Shape := ⟨3, ![4, 512, 1024]⟩
abbrev S1x512x1024 : Shape := ⟨3, ![1, 512, 1024]⟩
abbrev S512x1024 : Shape := ⟨2, ![512, 1024]⟩
abbrev S4096x1024 : Shape := ⟨2, ![4096, 1024]⟩
abbrev S4096x4x1024 : Shape := ⟨3, ![4096, 4, 1024]⟩
abbrev S1x4x1024 : Shape := ⟨3, ![1, 4, 1024]⟩
abbrev S_ : Shape := ⟨0, ![]⟩
abbrev S4096x1x1024 : Shape := ⟨3, ![4096, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x4096, .f32⟩
  | .hbm, ⟨5, _⟩ => ⟨S4x1024, .f32⟩
  | .hbm, ⟨6, _⟩ => ⟨S4x512x1024, .f32⟩
  | .hbm, ⟨7, _⟩ => ⟨S1x512x1024, .f32⟩
  | .hbm, ⟨8, _⟩ => ⟨S512x1024, .f32⟩
  | .hbm, ⟨9, _⟩ => ⟨S4096x1024, .f32⟩
  | .hbm, ⟨10, _⟩ => ⟨S1x512x1024, .f32⟩
  | .hbm, ⟨11, _⟩ => ⟨S512x1024, .f32⟩
  | .hbm, ⟨12, _⟩ => ⟨S4096x1024, .f32⟩
  | .hbm, ⟨13, _⟩ => ⟨S1x512x1024, .f32⟩
  | .hbm, ⟨14, _⟩ => ⟨S512x1024, .f32⟩
  | .hbm, ⟨15, _⟩ => ⟨S4096x1024, .f32⟩
  | .hbm, ⟨16, _⟩ => ⟨S1x512x1024, .f32⟩
  | .hbm, ⟨17, _⟩ => ⟨S512x1024, .f32⟩
  | .hbm, ⟨18, _⟩ => ⟨S4096x1024, .f32⟩
  | .hbm, ⟨19, _⟩ => ⟨S4096x4x1024, .f32⟩
  | .hbm, ⟨20, _⟩ => ⟨S1x4x1024, .f32⟩
  | .hbm, ⟨21, _⟩ => ⟨S4096x4x1024, .f32⟩
  | .hbm, ⟨22, _⟩ => ⟨S4096x4x1024, .f32⟩
  | .hbm, ⟨23, _⟩ => ⟨S4096x4x1024, .f32⟩
  | .hbm, ⟨24, _⟩ => ⟨S4096x4x1024, .f32⟩
  | .hbm, ⟨25, _⟩ => ⟨S_, .f32⟩
  | .hbm, ⟨26, _⟩ => ⟨S4096x4x1024, .f32⟩
  | .hbm, ⟨27, _⟩ => ⟨S4096x4x1024, .f32⟩
  | .hbm, ⟨28, _⟩ => ⟨S_, .f32⟩
  | .hbm, ⟨29, _⟩ => ⟨S4096x4x1024, .f32⟩
  | .hbm, ⟨30, _⟩ => ⟨S4096x4x1024, .f32⟩
  | .hbm, ⟨31, _⟩ => ⟨S4096x1x1024, .f32⟩
  | .hbm, ⟨32, _⟩ => ⟨S4096x1024, .f32⟩
  | .hbm, ⟨33, _⟩ => ⟨S4096x1024, .f32⟩
  | .hbm, ⟨34, _⟩ => ⟨S4096x1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Kernel13.lean ====
abbrev S4096x1024 : Shape := ⟨2, ![4096, 1024]⟩
abbrev S4096x1536 : Shape := ⟨2, ![4096, 1536]⟩
abbrev S1024x4096 : Shape := ⟨2, ![1024, 4096]⟩
abbrev S1024x1536 : Shape := ⟨2, ![1024, 1536]⟩
abbrev S1024x1024 : Shape := ⟨2, ![1024, 1024]⟩
abbrev S1024x768 : Shape := ⟨2, ![1024, 768]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S1024x4096, .f32⟩
  | .hbm, ⟨3, _⟩ => ⟨S1024x4096, .bf16⟩
  | .hbm, ⟨4, _⟩ => ⟨S1024x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .f32⟩
  | .local _ .vmem, ⟨3, _⟩ => ⟨S1024x768, .f32⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S4096x1536 : Shape := ⟨2, ![4096, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S_, .f32⟩
  | .hbm, ⟨3, _⟩ => ⟨S1024x1536, .f32⟩
  | .hbm, ⟨4, _⟩ => ⟨S4096x1536, .f32⟩
  | .hbm, ⟨5, _⟩ => ⟨S1536x1024, .f32⟩
  | .hbm, ⟨6, _⟩ => ⟨S1024x1536, .f32⟩
  | .hbm, ⟨7, _⟩ => ⟨S1024x1536, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x1024 : Shape := ⟨2, ![4096, 1024]⟩
abbrev S512 : Shape := ⟨1, ![512]⟩
abbrev S4x128x128 : Shape := ⟨3, ![4, 128, 128]⟩
abbrev S4x128 : Shape := ⟨2, ![4, 128]⟩
abbrev S1x512 : Shape := ⟨2, ![1, 512]⟩
abbrev S128x4 : Shape := ⟨2, ![128, 4]⟩
abbrev S_ : Shape := ⟨0, ![]⟩
abbrev S128x128 : Shape := ⟨2, ![128, 128]⟩
abbrev S4096x512 : Shape := ⟨2, ![4096, 512]⟩
abbrev S32x1x1x8x128 : Shape := ⟨5, ![32, 1, 1, 8, 128]⟩
abbrev S128x1024 : Shape := ⟨2, ![128, 1024]⟩
abbrev S128x512 : Shape := ⟨2, ![128, 512]⟩
abbrev S1x1x1x8x128 : Shape := ⟨5, ![1, 1, 1, 8, 128]⟩
abbrev S1x1x8x128 : Shape := ⟨4, ![1, 1, 8, 128]⟩
abbrev S1x8x128 : Shape := ⟨3, ![1, 8, 128]⟩
abbrev S1x128 : Shape := ⟨2, ![1, 128]⟩
abbrev S1x128x128 : Shape := ⟨3, ![1, 128, 128]⟩
abbrev S8x128 : Shape := ⟨2, ![8, 128]⟩
abbrev S128 : Shape := ⟨1, ![128]⟩
abbrev S128x1 : Shape := ⟨2, ![128, 1]⟩

abbrev nBuf : Space → Nat
  | .hbm => 13
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S1x512, .f32⟩
  | .hbm, ⟨6, _⟩ => ⟨S1x512, .f32⟩
  | .hbm, ⟨7, _⟩ => ⟨S128x4, .f32⟩
  | .hbm, ⟨8, _⟩ => ⟨S_, .i32⟩
  | .hbm, ⟨9, _⟩ => ⟨S_, .f32⟩
  | .hbm, ⟨10, _⟩ => ⟨S128x128, .f32⟩
  | .hbm, ⟨11, _⟩ => ⟨S4096x512, .f32⟩
  | .hbm, ⟨12, _⟩ => ⟨S32x1x1x8x128, .f32⟩
  | .local _ .vmem, ⟨0, _⟩ => ⟨S128x1024, .f32⟩
  | .local _ .vmem, ⟨1, _⟩ => ⟨S128x1024, .f32⟩
  | .local _ .vmem, ⟨2, _⟩ => ⟨S1x512, .f32⟩
  | .local _ .vmem, ⟨3, _⟩ => ⟨S1x512, .f32⟩
  | .local _ .vmem, ⟨4, _⟩ => ⟨S4x128x128, .f32⟩
  | .local _ .vmem, ⟨5, _⟩ => ⟨S128x128, .f32⟩
  | .local _ .vmem, ⟨6, _⟩ => ⟨S128x512, .f32⟩
  | .local _ .vmem, ⟨7, _⟩ => ⟨S128x512, .f32⟩
  | .local _ .vmem, ⟨8, _⟩ => ⟨S1x1x1x8x128, .f32⟩
  | .local _ .vmem, ⟨9, _⟩ => ⟨S1x1x1x8x128, .f32⟩
  | .local _ .vmem, ⟨10, _⟩ => ⟨S1x1x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 4 → Nat :=
  let arg1 : BitVec 32 := BitVec.ofNat 32 (i 1).val
  let v292 : Index := Scalar.indexCast arg1
  let c0_78 : Index := 0#32
  let c0_79 : Index := 0#32
  let c0_80 : Index := 0#32
  ![v292.toNat, 0, 0, 0]
def k0_off2 (i : grid0.Coords) : Fin 4 → Nat :=
  let arg1 : BitVec 32 := BitVec.ofNat 32 (i 1).val
  let v3 : Index := Scalar.indexCast arg1
  let c0 : Index := 0#32
  let c0_1 : Index := 0#32
  let c0_2 : Index := 0#32
  ![v3.toNat, 0, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference14Ideal.lean ====
abbrev S4096x1024 : Shape := ⟨2, ![4096, 1024]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S4096x512 : Shape := ⟨2, ![4096, 512]⟩
abbrev S4096 : Shape := ⟨1, ![4096]⟩
abbrev S4096x1 : Shape := ⟨2, ![4096, 1]⟩
abbrev S1x512 : Shape := ⟨2, ![1, 512]⟩
abbrev S32x128x4x128 : Shape := ⟨4, ![32, 128, 4, 128]⟩
abbrev S128x128 : Shape := ⟨2, ![128, 128]⟩
abbrev S1x128x128 : Shape := ⟨3, ![1, 128, 128]⟩
abbrev S4x32x128x128 : Shape := ⟨4, ![4, 32, 128, 128]⟩
abbrev S128x4 : Shape := ⟨2, ![128, 4]⟩
abbrev S1x128x4x1 : Shape := ⟨4, ![1, 128, 4, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x512, .f32⟩
  | .hbm, ⟨44, _⟩ => ⟨S4096x512, .f32⟩
  | .hbm, ⟨45, _⟩ => ⟨S1x512, .f32⟩
  | .hbm, ⟨46, _⟩ => ⟨S4096x512, .f32⟩
  | .hbm, ⟨47, _⟩ => ⟨S4096x512, .f32⟩
  | .hbm, ⟨48, _⟩ => ⟨S1x512, .f32⟩
  | .hbm, ⟨49, _⟩ => ⟨S4096x512, .f32⟩
  | .hbm, ⟨50, _⟩ => ⟨S4096x512, .f32⟩
  | .hbm, ⟨51, _⟩ => ⟨S32x128x4x128, .f32⟩
  | .hbm, ⟨52, _⟩ => ⟨S_, .f32⟩
  | .hbm, ⟨53, _⟩ => ⟨S128x128, .f32⟩
  | .hbm, ⟨54, _⟩ => ⟨S128x128, .i32⟩
  | .hbm, ⟨55, _⟩ => ⟨S_, .i32⟩
  | .hbm, ⟨56, _⟩ => ⟨S128x128, .i32⟩
  | .hbm, ⟨57, _⟩ => ⟨S128x128, .i32⟩
  | .hbm, ⟨58, _⟩ => ⟨S128x128, .i32⟩
  | .hbm, ⟨59, _⟩ => ⟨S128x128, .i1⟩
  | .hbm, ⟨60, _⟩ => ⟨S_, .f32⟩
  | .hbm, ⟨61, _⟩ => ⟨S128x128, .f32⟩
  | .hbm, ⟨62, _⟩ => ⟨S128x128, .f32⟩
  | .hbm, ⟨63, _⟩ => ⟨S1x128x128, .f32⟩
  | .hbm, ⟨64, _⟩ => ⟨S4x128x128, .f32⟩
  | .hbm, ⟨65, _⟩ => ⟨S4x128x128, .f32⟩
  | .hbm, ⟨66, _⟩ => ⟨S4x32x128x128, .f32⟩
  | .hbm, ⟨67, _⟩ => ⟨S32x128x4x128, .f32⟩
  | .hbm, ⟨68, _⟩ => ⟨S128x4, .f32⟩
  | .hbm, ⟨69, _⟩ => ⟨S1x128x4x1, .f32⟩
  | .hbm, ⟨70, _⟩ => ⟨S32x128x4x128, .f32⟩
  | .hbm, ⟨71, _⟩ => ⟨S32x128x4x128, .f32⟩
  | .hbm, ⟨72, _⟩ => ⟨S4096x512, .f32⟩
  | .hbm, ⟨73, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_call0_v0 : Ref sig .tc := ⟨.hbm, 54, rfl⟩
abbrev main_call0_c : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_cst : Ref sig .tc := ⟨.hbm, 60, rfl⟩
abbrev main_call0_v5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]
-- ==== Proof.MergeSpec.lean ====
/-
  The gradient of the gated merge, as plain sums over the extended reals.

  The forward computation projects each of the four branches, `z_i = y_i · W_i`, and adds the four projections weighted
  by the gates `σ(logits_i + bias_i)`. Given the gradient `dm` of the sum, the definitions below are the gradients of
  everything that entered it.
-/
module

public import Idealize.ShloMosaic.Lib.Pointwise

@[expose] public section

noncomputable section

namespace Cert.Merge

open Idealize.ShloMosaic

/-- Matrices and the stack of four matrices, by their index types. -/
abbrev Mat (a b : Nat) : Type := (⟨2, ![a, b]⟩ : Shape).Idx → EReal
abbrev Stack (a b c : Nat) : Type := (⟨3, ![a, b, c]⟩ : Shape).Idx → EReal

/-- The four branches as a family. -/
def pick (y0 y1 y2 y3 : Mat 4096 512) : Fin 4 → Mat 4096 512
  | 0 => y0 | 1 => y1 | 2 => y2 | 3 => y3

/-- Column `q` of branch `i` among the 4096 columns that hold the four branches side by side. -/
def col (i : Fin 4) (q : Fin 1024) : Fin 4096 := ⟨1024 * i.val + q.val, by omega⟩

/-- The gate of branch `i` for token `l` and channel `q`: the sigmoid of logit plus bias. -/
def gate (gl : Mat 4096 4096) (gb : Mat 4 1024) (i : Fin 4) (l : Fin 4096) (q : Fin 1024) : EReal :=
  Ideal.logistic (gl (ix2 l (col i q)) + gb (ix2 i q))

/-- The projection of branch `i`: row `l` of `y_i` times column `q` of `W_i`. -/
def proj (y : Mat 4096 512) (w : Stack 4 512 1024) (i : Fin 4) (l : Fin 4096) (q : Fin 1024) : EReal :=
  ∑ k, y (ix2 l k) * w (ix3 i k q)

/-- The gradient of the logit: `dm · z · σ'`, with `σ' = σ (1 - σ)`. -/
def dLogit (y : Mat 4096 512) (gl : Mat 4096 4096) (gb : Mat 4 1024) (w : Stack 4 512 1024) (dm : Mat 4096 1024)
    (i : Fin 4) (l : Fin 4096) (q : Fin 1024) : EReal :=
  dm (ix2 l q) * proj y w i l q * (gate gl gb i l q * (1 - gate gl gb i l q))

/-- The gradient of the projection: the gate times `dm`. -/
def dProj (gl : Mat 4096 4096) (gb : Mat 4 1024) (dm : Mat 4096 1024) (i : Fin 4) (l : Fin 4096) (q : Fin 1024) : EReal :=
  gate gl gb i l q * dm (ix2 l q)

/-- The gradient of the branch `y_i`: the projection's gradient times `W_i` transposed. -/
def dInput (gl : Mat 4096 4096) (gb : Mat 4 1024) (w : Stack 4 512 1024) (dm : Mat 4096 1024)
    (i : Fin 4) (l : Fin 4096) (k : Fin 512) : EReal :=
  ∑ q, dProj gl gb dm i l q * w (ix3 i k q)

/-- The gradient of the bias: the logit's gradient summed over the tokens. -/
def dBias (y : Mat 4096 512) (gl : Mat 4096 4096) (gb : Mat 4 1024) (w : Stack 4 512 1024) (dm : Mat 4096 1024)
    (i : Fin 4) (q : Fin 1024) : EReal :=
  ∑ l, dLogit y gl gb w dm i l q

/-- The branch a column of the side-by-side array belongs to, and its channel there. -/
def branchOf (j : Fin 4096) : Fin 4 := ⟨j.val / 1024, by omega⟩
def chanOf (j : Fin 4096) : Fin 1024 := ⟨j.val % 1024, by omega⟩

theorem branchOf_col (i : Fin 4) (q : Fin 1024) : branchOf (col i q) = i := Fin.ext (by
  show (1024 * i.val + q.val) / 1024 = i.val; omega)
theorem chanOf_col (i : Fin 4) (q : Fin 1024) : chanOf (col i q) = q := Fin.ext (by
  show (1024 * i.val + q.val) % 1024 = q.val; omega)
theorem col_branchOf_chanOf (j : Fin 4096) : col (branchOf j) (chanOf j) = j := Fin.ext (by
  show 1024 * (j.val / 1024) + j.val % 1024 = j.val; omega)

/-- Row `r` of the block of 256 tokens number `t`. -/
def row (t : Nat) (ht : t < 16) (r : Fin 256) : Fin 4096 := ⟨256 * t + r.val, by omega⟩

/-- A sum over the 4096 tokens is the sum over the sixteen blocks of the sums over their rows. -/
theorem sum_blocks (f : Fin 4096 → EReal) :
    ∑ l, f l = ∑ t : Fin 16, ∑ r : Fin 256, f (row t.val t.isLt r) := by
  rw [← Fintype.sum_prod_type' (fun (t : Fin 16) (r : Fin 256) => f (row t.val t.isLt r))]
  refine (Fintype.sum_equiv (finProdFinEquiv (m := 16) (n := 256)) _ f fun x => ?_).symm
  refine congrArg f (Fin.ext ?_)
  show 256 * x.1.val + x.2.val = x.2.val + 256 * x.1.val
  omega

end Cert.Merge

end
-- ==== Proof.MergeBlock.lean ====
/-
  What one point of the merge kernel's grid leaves in its output buffers, read element by element over the extended reals.

  Point `t` works on the 256 tokens of block `t`. Each of its output buffers is read here in terms of the arrays the
  program was given: the gradients of the four branches, of the logits and of the projections for the block's tokens,
  and the running sum of the bias gradient over the blocks seen so far.
-/
module

public import proofs.«01_k».proof.Proof.Gen.KernelIdeal.Value
public import proofs.«01_k».proof.Proof.MergeSpec
public import Idealize.ShloMosaic.Lib.Pointwise
public import Idealize.ShloMosaic.Lib.Tactic
public import Idealize.ShloMosaic.Lib.StableHlo.ReadAt

@[expose] public section

set_option maxRecDepth 16384

noncomputable section

namespace Cert.KernelIdeal.MergeBlock

open Cert.Merge
open Cert.KernelIdeal Cert.KernelIdeal.Gen Idealize.ShloMosaic Idealize.ShloMosaic.TcCoe Idealize.SL.Sem

variable (m : (ℓ : Loc nD τ sig) → Buf (Elt Ideal) ℓ)

/-! ## The arrays the program was given -/

/-- Branch `i`'s input, the logits, the biases, the four projection matrices and the gradient of the merged sum. -/
def Y (c : Dev nD) : Fin 4 → Mat 4096 512 :=
  pick (m (c.tc.loc main_arg0)) (m (c.tc.loc main_arg1)) (m (c.tc.loc main_arg2)) (m (c.tc.loc main_arg3))
abbrev Logits (c : Dev nD) : Mat 4096 4096 := m (c.tc.loc main_arg4)
abbrev Bias (c : Dev nD) : Mat 4 1024 := m (c.tc.loc main_arg5)
abbrev Wts (c : Dev nD) : Stack 4 512 1024 := m (c.tc.loc main_arg6)
abbrev Dm (c : Dev nD) : Mat 4096 1024 := m (c.tc.loc main_arg7)

theorem hz : (![0, 0] : Fin 2 → Nat) = fun _ => 0 := funext fun a => by fin_cases a <;> rfl
theorem lt16 (t : Fin cfg0.N) : t.val < 16 := lt_of_lt_of_eq t.isLt N_0

/-! ## The blocks the body loads -/

/-- The host hands the kernel the projection matrices with a leading axis of one element: the same numbers. -/
theorem V_v1 (c : Dev nD) (i : Fin 4) (k : Fin 512) (q : Fin 1024) :
    (V m c main_v1 : S1x4x512x1024.Idx → EReal) (ix4 0 i k q) = Wts m c (ix3 i k q) := by
  unfold V
  after_reads_at
theorem V_arg0 (c : Dev nD) : V m c main_arg0 = m (c.tc.loc main_arg0) := by
  unfold V
  after_reads_at
theorem V_arg1 (c : Dev nD) : V m c main_arg1 = m (c.tc.loc main_arg1) := by
  unfold V
  after_reads_at
theorem V_arg2 (c : Dev nD) : V m c main_arg2 = m (c.tc.loc main_arg2) := by
  unfold V
  after_reads_at
theorem V_arg3 (c : Dev nD) : V m c main_arg3 = m (c.tc.loc main_arg3) := by
  unfold V
  after_reads_at
theorem V_arg4 (c : Dev nD) : V m c main_arg4 = m (c.tc.loc main_arg4) := by
  unfold V
  after_reads_at
theorem V_arg5 (c : Dev nD) : V m c main_arg5 = m (c.tc.loc main_arg5) := by
  unfold V
  after_reads_at
theorem V_arg7 (c : Dev nD) : V m c main_arg7 = m (c.tc.loc main_arg7) := by
  unfold V
  after_reads_at

theorem idx0 : ∀ t : Fin cfg0.N, win0_0.index t 0 = t.val ∧ win0_0.index t 1 = 0 := by decide +kernel
/-- Input window 0 at point `t`: the rows of block `t`. -/
theorem iblk0 (c : Dev nD) (t : Fin cfg0.N) (r : Fin 256) (q : Fin 512) :
    (iblk m c 0 t : (⟨2, ![256, 512]⟩ : Shape).Idx → EReal) (ix2 r q) = Y m c 0 (ix2 (row t.val (lt16 t) r) q) := by
  have hi := idx0 t
  unfold iblk
  rw [View.read_apply]
  show V m c main_arg0 _ = m (c.tc.loc main_arg0) _
  rw [V_arg0]
  congr 1
  funext a
  apply Fin.ext
  match a with
  | ⟨0, _⟩ => show win0_0.index t 0 * 256 + 1 * r.val = 256 * t.val + r.val; rw [hi.1]; omega
  | ⟨1, _⟩ => show win0_0.index t 1 * 512 + 1 * q.val = q.val; rw [hi.2]; omega

theorem idx1 : ∀ t : Fin cfg0.N, win0_1.index t 0 = t.val ∧ win0_1.index t 1 = 0 := by decide +kernel
/-- Input window 1 at point `t`: the rows of block `t`. -/
theorem iblk1 (c : Dev nD) (t : Fin cfg0.N) (r : Fin 256) (q : Fin 512) :
    (iblk m c 1 t : (⟨2, ![256, 512]⟩ : Shape).Idx → EReal) (ix2 r q) = Y m c 1 (ix2 (row t.val (lt16 t) r) q) := by
  have hi := idx1 t
  unfold iblk
  rw [View.read_apply]
  show V m c main_arg1 _ = m (c.tc.loc main_arg1) _
  rw [V_arg1]
  congr 1
  funext a
  apply Fin.ext
  match a with
  | ⟨0, _⟩ => show win0_1.index t 0 * 256 + 1 * r.val = 256 * t.val + r.val; rw [hi.1]; omega
  | ⟨1, _⟩ => show win0_1.index t 1 * 512 + 1 * q.val = q.val; rw [hi.2]; omega

theorem idx2 : ∀ t : Fin cfg0.N, win0_2.index t 0 = t.val ∧ win0_2.index t 1 = 0 := by decide +kernel
/-- Input window 2 at point `t`: the rows of block `t`. -/
theorem iblk2 (c : Dev nD) (t : Fin cfg0.N) (r : Fin 256) (q : Fin 512) :
    (iblk m c 2 t : (⟨2, ![256, 512]⟩ : Shape).Idx → EReal) (ix2 r q) = Y m c 2 (ix2 (row t.val (lt16 t) r) q) := by
  have hi := idx2 t
  unfold iblk
  rw [View.read_apply]
  show V m c main_arg2 _ = m (c.tc.loc main_arg2) _
  rw [V_arg2]
  congr 1
  funext a
  apply Fin.ext
  match a with
  | ⟨0, _⟩ => show win0_2.index t 0 * 256 + 1 * r.val = 256 * t.val + r.val; rw [hi.1]; omega
  | ⟨1, _⟩ => show win0_2.index t 1 * 512 + 1 * q.val = q.val; rw [hi.2]; omega

theorem idx3 : ∀ t : Fin cfg0.N, win0_3.index t 0 = t.val ∧ win0_3.index t 1 = 0 := by decide +kernel
/-- Input window 3 at point `t`: the rows of block `t`. -/
theorem iblk3 (c : Dev nD) (t : Fin cfg0.N) (r : Fin 256) (q : Fin 512) :
    (iblk m c 3 t : (⟨2, ![256, 512]⟩ : Shape).Idx → EReal) (ix2 r q) = Y m c 3 (ix2 (row t.val (lt16 t) r) q) := by
  have hi := idx3 t
  unfold iblk
  rw [View.read_apply]
  show V m c main_arg3 _ = m (c.tc.loc main_arg3) _
  rw [V_arg3]
  congr 1
  funext a
  apply Fin.ext
  match a with
  | ⟨0, _⟩ => show win0_3.index t 0 * 256 + 1 * r.val = 256 * t.val + r.val; rw [hi.1]; omega
  | ⟨1, _⟩ => show win0_3.index t 1 * 512 + 1 * q.val = q.val; rw [hi.2]; omega

theorem idx4 : ∀ t : Fin cfg0.N, win0_4.index t 0 = t.val ∧ win0_4.index t 1 = 0 := by decide +kernel
/-- Input window 4 at point `t`: the rows of block `t`. -/
theorem iblk4 (c : Dev nD) (t : Fin cfg0.N) (r : Fin 256) (q : Fin 4096) :
    (iblk m c 4 t : (⟨2, ![256, 4096]⟩ : Shape).Idx → EReal) (ix2 r q) = Logits m c (ix2 (row t.val (lt16 t) r) q) := by
  have hi := idx4 t
  unfold iblk
  rw [View.read_apply]
  show V m c main_arg4 _ = m (c.tc.loc main_arg4) _
  rw [V_arg4]
  congr 1
  funext a
  apply Fin.ext
  match a with
  | ⟨0, _⟩ => show win0_4.index t 0 * 256 + 1 * r.val = 256 * t.val + r.val; rw [hi.1]; omega
  | ⟨1, _⟩ => show win0_4.index t 1 * 4096 + 1 * q.val = q.val; rw [hi.2]; omega

theorem idx5 : ∀ t : Fin cfg0.N, win0_5.index t 0 = 0 ∧ win0_5.index t 1 = 0 := by decide +kernel
/-- Input window 5 at point `t`: the whole array. -/
theorem iblk5 (c : Dev nD) (t : Fin cfg0.N) (r : Fin 4) (q : Fin 1024) :
    (iblk m c 5 t : (⟨2, ![4, 1024]⟩ : Shape).Idx → EReal) (ix2 r q) = Bias m c (ix2 (r) q) := by
  have hi := idx5 t
  unfold iblk
  rw [View.read_apply]
  show V m c main_arg5 _ = m (c.tc.loc main_arg5) _
  rw [V_arg5]
  congr 1
  funext a
  apply Fin.ext
  match a with
  | ⟨0, _⟩ => show win0_5.index t 0 * 4 + 1 * r.val = r.val; rw [hi.1]; omega
  | ⟨1, _⟩ => show win0_5.index t 1 * 1024 + 1 * q.val = q.val; rw [hi.2]; omega

theorem idx7 : ∀ t : Fin cfg0.N, win0_7.index t 0 = t.val ∧ win0_7.index t 1 = 0 := by decide +kernel
/-- Input window 7 at point `t`: the rows of block `t`. -/
theorem iblk7 (c : Dev nD) (t : Fin cfg0.N) (r : Fin 256) (q : Fin 1024) :
    (iblk m c 7 t : (⟨2, ![256, 1024]⟩ : Shape).Idx → EReal) (ix2 r q) = Dm m c (ix2 (row t.val (lt16 t) r) q) := by
  have hi := idx7 t
  unfold iblk
  rw [View.read_apply]
  show V m c main_arg7 _ = m (c.tc.loc main_arg7) _
  rw [V_arg7]
  congr 1
  funext a
  apply Fin.ext
  match a with
  | ⟨0, _⟩ => show win0_7.index t 0 * 256 + 1 * r.val = 256 * t.val + r.val; rw [hi.1]; omega
  | ⟨1, _⟩ => show win0_7.index t 1 * 1024 + 1 * q.val = q.val; rw [hi.2]; omega

theorem idx6 : ∀ t : Fin cfg0.N, win0_6.index t 0 = 0 ∧ win0_6.index t 1 = 0 ∧ win0_6.index t 2 = 0 ∧ win0_6.index t 3 = 0 := by
  decide +kernel
/-- Input window 6 at point `t`: all four projection matrices. -/
theorem iblk6 (c : Dev nD) (t : Fin cfg0.N) (i : Fin 4) (k : Fin 512) (q : Fin 1024) :
    (iblk m c 6 t : S1x4x512x1024.Idx → EReal) (ix4 0 i k q) = Wts m c (ix3 i k q) := by
  have hi := idx6 t
  rw [← V_v1]
  unfold iblk
  rw [View.read_apply]
  show V m c main_v1 _ = V m c main_v1 _
  congr 1
  funext a
  apply Fin.ext
  match a with
  | ⟨0, _⟩ => show win0_6.index t 0 * 1 + 1 * 0 = 0; rw [hi.1]
  | ⟨1, _⟩ => show win0_6.index t 1 * 4 + 1 * i.val = i.val; rw [hi.2.1]; omega
  | ⟨2, _⟩ => show win0_6.index t 2 * 512 + 1 * k.val = k.val; rw [hi.2.2.1]; omega
  | ⟨3, _⟩ => show win0_6.index t 3 * 1024 + 1 * q.val = q.val; rw [hi.2.2.2]; omega

/-! ## What the buffers hold after a point -/

theorem col_zero (q : Fin 1024) (h : q.val < 4096) : (⟨q.val, h⟩ : Fin 4096) = col 0 q :=
  Fin.ext (by show q.val = 1024 * 0 + q.val; omega)

/-- The columns of branch `i` in a block of rows: index `(r, q)` of the part is `(r, col i q)` of the block. -/
theorem emb_col (i : Fin 4) (o : Nat) (ho : o = 1024 * i.val) (inb : ∀ a, (![0, o] : Fin 2 → Nat) a + (![256, 1024] : Fin 2 → Nat) a ≤ S256x4096.size a)
    (r : Fin 256) (q : Fin 1024) :
    (Rect.unit (s := S256x4096) ![0, o] ![256, 1024] inb).emb (ix2 r q) = ix2 r (col i q) := by
  subst ho
  funext a
  apply Fin.ext
  match a with
  | ⟨0, _⟩ => show 0 + 1 * r.val = r.val; omega
  | ⟨1, _⟩ => show 1024 * i.val + 1 * q.val = 1024 * i.val + q.val; omega

/-- Row `i` of the bias gradient: index `(0, q)` of the part is `(i, q)` of the buffer. -/
theorem emb_row (i : Fin 4) (o : Nat) (ho : o = i.val) (inb : ∀ a, (![o, 0] : Fin 2 → Nat) a + (![1, 1024] : Fin 2 → Nat) a ≤ S4x1024.size a)
    (q : Fin 1024) :
    (Rect.unit (s := S4x1024) ![o, 0] ![1, 1024] inb).emb (ix2 0 q) = ix2 i q := by
  subst ho
  funext a
  apply Fin.ext
  match a with
  | ⟨0, _⟩ => show i.val + 1 * 0 = i.val; omega
  | ⟨1, _⟩ => show 0 + 1 * q.val = q.val; omega

/-- The block's contribution to the bias gradient: the logits' gradient summed over the block's tokens. -/
def add14 (c : Dev nD) (t : Fin cfg0.N) : Vec Ideal S4x1024 .f32 := fun y =>
  ∑ r : Fin 256, dLogit (Y m c (y 0)) (Logits m c) (Bias m c) (Wts m c) (Dm m c) (y 0) (row t.val (lt16 t) r) (y 1)
theorem add14_row (c : Dev nD) (t : Fin cfg0.N) (i : Fin 4) (q : Fin 1024) : add14 m c t (ix2 i q)
    = ∑ r : Fin 256, dLogit (Y m c i) (Logits m c) (Bias m c) (Wts m c) (Dm m c) i (row t.val (lt16 t) r) q := rfl

/-- The logits' gradient, and the projections', for the block's tokens, the four branches side by side. -/
def blk12 (c : Dev nD) (t : Fin cfg0.N) : Vec Ideal S256x4096 .f32 := fun y =>
  dLogit (Y m c (branchOf (y 1))) (Logits m c) (Bias m c) (Wts m c) (Dm m c) (branchOf (y 1)) (row t.val (lt16 t) (y 0)) (chanOf (y 1))
def blk13 (c : Dev nD) (t : Fin cfg0.N) : Vec Ideal S256x4096 .bf16 := fun y =>
  dProj (Logits m c) (Bias m c) (Dm m c) (branchOf (y 1)) (row t.val (lt16 t) (y 0)) (chanOf (y 1))
theorem blk12_col (c : Dev nD) (t : Fin cfg0.N) (i : Fin 4) (r : Fin 256) (q : Fin 1024) : blk12 m c t (ix2 r (col i q))
    = dLogit (Y m c i) (Logits m c) (Bias m c) (Wts m c) (Dm m c) i (row t.val (lt16 t) r) q := by
  unfold blk12; simp only [ix2_0, ix2_1, branchOf_col, chanOf_col]
theorem blk13_col (c : Dev nD) (t : Fin cfg0.N) (i : Fin 4) (r : Fin 256) (q : Fin 1024) : blk13 m c t (ix2 r (col i q))
    = dProj (Logits m c) (Bias m c) (Dm m c) i (row t.val (lt16 t) r) q := by
  unfold blk13; simp only [ix2_0, ix2_1, branchOf_col, chanOf_col]

/-- Case A, output 8: the gradient of branch 0 for the block's tokens. -/
theorem out8_A (c : Dev nD) (t : Fin cfg0.N) (h : t.val % 16 = 0) (h' : ¬1 ≤ t.val) (r : Fin 256) (k : Fin 512) :
    (outsAt0 m c t.val t.isLt).1 (ix2 r k) = dInput (Logits m c) (Bias m c) (Wts m c) (Dm m c) 0 (row t.val (lt16 t) r) k := by
  rw [outsAt0_A m c t h h' h h' h h' h h']
  dsimp only
  unfold out0_A_8
  rw [View.read_writes_eq_canon _ _ _ (fun _ => cover0_A_8 ..)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  pointwise [k0_pay6, k0_pay5, k0_pay3]
  simp only [iblk0, iblk1, iblk2, iblk3, iblk4, iblk5, iblk6, iblk7]
  rfl

/-- Case A, output 9: the gradient of branch 1 for the block's tokens. -/
theorem out9_A (c : Dev nD) (t : Fin cfg0.N) (h : t.val % 16 = 0) (h' : ¬1 ≤ t.val) (r : Fin 256) (k : Fin 512) :
    (outsAt0 m c t.val t.isLt).2.1 (ix2 r k) = dInput (Logits m c) (Bias m c) (Wts m c) (Dm m c) 1 (row t.val (lt16 t) r) k := by
  rw [outsAt0_A m c t h h' h h' h h' h h']
  dsimp only
  unfold out0_A_9
  rw [View.read_writes_eq_canon _ _ _ (fun _ => cover0_A_9 ..)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  pointwise [k0_pay12, k0_pay11, k0_pay9]
  simp only [iblk0, iblk1, iblk2, iblk3, iblk4, iblk5, iblk6, iblk7]
  rfl

/-- Case A, output 10: the gradient of branch 2 for the block's tokens. -/
theorem out10_A (c : Dev nD) (t : Fin cfg0.N) (h : t.val % 16 = 0) (h' : ¬1 ≤ t.val) (r : Fin 256) (k : Fin 512) :
    (outsAt0 m c t.val t.isLt).2.2.1 (ix2 r k) = dInput (Logits m c) (Bias m c) (Wts m c) (Dm m c) 2 (row t.val (lt16 t) r) k := by
  rw [outsAt0_A m c t h h' h h' h h' h h']
  dsimp only
  unfold out0_A_10
  rw [View.read_writes_eq_canon _ _ _ (fun _ => cover0_A_10 ..)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  pointwise [k0_pay18, k0_pay17, k0_pay15]
  simp only [iblk0, iblk1, iblk2, iblk3, iblk4, iblk5, iblk6, iblk7]
  rfl

/-- Case A, output 11: the gradient of branch 3 for the block's tokens. -/
theorem out11_A (c : Dev nD) (t : Fin cfg0.N) (h : t.val % 16 = 0) (h' : ¬1 ≤ t.val) (r : Fin 256) (k : Fin 512) :
    (outsAt0 m c t.val t.isLt).2.2.2.1 (ix2 r k) = dInput (Logits m c) (Bias m c) (Wts m c) (Dm m c) 3 (row t.val (lt16 t) r) k := by
  rw [outsAt0_A m c t h h' h h' h h' h h']
  dsimp only
  unfold out0_A_11
  rw [View.read_writes_eq_canon _ _ _ (fun _ => cover0_A_11 ..)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  pointwise [k0_pay24, k0_pay23, k0_pay21]
  simp only [iblk0, iblk1, iblk2, iblk3, iblk4, iblk5, iblk6, iblk7]
  rfl

/-- Case A, output 12: the gradient of the logits, the four branches side by side. -/
theorem out12_A (c : Dev nD) (t : Fin cfg0.N) (h : t.val % 16 = 0) (h' : ¬1 ≤ t.val) (y : S256x4096.Idx) :
    (outsAt0 m c t.val t.isLt).2.2.2.2.1 y = blk12 m c t y := by
  rw [outsAt0_A m c t h h' h h' h h' h h']
  dsimp only
  unfold out0_A_12
  rw [View.read_writes_eq_canon _ _ _ (fun _ => cover0_A_12 ..)]
  refine View.canon_apply_of_pieces (Val := Elt Ideal) (blk12 m c t) _ ?_ y (cover0_A_12 ..)
  unfold kernelRun0_A
  dsimp only
  sl_unfold_words
  simp only [List.mem_cons, List.not_mem_nil, or_false, forall_eq_or_imp, forall_eq, View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  refine ⟨fun x => ?_, fun x => ?_, fun x => ?_, fun x => ?_⟩
  · obtain ⟨r, q, rfl⟩ : ∃ (r : Fin 256) (q : Fin 1024), x = ix2 r q := ⟨x 0, x 1, eq_ix2 x⟩
    refine Eq.trans ?_ (congrArg (blk12 m c t) (emb_col 3 3072 rfl _ r q)).symm
    rw [blk12_col]
    pointwise [k0_pay22, k0_pay21]
    simp only [iblk0, iblk1, iblk2, iblk3, iblk4, iblk5, iblk6, iblk7]
    rfl
  · obtain ⟨r, q, rfl⟩ : ∃ (r : Fin 256) (q : Fin 1024), x = ix2 r q := ⟨x 0, x 1, eq_ix2 x⟩
    refine Eq.trans ?_ (congrArg (blk12 m c t) (emb_col 2 2048 rfl _ r q)).symm
    rw [blk12_col]
    pointwise [k0_pay16, k0_pay15]
    simp only [iblk0, iblk1, iblk2, iblk3, iblk4, iblk5, iblk6, iblk7]
    rfl
  · obtain ⟨r, q, rfl⟩ : ∃ (r : Fin 256) (q : Fin 1024), x = ix2 r q := ⟨x 0, x 1, eq_ix2 x⟩
    refine Eq.trans ?_ (congrArg (blk12 m c t) (emb_col 1 1024 rfl _ r q)).symm
    rw [blk12_col]
    pointwise [k0_pay10, k0_pay9]
    simp only [iblk0, iblk1, iblk2, iblk3, iblk4, iblk5, iblk6, iblk7]
    rfl
  · obtain ⟨r, q, rfl⟩ : ∃ (r : Fin 256) (q : Fin 1024), x = ix2 r q := ⟨x 0, x 1, eq_ix2 x⟩
    refine Eq.trans ?_ (congrArg (blk12 m c t) (emb_col 0 0 rfl _ r q)).symm
    rw [blk12_col]
    pointwise [k0_pay4, k0_pay3]
    simp only [iblk0, iblk1, iblk2, iblk3, iblk4, iblk5, iblk6, iblk7, col_zero]
    rfl

/-- Case A, output 13: the gradient of the projections, the four branches side by side. -/
theorem out13_A (c : Dev nD) (t : Fin cfg0.N) (h : t.val % 16 = 0) (h' : ¬1 ≤ t.val) (y : S256x4096.Idx) :
    (outsAt0 m c t.val t.isLt).2.2.2.2.2.1 y = blk13 m c t y := by
  rw [outsAt0_A m c t h h' h h' h h' h h']
  dsimp only
  unfold out0_A_13
  rw [View.read_writes_eq_canon _ _ _ (fun _ => cover0_A_13 ..)]
  refine View.canon_apply_of_pieces (Val := Elt Ideal) (blk13 m c t) _ ?_ y (cover0_A_13 ..)
  unfold kernelRun0_A
  dsimp only
  sl_unfold_words
  simp only [List.mem_cons, List.not_mem_nil, or_false, forall_eq_or_imp, forall_eq, View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  refine ⟨fun x => ?_, fun x => ?_, fun x => ?_, fun x => ?_⟩
  · obtain ⟨r, q, rfl⟩ : ∃ (r : Fin 256) (q : Fin 1024), x = ix2 r q := ⟨x 0, x 1, eq_ix2 x⟩
    refine Eq.trans ?_ (congrArg (blk13 m c t) (emb_col 3 3072 rfl _ r q)).symm
    rw [blk13_col]
    pointwise [k0_pay23, k0_pay21]
    simp only [iblk0, iblk1, iblk2, iblk3, iblk4, iblk5, iblk6, iblk7]
    rfl
  · obtain ⟨r, q, rfl⟩ : ∃ (r : Fin 256) (q : Fin 1024), x = ix2 r q := ⟨x 0, x 1, eq_ix2 x⟩
    refine Eq.trans ?_ (congrArg (blk13 m c t) (emb_col 2 2048 rfl _ r q)).symm
    rw [blk13_col]
    pointwise [k0_pay17, k0_pay15]
    simp only [iblk0, iblk1, iblk2, iblk3, iblk4, iblk5, iblk6, iblk7]
    rfl
  · obtain ⟨r, q, rfl⟩ : ∃ (r : Fin 256) (q : Fin 1024), x = ix2 r q := ⟨x 0, x 1, eq_ix2 x⟩
    refine Eq.trans ?_ (congrArg (blk13 m c t) (emb_col 1 1024 rfl _ r q)).symm
    rw [blk13_col]
    pointwise [k0_pay11, k0_pay9]
    simp only [iblk0, iblk1, iblk2, iblk3, iblk4, iblk5, iblk6, iblk7]
    rfl
  · obtain ⟨r, q, rfl⟩ : ∃ (r : Fin 256) (q : Fin 1024), x = ix2 r q := ⟨x 0, x 1, eq_ix2 x⟩
    refine Eq.trans ?_ (congrArg (blk13 m c t) (emb_col 0 0 rfl _ r q)).symm
    rw [blk13_col]
    pointwise [k0_pay5, k0_pay3]
    simp only [iblk0, iblk1, iblk2, iblk3, iblk4, iblk5, iblk6, iblk7, col_zero]
    rfl

/-- Case B, output 8: the gradient of branch 0 for the block's tokens. -/
theorem out8_B (c : Dev nD) (t : Fin cfg0.N) (h : ¬t.val % 16 = 0) (h' : 1 ≤ t.val) (r : Fin 256) (k : Fin 512) :
    (outsAt0 m c t.val t.isLt).1 (ix2 r k) = dInput (Logits m c) (Bias m c) (Wts m c) (Dm m c) 0 (row t.val (lt16 t) r) k := by
  rw [outsAt0_B m c t h h' h h' h h' h h']
  dsimp only
  unfold out0_B_8
  rw [View.read_writes_eq_canon _ _ _ (fun _ => cover0_B_8 ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  pointwise [k0_pay6, k0_pay5, k0_pay3]
  simp only [iblk0, iblk1, iblk2, iblk3, iblk4, iblk5, iblk6, iblk7]
  rfl

/-- Case B, output 9: the gradient of branch 1 for the block's tokens. -/
theorem out9_B (c : Dev nD) (t : Fin cfg0.N) (h : ¬t.val % 16 = 0) (h' : 1 ≤ t.val) (r : Fin 256) (k : Fin 512) :
    (outsAt0 m c t.val t.isLt).2.1 (ix2 r k) = dInput (Logits m c) (Bias m c) (Wts m c) (Dm m c) 1 (row t.val (lt16 t) r) k := by
  rw [outsAt0_B m c t h h' h h' h h' h h']
  dsimp only
  unfold out0_B_9
  rw [View.read_writes_eq_canon _ _ _ (fun _ => cover0_B_9 ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  pointwise [k0_pay12, k0_pay11, k0_pay9]
  simp only [iblk0, iblk1, iblk2, iblk3, iblk4, iblk5, iblk6, iblk7]
  rfl

/-- Case B, output 10: the gradient of branch 2 for the block's tokens. -/
theorem out10_B (c : Dev nD) (t : Fin cfg0.N) (h : ¬t.val % 16 = 0) (h' : 1 ≤ t.val) (r : Fin 256) (k : Fin 512) :
    (outsAt0 m c t.val t.isLt).2.2.1 (ix2 r k) = dInput (Logits m c) (Bias m c) (Wts m c) (Dm m c) 2 (row t.val (lt16 t) r) k := by
  rw [outsAt0_B m c t h h' h h' h h' h h']
  dsimp only
  unfold out0_B_10
  rw [View.read_writes_eq_canon _ _ _ (fun _ => cover0_B_10 ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  pointwise [k0_pay18, k0_pay17, k0_pay15]
  simp only [iblk0, iblk1, iblk2, iblk3, iblk4, iblk5, iblk6, iblk7]
  rfl

/-- Case B, output 11: the gradient of branch 3 for the block's tokens. -/
theorem out11_B (c : Dev nD) (t : Fin cfg0.N) (h : ¬t.val % 16 = 0) (h' : 1 ≤ t.val) (r : Fin 256) (k : Fin 512) :
    (outsAt0 m c t.val t.isLt).2.2.2.1 (ix2 r k) = dInput (Logits m c) (Bias m c) (Wts m c) (Dm m c) 3 (row t.val (lt16 t) r) k := by
  rw [outsAt0_B m c t h h' h h' h h' h h']
  dsimp only
  unfold out0_B_11
  rw [View.read_writes_eq_canon _ _ _ (fun _ => cover0_B_11 ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  pointwise [k0_pay24, k0_pay23, k0_pay21]
  simp only [iblk0, iblk1, iblk2, iblk3, iblk4, iblk5, iblk6, iblk7]
  rfl

/-- Case B, output 12: the gradient of the logits, the four branches side by side. -/
theorem out12_B (c : Dev nD) (t : Fin cfg0.N) (h : ¬t.val % 16 = 0) (h' : 1 ≤ t.val) (y : S256x4096.Idx) :
    (outsAt0 m c t.val t.isLt).2.2.2.2.1 y = blk12 m c t y := by
  rw [outsAt0_B m c t h h' h h' h h' h h']
  dsimp only
  unfold out0_B_12
  rw [View.read_writes_eq_canon _ _ _ (fun _ => cover0_B_12 ..)]
  refine View.canon_apply_of_pieces (Val := Elt Ideal) (blk12 m c t) _ ?_ y (cover0_B_12 ..)
  unfold kernelRun0_B
  dsimp only
  sl_unfold_words
  simp only [List.mem_cons, List.not_mem_nil, or_false, forall_eq_or_imp, forall_eq, View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  refine ⟨fun x => ?_, fun x => ?_, fun x => ?_, fun x => ?_⟩
  · obtain ⟨r, q, rfl⟩ : ∃ (r : Fin 256) (q : Fin 1024), x = ix2 r q := ⟨x 0, x 1, eq_ix2 x⟩
    refine Eq.trans ?_ (congrArg (blk12 m c t) (emb_col 3 3072 rfl _ r q)).symm
    rw [blk12_col]
    pointwise [k0_pay22, k0_pay21]
    simp only [iblk0, iblk1, iblk2, iblk3, iblk4, iblk5, iblk6, iblk7]
    rfl
  · obtain ⟨r, q, rfl⟩ : ∃ (r : Fin 256) (q : Fin 1024), x = ix2 r q := ⟨x 0, x 1, eq_ix2 x⟩
    refine Eq.trans ?_ (congrArg (blk12 m c t) (emb_col 2 2048 rfl _ r q)).symm
    rw [blk12_col]
    pointwise [k0_pay16, k0_pay15]
    simp only [iblk0, iblk1, iblk2, iblk3, iblk4, iblk5, iblk6, iblk7]
    rfl
  · obtain ⟨r, q, rfl⟩ : ∃ (r : Fin 256) (q : Fin 1024), x = ix2 r q := ⟨x 0, x 1, eq_ix2 x⟩
    refine Eq.trans ?_ (congrArg (blk12 m c t) (emb_col 1 1024 rfl _ r q)).symm
    rw [blk12_col]
    pointwise [k0_pay10, k0_pay9]
    simp only [iblk0, iblk1, iblk2, iblk3, iblk4, iblk5, iblk6, iblk7]
    rfl
  · obtain ⟨r, q, rfl⟩ : ∃ (r : Fin 256) (q : Fin 1024), x = ix2 r q := ⟨x 0, x 1, eq_ix2 x⟩
    refine Eq.trans ?_ (congrArg (blk12 m c t) (emb_col 0 0 rfl _ r q)).symm
    rw [blk12_col]
    pointwise [k0_pay4, k0_pay3]
    simp only [iblk0, iblk1, iblk2, iblk3, iblk4, iblk5, iblk6, iblk7, col_zero]
    rfl

/-- Case B, output 13: the gradient of the projections, the four branches side by side. -/
theorem out13_B (c : Dev nD) (t : Fin cfg0.N) (h : ¬t.val % 16 = 0) (h' : 1 ≤ t.val) (y : S256x4096.Idx) :
    (outsAt0 m c t.val t.isLt).2.2.2.2.2.1 y = blk13 m c t y := by
  rw [outsAt0_B m c t h h' h h' h h' h h']
  dsimp only
  unfold out0_B_13
  rw [View.read_writes_eq_canon _ _ _ (fun _ => cover0_B_13 ..)]
  refine View.canon_apply_of_pieces (Val := Elt Ideal) (blk13 m c t) _ ?_ y (cover0_B_13 ..)
  unfold kernelRun0_B
  dsimp only
  sl_unfold_words
  simp only [List.mem_cons, List.not_mem_nil, or_false, forall_eq_or_imp, forall_eq, View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  refine ⟨fun x => ?_, fun x => ?_, fun x => ?_, fun x => ?_⟩
  · obtain ⟨r, q, rfl⟩ : ∃ (r : Fin 256) (q : Fin 1024), x = ix2 r q := ⟨x 0, x 1, eq_ix2 x⟩
    refine Eq.trans ?_ (congrArg (blk13 m c t) (emb_col 3 3072 rfl _ r q)).symm
    rw [blk13_col]
    pointwise [k0_pay23, k0_pay21]
    simp only [iblk0, iblk1, iblk2, iblk3, iblk4, iblk5, iblk6, iblk7]
    rfl
  · obtain ⟨r, q, rfl⟩ : ∃ (r : Fin 256) (q : Fin 1024), x = ix2 r q := ⟨x 0, x 1, eq_ix2 x⟩
    refine Eq.trans ?_ (congrArg (blk13 m c t) (emb_col 2 2048 rfl _ r q)).symm
    rw [blk13_col]
    pointwise [k0_pay17, k0_pay15]
    simp only [iblk0, iblk1, iblk2, iblk3, iblk4, iblk5, iblk6, iblk7]
    rfl
  · obtain ⟨r, q, rfl⟩ : ∃ (r : Fin 256) (q : Fin 1024), x = ix2 r q := ⟨x 0, x 1, eq_ix2 x⟩
    refine Eq.trans ?_ (congrArg (blk13 m c t) (emb_col 1 1024 rfl _ r q)).symm
    rw [blk13_col]
    pointwise [k0_pay11, k0_pay9]
    simp only [iblk0, iblk1, iblk2, iblk3, iblk4, iblk5, iblk6, iblk7]
    rfl
  · obtain ⟨r, q, rfl⟩ : ∃ (r : Fin 256) (q : Fin 1024), x = ix2 r q := ⟨x 0, x 1, eq_ix2 x⟩
    refine Eq.trans ?_ (congrArg (blk13 m c t) (emb_col 0 0 rfl _ r q)).symm
    rw [blk13_col]
    pointwise [k0_pay5, k0_pay3]
    simp only [iblk0, iblk1, iblk2, iblk3, iblk4, iblk5, iblk6, iblk7, col_zero]
    rfl

/-- Case A, output 14: the block's contribution to the bias gradient alone. -/
theorem out14_A (c : Dev nD) (t : Fin cfg0.N) (h : t.val % 16 = 0) (h' : ¬1 ≤ t.val) (y : S4x1024.Idx) :
    (outsAt0 m c t.val t.isLt).2.2.2.2.2.2 y = (add14 m c t) y := by
  rw [outsAt0_A m c t h h' h h' h h' h h']
  dsimp only
  unfold out0_A_14
  rw [View.read_writes_eq_canon _ _ _ (fun _ => cover0_A_14 ..)]
  refine View.canon_apply_of_pieces (Val := Elt Ideal) (S := S4x1024) (e := .f32) (add14 m c t) _ ?_ y (cover0_A_14 ..)
  unfold kernelRun0_A
  dsimp only
  sl_unfold_words
  simp only [List.mem_cons, List.not_mem_nil, or_false, forall_eq_or_imp, forall_eq, View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  refine ⟨fun x => ?_, fun x => ?_, fun x => ?_, fun x => ?_⟩
  · obtain ⟨z, q, rfl⟩ : ∃ (z : Fin 1) (q : Fin 1024), x = ix2 z q := ⟨x 0, x 1, eq_ix2 x⟩
    obtain rfl : z = 0 := Subsingleton.elim _ _
    refine Eq.trans ?_ (congrArg (add14 m c t) (emb_row 3 3 rfl _ q)).symm
    rw [add14_row]
    pointwise [k0_pay1, k0_pay22, k0_pay21]
    simp only [iblk0, iblk1, iblk2, iblk3, iblk4, iblk5, iblk6, iblk7]
    rfl
  · obtain ⟨z, q, rfl⟩ : ∃ (z : Fin 1) (q : Fin 1024), x = ix2 z q := ⟨x 0, x 1, eq_ix2 x⟩
    obtain rfl : z = 0 := Subsingleton.elim _ _
    refine Eq.trans ?_ (congrArg (add14 m c t) (emb_row 2 2 rfl _ q)).symm
    rw [add14_row]
    pointwise [k0_pay19, k0_pay16, k0_pay15]
    simp only [iblk0, iblk1, iblk2, iblk3, iblk4, iblk5, iblk6, iblk7]
    rfl
  · obtain ⟨z, q, rfl⟩ : ∃ (z : Fin 1) (q : Fin 1024), x = ix2 z q := ⟨x 0, x 1, eq_ix2 x⟩
    obtain rfl : z = 0 := Subsingleton.elim _ _
    refine Eq.trans ?_ (congrArg (add14 m c t) (emb_row 1 1 rfl _ q)).symm
    rw [add14_row]
    pointwise [k0_pay13, k0_pay10, k0_pay9]
    simp only [iblk0, iblk1, iblk2, iblk3, iblk4, iblk5, iblk6, iblk7]
    rfl
  · obtain ⟨z, q, rfl⟩ : ∃ (z : Fin 1) (q : Fin 1024), x = ix2 z q := ⟨x 0, x 1, eq_ix2 x⟩
    obtain rfl : z = 0 := Subsingleton.elim _ _
    refine Eq.trans ?_ (congrArg (add14 m c t) (emb_row 0 0 rfl _ q)).symm
    rw [add14_row]
    pointwise [k0_pay7, k0_pay4, k0_pay3]
    simp only [iblk0, iblk1, iblk2, iblk3, iblk4, iblk5, iblk6, iblk7, col_zero]
    rfl

/-- Case B, output 14: the block's contribution to the bias gradient, added to what was there. -/
theorem out14_B (c : Dev nD) (t : Fin cfg0.N) (h : ¬t.val % 16 = 0) (h' : 1 ≤ t.val) (y : S4x1024.Idx) :
    (outsAt0 m c t.val t.isLt).2.2.2.2.2.2 y = (fun y => (outsAt0 m c (t.val - 1) (Nat.lt_of_le_of_lt (Nat.sub_le _ _) t.isLt)).2.2.2.2.2.2 y + add14 m c t y) y := by
  rw [outsAt0_B m c t h h' h h' h h' h h']
  dsimp only
  unfold out0_B_14
  rw [View.read_writes_eq_canon _ _ _ (fun _ => cover0_B_14 ..)]
  refine View.canon_apply_of_pieces (Val := Elt Ideal) (S := S4x1024) (e := .f32) (fun y => (outsAt0 m c (t.val - 1) (Nat.lt_of_le_of_lt (Nat.sub_le _ _) t.isLt)).2.2.2.2.2.2 y + add14 m c t y) _ ?_ y (cover0_B_14 ..)
  unfold kernelRun0_B
  dsimp only
  sl_unfold_words
  simp only [List.mem_cons, List.not_mem_nil, or_false, forall_eq_or_imp, forall_eq, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_14 t).read_unread]
  refine ⟨fun x => ?_, fun x => ?_, fun x => ?_, fun x => ?_⟩
  · obtain ⟨z, q, rfl⟩ : ∃ (z : Fin 1) (q : Fin 1024), x = ix2 z q := ⟨x 0, x 1, eq_ix2 x⟩
    obtain rfl : z = 0 := Subsingleton.elim _ _
    refine Eq.trans ?_ (congrArg (fun y => (outsAt0 m c (t.val - 1) (Nat.lt_of_le_of_lt (Nat.sub_le _ _) t.isLt)).2.2.2.2.2.2 y + add14 m c t y) (emb_row 3 3 rfl _ q)).symm
    simp only [add14_row]
    pointwise [k0_pay2, k0_pay1, k0_pay22, k0_pay21]
    simp only [iblk0, iblk1, iblk2, iblk3, iblk4, iblk5, iblk6, iblk7]
    rfl
  · obtain ⟨z, q, rfl⟩ : ∃ (z : Fin 1) (q : Fin 1024), x = ix2 z q := ⟨x 0, x 1, eq_ix2 x⟩
    obtain rfl : z = 0 := Subsingleton.elim _ _
    refine Eq.trans ?_ (congrArg (fun y => (outsAt0 m c (t.val - 1) (Nat.lt_of_le_of_lt (Nat.sub_le _ _) t.isLt)).2.2.2.2.2.2 y + add14 m c t y) (emb_row 2 2 rfl _ q)).symm
    simp only [add14_row]
    pointwise [k0_pay20, k0_pay19, k0_pay16, k0_pay15]
    simp only [iblk0, iblk1, iblk2, iblk3, iblk4, iblk5, iblk6, iblk7]
    rfl
  · obtain ⟨z, q, rfl⟩ : ∃ (z : Fin 1) (q : Fin 1024), x = ix2 z q := ⟨x 0, x 1, eq_ix2 x⟩
    obtain rfl : z = 0 := Subsingleton.elim _ _
    refine Eq.trans ?_ (congrArg (fun y => (outsAt0 m c (t.val - 1) (Nat.lt_of_le_of_lt (Nat.sub_le _ _) t.isLt)).2.2.2.2.2.2 y + add14 m c t y) (emb_row 1 1 rfl _ q)).symm
    simp only [add14_row]
    pointwise [k0_pay14, k0_pay13, k0_pay10, k0_pay9]
    simp only [iblk0, iblk1, iblk2, iblk3, iblk4, iblk5, iblk6, iblk7]
    rfl
  · obtain ⟨z, q, rfl⟩ : ∃ (z : Fin 1) (q : Fin 1024), x = ix2 z q := ⟨x 0, x 1, eq_ix2 x⟩
    obtain rfl : z = 0 := Subsingleton.elim _ _
    refine Eq.trans ?_ (congrArg (fun y => (outsAt0 m c (t.val - 1) (Nat.lt_of_le_of_lt (Nat.sub_le _ _) t.isLt)).2.2.2.2.2.2 y + add14 m c t y) (emb_row 0 0 rfl _ q)).symm
    simp only [add14_row]
    pointwise [k0_pay8, k0_pay7, k0_pay4, k0_pay3]
    simp only [iblk0, iblk1, iblk2, iblk3, iblk4, iblk5, iblk6, iblk7, col_zero]
    rfl

end Cert.KernelIdeal.MergeBlock

end
-- ==== Proof.MergeArrays.lean ====
/-
  What the merge kernel's result arrays hold after the run, over the extended reals: each of the sixteen points writes
  its 256 rows of the branches', the logits' and the projections' gradients, and the bias gradient is written once, after
  the last point, when the running sum has taken in all sixteen blocks of tokens.
-/
module

public import proofs.«01_k».proof.Proof.MergeBlock
public import Idealize.ShloMosaic.Lib.Pipeline.Value

@[expose] public section

set_option maxRecDepth 16384

noncomputable section

namespace Cert.KernelIdeal.MergeArrays

open Cert.Merge Cert.KernelIdeal.MergeBlock
open Cert.KernelIdeal Cert.KernelIdeal.Gen Idealize.ShloMosaic Idealize.ShloMosaic.TcCoe Idealize.SL.Sem

variable (m : (ℓ : Loc nD τ sig) → Buf (Elt Ideal) ℓ)

/-! ## The contents -/

/-- The gradient of branch `i`. -/
def resD (c : Dev nD) (i : Fin 4) : Mat 4096 512 := fun y => dInput (Logits m c) (Bias m c) (Wts m c) (Dm m c) i (y 0) (y 1)
/-- The gradient of the logits, of the projections, and of the biases. -/
def resLogit (c : Dev nD) : Mat 4096 4096 := fun y =>
  dLogit (Y m c (branchOf (y 1))) (Logits m c) (Bias m c) (Wts m c) (Dm m c) (branchOf (y 1)) (y 0) (chanOf (y 1))
def resProj (c : Dev nD) : Mat 4096 4096 := fun y =>
  dProj (Logits m c) (Bias m c) (Dm m c) (branchOf (y 1)) (y 0) (chanOf (y 1))
def resBias (c : Dev nD) : Mat 4 1024 := fun y =>
  dBias (Y m c (y 0)) (Logits m c) (Bias m c) (Wts m c) (Dm m c) (y 0) (y 1)

/-! ## One block -/

theorem idx8 : ∀ t : Fin cfg0.N, win0_8.index t 0 = t.val ∧ win0_8.index t 1 = 0 := by decide +kernel
theorem emb8 (t : Fin cfg0.N) (r : Fin 256) (k : Fin 512) :
    (((cfg0.win 8).blk t).view.emb (ix2 r k) : S4096x512.Idx) = ix2 (row t.val (lt16 t) r) k := by
  have hi := idx8 t
  funext a
  apply Fin.ext
  match a with
  | ⟨0, _⟩ => show win0_8.index t 0 * 256 + 1 * r.val = 256 * t.val + r.val; rw [hi.1]; omega
  | ⟨1, _⟩ => show win0_8.index t 1 * 512 + 1 * k.val = k.val; rw [hi.2]; omega
/-- Point `t` writes back its rows of the result. -/
theorem flushed8 (c : Dev nD) (t : Fin cfg0.N) :
    (dats m 0 c).flushed 8 t = ((cfg0.win 8).blk t).view.read (Elt Ideal) (resD m c 0 : Vec Ideal S4096x512 .f32) := by
  rw [Value.flushed8]
  funext y
  obtain ⟨r, k, rfl⟩ : ∃ (r : Fin 256) (k : Fin 512), y = ix2 r k := ⟨y 0, y 1, eq_ix2 y⟩
  rw [View.read_apply]
  show (outsAt0 m c t.val t.isLt).1 (ix2 r k) = (resD m c 0) (((cfg0.win 8).blk t).view.emb (ix2 r k))
  rw [emb8 t r k]
  have ht := lt16 t
  by_cases h : t.val % 16 = 0
  · rw [out8_A m c t h (by omega) r k]; rfl
  · rw [out8_B m c t h (by omega) r k]; rfl
/-- The array after the run. -/
theorem final8 (c : Dev nD) : (dats m 0 c).arrAt 8 cfg0.N = (resD m c 0 : Vec Ideal S4096x512 .f32) :=
  (dats m 0 c).arrAt_eq_of_cover 8 (resD m c 0 : Vec Ideal S4096x512 .f32) (fun t _ => flushed8 m c t) fun i => by
    have h0 : (i 0 : Nat) < 4096 := (i 0).isLt
    have h1 : (i 1 : Nat) < 512 := (i 1).isLt
    have hN : cfg0.N = 16 := N_0
    let t : Fin cfg0.N := ⟨(i 0 : Nat) / 256, by rw [hN]; omega⟩
    have hi := idx8 t
    refine ⟨t, flush0_8 t, ?_⟩
    show i ∈ ((View.whole main_v2_0).slice (win0_8.rect t)).set
    rw [View.set_slice_whole, Rect.mem_set_unit]
    intro a
    match a with
    | ⟨0, _⟩ =>
      show win0_8.index t 0 * 256 ≤ (i 0 : Nat) ∧ (i 0 : Nat) < win0_8.index t 0 * 256 + 256
      rw [hi.1]; show (i 0 : Nat) / 256 * 256 ≤ (i 0 : Nat) ∧ (i 0 : Nat) < (i 0 : Nat) / 256 * 256 + 256; omega
    | ⟨1, _⟩ =>
      show win0_8.index t 1 * 512 ≤ (i 1 : Nat) ∧ (i 1 : Nat) < win0_8.index t 1 * 512 + 512
      rw [hi.2]; omega

theorem idx9 : ∀ t : Fin cfg0.N, win0_9.index t 0 = t.val ∧ win0_9.index t 1 = 0 := by decide +kernel
theorem emb9 (t : Fin cfg0.N) (r : Fin 256) (k : Fin 512) :
    (((cfg0.win 9).blk t).view.emb (ix2 r k) : S4096x512.Idx) = ix2 (row t.val (lt16 t) r) k := by
  have hi := idx9 t
  funext a
  apply Fin.ext
  match a with
  | ⟨0, _⟩ => show win0_9.index t 0 * 256 + 1 * r.val = 256 * t.val + r.val; rw [hi.1]; omega
  | ⟨1, _⟩ => show win0_9.index t 1 * 512 + 1 * k.val = k.val; rw [hi.2]; omega
/-- Point `t` writes back its rows of the result. -/
theorem flushed9 (c : Dev nD) (t : Fin cfg0.N) :
    (dats m 0 c).flushed 9 t = ((cfg0.win 9).blk t).view.read (Elt Ideal) (resD m c 1 : Vec Ideal S4096x512 .f32) := by
  rw [Value.flushed9]
  funext y
  obtain ⟨r, k, rfl⟩ : ∃ (r : Fin 256) (k : Fin 512), y = ix2 r k := ⟨y 0, y 1, eq_ix2 y⟩
  rw [View.read_apply]
  show (outsAt0 m c t.val t.isLt).2.1 (ix2 r k) = (resD m c 1) (((cfg0.win 9).blk t).view.emb (ix2 r k))
  rw [emb9 t r k]
  have ht := lt16 t
  by_cases h : t.val % 16 = 0
  · rw [out9_A m c t h (by omega) r k]; rfl
  · rw [out9_B m c t h (by omega) r k]; rfl
/-- The array after the run. -/
theorem final9 (c : Dev nD) : (dats m 0 c).arrAt 9 cfg0.N = (resD m c 1 : Vec Ideal S4096x512 .f32) :=
  (dats m 0 c).arrAt_eq_of_cover 9 (resD m c 1 : Vec Ideal S4096x512 .f32) (fun t _ => flushed9 m c t) fun i => by
    have h0 : (i 0 : Nat) < 4096 := (i 0).isLt
    have h1 : (i 1 : Nat) < 512 := (i 1).isLt
    have hN : cfg0.N = 16 := N_0
    let t : Fin cfg0.N := ⟨(i 0 : Nat) / 256, by rw [hN]; omega⟩
    have hi := idx9 t
    refine ⟨t, flush0_9 t, ?_⟩
    show i ∈ ((View.whole main_v2_1).slice (win0_9.rect t)).set
    rw [View.set_slice_whole, Rect.mem_set_unit]
    intro a
    match a with
    | ⟨0, _⟩ =>
      show win0_9.index t 0 * 256 ≤ (i 0 : Nat) ∧ (i 0 : Nat) < win0_9.index t 0 * 256 + 256
      rw [hi.1]; show (i 0 : Nat) / 256 * 256 ≤ (i 0 : Nat) ∧ (i 0 : Nat) < (i 0 : Nat) / 256 * 256 + 256; omega
    | ⟨1, _⟩ =>
      show win0_9.index t 1 * 512 ≤ (i 1 : Nat) ∧ (i 1 : Nat) < win0_9.index t 1 * 512 + 512
      rw [hi.2]; omega

theorem idx10 : ∀ t : Fin cfg0.N, win0_10.index t 0 = t.val ∧ win0_10.index t 1 = 0 := by decide +kernel
theorem emb10 (t : Fin cfg0.N) (r : Fin 256) (k : Fin 512) :
    (((cfg0.win 10).blk t).view.emb (ix2 r k) : S4096x512.Idx) = ix2 (row t.val (lt16 t) r) k := by
  have hi := idx10 t
  funext a
  apply Fin.ext
  match a with
  | ⟨0, _⟩ => show win0_10.index t 0 * 256 + 1 * r.val = 256 * t.val + r.val; rw [hi.1]; omega
  | ⟨1, _⟩ => show win0_10.index t 1 * 512 + 1 * k.val = k.val; rw [hi.2]; omega
/-- Point `t` writes back its rows of the result. -/
theorem flushed10 (c : Dev nD) (t : Fin cfg0.N) :
    (dats m 0 c).flushed 10 t = ((cfg0.win 10).blk t).view.read (Elt Ideal) (resD m c 2 : Vec Ideal S4096x512 .f32) := by
  rw [Value.flushed10]
  funext y
  obtain ⟨r, k, rfl⟩ : ∃ (r : Fin 256) (k : Fin 512), y = ix2 r k := ⟨y 0, y 1, eq_ix2 y⟩
  rw [View.read_apply]
  show (outsAt0 m c t.val t.isLt).2.2.1 (ix2 r k) = (resD m c 2) (((cfg0.win 10).blk t).view.emb (ix2 r k))
  rw [emb10 t r k]
  have ht := lt16 t
  by_cases h : t.val % 16 = 0
  · rw [out10_A m c t h (by omega) r k]; rfl
  · rw [out10_B m c t h (by omega) r k]; rfl
/-- The array after the run. -/
theorem final10 (c : Dev nD) : (dats m 0 c).arrAt 10 cfg0.N = (resD m c 2 : Vec Ideal S4096x512 .f32) :=
  (dats m 0 c).arrAt_eq_of_cover 10 (resD m c 2 : Vec Ideal S4096x512 .f32) (fun t _ => flushed10 m c t) fun i => by
    have h0 : (i 0 : Nat) < 4096 := (i 0).isLt
    have h1 : (i 1 : Nat) < 512 := (i 1).isLt
    have hN : cfg0.N = 16 := N_0
    let t : Fin cfg0.N := ⟨(i 0 : Nat) / 256, by rw [hN]; omega⟩
    have hi := idx10 t
    refine ⟨t, flush0_10 t, ?_⟩
    show i ∈ ((View.whole main_v2_2).slice (win0_10.rect t)).set
    rw [View.set_slice_whole, Rect.mem_set_unit]
    intro a
    match a with
    | ⟨0, _⟩ =>
      show win0_10.index t 0 * 256 ≤ (i 0 : Nat) ∧ (i 0 : Nat) < win0_10.index t 0 * 256 + 256
      rw [hi.1]; show (i 0 : Nat) / 256 * 256 ≤ (i 0 : Nat) ∧ (i 0 : Nat) < (i 0 : Nat) / 256 * 256 + 256; omega
    | ⟨1, _⟩ =>
      show win0_10.index t 1 * 512 ≤ (i 1 : Nat) ∧ (i 1 : Nat) < win0_10.index t 1 * 512 + 512
      rw [hi.2]; omega

theorem idx11 : ∀ t : Fin cfg0.N, win0_11.index t 0 = t.val ∧ win0_11.index t 1 = 0 := by decide +kernel
theorem emb11 (t : Fin cfg0.N) (r : Fin 256) (k : Fin 512) :
    (((cfg0.win 11).blk t).view.emb (ix2 r k) : S4096x512.Idx) = ix2 (row t.val (lt16 t) r) k := by
  have hi := idx11 t
  funext a
  apply Fin.ext
  match a with
  | ⟨0, _⟩ => show win0_11.index t 0 * 256 + 1 * r.val = 256 * t.val + r.val; rw [hi.1]; omega
  | ⟨1, _⟩ => show win0_11.index t 1 * 512 + 1 * k.val = k.val; rw [hi.2]; omega
/-- Point `t` writes back its rows of the result. -/
theorem flushed11 (c : Dev nD) (t : Fin cfg0.N) :
    (dats m 0 c).flushed 11 t = ((cfg0.win 11).blk t).view.read (Elt Ideal) (resD m c 3 : Vec Ideal S4096x512 .f32) := by
  rw [Value.flushed11]
  funext y
  obtain ⟨r, k, rfl⟩ : ∃ (r : Fin 256) (k : Fin 512), y = ix2 r k := ⟨y 0, y 1, eq_ix2 y⟩
  rw [View.read_apply]
  show (outsAt0 m c t.val t.isLt).2.2.2.1 (ix2 r k) = (resD m c 3) (((cfg0.win 11).blk t).view.emb (ix2 r k))
  rw [emb11 t r k]
  have ht := lt16 t
  by_cases h : t.val % 16 = 0
  · rw [out11_A m c t h (by omega) r k]; rfl
  · rw [out11_B m c t h (by omega) r k]; rfl
/-- The array after the run. -/
theorem final11 (c : Dev nD) : (dats m 0 c).arrAt 11 cfg0.N = (resD m c 3 : Vec Ideal S4096x512 .f32) :=
  (dats m 0 c).arrAt_eq_of_cover 11 (resD m c 3 : Vec Ideal S4096x512 .f32) (fun t _ => flushed11 m c t) fun i => by
    have h0 : (i 0 : Nat) < 4096 := (i 0).isLt
    have h1 : (i 1 : Nat) < 512 := (i 1).isLt
    have hN : cfg0.N = 16 := N_0
    let t : Fin cfg0.N := ⟨(i 0 : Nat) / 256, by rw [hN]; omega⟩
    have hi := idx11 t
    refine ⟨t, flush0_11 t, ?_⟩
    show i ∈ ((View.whole main_v2_3).slice (win0_11.rect t)).set
    rw [View.set_slice_whole, Rect.mem_set_unit]
    intro a
    match a with
    | ⟨0, _⟩ =>
      show win0_11.index t 0 * 256 ≤ (i 0 : Nat) ∧ (i 0 : Nat) < win0_11.index t 0 * 256 + 256
      rw [hi.1]; show (i 0 : Nat) / 256 * 256 ≤ (i 0 : Nat) ∧ (i 0 : Nat) < (i 0 : Nat) / 256 * 256 + 256; omega
    | ⟨1, _⟩ =>
      show win0_11.index t 1 * 512 ≤ (i 1 : Nat) ∧ (i 1 : Nat) < win0_11.index t 1 * 512 + 512
      rw [hi.2]; omega

theorem idx12 : ∀ t : Fin cfg0.N, win0_12.index t 0 = t.val ∧ win0_12.index t 1 = 0 := by decide +kernel
theorem emb12 (t : Fin cfg0.N) (r : Fin 256) (k : Fin 4096) :
    (((cfg0.win 12).blk t).view.emb (ix2 r k) : S4096x4096.Idx) = ix2 (row t.val (lt16 t) r) k := by
  have hi := idx12 t
  funext a
  apply Fin.ext
  match a with
  | ⟨0, _⟩ => show win0_12.index t 0 * 256 + 1 * r.val = 256 * t.val + r.val; rw [hi.1]; omega
  | ⟨1, _⟩ => show win0_12.index t 1 * 4096 + 1 * k.val = k.val; rw [hi.2]; omega
/-- Point `t` writes back its rows of the result. -/
theorem flushed12 (c : Dev nD) (t : Fin cfg0.N) :
    (dats m 0 c).flushed 12 t = ((cfg0.win 12).blk t).view.read (Elt Ideal) (resLogit m c : Vec Ideal S4096x4096 .f32) := by
  rw [Value.flushed12]
  funext y
  obtain ⟨r, k, rfl⟩ : ∃ (r : Fin 256) (k : Fin 4096), y = ix2 r k := ⟨y 0, y 1, eq_ix2 y⟩
  rw [View.read_apply]
  show (outsAt0 m c t.val t.isLt).2.2.2.2.1 (ix2 r k) = (resLogit m c) (((cfg0.win 12).blk t).view.emb (ix2 r k))
  rw [emb12 t r k]
  have ht := lt16 t
  by_cases h : t.val % 16 = 0
  · rw [out12_A m c t h (by omega) (ix2 r k)]; rfl
  · rw [out12_B m c t h (by omega) (ix2 r k)]; rfl
/-- The array after the run. -/
theorem final12 (c : Dev nD) : (dats m 0 c).arrAt 12 cfg0.N = (resLogit m c : Vec Ideal S4096x4096 .f32) :=
  (dats m 0 c).arrAt_eq_of_cover 12 (resLogit m c : Vec Ideal S4096x4096 .f32) (fun t _ => flushed12 m c t) fun i => by
    have h0 : (i 0 : Nat) < 4096 := (i 0).isLt
    have h1 : (i 1 : Nat) < 4096 := (i 1).isLt
    have hN : cfg0.N = 16 := N_0
    let t : Fin cfg0.N := ⟨(i 0 : Nat) / 256, by rw [hN]; omega⟩
    have hi := idx12 t
    refine ⟨t, flush0_12 t, ?_⟩
    show i ∈ ((View.whole main_v2_4).slice (win0_12.rect t)).set
    rw [View.set_slice_whole, Rect.mem_set_unit]
    intro a
    match a with
    | ⟨0, _⟩ =>
      show win0_12.index t 0 * 256 ≤ (i 0 : Nat) ∧ (i 0 : Nat) < win0_12.index t 0 * 256 + 256
      rw [hi.1]; show (i 0 : Nat) / 256 * 256 ≤ (i 0 : Nat) ∧ (i 0 : Nat) < (i 0 : Nat) / 256 * 256 + 256; omega
    | ⟨1, _⟩ =>
      show win0_12.index t 1 * 4096 ≤ (i 1 : Nat) ∧ (i 1 : Nat) < win0_12.index t 1 * 4096 + 4096
      rw [hi.2]; omega

theorem idx13 : ∀ t : Fin cfg0.N, win0_13.index t 0 = t.val ∧ win0_13.index t 1 = 0 := by decide +kernel
theorem emb13 (t : Fin cfg0.N) (r : Fin 256) (k : Fin 4096) :
    (((cfg0.win 13).blk t).view.emb (ix2 r k) : S4096x4096.Idx) = ix2 (row t.val (lt16 t) r) k := by
  have hi := idx13 t
  funext a
  apply Fin.ext
  match a with
  | ⟨0, _⟩ => show win0_13.index t 0 * 256 + 1 * r.val = 256 * t.val + r.val; rw [hi.1]; omega
  | ⟨1, _⟩ => show win0_13.index t 1 * 4096 + 1 * k.val = k.val; rw [hi.2]; omega
/-- Point `t` writes back its rows of the result. -/
theorem flushed13 (c : Dev nD) (t : Fin cfg0.N) :
    (dats m 0 c).flushed 13 t = ((cfg0.win 13).blk t).view.read (Elt Ideal) (resProj m c : Vec Ideal S4096x4096 .bf16) := by
  rw [Value.flushed13]
  funext y
  obtain ⟨r, k, rfl⟩ : ∃ (r : Fin 256) (k : Fin 4096), y = ix2 r k := ⟨y 0, y 1, eq_ix2 y⟩
  rw [View.read_apply]
  show (outsAt0 m c t.val t.isLt).2.2.2.2.2.1 (ix2 r k) = (resProj m c) (((cfg0.win 13).blk t).view.emb (ix2 r k))
  rw [emb13 t r k]
  have ht := lt16 t
  by_cases h : t.val % 16 = 0
  · rw [out13_A m c t h (by omega) (ix2 r k)]; rfl
  · rw [out13_B m c t h (by omega) (ix2 r k)]; rfl
/-- The array after the run. -/
theorem final13 (c : Dev nD) : (dats m 0 c).arrAt 13 cfg0.N = (resProj m c : Vec Ideal S4096x4096 .bf16) :=
  (dats m 0 c).arrAt_eq_of_cover 13 (resProj m c : Vec Ideal S4096x4096 .bf16) (fun t _ => flushed13 m c t) fun i => by
    have h0 : (i 0 : Nat) < 4096 := (i 0).isLt
    have h1 : (i 1 : Nat) < 4096 := (i 1).isLt
    have hN : cfg0.N = 16 := N_0
    let t : Fin cfg0.N := ⟨(i 0 : Nat) / 256, by rw [hN]; omega⟩
    have hi := idx13 t
    refine ⟨t, flush0_13 t, ?_⟩
    show i ∈ ((View.whole main_v2_5).slice (win0_13.rect t)).set
    rw [View.set_slice_whole, Rect.mem_set_unit]
    intro a
    match a with
    | ⟨0, _⟩ =>
      show win0_13.index t 0 * 256 ≤ (i 0 : Nat) ∧ (i 0 : Nat) < win0_13.index t 0 * 256 + 256
      rw [hi.1]; show (i 0 : Nat) / 256 * 256 ≤ (i 0 : Nat) ∧ (i 0 : Nat) < (i 0 : Nat) / 256 * 256 + 256; omega
    | ⟨1, _⟩ =>
      show win0_13.index t 1 * 4096 ≤ (i 1 : Nat) ∧ (i 1 : Nat) < win0_13.index t 1 * 4096 + 4096
      rw [hi.2]; omega

/-! ## The accumulated bias gradient -/

/-- After point `n` the buffer holds the sum of the contributions of the blocks up to `n`. -/
theorem acc14 (c : Dev nD) (y : S4x1024.Idx) : ∀ (n : ℕ) (hn : n < cfg0.N), (outsAt0 m c n hn).2.2.2.2.2.2 y
    = ∑ s : Fin (n + 1), add14 m c ⟨s.val, lt_of_le_of_lt (Nat.lt_succ_iff.mp s.isLt) hn⟩ y
  | 0, hn => by
    rw [out14_A m c ⟨0, hn⟩ rfl (by show ¬1 ≤ 0; omega) y, Fin.sum_univ_one]; rfl
  | n + 1, hn => by
    have hN : cfg0.N = 16 := N_0
    rw [out14_B m c ⟨n + 1, hn⟩ (by show ¬(n + 1) % 16 = 0; omega) (by show 1 ≤ n + 1; omega) y, Fin.sum_univ_castSucc]
    show (outsAt0 m c n _).2.2.2.2.2.2 y + _ = _
    rw [acc14 c y n (Nat.lt_of_succ_lt hn)]
    rfl

/-- So after the last point it holds the sum over all the tokens. -/
theorem acc14_last (c : Dev nD) (t : Fin cfg0.N) (ht : t.val = 15) (i : Fin 4) (q : Fin 1024) :
    (outsAt0 m c t.val t.isLt).2.2.2.2.2.2 (ix2 i q) = resBias m c (ix2 i q) := by
  obtain ⟨n, hn⟩ := t
  obtain rfl : n = 15 := ht
  show (outsAt0 m c 15 hn).2.2.2.2.2.2 (ix2 i q) = dBias (Y m c i) (Logits m c) (Bias m c) (Wts m c) (Dm m c) i q
  rw [acc14]
  unfold dBias
  rw [sum_blocks]
  rfl

theorem idx14 : ∀ t : Fin cfg0.N, win0_14.index t 0 = 0 ∧ win0_14.index t 1 = 0 := by decide +kernel
theorem emb14 (t : Fin cfg0.N) (r : Fin 4) (k : Fin 1024) :
    (((cfg0.win 14).blk t).view.emb (ix2 r k) : S4x1024.Idx) = ix2 r k := by
  have hi := idx14 t
  funext a
  apply Fin.ext
  match a with
  | ⟨0, _⟩ => show win0_14.index t 0 * 4 + 1 * r.val = r.val; rw [hi.1]; omega
  | ⟨1, _⟩ => show win0_14.index t 1 * 1024 + 1 * k.val = k.val; rw [hi.2]; omega
/-- The one write-back, after the last point, writes the bias gradient. -/
theorem flushed14 (c : Dev nD) (t : Fin cfg0.N) (hf : (cfg0.win 14).flush t = true) :
    (dats m 0 c).flushed 14 t = ((cfg0.win 14).blk t).view.read (Elt Ideal) (resBias m c : Vec Ideal S4x1024 .f32) := by
  have h15 : t.val = 15 := by have := (flush0_14 t).mp hf; have := lt16 t; omega
  rw [Value.flushed14]
  funext y
  obtain ⟨i, q, rfl⟩ : ∃ (i : Fin 4) (q : Fin 1024), y = ix2 i q := ⟨y 0, y 1, eq_ix2 y⟩
  rw [View.read_apply]
  show (outsAt0 m c t.val t.isLt).2.2.2.2.2.2 (ix2 i q) = resBias m c (((cfg0.win 14).blk t).view.emb (ix2 i q))
  rw [emb14 t i q, acc14_last m c t h15 i q]
/-- The array after the run. -/
theorem final14 (c : Dev nD) : (dats m 0 c).arrAt 14 cfg0.N = (resBias m c : Vec Ideal S4x1024 .f32) :=
  (dats m 0 c).arrAt_eq_of_cover 14 (resBias m c : Vec Ideal S4x1024 .f32) (flushed14 m c) fun i => by
    have h0 : (i 0 : Nat) < 4 := (i 0).isLt
    have h1 : (i 1 : Nat) < 1024 := (i 1).isLt
    have hN : cfg0.N = 16 := N_0
    let t : Fin cfg0.N := ⟨15, by rw [hN]; omega⟩
    have hi := idx14 t
    refine ⟨t, (flush0_14 t).mpr rfl, ?_⟩
    show i ∈ ((View.whole main_v2_6).slice (win0_14.rect t)).set
    rw [View.set_slice_whole, Rect.mem_set_unit]
    intro a
    match a with
    | ⟨0, _⟩ =>
      show win0_14.index t 0 * 4 ≤ (i 0 : Nat) ∧ (i 0 : Nat) < win0_14.index t 0 * 4 + 4
      rw [hi.1]; omega
    | ⟨1, _⟩ =>
      show win0_14.index t 1 * 1024 ≤ (i 1 : Nat) ∧ (i 1 : Nat) < win0_14.index t 1 * 1024 + 1024
      rw [hi.2]; omega

end Cert.KernelIdeal.MergeArrays

end
-- ==== Proof.MergeRef.lean ====
/-
  What the reference computes, read element by element over the extended reals: the gradient of the gated merge of
  MergeSpec.lean. The reference builds the logits' gradient by putting each branch's part into its own slot of a
  four-slot array of zeros and adding the four arrays; the zeros drop out.
-/
module

public import proofs.«01_k».proof.Proof.Gen.ReferenceIdeal.Read
public import proofs.«01_k».proof.Proof.MergeSpec
public import Idealize.ShloMosaic.Lib.Pointwise

@[expose] public section

set_option maxRecDepth 16384

noncomputable section

namespace Cert.ReferenceIdeal.MergeRef

open Cert.Merge
open Cert.ReferenceIdeal Cert.ReferenceIdeal.Gen Cert.ReferenceIdeal.Read Idealize.ShloMosaic

variable (y0 y1 y2 y3 : Mat 4096 512) (gl : Mat 4096 4096) (gb : Mat 4 1024) (w : Stack 4 512 1024) (dm : Mat 4096 1024)

/-- The gates. -/
theorem gates (i : Fin 4) (l : Fin 4096) (q : Fin 1024) :
    val_main_v21 (F := Ideal) gl gb (ix3 l i q) = gate gl gb i l q := by
  pointwise [val_main_v21, val_main_v20, val_main_v19, val_main_v18, val_main_v17, val_main_v16, val_main_v15,
    val_main_v14, val_main_v13, val_main_v12, val_main_cst, val_main_cst_0]
  have e : (⟨i.val * 1024 + q.val, by omega⟩ : Fin 4096) = col i q := Fin.ext (by show i.val * 1024 + q.val = 1024 * i.val + q.val; omega)
  simp only [e]
  rfl

/-- The derivative of the gates. -/
theorem slopes (i : Fin 4) (l : Fin 4096) (q : Fin 1024) :
    val_main_v24 (F := Ideal) gl gb (ix3 l i q) = gate gl gb i l q * (1 - gate gl gb i l q) := by
  pointwise [val_main_v24, val_main_v23, val_main_v22, val_main_cst_1]
  simp only [gates]

/-- The projection of branch 0. -/
theorem proj0 (l : Fin 4096) (q : Fin 1024) : val_main_v2 (F := Ideal) y0 w (ix2 l q) = proj y0 w 0 l q := by
  pointwise [val_main_v2, val_main_v1, val_main_v0]
  rfl

/-- The projection of branch 1. -/
theorem proj1 (l : Fin 4096) (q : Fin 1024) : val_main_v5 (F := Ideal) y1 w (ix2 l q) = proj y1 w 1 l q := by
  pointwise [val_main_v5, val_main_v4, val_main_v3]
  rfl

/-- The projection of branch 2. -/
theorem proj2 (l : Fin 4096) (q : Fin 1024) : val_main_v8 (F := Ideal) y2 w (ix2 l q) = proj y2 w 2 l q := by
  pointwise [val_main_v8, val_main_v7, val_main_v6]
  rfl

/-- The projection of branch 3. -/
theorem proj3 (l : Fin 4096) (q : Fin 1024) : val_main_v11 (F := Ideal) y3 w (ix2 l q) = proj y3 w 3 l q := by
  pointwise [val_main_v11, val_main_v10, val_main_v9]
  rfl

/-- Branch 0's part of the gates' gradient sits in slot 0 of an array of zeros. -/
theorem slot0 (i : Fin 4) (l : Fin 4096) (q : Fin 1024) :
    val_main_v59 (F := Ideal) y0 w dm (ix3 l i q) = if i = 0 then dm (ix2 l q) * proj y0 w 0 l q else 0 := by
  match i with
  | 0 => pointwise [val_main_v59, val_main_v58, val_main_v57, val_main_v40, val_main_cst_5]; simp only [proj0]
  | 1 => pointwise [val_main_v59, val_main_v58, val_main_v57, val_main_v40, val_main_cst_5]
  | 2 => pointwise [val_main_v59, val_main_v58, val_main_v57, val_main_v40, val_main_cst_5]
  | 3 => pointwise [val_main_v59, val_main_v58, val_main_v57, val_main_v40, val_main_cst_5]

/-- Branch 1's part of the gates' gradient sits in slot 1 of an array of zeros. -/
theorem slot1 (i : Fin 4) (l : Fin 4096) (q : Fin 1024) :
    val_main_v54 (F := Ideal) y1 w dm (ix3 l i q) = if i = 1 then dm (ix2 l q) * proj y1 w 1 l q else 0 := by
  match i with
  | 0 => pointwise [val_main_v54, val_main_v53, val_main_v52, val_main_v40, val_main_cst_4]
  | 1 => pointwise [val_main_v54, val_main_v53, val_main_v52, val_main_v40, val_main_cst_4]; simp only [proj1]
  | 2 => pointwise [val_main_v54, val_main_v53, val_main_v52, val_main_v40, val_main_cst_4]
  | 3 => pointwise [val_main_v54, val_main_v53, val_main_v52, val_main_v40, val_main_cst_4]

/-- Branch 2's part of the gates' gradient sits in slot 2 of an array of zeros. -/
theorem slot2 (i : Fin 4) (l : Fin 4096) (q : Fin 1024) :
    val_main_v49 (F := Ideal) y2 w dm (ix3 l i q) = if i = 2 then dm (ix2 l q) * proj y2 w 2 l q else 0 := by
  match i with
  | 0 => pointwise [val_main_v49, val_main_v48, val_main_v47, val_main_v40, val_main_cst_3]
  | 1 => pointwise [val_main_v49, val_main_v48, val_main_v47, val_main_v40, val_main_cst_3]
  | 2 => pointwise [val_main_v49, val_main_v48, val_main_v47, val_main_v40, val_main_cst_3]; simp only [proj2]
  | 3 => pointwise [val_main_v49, val_main_v48, val_main_v47, val_main_v40, val_main_cst_3]

/-- Branch 3's part of the gates' gradient sits in slot 3 of an array of zeros. -/
theorem slot3 (i : Fin 4) (l : Fin 4096) (q : Fin 1024) :
    val_main_v45 (F := Ideal) y3 w dm (ix3 l i q) = if i = 3 then dm (ix2 l q) * proj y3 w 3 l q else 0 := by
  match i with
  | 0 => pointwise [val_main_v45, val_main_v44, val_main_v43, val_main_v41, val_main_cst_2]
  | 1 => pointwise [val_main_v45, val_main_v44, val_main_v43, val_main_v41, val_main_cst_2]
  | 2 => pointwise [val_main_v45, val_main_v44, val_main_v43, val_main_v41, val_main_cst_2]
  | 3 => pointwise [val_main_v45, val_main_v44, val_main_v43, val_main_v41, val_main_cst_2]; simp only [proj3]

/-- The gradient of the gates: the four slots added. -/
theorem slots (i : Fin 4) (l : Fin 4096) (q : Fin 1024) :
    val_main_v60 (F := Ideal) y0 y1 y2 y3 w dm (ix3 l i q) = dm (ix2 l q) * proj (pick y0 y1 y2 y3 i) w i l q := by
  pointwise [val_main_v60, val_main_v55, val_main_v50]
  simp only [slot0, slot1, slot2, slot3]
  match i with
  | 0 => simp [pick]
  | 1 => simp [pick]
  | 2 => simp [pick]
  | 3 => simp [pick]

/-- The gradient of the logits, with the branches along an axis of their own. -/
theorem logits3 (i : Fin 4) (l : Fin 4096) (q : Fin 1024) :
    val_main_v61 (F := Ideal) y0 y1 y2 y3 gl gb w dm (ix3 l i q) = dLogit (pick y0 y1 y2 y3 i) gl gb w dm i l q := by
  pointwise [val_main_v61]
  simp only [slots, slopes]
  rfl

/-- The gradient of the logits, the branches side by side. -/
theorem logits (y : S4096x4096.Idx) :
    val_main_v65 (F := Ideal) y0 y1 y2 y3 gl gb w dm y
      = dLogit (pick y0 y1 y2 y3 (branchOf (y 1))) gl gb w dm (branchOf (y 1)) (y 0) (chanOf (y 1)) := by
  obtain ⟨l, j, rfl⟩ : ∃ (l : Fin 4096) (j : Fin 4096), y = ix2 l j := ⟨y 0, y 1, eq_ix2 y⟩
  pointwise [val_main_v65]
  exact logits3 y0 y1 y2 y3 gl gb w dm (branchOf j) l (chanOf j)

/-- The gradient of the biases. -/
theorem biases (y : S4x1024.Idx) :
    val_main_v64 (F := Ideal) y0 y1 y2 y3 gl gb w dm y = dBias (pick y0 y1 y2 y3 (y 0)) gl gb w dm (y 0) (y 1) := by
  obtain ⟨i, q, rfl⟩ : ∃ (i : Fin 4) (q : Fin 1024), y = ix2 i q := ⟨y 0, y 1, eq_ix2 y⟩
  pointwise [val_main_v64, val_main_v63, val_main_v62, val_main_cst_6, val_main_cst_7]
  rw [Fin.sum_univ_one]
  simp only [logits3]
  rfl

/-- The gradient of projection 0. -/
theorem dproj0 (l : Fin 4096) (q : Fin 1024) :
    val_main_v56 (F := Ideal) gl gb dm (ix2 l q) = dProj gl gb dm 0 l q := by
  pointwise [val_main_v56, val_main_v26, val_main_v25, val_main_v40]
  simp only [gates]
  rfl

/-- The gradient of branch 0. -/
theorem dinput0 (y : S4096x512.Idx) :
    val_main_v69 (F := Ideal) gl gb w dm y = dInput gl gb w dm 0 (y 0) (y 1) := by
  obtain ⟨l, k, rfl⟩ : ∃ (l : Fin 4096) (k : Fin 512), y = ix2 l k := ⟨y 0, y 1, eq_ix2 y⟩
  pointwise [val_main_v69, val_main_v1, val_main_v0]
  simp only [dproj0]
  rfl

/-- The gradient of projection 1. -/
theorem dproj1 (l : Fin 4096) (q : Fin 1024) :
    val_main_v51 (F := Ideal) gl gb dm (ix2 l q) = dProj gl gb dm 1 l q := by
  pointwise [val_main_v51, val_main_v29, val_main_v28, val_main_v40]
  simp only [gates]
  rfl

/-- The gradient of branch 1. -/
theorem dinput1 (y : S4096x512.Idx) :
    val_main_v68 (F := Ideal) gl gb w dm y = dInput gl gb w dm 1 (y 0) (y 1) := by
  obtain ⟨l, k, rfl⟩ : ∃ (l : Fin 4096) (k : Fin 512), y = ix2 l k := ⟨y 0, y 1, eq_ix2 y⟩
  pointwise [val_main_v68, val_main_v4, val_main_v3]
  simp only [dproj1]
  rfl

/-- The gradient of projection 2. -/
theorem dproj2 (l : Fin 4096) (q : Fin 1024) :
    val_main_v46 (F := Ideal) gl gb dm (ix2 l q) = dProj gl gb dm 2 l q := by
  pointwise [val_main_v46, val_main_v33, val_main_v32, val_main_v40]
  simp only [gates]
  rfl

/-- The gradient of branch 2. -/
theorem dinput2 (y : S4096x512.Idx) :
    val_main_v67 (F := Ideal) gl gb w dm y = dInput gl gb w dm 2 (y 0) (y 1) := by
  obtain ⟨l, k, rfl⟩ : ∃ (l : Fin 4096) (k : Fin 512), y = ix2 l k := ⟨y 0, y 1, eq_ix2 y⟩
  pointwise [val_main_v67, val_main_v7, val_main_v6]
  simp only [dproj2]
  rfl

/-- The gradient of projection 3. -/
theorem dproj3 (l : Fin 4096) (q : Fin 1024) :
    val_main_v42 (F := Ideal) gl gb dm (ix2 l q) = dProj gl gb dm 3 l q := by
  pointwise [val_main_v42, val_main_v37, val_main_v36, val_main_v41]
  simp only [gates]
  rfl

/-- The gradient of branch 3. -/
theorem dinput3 (y : S4096x512.Idx) :
    val_main_v66 (F := Ideal) gl gb w dm y = dInput gl gb w dm 3 (y 0) (y 1) := by
  obtain ⟨l, k, rfl⟩ : ∃ (l : Fin 4096) (k : Fin 512), y = ix2 l k := ⟨y 0, y 1, eq_ix2 y⟩
  pointwise [val_main_v66, val_main_v10, val_main_v9]
  simp only [dproj3]
  rfl

/-- The gradients of the four projections, side by side. -/
theorem dprojs (y : S4096x4096.Idx) :
    val_main_v71 (F := Ideal) gl gb dm y = dProj gl gb dm (branchOf (y 1)) (y 0) (chanOf (y 1)) := by
  obtain ⟨l, j, rfl⟩ : ∃ (l : Fin 4096) (j : Fin 4096), y = ix2 l j := ⟨y 0, y 1, eq_ix2 y⟩
  obtain ⟨i, q, rfl⟩ : ∃ (i : Fin 4) (q : Fin 1024), j = col i q := ⟨branchOf j, chanOf j, (col_branchOf_chanOf j).symm⟩
  rw [ix2_0, ix2_1, branchOf_col, chanOf_col]
  pointwise [val_main_v71, val_main_v70]
  have hc : (col i q).val = 1024 * i.val + q.val := rfl
  have hq := q.isLt
  match i with
  | 0 =>
    have h : (col 0 q).val = 0 + q.val := by rw [hc]; show 1024 * 0 + q.val = _; omega
    rw [dif_pos (show (col 0 q).val < 1024 by omega)]
    exact (congrArg (fun z => val_main_v56 (F := Ideal) gl gb dm (ix2 l z)) (Fin.ext (by show (col 0 q).val = q.val; omega))).trans (dproj0 gl gb dm l q)
  | 1 =>
    have h : (col 1 q).val = 1024 + q.val := by rw [hc]; show 1024 * 1 + q.val = _; omega
    rw [dif_neg (show ¬(col 1 q).val < 1024 by omega), dif_pos (show (col 1 q).val - 1024 < 1024 by omega)]
    exact (congrArg (fun z => val_main_v51 (F := Ideal) gl gb dm (ix2 l z)) (Fin.ext (by show (col 1 q).val - 1024 = q.val; omega))).trans (dproj1 gl gb dm l q)
  | 2 =>
    have h : (col 2 q).val = 2048 + q.val := by rw [hc]; show 1024 * 2 + q.val = _; omega
    rw [dif_neg (show ¬(col 2 q).val < 1024 by omega), dif_neg (show ¬(col 2 q).val - 1024 < 1024 by omega), dif_pos (show (col 2 q).val - 1024 - 1024 < 1024 by omega)]
    exact (congrArg (fun z => val_main_v46 (F := Ideal) gl gb dm (ix2 l z)) (Fin.ext (by show (col 2 q).val - 1024 - 1024 = q.val; omega))).trans (dproj2 gl gb dm l q)
  | 3 =>
    have h : (col 3 q).val = 3072 + q.val := by rw [hc]; show 1024 * 3 + q.val = _; omega
    rw [dif_neg (show ¬(col 3 q).val < 1024 by omega), dif_neg (show ¬(col 3 q).val - 1024 < 1024 by omega), dif_neg (show ¬(col 3 q).val - 1024 - 1024 < 1024 by omega)]
    exact (congrArg (fun z => val_main_v42 (F := Ideal) gl gb dm (ix2 l z)) (Fin.ext (by show (col 3 q).val - 1024 - 1024 - 1024 = q.val; omega))).trans (dproj3 gl gb dm l q)

end Cert.ReferenceIdeal.MergeRef
end
-- ==== Proof.MergeClaim.lean ====
/-
  The claims about the merge gradient: the kernel's result arrays and the reference's hold the same numbers.
-/
module

public import proofs.«01_k».proof.Defs
public import proofs.«01_k».proof.Proof.MergeArrays
public import proofs.«01_k».proof.Proof.MergeRef
public import proofs.«01_k».proof.Proof.Gen.Kernel.Frame
public import proofs.«01_k».proof.Proof.Gen.ReferenceIdeal.Run
public import Idealize.ShloMosaic.Lib.Quiescent

@[expose] public section

set_option maxRecDepth 16384

noncomputable section

namespace Cert.Proof.Merge

open Idealize.ShloMosaic Idealize.ShloMosaic.TcCoe Idealize.SL.Sem
open Cert.Merge Cert.KernelIdeal.MergeArrays Cert.ReferenceIdeal.MergeRef Cert.ReferenceIdeal.Read

/-- The kernel, at bit patterns, runs to the end and leaves its arguments alone. -/
theorem frame_kernel : Cert.quiescent_Kernel := fun m ρ _ => Cert.Kernel.Gen.frame m ρ
/-- So does its idealization, at extended reals. -/
theorem frame_ideal : Cert.quiescent_KernelIdeal := fun m ρ _ => Cert.KernelIdeal.Gen.frame m ρ
/-- And the reference. -/
theorem frame_reference : Cert.quiescent_ReferenceIdeal := fun m ρ _ =>
  (θ_run Cert.ReferenceIdeal.defs _ _).mono (fun r h => ⟨fun c => (h c).2.2.2.2.2.2.2, sem_eq_zero_of_no_sems (by decide) r.2⟩)
    (Cert.ReferenceIdeal.Value.run (F := Ideal) m ρ)
/-- The idealization rewrote nothing. -/
theorem preserves : Cert.preserves_Kernel_KernelIdeal := trivial

/-- Started from equal arguments, kernel and reference end with equal results: the gradients of the four branches, of
    the logits, of the projections and of the biases. -/
theorem algebraic : Cert.algebraic_KernelIdeal_ReferenceIdeal := by
  intro m ρ m' ρ' _ hagree
  refine ⟨fun c => resD m c 0, fun c => resD m c 1, fun c => resD m c 2, fun c => resD m c 3, fun c => resLogit m c,
    fun c => resProj m c, fun c => resBias m c, ?_, ?_⟩
  · refine (θ_run Cert.KernelIdeal.defs _ _).mono (fun _ h c => ?_) (Cert.KernelIdeal.Value.run_blocks (F := Ideal) m ρ)
    obtain ⟨h0, h1, h2, h3, h4, h5, h6, hargs⟩ := h c
    exact ⟨h0.trans (final8 m c), h1.trans (final9 m c), h2.trans (final10 m c), h3.trans (final11 m c),
      h4.trans (final12 m c), h5.trans (final13 m c), h6.trans (final14 m c), hargs⟩
  · refine (θ_run Cert.ReferenceIdeal.defs _ _).mono (fun _ h c => ?_) (Cert.ReferenceIdeal.Value.run (F := Ideal) m' ρ')
    obtain ⟨h0, h1, h2, h3, h4, h5, h6, hargs⟩ := h c
    obtain ⟨a0, a1, a2, a3, a4, a5, a6, a7⟩ := hagree c
    refine ⟨h0.trans ?_, h1.trans ?_, h2.trans ?_, h3.trans ?_, h4.trans ?_, h5.trans ?_, h6.trans ?_, hargs⟩
    · refine (val_main_v69_eq (F := Ideal) ..).trans ?_
      rw [a4, a5, a6, a7]
      exact funext fun y => dinput0 ..
    · refine (val_main_v68_eq (F := Ideal) ..).trans ?_
      rw [a4, a5, a6, a7]
      exact funext fun y => dinput1 ..
    · refine (val_main_v67_eq (F := Ideal) ..).trans ?_
      rw [a4, a5, a6, a7]
      exact funext fun y => dinput2 ..
    · refine (val_main_v66_eq (F := Ideal) ..).trans ?_
      rw [a4, a5, a6, a7]
      exact funext fun y => dinput3 ..
    · refine (val_main_v65_eq (F := Ideal) ..).trans ?_
      rw [a0, a1, a2, a3, a4, a5, a6, a7]
      exact funext fun y => logits ..
    · refine (val_main_v71_eq (F := Ideal) ..).trans ?_
      rw [a4, a5, a7]
      exact funext fun y => dprojs ..
    · refine (val_main_v64_eq (F := Ideal) ..).trans ?_
      rw [a0, a1, a2, a3, a4, a5, a6, a7]
      exact funext fun y => biases ..

end Cert.Proof.Merge

end
-- ==== Proof.FfRun.lean ====
module

public import proofs.«01_k».proof.Proof.Gen.Kernel2Ideal.Skeleton
public import proofs.«01_k».proof.Proof.Gen.Kernel2Ideal.Frame
public import Idealize.ShloMosaic.Lib.Pipeline.FrameBody
public import Idealize.ShloMosaic.Lib.Pipeline.Value

@[expose] public section

set_option maxRecDepth 16384

noncomputable section

namespace Cert.FeedForward

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-- A block of 512 rows of width 1024. -/
abbrev Rows (F : FTy → Type) [FloatOps F] := Vec F S512x1024 .f32
/-- One row of width 1024. -/
abbrev Line (F : FTy → Type) [FloatOps F] := Vec F S1x1024 .f32
/-- One 1024 by 1024 tile of a weight, as the one slab of a stack. -/
abbrev Tile (F : FTy → Type) [FloatOps F] := Vec F S1x1024x1024 .bf16

/-- What the body leaves at a grid point: the six result blocks it stores into, and its two scratch blocks: the
    gradient at the normalised sum, which the first column tile of a row block computes, and the running sum of the
    gradients that the column tiles pass back to the layer's input. -/
structure Held (F : FTy → Type) [FloatOps F] where
  du : Rows F
  dh : Rows F
  da : Vec F S512x1024 .bf16
  r : Vec F S1024x512 .bf16
  dg : Line F
  db : Line F
  grad : Rows F
  acc : Rows F

/-- The gradient at the argument of the layer norm, of one block of rows. -/
def normGrad (u dy : Rows F) (g : Line F) : Rows F :=
  k0_pay13 (k0_pay4 u) (k0_pay11 u g dy) (k0_pay12 u g dy)

/-- The same as the body stores it into its scratch block. -/
def keptGrad (u dy : Rows F) (g : Line F) : Rows F :=
  k0_pay14 (k0_pay4 u) (k0_pay11 u g dy) (k0_pay12 u g dy)

/-- The part of the input's gradient that one column tile gives. -/
def part (h : Rows F) (wu wd : Tile F) (grad : Rows F) : Rows F := k0_pay20 h wu grad wd wu

/-- The column tile is the first of its row block. -/
abbrev First (i : grid0.Coords) : Prop := k0_cond1 i = 1#1
/-- The column tile is the last of its row block. -/
abbrev Last (i : grid0.Coords) : Prop := k0_cond8 i = 1#1
/-- The row block is the first. -/
abbrev Top (i : grid0.Coords) : Prop := k0_cond2 i = 1#1

open scoped Classical in
/-- One grid point: what is held after it, of what was held before. -/
def step (i : grid0.Coords) (u dy h : Rows F) (g : Line F) (wu wd : Tile F) (s : Held F) : Held F :=
  let grad := if First i then keptGrad u dy g else s.grad
  let acc := if First i then k0_pay1 (part h wu wd grad) else k0_pay2 (part h wu wd grad) s.acc
  { du := if First i then normGrad u dy g else s.du
    dh := if Last i then k0_pay3 grad acc else s.dh
    da := k0_pay18 h wu grad wd
    r := k0_pay19 h wu
    dg := if First i then (if Top i then k0_pay9 u dy else k0_pay15 (k0_pay9 u dy) s.dg) else s.dg
    db := if First i then (if Top i then k0_pay8 dy else k0_pay16 (k0_pay8 dy) s.db) else s.db
    grad := grad
    acc := acc }

/-- The body's branch conditions, as it spells them. -/
structure Branch (i : grid0.Coords) : Prop where
  c3 : k0_cond3 i = 1#1 ↔ ¬Top i
  c4 : k0_cond4 i = 1#1 ↔ Top i
  c5 : k0_cond5 i = 1#1 ↔ ¬Top i
  c6 : (Scalar.cmpi .ne (Scalar.extui (Scalar.cmpi .eq (BitVec.ofNat 32 (i 1).val) 0#32)) 0#32) = 1#1 ↔ First i
  c7 : (Scalar.cmpi .ne (Scalar.extui (Scalar.xori (Scalar.cmpi .eq (BitVec.ofNat 32 (i 1).val) 0#32) 1#1)) 0#32) = 1#1 ↔ ¬First i
  c8 : First i → ¬Last i

/-- Reading a block that one store filled whole. -/
theorem read_filled {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  subst h; exact View.read_writes_whole v f w

theorem ld_rows {e : EltTy} (X : Vec F S512x1024 e) (inb) : View.ld X (Rect.unit ![0, 0] ![512, 1024] inb) = X :=
  View.ld_unit_zero (by decide) inb X
theorem ld_line {e : EltTy} (X : Vec F S1x1024 e) (inb) : View.ld X (Rect.unit ![0, 0] ![1, 1024] inb) = X :=
  View.ld_unit_zero (by decide) inb X
theorem ld_tile {e : EltTy} (X : Vec F S1x1024x1024 e) (inb) : View.ld X (Rect.unit ![0, 0, 0] ![1, 1024, 1024] inb) = X :=
  View.ld_unit_zero (by decide) inb X
theorem readCov_rows (v : View sig .tc .vmem S512x1024 .f32) (w : Rows F) (inb) (inb') :
    v.readCov (Val := Elt F) [⟨Rect.unit ![0, 0] ![512, 1024] inb, w⟩] (Rect.unit ![0, 0] ![512, 1024] inb').toLoadRect = w :=
  View.readCov_unit_zero v (by decide) inb w

theorem zero2 : (![0, 0] : Fin 2 → Nat) = fun _ => 0 := by decide
theorem zero3 : (![0, 0, 0] : Fin 3 → Nat) = fun _ => 0 := by decide

set_option maxHeartbeats 1500000 in
/-- The body at any grid point takes what its buffers hold one step on. -/
theorem run (c : Dev nD) (i : grid0.Coords) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024x1024 .bf16) (h7 : a7.IsWhole) (a8 : Memref sig .tc .vmem S1x1024x1024 .bf16) (h8 : a8.IsWhole) (a9 : Memref sig .tc .vmem S512x1024 .f32) (h9 : a9.IsWhole) (a10 : Memref sig .tc .vmem S512x1024 .f32) (h10 : a10.IsWhole) (a11 : Memref sig .tc .vmem S512x1024 .bf16) (h11 : a11.IsWhole) (a12 : Memref sig .tc .vmem S1024x512 .bf16) (h12 : a12.IsWhole) (a13 : Memref sig .tc .vmem S1x1024 .f32) (h13 : a13.IsWhole) (a14 : Memref sig .tc .vmem S1x1024 .f32) (h14 : a14.IsWhole) (a15 : Memref sig .tc .vmem S512x1024 .f32) (h15 : a15.IsWhole) (a16 : Memref sig .tc .vmem S512x1024 .f32) (h16 : a16.IsWhole)
    (hi : Branch i) (u dy h : Rows F) (g b : Line F) (wu wd : Tile F) (s : Held F) (E : Set ℕ) (K : PUnit → sProp 𝕄) :
    iprop(owns (c : Thread nD τ) a2 fullShare u ∗ owns (c : Thread nD τ) a3 fullShare dy ∗ owns (c : Thread nD τ) a4 fullShare h ∗ owns (c : Thread nD τ) a5 fullShare g ∗ owns (c : Thread nD τ) a6 fullShare b ∗ owns (c : Thread nD τ) a7 fullShare wu ∗ owns (c : Thread nD τ) a8 fullShare wd ∗ owns (c : Thread nD τ) a9 fullShare s.du ∗ owns (c : Thread nD τ) a10 fullShare s.dh ∗ owns (c : Thread nD τ) a11 fullShare s.da ∗ owns (c : Thread nD τ) a12 fullShare s.r ∗ owns (c : Thread nD τ) a13 fullShare s.dg ∗ owns (c : Thread nD τ) a14 fullShare s.db ∗ owns (c : Thread nD τ) a15 fullShare s.grad ∗ owns (c : Thread nD τ) a16 fullShare s.acc
        ∗ (iprop(owns (c : Thread nD τ) a2 fullShare u ∗ owns (c : Thread nD τ) a3 fullShare dy ∗ owns (c : Thread nD τ) a4 fullShare h ∗ owns (c : Thread nD τ) a5 fullShare g ∗ owns (c : Thread nD τ) a6 fullShare b ∗ owns (c : Thread nD τ) a7 fullShare wu ∗ owns (c : Thread nD τ) a8 fullShare wd ∗ owns (c : Thread nD τ) a9 fullShare (step i u dy h g wu wd s).du ∗ owns (c : Thread nD τ) a10 fullShare (step i u dy h g wu wd s).dh ∗ owns (c : Thread nD τ) a11 fullShare (step i u dy h g wu wd s).da ∗ owns (c : Thread nD τ) a12 fullShare (step i u dy h g wu wd s).r ∗ owns (c : Thread nD τ) a13 fullShare (step i u dy h g wu wd s).dg ∗ owns (c : Thread nD τ) a14 fullShare (step i u dy h g wu wd s).db ∗ owns (c : Thread nD τ) a15 fullShare (step i u dy h g wu wd s).grad ∗ owns (c : Thread nD τ) a16 fullShare (step i u dy h g wu wd s).acc) -∗ K ⟨⟩))
      ⊢ wp frame (wpE (defs₀ (F := F)) Variants.none c none) E (cc0_ff_bwd i a2 h2 a3 h3 a4 h4 a5 h5 a6 h6 a7 h7 a8 h8 a9 h9 a10 h10 a11 h11 a12 h12 a13 h13 a14 h14 a15 h15 a16 h16) K := by
  obtain ⟨c3, c4, c5, c6, c7, c8⟩ := hi
  simp only [cc0_ff_bwd_eq_skeleton]; unfold cc0_ff_bwd_skel
  simp only [k0_part2_eq_skeleton]; unfold k0_part2_skel
  simp only [k0_part1_eq_skeleton]; unfold k0_part1_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, Hk⟩
  obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15; obtain rfl := h16.eq_unread e16
  by_cases c1 : k0_cond1 i = 1#1
  · replace c6 := c6.mpr c1
    replace c7 := fun e => c7.mp e c1
    replace c8 : ¬k0_cond8 i = 1#1 := c8 c1
    by_cases c2 : k0_cond2 i = 1#1
    on_goal 1 => replace c3 := fun e => c3.mp e c2; replace c4 := c4.mpr c2; replace c5 := fun e => c5.mp e c2
    on_goal 2 => replace c3 := c3.mpr c2; replace c4 := fun e => c2 (c4.mp e); replace c5 := c5.mpr c2
    all_goals
    sl_exec (disch := first | sl_exact c1 | sl_exact c2 | sl_exact c3 | sl_exact c4 | sl_exact c5 | sl_exact c6 | sl_exact c7 | sl_exact c8)
    sl_step
    iapply Hk
    isplitl [H2]
    · iexists _; isplitr; swap; · iexact H2
      ipureintro; exact h2.read_unread _
    isplitl [H3]
    · iexists _; isplitr; swap; · iexact H3
      ipureintro; exact h3.read_unread _
    isplitl [H4]
    · iexists _; isplitr; swap; · iexact H4
      ipureintro; exact h4.read_unread _
    isplitl [H5]
    · iexists _; isplitr; swap; · iexact H5
      ipureintro; exact h5.read_unread _
    isplitl [H6]
    · iexists _; isplitr; swap; · iexact H6
      ipureintro; exact h6.read_unread _
    isplitl [H7]
    · iexists _; isplitr; swap; · iexact H7
      ipureintro; exact h7.read_unread _
    isplitl [H8]
    · iexists _; isplitr; swap; · iexact H8
      ipureintro; exact h8.read_unread _
    isplitl [H9]
    · iexists _; isplitr; swap; · iexact H9
      ipureintro; sl_unfold_words; dsimp only; refine (read_filled _ _ zero2 _ _).trans ?_; simp only [View.readAt_eq_ld, Memref.IsWhole.read_unread, readCov_rows, ld_rows, ld_line, ld_tile, step, First, Top, Last, c1, c2, c8, if_true, if_false, normGrad, keptGrad, part]
    isplitl [H10]
    · iexists _; isplitr; swap; · iexact H10
      ipureintro; refine (h10.read_unread _).trans ?_; simp only [step, First, Top, Last, c1, c2, c8, if_true, if_false]
    isplitl [H11]
    · iexists _; isplitr; swap; · iexact H11
      ipureintro; sl_unfold_words; dsimp only; refine (read_filled _ _ zero2 _ _).trans ?_; simp only [View.readAt_eq_ld, Memref.IsWhole.read_unread, readCov_rows, ld_rows, ld_line, ld_tile, step, First, Top, Last, c1, c2, c8, if_true, if_false, normGrad, keptGrad, part]
    isplitl [H12]
    · iexists _; isplitr; swap; · iexact H12
      ipureintro; sl_unfold_words; dsimp only; refine (read_filled _ _ zero2 _ _).trans ?_; simp only [View.readAt_eq_ld, Memref.IsWhole.read_unread, readCov_rows, ld_rows, ld_line, ld_tile, step, First, Top, Last, c1, c2, c8, if_true, if_false, normGrad, keptGrad, part]
    isplitl [H13]
    · iexists _; isplitr; swap; · iexact H13
      ipureintro; sl_unfold_words; dsimp only; refine (read_filled _ _ zero2 _ _).trans ?_; simp only [View.readAt_eq_ld, Memref.IsWhole.read_unread, readCov_rows, ld_rows, ld_line, ld_tile, step, First, Top, Last, c1, c2, c8, if_true, if_false, normGrad, keptGrad, part]
    isplitl [H14]
    · iexists _; isplitr; swap; · iexact H14
      ipureintro; sl_unfold_words; dsimp only; refine (read_filled _ _ zero2 _ _).trans ?_; simp only [View.readAt_eq_ld, Memref.IsWhole.read_unread, readCov_rows, ld_rows, ld_line, ld_tile, step, First, Top, Last, c1, c2, c8, if_true, if_false, normGrad, keptGrad, part]
    isplitl [H15]
    · iexists _; isplitr; swap; · iexact H15
      ipureintro; sl_unfold_words; dsimp only; refine (read_filled _ _ zero2 _ _).trans ?_; simp only [View.readAt_eq_ld, Memref.IsWhole.read_unread, readCov_rows, ld_rows, ld_line, ld_tile, step, First, Top, Last, c1, c2, c8, if_true, if_false, normGrad, keptGrad, part]
    iexists _; isplitr; swap; · iexact H16
    ipureintro; sl_unfold_words; dsimp only; refine (read_filled _ _ zero2 _ _).trans ?_; simp only [View.readAt_eq_ld, Memref.IsWhole.read_unread, readCov_rows, ld_rows, ld_line, ld_tile, step, First, Top, Last, c1, c2, c8, if_true, if_false, normGrad, keptGrad, part]
  · replace c6 := fun e => c1 (c6.mp e)
    replace c7 := c7.mpr c1
    by_cases c2 : k0_cond8 i = 1#1
    · rename' c2 => c8
      sl_exec (disch := first | sl_exact c1 | sl_exact c6 | sl_exact c7 | sl_exact c8)
      sl_step
      iapply Hk
      isplitl [H2]
      · iexists _; isplitr; swap; · iexact H2
        ipureintro; exact h2.read_unread _
      isplitl [H3]
      · iexists _; isplitr; swap; · iexact H3
        ipureintro; exact h3.read_unread _
      isplitl [H4]
      · iexists _; isplitr; swap; · iexact H4
        ipureintro; exact h4.read_unread _
      isplitl [H5]
      · iexists _; isplitr; swap; · iexact H5
        ipureintro; exact h5.read_unread _
      isplitl [H6]
      · iexists _; isplitr; swap; · iexact H6
        ipureintro; exact h6.read_unread _
      isplitl [H7]
      · iexists _; isplitr; swap; · iexact H7
        ipureintro; exact h7.read_unread _
      isplitl [H8]
      · iexists _; isplitr; swap; · iexact H8
        ipureintro; exact h8.read_unread _
      isplitl [H9]
      · iexists _; isplitr; swap; · iexact H9
        ipureintro; refine (h9.read_unread _).trans ?_; simp only [step, First, Top, Last, c1, c8, if_true, if_false]
      isplitl [H10]
      · iexists _; isplitr; swap; · iexact H10
        ipureintro; sl_unfold_words; dsimp only; refine (read_filled _ _ zero2 _ _).trans ?_; simp only [View.readAt_eq_ld, Memref.IsWhole.read_unread, readCov_rows, ld_rows, ld_line, ld_tile, step, First, Top, Last, c1, c8, if_true, if_false, normGrad, keptGrad, part]
      isplitl [H11]
      · iexists _; isplitr; swap; · iexact H11
        ipureintro; sl_unfold_words; dsimp only; refine (read_filled _ _ zero2 _ _).trans ?_; simp only [View.readAt_eq_ld, Memref.IsWhole.read_unread, readCov_rows, ld_rows, ld_line, ld_tile, step, First, Top, Last, c1, c8, if_true, if_false, normGrad, keptGrad, part]
      isplitl [H12]
      · iexists _; isplitr; swap; · iexact H12
        ipureintro; sl_unfold_words; dsimp only; refine (read_filled _ _ zero2 _ _).trans ?_; simp only [View.readAt_eq_ld, Memref.IsWhole.read_unread, readCov_rows, ld_rows, ld_line, ld_tile, step, First, Top, Last, c1, c8, if_true, if_false, normGrad, keptGrad, part]
      isplitl [H13]
      · iexists _; isplitr; swap; · iexact H13
        ipureintro; refine (h13.read_unread _).trans ?_; simp only [step, First, Top, Last, c1, c8, if_true, if_false]
      isplitl [H14]
      · iexists _; isplitr; swap; · iexact H14
        ipureintro; refine (h14.read_unread _).trans ?_; simp only [step, First, Top, Last, c1, c8, if_true, if_false]
      isplitl [H15]
      · iexists _; isplitr; swap; · iexact H15
        ipureintro; refine (h15.read_unread _).trans ?_; simp only [step, First, Top, Last, c1, c8, if_true, if_false]
      iexists _; isplitr; swap; · iexact H16
      ipureintro; sl_unfold_words; dsimp only; refine (read_filled _ _ zero2 _ _).trans ?_; simp only [View.readAt_eq_ld, Memref.IsWhole.read_unread, readCov_rows, ld_rows, ld_line, ld_tile, step, First, Top, Last, c1, c8, if_true, if_false, normGrad, keptGrad, part]
    · rename' c2 => c8
      sl_exec (disch := first | sl_exact c1 | sl_exact c6 | sl_exact c7 | sl_exact c8)
      sl_step
      iapply Hk
      isplitl [H2]
      · iexists _; isplitr; swap; · iexact H2
        ipureintro; exact h2.read_unread _
      isplitl [H3]
      · iexists _; isplitr; swap; · iexact H3
        ipureintro; exact h3.read_unread _
      isplitl [H4]
      · iexists _; isplitr; swap; · iexact H4
        ipureintro; exact h4.read_unread _
      isplitl [H5]
      · iexists _; isplitr; swap; · iexact H5
        ipureintro; exact h5.read_unread _
      isplitl [H6]
      · iexists _; isplitr; swap; · iexact H6
        ipureintro; exact h6.read_unread _
      isplitl [H7]
      · iexists _; isplitr; swap; · iexact H7
        ipureintro; exact h7.read_unread _
      isplitl [H8]
      · iexists _; isplitr; swap; · iexact H8
        ipureintro; exact h8.read_unread _
      isplitl [H9]
      · iexists _; isplitr; swap; · iexact H9
        ipureintro; refine (h9.read_unread _).trans ?_; simp only [step, First, Top, Last, c1, c8, if_true, if_false]
      isplitl [H10]
      · iexists _; isplitr; swap; · iexact H10
        ipureintro; refine (h10.read_unread _).trans ?_; simp only [step, First, Top, Last, c1, c8, if_true, if_false]
      isplitl [H11]
      · iexists _; isplitr; swap; · iexact H11
        ipureintro; sl_unfold_words; dsimp only; refine (read_filled _ _ zero2 _ _).trans ?_; simp only [View.readAt_eq_ld, Memref.IsWhole.read_unread, readCov_rows, ld_rows, ld_line, ld_tile, step, First, Top, Last, c1, c8, if_true, if_false, normGrad, keptGrad, part]
      isplitl [H12]
      · iexists _; isplitr; swap; · iexact H12
        ipureintro; sl_unfold_words; dsimp only; refine (read_filled _ _ zero2 _ _).trans ?_; simp only [View.readAt_eq_ld, Memref.IsWhole.read_unread, readCov_rows, ld_rows, ld_line, ld_tile, step, First, Top, Last, c1, c8, if_true, if_false, normGrad, keptGrad, part]
      isplitl [H13]
      · iexists _; isplitr; swap; · iexact H13
        ipureintro; refine (h13.read_unread _).trans ?_; simp only [step, First, Top, Last, c1, c8, if_true, if_false]
      isplitl [H14]
      · iexists _; isplitr; swap; · iexact H14
        ipureintro; refine (h14.read_unread _).trans ?_; simp only [step, First, Top, Last, c1, c8, if_true, if_false]
      isplitl [H15]
      · iexists _; isplitr; swap; · iexact H15
        ipureintro; refine (h15.read_unread _).trans ?_; simp only [step, First, Top, Last, c1, c8, if_true, if_false]
      iexists _; isplitr; swap; · iexact H16
      ipureintro; sl_unfold_words; dsimp only; refine (read_filled _ _ zero2 _ _).trans ?_; simp only [View.readAt_eq_ld, Memref.IsWhole.read_unread, readCov_rows, ld_rows, ld_line, ld_tile, step, First, Top, Last, c1, c8, if_true, if_false, normGrad, keptGrad, part]

end Cert.FeedForward

end
-- ==== Proof.FfFrame.lean ====
module

public import proofs.«01_k».proof.Proof.FfRun
public import Idealize.ShloMosaic.Lib.Claim

/-! The feed-forward layer's backward kernel runs: the grid points one after another, each taking what its buffers
    hold one `step` on, and the launch around them. -/

@[expose] public section

set_option maxRecDepth 16384

noncomputable section

namespace Cert.FeedForward

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which point is which -/

theorem points : cfg0.N = 32 := N_0

/-- The grid is walked row block by row block, four column tiles each. -/
theorem first_iff : ∀ t : Fin cfg0.N, First (grid0.coords t) ↔ t.val % 4 = 0 := by decide +kernel
theorem last_iff : ∀ t : Fin cfg0.N, Last (grid0.coords t) ↔ t.val % 4 = 3 := by decide +kernel
theorem top_iff : ∀ t : Fin cfg0.N, Top (grid0.coords t) ↔ t.val < 4 := by decide +kernel

/-- The body's branch conditions are what they should be at every point. -/
theorem branch (t : Fin cfg0.N) : Branch (grid0.coords t) where
  c3 := (by decide +kernel : ∀ t : Fin cfg0.N, k0_cond3 (grid0.coords t) = 1#1 ↔ ¬Top (grid0.coords t)) t
  c4 := (by decide +kernel : ∀ t : Fin cfg0.N, k0_cond4 (grid0.coords t) = 1#1 ↔ Top (grid0.coords t)) t
  c5 := (by decide +kernel : ∀ t : Fin cfg0.N, k0_cond5 (grid0.coords t) = 1#1 ↔ ¬Top (grid0.coords t)) t
  c6 := (by decide +kernel : ∀ t : Fin cfg0.N, (Scalar.cmpi .ne (Scalar.extui (Scalar.cmpi .eq (BitVec.ofNat 32 (grid0.coords t 1).val) 0#32)) 0#32) = 1#1 ↔ First (grid0.coords t)) t
  c7 := (by decide +kernel : ∀ t : Fin cfg0.N, (Scalar.cmpi .ne (Scalar.extui (Scalar.xori (Scalar.cmpi .eq (BitVec.ofNat 32 (grid0.coords t 1).val) 0#32) 1#1)) 0#32) = 1#1 ↔ ¬First (grid0.coords t)) t
  c8 := fun a b => by have := (first_iff t).mp a; have := (last_iff t).mp b; omega

/-- When each result block is stored into, and when it is written back. -/
theorem idle_du : ∀ t : Fin cfg0.N, cfg0.idle 7 (cfg0.grid.coords t) = decide (t.val % 4 ≠ 0) := by decide +kernel
theorem flush_du : ∀ t : Fin cfg0.N, (cfg0.win 7).flush t = decide (t.val % 4 = 3) := by decide +kernel
theorem fetch_du : ∀ t : Fin cfg0.N, (cfg0.win 7).fetch t = false := by decide +kernel
theorem idle_dh : ∀ t : Fin cfg0.N, cfg0.idle 8 (cfg0.grid.coords t) = decide (t.val % 4 ≠ 3) := by decide +kernel
theorem flush_dh : ∀ t : Fin cfg0.N, (cfg0.win 8).flush t = decide (t.val % 4 = 3) := by decide +kernel
theorem fetch_dh : ∀ t : Fin cfg0.N, (cfg0.win 8).fetch t = false := by decide +kernel
theorem idle_dg : ∀ t : Fin cfg0.N, cfg0.idle 11 (cfg0.grid.coords t) = decide (t.val % 4 ≠ 0) := by decide +kernel
theorem flush_dg : ∀ t : Fin cfg0.N, (cfg0.win 11).flush t = decide (t.val = 31) := by decide +kernel
theorem fetch_dg : ∀ t : Fin cfg0.N, (cfg0.win 11).fetch t = false := by decide +kernel
theorem idle_db : ∀ t : Fin cfg0.N, cfg0.idle 12 (cfg0.grid.coords t) = decide (t.val % 4 ≠ 0) := by decide +kernel
theorem flush_db : ∀ t : Fin cfg0.N, (cfg0.win 12).flush t = decide (t.val = 31) := by decide +kernel
theorem fetch_db : ∀ t : Fin cfg0.N, (cfg0.win 12).fetch t = false := by decide +kernel

/-! ## What is held after each point -/

/-- The grid point at a position. -/
def pt (n : ℕ) : Fin cfg0.N := ⟨n % 32, points ▸ Nat.mod_lt n (by decide)⟩

theorem pt_val (t : Fin cfg0.N) : pt t.val = t :=
  Fin.ext (Nat.mod_eq_of_lt (points ▸ t.isLt))

/-- The step of the point `t`, on the blocks it is given. -/
def stepAt (c : Dev nD) (t : Fin cfg0.N) (s : Held F) : Held F :=
  step (grid0.coords t) (iblk m c 0 t) (iblk m c 1 t) (iblk m c 2 t) (iblk m c 3 t) (iblk m c 5 t) (iblk m c 6 t) s

/-- Some contents to begin with: none of them is read before it is stored. -/
def blank (c : Dev nD) : Held F where
  du := iblk m c 0 (pt 0)
  dh := iblk m c 0 (pt 0)
  da := k0_pay18 (iblk m c 2 (pt 0)) (iblk m c 5 (pt 0)) (iblk m c 0 (pt 0)) (iblk m c 6 (pt 0))
  r := k0_pay19 (iblk m c 2 (pt 0)) (iblk m c 5 (pt 0))
  dg := iblk m c 3 (pt 0)
  db := iblk m c 3 (pt 0)
  grad := iblk m c 0 (pt 0)
  acc := iblk m c 0 (pt 0)

/-- What is held after the point at position `n`. -/
def held (c : Dev nD) : ℕ → Held F
  | 0 => stepAt m c (pt 0) (blank m c)
  | n + 1 => stepAt m c (pt (n + 1)) (held c n)

/-- What is held before it. -/
def heldBefore (c : Dev nD) : ℕ → Held F
  | 0 => blank m c
  | n + 1 => held m c n

theorem held_eq (c : Dev nD) (t : Fin cfg0.N) : held m c t.val = stepAt m c t (heldBefore m c t.val) := by
  obtain ⟨n, hn⟩ := t
  have e := pt_val ⟨n, hn⟩
  cases n with
  | zero => unfold held heldBefore; exact congrArg (fun q => stepAt m c q (blank m c)) e
  | succ n => unfold held heldBefore; exact congrArg (fun q => stepAt m c q (held m c n)) e

/-- A step from contents that agree where the point reads what was there leaves the same. -/
theorem step_congr (c : Dev nD) (t : Fin cfg0.N) (s s' : Held F)
    (h1 : t.val % 4 ≠ 0 → s.du = s'.du ∧ s.grad = s'.grad ∧ s.acc = s'.acc)
    (h2 : t.val ≠ 0 → s.dg = s'.dg ∧ s.db = s'.db) :
    (stepAt m c t s).du = (stepAt m c t s').du ∧ (stepAt m c t s).da = (stepAt m c t s').da ∧ (stepAt m c t s).r = (stepAt m c t s').r
      ∧ (stepAt m c t s).dg = (stepAt m c t s').dg ∧ (stepAt m c t s).db = (stepAt m c t s').db
      ∧ (stepAt m c t s).grad = (stepAt m c t s').grad ∧ (stepAt m c t s).acc = (stepAt m c t s').acc
      ∧ (t.val % 4 = 3 → (stepAt m c t s).dh = (stepAt m c t s').dh) := by
  unfold stepAt step
  dsimp only
  simp only [first_iff, last_iff, top_iff]
  by_cases a : t.val % 4 = 0
  · have e3 : ¬t.val % 4 = 3 := by omega
    by_cases b : t.val < 4
    · refine ⟨?_, ?_, ?_, ?_, ?_, ?_, ?_, fun h => absurd h e3⟩ <;> simp only [a, b, if_true]
    · have h2 := h2 (by omega)
      refine ⟨?_, ?_, ?_, ?_, ?_, ?_, ?_, fun h => absurd h e3⟩ <;> simp only [a, b, if_true, if_false, h2.1, h2.2]
  · have h1 := h1 a
    have h2 := h2 (by rintro e; exact a (by omega))
    refine ⟨?_, ?_, ?_, ?_, ?_, ?_, ?_, fun _ => ?_⟩ <;> simp only [*, if_true, if_false, h1.1, h1.2.1, h1.2.2, h2.1, h2.2]

/-- A point that is not the first of its row block keeps what it does not store into. -/
theorem step_keeps (c : Dev nD) (t : Fin cfg0.N) (s : Held F) (h : t.val % 4 ≠ 0) :
    (stepAt m c t s).du = s.du ∧ (stepAt m c t s).grad = s.grad ∧ (stepAt m c t s).dg = s.dg ∧ (stepAt m c t s).db = s.db := by
  unfold stepAt step
  dsimp only
  refine ⟨?_, ?_, ?_, ?_⟩ <;> simp only [first_iff, h, if_false]

/-! ## The proof data -/

/-- The two scratch blocks. -/
abbrev gradBuf : Memref sig .tc .vmem S512x1024 .f32 := Memref.whole cc0_scratch0
abbrev accBuf : Memref sig .tc .vmem S512x1024 .f32 := Memref.whole cc0_scratch1

/-- Between points: the two scratch blocks, at what the point before left in them. -/
def between (c : Dev nD) (n : ℕ) : sProp 𝕄 :=
  iprop(∃ G : Rows F, ∃ A : Rows F, ⌜n ≠ 0 → G = (heldBefore m c n).grad ∧ A = (heldBefore m c n).acc⌝
    ∗ owns (c : Thread nD τ) gradBuf fullShare G ∗ owns (c : Thread nD τ) accBuf fullShare A ∗ (∃ r, prngReg c r))

/-- What every window's block holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (held m c t.val).du
    | ⟨8, _⟩ => (held m c t.val).dh
    | ⟨9, _⟩ => (held m c t.val).da
    | ⟨10, _⟩ => (held m c t.val).r
    | ⟨11, _⟩ => (held m c t.val).dg
    | ⟨12, _⟩ => (held m c t.val).db
  Φ t := between m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (held m c t.val).du := by dsimp only [dats]
theorem after_8 (c : Dev nD) (t : Fin cfg0.N) : (dats m 0 c).after 8 t = (held m c t.val).dh := by dsimp only [dats]
theorem after_9 (c : Dev nD) (t : Fin cfg0.N) : (dats m 0 c).after 9 t = (held m c t.val).da := by dsimp only [dats]
theorem after_10 (c : Dev nD) (t : Fin cfg0.N) : (dats m 0 c).after 10 t = (held m c t.val).r := by dsimp only [dats]
theorem after_11 (c : Dev nD) (t : Fin cfg0.N) : (dats m 0 c).after 11 t = (held m c t.val).dg := by dsimp only [dats]
theorem after_12 (c : Dev nD) (t : Fin cfg0.N) : (dats m 0 c).after 12 t = (held m c t.val).db := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- A result block that a point neither stores into nor writes back is handed on: a window whose contents after a
    point that does not store are those after the point before finds, at any point that follows a point that does not write
    back and is not the first of a run, what the point before left. -/
theorem found_kept (c : Dev nD) (w : Fin cfg0.W) (X : ℕ → (cfg0.win w).block.Idx → Elt F (cfg0.win w).elt) (p : ℕ → Prop)
    (hfetch : ∀ t : Fin cfg0.N, (cfg0.win w).fetch t = false)
    (hkept : ∀ (t : Fin cfg0.N) d, (dats m 0 c).kept w t d = X t.val)
    (hp : ∀ n, p (n + 1) → ∀ h : n < cfg0.N, (cfg0.win w).flush ⟨n, h⟩ = false)
    (hp' : ∀ n, p (n + 1) → ∀ h : n < cfg0.N, cfg0.idle w (cfg0.grid.coords ⟨n, h⟩) = true → n ≠ 0 ∧ p n ∧ X n = X (n - 1)) :
    ∀ (n : ℕ) (h : n < cfg0.N), n ≠ 0 → p n → ∀ d, (dats m 0 c).before w ⟨n, h⟩ d = X (n - 1) := by
  intro n
  induction n with
  | zero => intro _ h0; exact absurd rfl h0
  | succ n ih =>
    intro h _ hpn d
    have hn : n < cfg0.N := Nat.lt_of_succ_lt h
    rw [Dat.before_of_pos (dats m 0 c) w ⟨n + 1, h⟩ (Nat.succ_ne_zero n) (hfetch _) d]
    show (if (cfg0.win w).flush ⟨n, hn⟩ then d else (dats m 0 c).left w ⟨n, hn⟩ d) = X n
    rw [hp n hpn hn, if_neg Bool.false_ne_true]
    unfold Dat.left
    cases hi : cfg0.idle w (cfg0.grid.coords ⟨n, hn⟩) with
    | true =>
      obtain ⟨a, b, e⟩ := hp' n hpn hn hi
      exact (ih hn a b d).trans e.symm
    | false => exact hkept ⟨n, hn⟩ d

theorem before_7 (c : Dev nD) (t : Fin cfg0.N) (h : t.val % 4 ≠ 0) (d) : (dats m 0 c).before 7 t d = (heldBefore m c t.val).du := by
  have hN := points
  have hn : t.val ≠ 0 := by rintro e; rw [e] at h; exact h rfl
  have e : heldBefore m c t.val = held m c (t.val - 1) := by
    obtain ⟨n, hlt⟩ := t
    cases n with
    | zero => exact absurd rfl hn
    | succ n => rfl
  rw [e]
  refine found_kept m c 7 (fun n => (held m c n).du) (fun n => n % 4 ≠ 0) fetch_du (fun t d => ?_) (fun n p h => ?_) (fun n p h i => ?_) t.val t.isLt hn h d
  · show (dats m 0 c).after 7 t = _
    rw [after_7]
  · rw [flush_du]; exact decide_eq_false (by show ¬n % 4 = 3; omega)
  · rw [idle_du] at i
    have h : n % 4 ≠ 0 := of_decide_eq_true i
    refine ⟨by rintro e; exact h (by rw [e]), h, ?_⟩
    show (held m c n).du = (held m c (n - 1)).du
    obtain ⟨k, rfl⟩ : ∃ k, n = k + 1 := ⟨n - 1, by omega⟩
    have e := held_eq m c ⟨k + 1, ‹_›⟩
    rw [show held m c (k + 1) = stepAt m c ⟨k + 1, ‹_›⟩ (held m c k) from e]
    have h : (⟨k + 1, ‹_›⟩ : Fin cfg0.N).val % 4 ≠ 0 := h
    exact (step_keeps m c _ _ h).1

theorem before_11 (c : Dev nD) (t : Fin cfg0.N) (h : t.val ≠ 0) (d) : (dats m 0 c).before 11 t d = (heldBefore m c t.val).dg := by
  have hN := points
  have hn : t.val ≠ 0 := by rintro e; rw [e] at h; exact h rfl
  have e : heldBefore m c t.val = held m c (t.val - 1) := by
    obtain ⟨n, hlt⟩ := t
    cases n with
    | zero => exact absurd rfl hn
    | succ n => rfl
  rw [e]
  refine found_kept m c 11 (fun n => (held m c n).dg) (fun n => n ≠ 0 ∧ n < 32) fetch_dg (fun t d => ?_) (fun n p h => ?_) (fun n p h i => ?_) t.val t.isLt hn ⟨h, by have := t.isLt; omega⟩ d
  · show (dats m 0 c).after 11 t = _
    rw [after_11]
  · rw [flush_dg]; exact decide_eq_false (by show ¬n = 31; omega)
  · rw [idle_dg] at i
    have h : n % 4 ≠ 0 := of_decide_eq_true i
    refine ⟨by rintro e; exact h (by rw [e]), ⟨by rintro e; exact h (by rw [e]), by omega⟩, ?_⟩
    show (held m c n).dg = (held m c (n - 1)).dg
    obtain ⟨k, rfl⟩ : ∃ k, n = k + 1 := ⟨n - 1, by omega⟩
    have e := held_eq m c ⟨k + 1, ‹_›⟩
    rw [show held m c (k + 1) = stepAt m c ⟨k + 1, ‹_›⟩ (held m c k) from e]
    have h : (⟨k + 1, ‹_›⟩ : Fin cfg0.N).val % 4 ≠ 0 := h
    exact (step_keeps m c _ _ h).2.2.1

theorem before_12 (c : Dev nD) (t : Fin cfg0.N) (h : t.val ≠ 0) (d) : (dats m 0 c).before 12 t d = (heldBefore m c t.val).db := by
  have hN := points
  have hn : t.val ≠ 0 := by rintro e; rw [e] at h; exact h rfl
  have e : heldBefore m c t.val = held m c (t.val - 1) := by
    obtain ⟨n, hlt⟩ := t
    cases n with
    | zero => exact absurd rfl hn
    | succ n => rfl
  rw [e]
  refine found_kept m c 12 (fun n => (held m c n).db) (fun n => n ≠ 0 ∧ n < 32) fetch_db (fun t d => ?_) (fun n p h => ?_) (fun n p h i => ?_) t.val t.isLt hn ⟨h, by have := t.isLt; omega⟩ d
  · show (dats m 0 c).after 12 t = _
    rw [after_12]
  · rw [flush_db]; exact decide_eq_false (by show ¬n = 31; omega)
  · rw [idle_db] at i
    have h : n % 4 ≠ 0 := of_decide_eq_true i
    refine ⟨by rintro e; exact h (by rw [e]), ⟨by rintro e; exact h (by rw [e]), by omega⟩, ?_⟩
    show (held m c n).db = (held m c (n - 1)).db
    obtain ⟨k, rfl⟩ : ∃ k, n = k + 1 := ⟨n - 1, by omega⟩
    have e := held_eq m c ⟨k + 1, ‹_›⟩
    rw [show held m c (k + 1) = stepAt m c ⟨k + 1, ‹_›⟩ (held m c k) from e]
    have h : (⟨k + 1, ‹_›⟩ : Fin cfg0.N).val % 4 ≠ 0 := h
    exact (step_keeps m c _ _ h).2.2.2

/-- What a body may hand back of a window's block: what the proof data states, or at a point that neither stores
    nor writes back what it found. -/
theorem give (c : Dev nD) (w : Fin cfg0.W) (t : Fin cfg0.N) (X : (cfg0.win w).block.Idx → Elt F (cfg0.win w).elt)
    (h : (cfg0.idle w (cfg0.grid.coords t) = true ∧ (cfg0.win w).flush t = false ∧ ∃ d, X = (dats m 0 c).before w t d) ∨ X = (dats m 0 c).after w t ∧ (cfg0.idle w (cfg0.grid.coords t) = false ∨ (cfg0.win w).flush t = true)) :
    owns (c : Thread nD τ) ((cfg0.win w).stage (cfg0.slots t w)) fullShare X ⊢ ((dats m 0 c).leavesExact w t : sProp 𝕄) := by
  rcases h with ⟨hi, hf, d, rfl⟩ | ⟨rfl, h⟩
  · rw [Dat.leavesExact_idle (dats m 0 c) w t hi hf]
    iintro H; iexists _; iexact H
  · unfold Dat.leavesExact
    rcases h with h | h
    · rw [h]
    · rw [h]; cases cfg0.idle w (cfg0.grid.coords t) <;> exact .rfl

/-- What a step leaves in a block stored into at some points only is what `give` asks for. -/
theorem give_du (c : Dev nD) (t : Fin cfg0.N) (d : (cfg0.win 7).block.Idx → Elt F (cfg0.win 7).elt) (X8 : Rows F) (X9 : Vec F S512x1024 .bf16) (X10 : Vec F S1024x512 .bf16) (X11 : Line F) (X12 : Line F) (G : Rows F) (A : Rows F)
    (k : (stepAt m c t ⟨(dats m 0 c).before 7 t d, X8, X9, X10, X11, X12, G, A⟩).du = (held m c t.val).du) :
    (cfg0.idle 7 (cfg0.grid.coords t) = true ∧ (cfg0.win 7).flush t = false ∧ ∃ d', (stepAt m c t ⟨(dats m 0 c).before 7 t d, X8, X9, X10, X11, X12, G, A⟩).du = (dats m 0 c).before 7 t d')
      ∨ (stepAt m c t ⟨(dats m 0 c).before 7 t d, X8, X9, X10, X11, X12, G, A⟩).du = (dats m 0 c).after 7 t ∧ (cfg0.idle 7 (cfg0.grid.coords t) = false ∨ (cfg0.win 7).flush t = true) := by
  rw [idle_du, flush_du, after_7]
  by_cases h : t.val % 4 = 0
  · exact Or.inr ⟨k, Or.inl (decide_eq_false (fun e => e h))⟩
  · by_cases f : t.val % 4 = 3
    · exact Or.inr ⟨k, Or.inr (decide_eq_true f)⟩
    · exact Or.inl ⟨decide_eq_true h, decide_eq_false f, d, (step_keeps m c t _ h).1⟩

theorem give_dh (c : Dev nD) (t : Fin cfg0.N) (X7 : Rows F) (d : (cfg0.win 8).block.Idx → Elt F (cfg0.win 8).elt) (X9 : Vec F S512x1024 .bf16) (X10 : Vec F S1024x512 .bf16) (X11 : Line F) (X12 : Line F) (G : Rows F) (A : Rows F)
    (k : t.val % 4 = 3 → (stepAt m c t ⟨X7, (dats m 0 c).before 8 t d, X9, X10, X11, X12, G, A⟩).dh = (held m c t.val).dh) :
    (cfg0.idle 8 (cfg0.grid.coords t) = true ∧ (cfg0.win 8).flush t = false ∧ ∃ d', (stepAt m c t ⟨X7, (dats m 0 c).before 8 t d, X9, X10, X11, X12, G, A⟩).dh = (dats m 0 c).before 8 t d')
      ∨ (stepAt m c t ⟨X7, (dats m 0 c).before 8 t d, X9, X10, X11, X12, G, A⟩).dh = (dats m 0 c).after 8 t ∧ (cfg0.idle 8 (cfg0.grid.coords t) = false ∨ (cfg0.win 8).flush t = true) := by
  rw [idle_dh, flush_dh, after_8]
  by_cases h : t.val % 4 = 3
  · exact Or.inr ⟨k h, Or.inl (decide_eq_false (fun e => e h))⟩
  · refine Or.inl ⟨decide_eq_true h, decide_eq_false h, d, ?_⟩
    unfold stepAt step; dsimp only; rw [if_neg (fun e => h ((last_iff t).mp e))]

theorem give_dg (c : Dev nD) (t : Fin cfg0.N) (X7 : Rows F) (X8 : Rows F) (X9 : Vec F S512x1024 .bf16) (X10 : Vec F S1024x512 .bf16) (d : (cfg0.win 11).block.Idx → Elt F (cfg0.win 11).elt) (X12 : Line F) (G : Rows F) (A : Rows F)
    (k : (stepAt m c t ⟨X7, X8, X9, X10, (dats m 0 c).before 11 t d, X12, G, A⟩).dg = (held m c t.val).dg) :
    (cfg0.idle 11 (cfg0.grid.coords t) = true ∧ (cfg0.win 11).flush t = false ∧ ∃ d', (stepAt m c t ⟨X7, X8, X9, X10, (dats m 0 c).before 11 t d, X12, G, A⟩).dg = (dats m 0 c).before 11 t d')
      ∨ (stepAt m c t ⟨X7, X8, X9, X10, (dats m 0 c).before 11 t d, X12, G, A⟩).dg = (dats m 0 c).after 11 t ∧ (cfg0.idle 11 (cfg0.grid.coords t) = false ∨ (cfg0.win 11).flush t = true) := by
  rw [idle_dg, flush_dg, after_11]
  by_cases h : t.val % 4 = 0
  · exact Or.inr ⟨k, Or.inl (decide_eq_false (fun e => e h))⟩
  · by_cases f : t.val = 31
    · exact Or.inr ⟨k, Or.inr (decide_eq_true f)⟩
    · exact Or.inl ⟨decide_eq_true h, decide_eq_false f, d, (step_keeps m c t _ h).2.2.1⟩

theorem give_db (c : Dev nD) (t : Fin cfg0.N) (X7 : Rows F) (X8 : Rows F) (X9 : Vec F S512x1024 .bf16) (X10 : Vec F S1024x512 .bf16) (X11 : Line F) (d : (cfg0.win 12).block.Idx → Elt F (cfg0.win 12).elt) (G : Rows F) (A : Rows F)
    (k : (stepAt m c t ⟨X7, X8, X9, X10, X11, (dats m 0 c).before 12 t d, G, A⟩).db = (held m c t.val).db) :
    (cfg0.idle 12 (cfg0.grid.coords t) = true ∧ (cfg0.win 12).flush t = false ∧ ∃ d', (stepAt m c t ⟨X7, X8, X9, X10, X11, (dats m 0 c).before 12 t d, G, A⟩).db = (dats m 0 c).before 12 t d')
      ∨ (stepAt m c t ⟨X7, X8, X9, X10, X11, (dats m 0 c).before 12 t d, G, A⟩).db = (dats m 0 c).after 12 t ∧ (cfg0.idle 12 (cfg0.grid.coords t) = false ∨ (cfg0.win 12).flush t = true) := by
  rw [idle_db, flush_db, after_12]
  by_cases h : t.val % 4 = 0
  · exact Or.inr ⟨k, Or.inl (decide_eq_false (fun e => e h))⟩
  · by_cases f : t.val = 31
    · exact Or.inr ⟨k, Or.inr (decide_eq_true f)⟩
    · exact Or.inl ⟨decide_eq_true h, decide_eq_false f, d, (step_keeps m c t _ h).2.2.2⟩

/-! ## The body at every point -/

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 1500000 in
/-- The body's triple at any point: one step, from what the windows and the scratch blocks hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    show (dats m 0 c).Φ t.succ = between m c (t.val + 1) from rfl, show (dats m 0 c).Φ t.castSucc = between m c t.val from rfl]
  unfold between
  iintro ⟨⟨%G, %A, %hGA, HG, HA, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  have k := step_congr m c t
    ⟨(dats m 0 c).before 7 t d7, (dats m 0 c).before 8 t d8, (dats m 0 c).before 9 t d9, (dats m 0 c).before 10 t d10,
      (dats m 0 c).before 11 t d11, (dats m 0 c).before 12 t d12, G, A⟩ (heldBefore m c t.val)
    (fun h => ⟨before_7 m c t h d7, hGA (by rintro e; rw [e] at h; exact h rfl)⟩)
    (fun h => ⟨before_11 m c t h d11, before_12 m c t h d12⟩)
  rw [← held_eq m c t] at k
  obtain ⟨k7, k9, k10, k11, k12, kG, kA, k8⟩ := k
  iapply (run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) gradBuf (Memref.isWhole_whole _) accBuf (Memref.isWhole_whole _) (branch t)
    (iblk m c 0 t) (iblk m c 1 t) (iblk m c 2 t) (iblk m c 3 t) (iblk m c 4 t) (iblk m c 5 t) (iblk m c 6 t)
    ⟨(dats m 0 c).before 7 t d7, (dats m 0 c).before 8 t d8, (dats m 0 c).before 9 t d9, (dats m 0 c).before 10 t d10,
      (dats m 0 c).before 11 t d11, (dats m 0 c).before 12 t d12, G, A⟩ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HG]; · iexact HG
  isplitl [HA]; · iexact HA
  iintro ⟨H0, H1, H2, H3, H4, H5, H6, H7, H8, H9, H10, H11, H12, HG, HA⟩
  isplitl [HG HA Hg]
  · iexists _; iexists _
    isplitr
    swap
    · isplitl [HG]; · iexact HG
      isplitl [HA]; · iexact HA
      iexact Hg
    ipureintro; exact fun _ => ⟨kG, kA⟩
  isplitl [Ho]; · iexact Ho
  isplitl [H0]; · iapply (give m c 0 t _ (Or.inr ⟨(after_0 m c t).symm, Or.inl rfl⟩)); iexact H0
  isplitl [H1]; · iapply (give m c 1 t _ (Or.inr ⟨(after_1 m c t).symm, Or.inl rfl⟩)); iexact H1
  isplitl [H2]; · iapply (give m c 2 t _ (Or.inr ⟨(after_2 m c t).symm, Or.inl rfl⟩)); iexact H2
  isplitl [H3]; · iapply (give m c 3 t _ (Or.inr ⟨(after_3 m c t).symm, Or.inl rfl⟩)); iexact H3
  isplitl [H4]; · iapply (give m c 4 t _ (Or.inr ⟨(after_4 m c t).symm, Or.inl rfl⟩)); iexact H4
  isplitl [H5]; · iapply (give m c 5 t _ (Or.inr ⟨(after_5 m c t).symm, Or.inl rfl⟩)); iexact H5
  isplitl [H6]; · iapply (give m c 6 t _ (Or.inr ⟨(after_6 m c t).symm, Or.inl rfl⟩)); iexact H6
  isplitl [H7]; · iapply (give m c 7 t _ (give_du m c t _ _ _ _ _ _ _ _ k7)); iexact H7
  isplitl [H8]; · iapply (give m c 8 t _ (give_dh m c t _ _ _ _ _ _ _ _ k8)); iexact H8
  isplitl [H9]; · iapply (give m c 9 t _ (Or.inr ⟨k9.trans (after_9 m c t).symm, Or.inl rfl⟩)); iexact H9
  isplitl [H10]; · iapply (give m c 10 t _ (Or.inr ⟨k10.trans (after_10 m c t).symm, Or.inl rfl⟩)); iexact H10
  isplitl [H11]; · iapply (give m c 11 t _ (give_dg m c t _ _ _ _ _ _ _ _ k11)); iexact H11
  iapply (give m c 12 t _ (give_db m c t _ _ _ _ _ _ _ _ k12)); iexact H12

/-- The body table's row at a point is the body on the staging buffers. -/
theorem row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-- What the launch hands the region: the two scratch blocks and the generator register, each at something. -/
theorem ΦA_eq (c : Dev nD) : (Pipeline.ΦA spec0 c : sProp 𝕄)
    = iprop(iprop((∃ d, owns (c : Thread nD τ) gradBuf fullShare d) ∗ (∃ d, owns (c : Thread nD τ) accBuf fullShare d)) ∗ (∃ r, prngReg c r)) := by
  unfold Pipeline.ΦA; rw [scopedRest0_eq]; simp only [gradBuf, accBuf, owns_whole]; try rfl

theorem hin (c : Dev nD) : Pipeline.ΦA spec0 c ⊢ (dats m 0 c).Φ 0 := by
  rw [show (dats m 0 c).Φ 0 = between m c 0 from rfl, ΦA_eq]
  unfold between
  iintro ⟨⟨⟨%G, HG⟩, ⟨%A, HA⟩⟩, Hg⟩
  iexists G; iexists A
  isplitr
  swap
  · isplitl [HG]; · iexact HG
    isplitl [HA]; · iexact HA
    iexact Hg
  ipureintro; exact fun h => absurd rfl h

theorem hout (c : Dev nD) : (dats m 0 c).Φ (Fin.last cfg0.N) ⊢ Pipeline.ΦA spec0 c := by
  rw [show (dats m 0 c).Φ (Fin.last cfg0.N) = between m c cfg0.N from rfl, ΦA_eq]
  unfold between
  iintro ⟨%G, %A, -, HG, HA, Hg⟩
  isplitl [HG HA]
  · isplitl [HG]
    · iexists _; iexact HG
    iexists _; iexact HA
  iexact Hg

/-! ## The launch -/

set_option backward.isDefEq.respectTransparency.types false in
/-- Every run ends, with every array at what the blocks written back make of it and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- Every run ends, the arguments as they were and no semaphore raised. -/
theorem frame_ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.FeedForward
-- ==== Proof.FfSpec.lean ====
/-
  The gradient of the feed-forward layer with its residual and layer norm, as plain sums over the extended reals.

  The forward computation takes the rows `h` through `relu²(h · U) · D`, adds `α h`, and normalises each row of the sum,
  with gain `g` and shift. Given the gradient `dy` of the normalised rows, the definitions below are the gradients of the sum,
  of `h`, of the hidden layer, of the gain and of the shift, and the hidden layer's activations.
-/
module

public import proofs.«01_k».proof.Proof.MergeSpec

@[expose] public section

noncomputable section

namespace Cert.FeedForward

open Idealize.ShloMosaic
open Cert.Merge (Mat Stack)

/-- One row of width 1024. -/
abbrev Row : Type := Fin 1024 → EReal

/-- The constants: the width 1024, the layer norm's 10⁻⁵, minus one half, two, and the residual's weight √2, each as
    the float nearest it. -/
def width : EReal := Ideal.ofBits FTy.f32 0x44800000#32
def eps : EReal := Ideal.ofBits FTy.f32 0x3727C5AC#32
def minusHalf : EReal := Ideal.ofBits FTy.f32 0xBF000000#32
def two : EReal := Ideal.ofBits FTy.f32 0x40000000#32
def alpha : EReal := Ideal.ofBits FTy.f32 0x3FB504F3#32

theorem two_eq : two = 2 := by
  unfold two
  rw [show (2 : EReal) = ((2 : ℝ) : EReal) by norm_cast]
  simp [Ideal.ofBits, Ideal.ieee, -EReal.coe_mul]; norm_num

/-- Twice an extended real is it added to itself. -/
theorem two_mul_eq (y : EReal) : two * y = y + y := by
  rw [two_eq, ← one_add_one_eq_two, EReal.right_distrib_of_nonneg zero_le_one zero_le_one, one_mul]

/-! ## One row of the layer norm -/

/-- The row less its mean. -/
def centred (u : Row) : Row := fun q => u q - Ideal.div (∑ k, u k) width
/-- The row's variance and the small constant. -/
def spread (u : Row) : EReal := Ideal.div (∑ k, centred u k * centred u k) width + eps
/-- The factor that normalises the row. -/
def scale (u : Row) : EReal := Ideal.rsqrt (spread u)
/-- What the variance passes back to each squared entry. -/
def fromSpread (u g dy : Row) : EReal :=
  Ideal.div ((∑ k, centred u k * (dy k * g k)) * (minusHalf * Ideal.div (scale u) (spread u))) width
/-- The gradient at the centred row. -/
def inner (u g dy : Row) : Row := fun q => dy q * g q * scale u + fromSpread u g dy * (two * centred u q)
/-- The gradient at the row. -/
def normBack (u g dy : Row) : Row := fun q => inner u g dy q + Ideal.div (∑ k, -inner u g dy k) width

/-! ## The layer -/

variable (h : Mat 4096 1024) (wu : Mat 1024 4096) (wd : Mat 4096 1024) (g : Row) (dy : Mat 4096 1024)

/-- Row `l` of a matrix. -/
def rowOf (x : Mat 4096 1024) (l : Fin 4096) : Row := fun k => x (ix2 l k)

/-- The hidden layer after the rectifier. -/
def act (l f : Fin 4096) : EReal := max (∑ k, h (ix2 l k) * wu (ix2 k f)) 0
/-- The rows the layer norm takes. -/
def preNorm (l : Fin 4096) : Row := fun q => alpha * h (ix2 l q) + ∑ f, act h wu l f * act h wu l f * wd (ix2 f q)
/-- The gradient at those rows. -/
def dSum (l : Fin 4096) : Row := normBack (preNorm h wu wd l) g (rowOf dy l)
/-- The gradient at the hidden layer before the rectifier. -/
def dHidden (l f : Fin 4096) : EReal := (∑ q, dSum h wu wd g dy l q * wd (ix2 f q)) * (two * act h wu l f)
/-- The gradient at the layer's input. -/
def dInput (l : Fin 4096) : Row := fun k => alpha * dSum h wu wd g dy l k + ∑ f, dHidden h wu wd g dy l f * wu (ix2 k f)
/-- One row's part of the gain's gradient. -/
def gainPart (l : Fin 4096) : Row := fun q => centred (preNorm h wu wd l) q * scale (preNorm h wu wd l) * dy (ix2 l q)

/-- The six results: the gradients of the sum and of the input, the hidden layer's gradient, its activations squared
    and transposed, and the gradients of gain and shift. -/
def resSum : Mat 4096 1024 := fun y => dSum h wu wd g dy (y 0) (y 1)
def resInput : Mat 4096 1024 := fun y => dInput h wu wd g dy (y 0) (y 1)
def resHidden : Mat 4096 4096 := fun y => dHidden h wu wd g dy (y 0) (y 1)
def resAct : Mat 4096 4096 := fun y => act h wu (y 1) (y 0) * act h wu (y 1) (y 0)
def resGain : Mat 1 1024 := fun y => ∑ l, gainPart h wu wd dy l (y 1)
def resShift : Mat 1 1024 := fun y => ∑ l, dy (ix2 l (y 1))

/-! ## Sums in tiles -/

/-- A sum over `a` tiles of `b` terms each is the sum over all of them. -/
theorem sum_tiles (a b : ℕ) (T : ℕ → EReal) :
    ∑ i ∈ Finset.range a, ∑ x : Fin b, T (b * i + x.val) = ∑ j : Fin (b * a), T j.val := by
  rw [← Finset.sum_range (n := b * a) T]
  induction a with
  | zero => rw [Nat.mul_zero, Finset.sum_range_zero, Finset.sum_range_zero]
  | succ a ih =>
    rw [Finset.sum_range_succ, ih, Nat.mul_succ, Finset.sum_range_add]
    exact congrArg _ (Finset.sum_range (fun x => T (b * a + x))).symm

end Cert.FeedForward

end
-- ==== Proof.FfBlock.lean ====
/-
  What one grid point of the feed-forward layer's backward kernel computes, read element by element over the extended
  reals: of the block of rows and the tiles of the two weights it is given.
-/
module

public import proofs.«01_k».proof.Proof.FfFrame
public import proofs.«01_k».proof.Proof.FfSpec

@[expose] public section

set_option maxRecDepth 16384

noncomputable section

namespace Cert.FeedForward

open Cert.Merge (Mat Stack)
open Cert.Kernel2Ideal Cert.Kernel2Ideal.Gen Idealize.ShloMosaic

/-! ## The layer norm of a block -/

/-- Row `r` of a block. -/
def blockRow (u : Rows Ideal) (r : Fin 512) : Row := fun k => u (ix2 r k)
/-- A block of one row. -/
def line (g : Line Ideal) : Row := fun k => g (ix2 0 k)

variable (u dy h grad : Rows Ideal) (g : Line Ideal) (wu wd : Tile Ideal)

theorem centred_block (r : Fin 512) (q : Fin 1024) : k0_pay4 (F := Ideal) u (ix2 r q) = centred (blockRow u r) q := by
  pointwise [k0_pay4]
  rfl

theorem spread_block (r : Fin 512) (q : Fin 1) : k0_pay5 (F := Ideal) u (ix2 r q) = spread (blockRow u r) := by
  pointwise [k0_pay5]
  simp only [centred_block]
  rfl

theorem fromSpread_block (r : Fin 512) (q : Fin 1024) :
    k0_pay12 (F := Ideal) u g dy (ix2 r q) = fromSpread (blockRow u r) (line g) (blockRow dy r) := by
  pointwise [k0_pay12, k0_pay10, k0_pay7, k0_pay6]
  simp only [centred_block, spread_block, Fin.sum_univ_one]
  rfl

/-- The body adds the two halves of twice a term one after the other. -/
theorem twice (a b c : EReal) : a + b * c + c * b = a + c * (two * b) := by
  rw [mul_comm b c, add_assoc, ← two_mul_eq, mul_left_comm]

theorem normGrad_block (r : Fin 512) (q : Fin 1024) :
    normGrad (F := Ideal) u dy g (ix2 r q) = normBack (blockRow u r) (line g) (blockRow dy r) q := by
  pointwise [normGrad, k0_pay13, k0_pay11, k0_pay10, k0_pay7, k0_pay6]
  simp only [centred_block, spread_block, fromSpread_block, Fin.sum_univ_one, twice, zero_sub]
  rfl

theorem keptGrad_block : keptGrad (F := Ideal) u dy g = normGrad u dy g := by
  funext y
  obtain ⟨r, q, rfl⟩ : ∃ (r : Fin 512) (q : Fin 1024), y = ix2 r q := ⟨y 0, y 1, eq_ix2 y⟩
  pointwise [keptGrad, normGrad, k0_pay14]

theorem gain_block (q : Fin 1024) (z : Fin 1) :
    k0_pay9 (F := Ideal) u dy (ix2 z q) = ∑ r, centred (blockRow u r) q * scale (blockRow u r) * dy (ix2 r q) := by
  pointwise [k0_pay9, k0_pay7, k0_pay6]
  simp only [centred_block, spread_block]
  rfl

theorem shift_block (q : Fin 1024) (z : Fin 1) : k0_pay8 (F := Ideal) dy (ix2 z q) = ∑ r, dy (ix2 r q) := by
  pointwise [k0_pay8]

/-! ## The products of a block and a column tile -/

/-- The hidden layer after the rectifier, at row `r` of the block and column `x` of the tile. -/
def blockAct (r : Fin 512) (x : Fin 1024) : EReal := max (∑ k, h (ix2 r k) * wu (ix3 0 k x)) 0
/-- Its gradient. -/
def blockHidden (r : Fin 512) (x : Fin 1024) : EReal :=
  (∑ q, grad (ix2 r q) * wd (ix3 0 x q)) * (two * blockAct h wu r x)

theorem hidden_block (r : Fin 512) (x : Fin 1024) :
    k0_pay18 (F := Ideal) h wu grad wd (ix2 r x) = blockHidden h grad wu wd r x := by
  pointwise [k0_pay18, k0_pay17]
  rfl

theorem act_block (r : Fin 512) (x : Fin 1024) :
    k0_pay19 (F := Ideal) h wu (ix2 x r) = blockAct h wu r x * blockAct h wu r x := by
  pointwise [k0_pay19, k0_pay17]
  rfl

theorem part_block (r : Fin 512) (k : Fin 1024) :
    part (F := Ideal) h wu wd grad (ix2 r k) = ∑ x, blockHidden h grad wu wd r x * wu (ix3 0 k x) := by
  pointwise [part, k0_pay20, k0_pay18, k0_pay17]
  rfl

theorem first_part (v : Rows Ideal) : k0_pay1 (F := Ideal) v = v := by
  funext y
  obtain ⟨r, q, rfl⟩ : ∃ (r : Fin 512) (q : Fin 1024), y = ix2 r q := ⟨y 0, y 1, eq_ix2 y⟩
  pointwise [k0_pay1]

theorem add_part (v w : Rows Ideal) (r : Fin 512) (q : Fin 1024) :
    k0_pay2 (F := Ideal) v w (ix2 r q) = w (ix2 r q) + v (ix2 r q) := by
  pointwise [k0_pay2]

theorem input_block (v w : Rows Ideal) (r : Fin 512) (q : Fin 1024) :
    k0_pay3 (F := Ideal) v w (ix2 r q) = alpha * v (ix2 r q) + w (ix2 r q) := by
  pointwise [k0_pay3]
  rfl

theorem add_gain (v w : Line Ideal) (q : Fin 1024) (z : Fin 1) :
    k0_pay15 (F := Ideal) v w (ix2 z q) = w (ix2 z q) + v (ix2 z q) := by
  pointwise [k0_pay15]

theorem add_shift (v w : Line Ideal) (q : Fin 1024) (z : Fin 1) :
    k0_pay16 (F := Ideal) v w (ix2 z q) = w (ix2 z q) + v (ix2 z q) := by
  pointwise [k0_pay16]

end Cert.FeedForward

end
-- ==== Proof.FfHost.lean ====
/-
  The arrays the host hands the feed-forward layer's backward kernel, and the blocks of them a grid point is given.
-/
module

public import proofs.«01_k».proof.Proof.FfBlock
public import Idealize.ShloMosaic.Lib.StableHlo.ReadAt

@[expose] public section

set_option maxRecDepth 16384

noncomputable section

namespace Cert.FeedForward

open Cert.Merge (Mat Stack)
open Cert.Kernel2Ideal Cert.Kernel2Ideal.Gen Idealize.ShloMosaic Idealize.ShloMosaic.TcCoe

variable (m : (ℓ : Loc nD τ sig) → Buf (Elt Ideal) ℓ)

/-- The kernel's arguments: the rows, the gain, the two weights and the gradient at the normalised rows. -/
abbrev H (c : Dev nD) : Mat 4096 1024 := m (c.tc.loc main_arg0)
abbrev Gain (c : Dev nD) : Row := fun k => (m (c.tc.loc main_arg1) : (⟨1, ![1024]⟩ : Shape).Idx → EReal) (ix1 k)
abbrev Up (c : Dev nD) : Mat 1024 4096 := m (c.tc.loc main_arg3)
abbrev Down (c : Dev nD) : Mat 4096 1024 := m (c.tc.loc main_arg4)
abbrev Dy (c : Dev nD) : Mat 4096 1024 := m (c.tc.loc main_arg5)

/-! ## What the host prepares -/

/-- The rows the layer norm takes. -/
theorem V_sum (c : Dev nD) (l : Fin 4096) (q : Fin 1024) :
    (V m c main_v6 : Mat 4096 1024) (ix2 l q) = preNorm (H m c) (Up m c) (Down m c) l q := by
  unfold V
  after_reads_at
  rfl
theorem V_gain (c : Dev nD) (q : Fin 1024) : (V m c main_v7 : Mat 1 1024) (ix2 0 q) = Gain m c q := by
  unfold V
  after_reads_at
theorem V_up (c : Dev nD) (k : Fin 1024) (f : Fin 4096) :
    (V m c main_v10 : Stack 1 1024 4096) (ix3 0 k f) = Up m c (ix2 k f) := by
  unfold V
  after_reads_at
theorem V_down (c : Dev nD) (f : Fin 4096) (q : Fin 1024) :
    (V m c main_v12 : Stack 1 4096 1024) (ix3 0 f q) = Down m c (ix2 f q) := by
  unfold V
  after_reads_at

/-! ## The blocks -/

/-- Row `r` of the row block of the point `t`, and column `x` of its column tile, among all. -/
def rowAt (t : Fin cfg0.N) (r : Fin 512) : Fin 4096 :=
  ⟨512 * (t.val / 4) + r.val, by have := lt_of_lt_of_eq t.isLt points; omega⟩
def colAt (t : Fin cfg0.N) (x : Fin 1024) : Fin 4096 := ⟨1024 * (t.val % 4) + x.val, by omega⟩

theorem idx_rows : ∀ t : Fin cfg0.N, (win0_0.index t 0 = t.val / 4 ∧ win0_0.index t 1 = 0)
    ∧ (win0_1.index t 0 = t.val / 4 ∧ win0_1.index t 1 = 0) ∧ (win0_2.index t 0 = t.val / 4 ∧ win0_2.index t 1 = 0) := by decide +kernel
theorem idx_gain : ∀ t : Fin cfg0.N, win0_3.index t 0 = 0 ∧ win0_3.index t 1 = 0 := by decide +kernel
theorem idx_up : ∀ t : Fin cfg0.N, win0_5.index t 0 = 0 ∧ win0_5.index t 1 = 0 ∧ win0_5.index t 2 = t.val % 4 := by decide +kernel
theorem idx_down : ∀ t : Fin cfg0.N, win0_6.index t 0 = 0 ∧ win0_6.index t 1 = t.val % 4 ∧ win0_6.index t 2 = 0 := by decide +kernel

theorem block_sum (c : Dev nD) (t : Fin cfg0.N) (r : Fin 512) (q : Fin 1024) :
    (iblk m c 0 t : Rows Ideal) (ix2 r q) = preNorm (H m c) (Up m c) (Down m c) (rowAt t r) q := by
  have hi := (idx_rows t).1
  rw [← V_sum m c]
  unfold iblk
  rw [View.read_apply]
  show V m c main_v6 _ = V m c main_v6 _
  congr 1
  funext a
  apply Fin.ext
  match a with
  | ⟨0, _⟩ => show win0_0.index t 0 * 512 + 1 * r.val = 512 * (t.val / 4) + r.val; rw [hi.1]; omega
  | ⟨1, _⟩ => show win0_0.index t 1 * 1024 + 1 * q.val = q.val; rw [hi.2]; omega

theorem block_dy (c : Dev nD) (t : Fin cfg0.N) (r : Fin 512) (q : Fin 1024) :
    (iblk m c 1 t : Rows Ideal) (ix2 r q) = Dy m c (ix2 (rowAt t r) q) := by
  have hi := (idx_rows t).2.1
  unfold iblk
  rw [View.read_apply]
  show V m c main_arg5 _ = m (c.tc.loc main_arg5) _
  rw [V_main_arg5]
  congr 1
  funext a
  apply Fin.ext
  match a with
  | ⟨0, _⟩ => show win0_1.index t 0 * 512 + 1 * r.val = 512 * (t.val / 4) + r.val; rw [hi.1]; omega
  | ⟨1, _⟩ => show win0_1.index t 1 * 1024 + 1 * q.val = q.val; rw [hi.2]; omega

theorem block_h (c : Dev nD) (t : Fin cfg0.N) (r : Fin 512) (q : Fin 1024) :
    (iblk m c 2 t : Rows Ideal) (ix2 r q) = H m c (ix2 (rowAt t r) q) := by
  have hi := (idx_rows t).2.2
  unfold iblk
  rw [View.read_apply]
  show V m c main_arg0 _ = m (c.tc.loc main_arg0) _
  rw [V_main_arg0]
  congr 1
  funext a
  apply Fin.ext
  match a with
  | ⟨0, _⟩ => show win0_2.index t 0 * 512 + 1 * r.val = 512 * (t.val / 4) + r.val; rw [hi.1]; omega
  | ⟨1, _⟩ => show win0_2.index t 1 * 1024 + 1 * q.val = q.val; rw [hi.2]; omega

theorem block_gain (c : Dev nD) (t : Fin cfg0.N) (q : Fin 1024) :
    (iblk m c 3 t : Line Ideal) (ix2 0 q) = Gain m c q := by
  have hi := idx_gain t
  rw [← V_gain m c]
  unfold iblk
  rw [View.read_apply]
  show V m c main_v7 _ = V m c main_v7 _
  congr 1
  funext a
  apply Fin.ext
  match a with
  | ⟨0, _⟩ => show win0_3.index t 0 * 1 + 1 * 0 = 0; rw [hi.1]
  | ⟨1, _⟩ => show win0_3.index t 1 * 1024 + 1 * q.val = q.val; rw [hi.2]; omega

theorem block_up (c : Dev nD) (t : Fin cfg0.N) (k x : Fin 1024) :
    (iblk m c 5 t : Tile Ideal) (ix3 0 k x) = Up m c (ix2 k (colAt t x)) := by
  have hi := idx_up t
  rw [← V_up m c]
  unfold iblk
  rw [View.read_apply]
  show V m c main_v10 _ = V m c main_v10 _
  congr 1
  funext a
  apply Fin.ext
  match a with
  | ⟨0, _⟩ => show win0_5.index t 0 * 1 + 1 * 0 = 0; rw [hi.1]
  | ⟨1, _⟩ => show win0_5.index t 1 * 1024 + 1 * k.val = k.val; rw [hi.2.1]; omega
  | ⟨2, _⟩ => show win0_5.index t 2 * 1024 + 1 * x.val = 1024 * (t.val % 4) + x.val; rw [hi.2.2]; omega

theorem block_down (c : Dev nD) (t : Fin cfg0.N) (x q : Fin 1024) :
    (iblk m c 6 t : Tile Ideal) (ix3 0 x q) = Down m c (ix2 (colAt t x) q) := by
  have hi := idx_down t
  rw [← V_down m c]
  unfold iblk
  rw [View.read_apply]
  show V m c main_v12 _ = V m c main_v12 _
  congr 1
  funext a
  apply Fin.ext
  match a with
  | ⟨0, _⟩ => show win0_6.index t 0 * 1 + 1 * 0 = 0; rw [hi.1]
  | ⟨1, _⟩ => show win0_6.index t 1 * 1024 + 1 * x.val = 1024 * (t.val % 4) + x.val; rw [hi.2.1]; omega
  | ⟨2, _⟩ => show win0_6.index t 2 * 1024 + 1 * q.val = q.val; rw [hi.2.2]; omega

end Cert.FeedForward

end
-- ==== Proof.FfHeld.lean ====
/-
  What the feed-forward layer's backward kernel holds after each grid point, and what its six result arrays hold at the
  end: the gradients of FfSpec.lean.
-/
module

public import proofs.«01_k».proof.Proof.FfHost

@[expose] public section

set_option maxRecDepth 16384

noncomputable section

namespace Cert.FeedForward

open Cert.Merge (Mat Stack)
open Cert.Kernel2Ideal Cert.Kernel2Ideal.Gen Idealize.ShloMosaic Idealize.ShloMosaic.TcCoe
open Idealize.ShloMosaic.Pipeline (Dat)

variable (m : (ℓ : Loc nD τ sig) → Buf (Elt Ideal) ℓ)

/-! ## One point -/

/-- The gradients, on the kernel's arguments. -/
abbrev dSumAt (c : Dev nD) (l : Fin 4096) : Row := dSum (H m c) (Up m c) (Down m c) (Gain m c) (Dy m c) l
abbrev dHiddenAt (c : Dev nD) (l f : Fin 4096) : EReal := dHidden (H m c) (Up m c) (Down m c) (Gain m c) (Dy m c) l f

theorem rows_sum (c : Dev nD) (t : Fin cfg0.N) (r : Fin 512) :
    blockRow (iblk m c 0 t) r = preNorm (H m c) (Up m c) (Down m c) (rowAt t r) := funext fun q => block_sum m c t r q
theorem rows_dy (c : Dev nD) (t : Fin cfg0.N) (r : Fin 512) :
    blockRow (iblk m c 1 t) r = rowOf (Dy m c) (rowAt t r) := funext fun q => block_dy m c t r q
theorem line_gain (c : Dev nD) (t : Fin cfg0.N) : line (iblk m c 3 t) = Gain m c := funext fun q => block_gain m c t q

/-- The block of the gradient at the sum. -/
theorem normGrad_at (c : Dev nD) (t : Fin cfg0.N) (r : Fin 512) (q : Fin 1024) :
    normGrad (F := Ideal) (iblk m c 0 t) (iblk m c 1 t) (iblk m c 3 t) (ix2 r q) = dSumAt m c (rowAt t r) q := by
  rw [normGrad_block, rows_sum, rows_dy, line_gain]; rfl

theorem act_at (c : Dev nD) (t : Fin cfg0.N) (r : Fin 512) (x : Fin 1024) :
    blockAct (iblk m c 2 t) (iblk m c 5 t) r x = act (H m c) (Up m c) (rowAt t r) (colAt t x) := by
  unfold blockAct act
  simp only [block_h, block_up]

theorem hidden_at (c : Dev nD) (t : Fin cfg0.N) (grad : Rows Ideal) (r : Fin 512) (x : Fin 1024)
    (h : ∀ q, grad (ix2 r q) = dSumAt m c (rowAt t r) q) :
    blockHidden (iblk m c 2 t) grad (iblk m c 5 t) (iblk m c 6 t) r x = dHiddenAt m c (rowAt t r) (colAt t x) := by
  unfold blockHidden dHiddenAt dHidden
  simp only [act_at, h, block_down]

/-- Two points of one row block have the same rows. -/
theorem rowAt_same (s t : Fin cfg0.N) (h : s.val / 4 = t.val / 4) (r : Fin 512) : rowAt s r = rowAt t r :=
  Fin.ext (by show 512 * (s.val / 4) + r.val = 512 * (t.val / 4) + r.val; rw [h])

/-! ## After each point -/

/-- The gradient at the sum stays in scratch through a row block, and in its result block. -/
theorem grad_held (c : Dev nD) : ∀ (n : ℕ) (hn : n < cfg0.N) (r : Fin 512) (q : Fin 1024),
    (held m c n).grad (ix2 r q) = dSumAt m c (rowAt ⟨n, hn⟩ r) q ∧ (held m c n).du (ix2 r q) = dSumAt m c (rowAt ⟨n, hn⟩ r) q := by
  intro n
  induction n with
  | zero =>
    intro hn r q
    rw [held_eq m c ⟨0, hn⟩]
    have hf : First (grid0.coords ⟨0, hn⟩) := (first_iff ⟨0, hn⟩).mpr rfl
    unfold stepAt step
    dsimp only
    rw [if_pos hf, if_pos hf, keptGrad_block]
    exact ⟨normGrad_at m c ⟨0, hn⟩ r q, normGrad_at m c ⟨0, hn⟩ r q⟩
  | succ n ih =>
    intro hn r q
    rw [held_eq m c ⟨n + 1, hn⟩]
    by_cases h : (n + 1) % 4 = 0
    · have hf : First (grid0.coords ⟨n + 1, hn⟩) := (first_iff ⟨n + 1, hn⟩).mpr h
      unfold stepAt step
      dsimp only
      rw [if_pos hf, if_pos hf, keptGrad_block]
      exact ⟨normGrad_at m c ⟨n + 1, hn⟩ r q, normGrad_at m c ⟨n + 1, hn⟩ r q⟩
    · have k := step_keeps m c ⟨n + 1, hn⟩ (heldBefore m c (n + 1)) h
      rw [k.1, k.2.1, ← rowAt_same ⟨n, Nat.lt_of_succ_lt hn⟩ ⟨n + 1, hn⟩ (by show n / 4 = (n + 1) / 4; omega) r]
      exact ih _ r q

/-- The hidden layer's gradient. -/
theorem hidden_held (c : Dev nD) (t : Fin cfg0.N) (r : Fin 512) (x : Fin 1024) :
    (held m c t.val).da (ix2 r x) = dHiddenAt m c (rowAt t r) (colAt t x) := by
  have g := fun q => (grad_held m c t.val t.isLt r q).1
  rw [held_eq m c t] at g ⊢
  exact (hidden_block _ _ _ _ r x).trans (hidden_at m c t _ r x g)

/-- The hidden layer's activations, squared and transposed. -/
theorem act_held (c : Dev nD) (t : Fin cfg0.N) (r : Fin 512) (x : Fin 1024) :
    (held m c t.val).r (ix2 x r)
      = act (H m c) (Up m c) (rowAt t r) (colAt t x) * act (H m c) (Up m c) (rowAt t r) (colAt t x) := by
  rw [held_eq m c t]
  exact (act_block _ _ r x).trans (by rw [act_at])

/-- A family over the 4096 rows or columns, as one over all numbers. -/
def ext (f : Fin 4096 → EReal) (j : ℕ) : EReal := if h : j < 4096 then f ⟨j, h⟩ else 0

theorem ext_val (f : Fin 4096 → EReal) (j : Fin 4096) : ext f j.val = f j := dif_pos j.isLt

/-- What the column tile of the point `t` gives the input's gradient. -/
theorem part_at (c : Dev nD) (t : Fin cfg0.N) (s : Held Ideal) (r : Fin 512) (k : Fin 1024)
    (h : ∀ q, (stepAt m c t s).grad (ix2 r q) = dSumAt m c (rowAt t r) q) :
    part (F := Ideal) (iblk m c 2 t) (iblk m c 5 t) (iblk m c 6 t) (stepAt m c t s).grad (ix2 r k)
      = ∑ x : Fin 1024, ext (fun f => dHiddenAt m c (rowAt t r) f * Up m c (ix2 k f)) (1024 * (t.val % 4) + x.val) := by
  refine (part_block _ _ _ _ r k).trans (Finset.sum_congr rfl fun x _ => ?_)
  rw [hidden_at m c t _ r x h, block_up]
  exact (ext_val (fun f => dHiddenAt m c (rowAt t r) f * Up m c (ix2 k f)) (colAt t x)).symm

/-- The running sum holds the column tiles so far. -/
theorem acc_held (c : Dev nD) : ∀ (n : ℕ) (hn : n < cfg0.N) (r : Fin 512) (k : Fin 1024),
    (held m c n).acc (ix2 r k) = ∑ f ∈ Finset.range (n % 4 + 1), ∑ x : Fin 1024,
      ext (fun f => dHiddenAt m c (rowAt ⟨n, hn⟩ r) f * Up m c (ix2 k f)) (1024 * f + x.val) := by
  intro n
  induction n with
  | zero =>
    intro hn r k
    have g := fun q => (grad_held m c 0 hn r q).1
    rw [held_eq m c ⟨0, hn⟩] at g ⊢
    have hf : First (grid0.coords ⟨0, hn⟩) := (first_iff ⟨0, hn⟩).mpr rfl
    have e : (stepAt m c ⟨0, hn⟩ (heldBefore m c 0)).acc
        = k0_pay1 (part (iblk m c 2 ⟨0, hn⟩) (iblk m c 5 ⟨0, hn⟩) (iblk m c 6 ⟨0, hn⟩) (stepAt m c ⟨0, hn⟩ (heldBefore m c 0)).grad) := if_pos hf
    rw [e, first_part, part_at m c ⟨0, hn⟩ _ r k g]
    show _ = ∑ f ∈ Finset.range 1, _
    rw [Finset.sum_range_one, show (⟨0, hn⟩ : Fin cfg0.N).val % 4 = 0 from rfl]
  | succ n ih =>
    intro hn r k
    have g := fun q => (grad_held m c (n + 1) hn r q).1
    rw [held_eq m c ⟨n + 1, hn⟩] at g ⊢
    by_cases h : (n + 1) % 4 = 0
    · have hf : First (grid0.coords ⟨n + 1, hn⟩) := (first_iff ⟨n + 1, hn⟩).mpr h
      have e : (stepAt m c ⟨n + 1, hn⟩ (heldBefore m c (n + 1))).acc
          = k0_pay1 (part (iblk m c 2 ⟨n + 1, hn⟩) (iblk m c 5 ⟨n + 1, hn⟩) (iblk m c 6 ⟨n + 1, hn⟩) (stepAt m c ⟨n + 1, hn⟩ (heldBefore m c (n + 1))).grad) := if_pos hf
      rw [e, first_part, part_at m c ⟨n + 1, hn⟩ _ r k g, h, zero_add, Finset.sum_range_one]
    · have hf : ¬First (grid0.coords ⟨n + 1, hn⟩) := fun e => h ((first_iff ⟨n + 1, hn⟩).mp e)
      have e : (stepAt m c ⟨n + 1, hn⟩ (heldBefore m c (n + 1))).acc
          = k0_pay2 (part (iblk m c 2 ⟨n + 1, hn⟩) (iblk m c 5 ⟨n + 1, hn⟩) (iblk m c 6 ⟨n + 1, hn⟩) (stepAt m c ⟨n + 1, hn⟩ (heldBefore m c (n + 1))).grad) (held m c n).acc := if_neg hf
      rw [e, add_part, part_at m c ⟨n + 1, hn⟩ _ r k g, ih (Nat.lt_of_succ_lt hn) r k,
        rowAt_same ⟨n, Nat.lt_of_succ_lt hn⟩ ⟨n + 1, hn⟩ (by show n / 4 = (n + 1) / 4; omega) r,
        show n % 4 + 1 = (n + 1) % 4 by omega, Finset.sum_range_succ _ ((n + 1) % 4)]

/-- The last column tile of a row block finishes the input's gradient. -/
theorem input_held (c : Dev nD) (t : Fin cfg0.N) (h : t.val % 4 = 3) (r : Fin 512) (k : Fin 1024) :
    (held m c t.val).dh (ix2 r k) = dInput (H m c) (Up m c) (Down m c) (Gain m c) (Dy m c) (rowAt t r) k := by
  have g := (grad_held m c t.val t.isLt r k).1
  have a := acc_held m c t.val t.isLt r k
  rw [held_eq m c t] at g a ⊢
  have hl : Last (grid0.coords t) := (last_iff t).mpr h
  have e : (stepAt m c t (heldBefore m c t.val)).dh
      = k0_pay3 (stepAt m c t (heldBefore m c t.val)).grad (stepAt m c t (heldBefore m c t.val)).acc := if_pos hl
  rw [e, input_block, g, a, h, sum_tiles 4 1024]
  unfold dInput
  exact congrArg _ (Finset.sum_congr rfl fun f _ => ext_val _ f)

/-- The two sums over the rows hold the row blocks so far. -/
theorem gain_held (c : Dev nD) : ∀ (n : ℕ) (hn : n < cfg0.N) (q : Fin 1024),
    (held m c n).dg (ix2 0 q) = ∑ i ∈ Finset.range (n / 4 + 1), ∑ r : Fin 512,
        ext (fun l => gainPart (H m c) (Up m c) (Down m c) (Dy m c) l q) (512 * i + r.val)
      ∧ (held m c n).db (ix2 0 q) = ∑ i ∈ Finset.range (n / 4 + 1), ∑ r : Fin 512, ext (fun l => Dy m c (ix2 l q)) (512 * i + r.val) := by
  have now : ∀ (t : Fin cfg0.N) (q : Fin 1024),
      k0_pay9 (F := Ideal) (iblk m c 0 t) (iblk m c 1 t) (ix2 0 q)
          = ∑ r : Fin 512, ext (fun l => gainPart (H m c) (Up m c) (Down m c) (Dy m c) l q) (512 * (t.val / 4) + r.val)
        ∧ k0_pay8 (F := Ideal) (iblk m c 1 t) (ix2 0 q) = ∑ r : Fin 512, ext (fun l => Dy m c (ix2 l q)) (512 * (t.val / 4) + r.val) := by
    intro t q
    refine ⟨(gain_block _ _ q 0).trans (Finset.sum_congr rfl fun r _ => ?_), (shift_block _ q 0).trans (Finset.sum_congr rfl fun r _ => ?_)⟩
    · rw [rows_sum, block_dy]
      exact (ext_val (fun l => gainPart (H m c) (Up m c) (Down m c) (Dy m c) l q) (rowAt t r)).symm
    · rw [block_dy]
      exact (ext_val (fun l => Dy m c (ix2 l q)) (rowAt t r)).symm
  intro n
  induction n with
  | zero =>
    intro hn q
    rw [held_eq m c ⟨0, hn⟩]
    have hf : First (grid0.coords ⟨0, hn⟩) := (first_iff ⟨0, hn⟩).mpr rfl
    have ht : Top (grid0.coords ⟨0, hn⟩) := (top_iff ⟨0, hn⟩).mpr (Nat.succ_pos 3)
    unfold stepAt step
    dsimp only
    rw [if_pos hf, if_pos ht, if_pos hf, if_pos ht, (now ⟨0, hn⟩ q).1, (now ⟨0, hn⟩ q).2]
    show _ = ∑ i ∈ Finset.range 1, _ ∧ _ = ∑ i ∈ Finset.range 1, _
    refine ⟨?_, ?_⟩ <;> rw [Finset.sum_range_one, show (⟨0, hn⟩ : Fin cfg0.N).val / 4 = 0 from Nat.zero_div 4]
  | succ n ih =>
    intro hn q
    rw [held_eq m c ⟨n + 1, hn⟩]
    have ih := ih (Nat.lt_of_succ_lt hn) q
    by_cases h : (n + 1) % 4 = 0
    · have hf : First (grid0.coords ⟨n + 1, hn⟩) := (first_iff ⟨n + 1, hn⟩).mpr h
      have ht : ¬Top (grid0.coords ⟨n + 1, hn⟩) := fun e => by
        have : n + 1 < 4 := (top_iff ⟨n + 1, hn⟩).mp e
        omega
      unfold stepAt step
      dsimp only
      rw [if_pos hf, if_neg ht, if_pos hf, if_neg ht, add_gain, add_shift, (now ⟨n + 1, hn⟩ q).1, (now ⟨n + 1, hn⟩ q).2]
      show (held m c n).dg (ix2 0 q) + _ = _ ∧ (held m c n).db (ix2 0 q) + _ = _
      rw [ih.1, ih.2, show n / 4 + 1 = (n + 1) / 4 by omega, Finset.sum_range_succ _ ((n + 1) / 4), Finset.sum_range_succ _ ((n + 1) / 4)]
      exact ⟨rfl, rfl⟩
    · have k := step_keeps m c ⟨n + 1, hn⟩ (heldBefore m c (n + 1)) h
      rw [k.2.2.1, k.2.2.2, show (n + 1) / 4 = n / 4 by omega]
      exact ih

end Cert.FeedForward

end
-- ==== Proof.FfArrays.lean ====
/-
  What the six result arrays of the feed-forward layer's backward kernel hold after the run: the gradients at the sum, at
  the layer's input and at the hidden layer, the transposed squared activations, and the gradients of the norm's gain and
  shift.
-/
module

public import proofs.«01_k».proof.Proof.FfHeld
public import Idealize.ShloMosaic.Lib.Pipeline.ValueKit

@[expose] public section

set_option maxRecDepth 16384

noncomputable section

namespace Cert.FeedForward

open Cert.Merge (Mat)
open Cert.Kernel2Ideal Cert.Kernel2Ideal.Gen Idealize.ShloMosaic Idealize.ShloMosaic.TcCoe
open Idealize.ShloMosaic.Pipeline (Dat)

variable (m : (ℓ : Loc nD τ sig) → Buf (Elt Ideal) ℓ)

/-! ## Where a block lies in its array -/

theorem idx7 : ∀ t : Fin cfg0.N, win0_7.index t 0 = t.val / 4 ∧ win0_7.index t 1 = 0 := by decide +kernel
theorem emb7 (t : Fin cfg0.N) (r : Fin 512) (k : Fin 1024) :
    (((cfg0.win 7).blk t).view.emb (ix2 r k) : S4096x1024.Idx) = ix2 (rowAt t r) k := by
  have hi := idx7 t
  funext a
  apply Fin.ext
  match a with
  | ⟨0, _⟩ => show win0_7.index t 0 * 512 + 1 * r.val = 512 * (t.val / 4) + r.val; rw [hi.1]; omega
  | ⟨1, _⟩ => show win0_7.index t 1 * 1024 + 1 * k.val = k.val; rw [hi.2]; omega
theorem idx8 : ∀ t : Fin cfg0.N, win0_8.index t 0 = t.val / 4 ∧ win0_8.index t 1 = 0 := by decide +kernel
theorem emb8 (t : Fin cfg0.N) (r : Fin 512) (k : Fin 1024) :
    (((cfg0.win 8).blk t).view.emb (ix2 r k) : S4096x1024.Idx) = ix2 (rowAt t r) k := by
  have hi := idx8 t
  funext a
  apply Fin.ext
  match a with
  | ⟨0, _⟩ => show win0_8.index t 0 * 512 + 1 * r.val = 512 * (t.val / 4) + r.val; rw [hi.1]; omega
  | ⟨1, _⟩ => show win0_8.index t 1 * 1024 + 1 * k.val = k.val; rw [hi.2]; omega
theorem idx9 : ∀ t : Fin cfg0.N, win0_9.index t 0 = t.val / 4 ∧ win0_9.index t 1 = t.val % 4 := by decide +kernel
theorem emb9 (t : Fin cfg0.N) (r : Fin 512) (k : Fin 1024) :
    (((cfg0.win 9).blk t).view.emb (ix2 r k) : S4096x4096.Idx) = ix2 (rowAt t r) (colAt t k) := by
  have hi := idx9 t
  funext a
  apply Fin.ext
  match a with
  | ⟨0, _⟩ => show win0_9.index t 0 * 512 + 1 * r.val = 512 * (t.val / 4) + r.val; rw [hi.1]; omega
  | ⟨1, _⟩ => show win0_9.index t 1 * 1024 + 1 * k.val = 1024 * (t.val % 4) + k.val; rw [hi.2]; omega
theorem idx10 : ∀ t : Fin cfg0.N, win0_10.index t 0 = t.val % 4 ∧ win0_10.index t 1 = t.val / 4 := by decide +kernel
theorem emb10 (t : Fin cfg0.N) (r : Fin 1024) (k : Fin 512) :
    (((cfg0.win 10).blk t).view.emb (ix2 r k) : S4096x4096.Idx) = ix2 (colAt t r) (rowAt t k) := by
  have hi := idx10 t
  funext a
  apply Fin.ext
  match a with
  | ⟨0, _⟩ => show win0_10.index t 0 * 1024 + 1 * r.val = 1024 * (t.val % 4) + r.val; rw [hi.1]; omega
  | ⟨1, _⟩ => show win0_10.index t 1 * 512 + 1 * k.val = 512 * (t.val / 4) + k.val; rw [hi.2]; omega
theorem idx11 : ∀ t : Fin cfg0.N, win0_11.index t 0 = 0 ∧ win0_11.index t 1 = 0 := by decide +kernel
theorem emb11 (t : Fin cfg0.N) (r : Fin 1) (k : Fin 1024) :
    (((cfg0.win 11).blk t).view.emb (ix2 r k) : S1x1024.Idx) = ix2 r k := by
  have hi := idx11 t
  funext a
  apply Fin.ext
  match a with
  | ⟨0, _⟩ => show win0_11.index t 0 * 1 + 1 * r.val = r.val; rw [hi.1]; omega
  | ⟨1, _⟩ => show win0_11.index t 1 * 1024 + 1 * k.val = k.val; rw [hi.2]; omega
theorem idx12 : ∀ t : Fin cfg0.N, win0_12.index t 0 = 0 ∧ win0_12.index t 1 = 0 := by decide +kernel
theorem emb12 (t : Fin cfg0.N) (r : Fin 1) (k : Fin 1024) :
    (((cfg0.win 12).blk t).view.emb (ix2 r k) : S1x1024.Idx) = ix2 r k := by
  have hi := idx12 t
  funext a
  apply Fin.ext
  match a with
  | ⟨0, _⟩ => show win0_12.index t 0 * 1 + 1 * r.val = r.val; rw [hi.1]; omega
  | ⟨1, _⟩ => show win0_12.index t 1 * 1024 + 1 * k.val = k.val; rw [hi.2]; omega

/-! ## The arrays -/

/-- The gradient at the sum. -/
theorem final7 (c : Dev nD) : (dats m 0 c).arrAt 7 cfg0.N = (resSum (H m c) (Up m c) (Down m c) (Gain m c) (Dy m c) : Vec Ideal S4096x1024 .f32) :=
  (dats m 0 c).arrAt_eq_of_covers 7 (resSum (H m c) (Up m c) (Down m c) (Gain m c) (Dy m c) : Vec Ideal S4096x1024 .f32) (by decide +kernel) fun t hf y => by
    obtain ⟨r, k, rfl⟩ : ∃ (r : Fin 512) (k : Fin 1024), y = ix2 r k := ⟨y 0, y 1, eq_ix2 y⟩
    rw [emb7]
    show (dats m 0 c).after 7 t (ix2 r k) = _
    rw [after_7, (grad_held m c t.val t.isLt r k).2]
    rfl
/-- The gradient at the layer's input. -/
theorem final8 (c : Dev nD) : (dats m 0 c).arrAt 8 cfg0.N = (resInput (H m c) (Up m c) (Down m c) (Gain m c) (Dy m c) : Vec Ideal S4096x1024 .f32) :=
  (dats m 0 c).arrAt_eq_of_covers 8 (resInput (H m c) (Up m c) (Down m c) (Gain m c) (Dy m c) : Vec Ideal S4096x1024 .f32) (by decide +kernel) fun t hf y => by
    obtain ⟨r, k, rfl⟩ : ∃ (r : Fin 512) (k : Fin 1024), y = ix2 r k := ⟨y 0, y 1, eq_ix2 y⟩
    rw [emb8]
    show (dats m 0 c).after 8 t (ix2 r k) = _
    have h : t.val % 4 = 3 := of_decide_eq_true ((flush_dh t).symm.trans hf)
    rw [after_8, input_held m c t h r k]
    rfl
/-- The gradient at the hidden layer. -/
theorem final9 (c : Dev nD) : (dats m 0 c).arrAt 9 cfg0.N = (resHidden (H m c) (Up m c) (Down m c) (Gain m c) (Dy m c) : Vec Ideal S4096x4096 .bf16) :=
  (dats m 0 c).arrAt_eq_of_covers 9 (resHidden (H m c) (Up m c) (Down m c) (Gain m c) (Dy m c) : Vec Ideal S4096x4096 .bf16) (by decide +kernel) fun t hf y => by
    obtain ⟨r, k, rfl⟩ : ∃ (r : Fin 512) (k : Fin 1024), y = ix2 r k := ⟨y 0, y 1, eq_ix2 y⟩
    rw [emb9]
    show (dats m 0 c).after 9 t (ix2 r k) = _
    rw [after_9, hidden_held]
    rfl
/-- The squared activations, transposed. -/
theorem final10 (c : Dev nD) : (dats m 0 c).arrAt 10 cfg0.N = (resAct (H m c) (Up m c) : Vec Ideal S4096x4096 .bf16) :=
  (dats m 0 c).arrAt_eq_of_covers 10 (resAct (H m c) (Up m c) : Vec Ideal S4096x4096 .bf16) (by decide +kernel) fun t hf y => by
    obtain ⟨r, k, rfl⟩ : ∃ (r : Fin 1024) (k : Fin 512), y = ix2 r k := ⟨y 0, y 1, eq_ix2 y⟩
    rw [emb10]
    show (dats m 0 c).after 10 t (ix2 r k) = _
    rw [after_10, act_held]
    rfl
/-- The gain's gradient. -/
theorem final11 (c : Dev nD) : (dats m 0 c).arrAt 11 cfg0.N = (resGain (H m c) (Up m c) (Down m c) (Dy m c) : Vec Ideal S1x1024 .f32) :=
  (dats m 0 c).arrAt_eq_of_covers 11 (resGain (H m c) (Up m c) (Down m c) (Dy m c) : Vec Ideal S1x1024 .f32) (by decide +kernel) fun t hf y => by
    obtain ⟨r, k, rfl⟩ : ∃ (r : Fin 1) (k : Fin 1024), y = ix2 r k := ⟨y 0, y 1, eq_ix2 y⟩
    rw [emb11]
    show (dats m 0 c).after 11 t (ix2 r k) = _
    have h : t.val = 31 := of_decide_eq_true ((flush_dg t).symm.trans hf)
    obtain rfl := Subsingleton.elim r 0
    rw [after_11]
    refine (gain_held m c t.val t.isLt k).1.trans ?_
    rw [h, sum_tiles 8 512]
    exact Finset.sum_congr rfl fun l _ => ext_val _ l
/-- The shift's gradient. -/
theorem final12 (c : Dev nD) : (dats m 0 c).arrAt 12 cfg0.N = (resShift (Dy m c) : Vec Ideal S1x1024 .f32) :=
  (dats m 0 c).arrAt_eq_of_covers 12 (resShift (Dy m c) : Vec Ideal S1x1024 .f32) (by decide +kernel) fun t hf y => by
    obtain ⟨r, k, rfl⟩ : ∃ (r : Fin 1) (k : Fin 1024), y = ix2 r k := ⟨y 0, y 1, eq_ix2 y⟩
    rw [emb12]
    show (dats m 0 c).after 12 t (ix2 r k) = _
    have h : t.val = 31 := of_decide_eq_true ((flush_db t).symm.trans hf)
    obtain rfl := Subsingleton.elim r 0
    rw [after_12]
    refine (gain_held m c t.val t.isLt k).2.trans ?_
    rw [h, sum_tiles 8 512]
    exact Finset.sum_congr rfl fun l _ => ext_val _ l

end Cert.FeedForward

end
-- ==== Proof.FfRef.lean ====
/-
  What the reference computes, read element by element over the extended reals: the gradients of FfSpec.lean.
-/
module

public import proofs.«01_k».proof.Proof.Gen.Reference2Ideal.Read
public import proofs.«01_k».proof.Proof.FfSpec
public import Idealize.ShloMosaic.Lib.Pointwise

@[expose] public section

set_option maxRecDepth 16384

noncomputable section

namespace Cert.FeedForward.Ref

open Cert.Merge (Mat)
open Cert.Reference2Ideal Cert.Reference2Ideal.Gen Cert.Reference2Ideal.Read Idealize.ShloMosaic

variable (h : Mat 4096 1024) (wu : Mat 1024 4096) (wd : Mat 4096 1024) (g : (⟨1, ![1024]⟩ : Shape).Idx → EReal) (dy : Mat 4096 1024)

/-- The gain, as a row. -/
def gainRow : Row := fun q => g (ix1 q)

/-- The hidden layer after the rectifier. -/
theorem act_ref (l f : Fin 4096) : val_main_v1 (F := Ideal) h wu (ix2 l f) = act h wu l f := by
  pointwise [val_main_v1, val_main_v0, val_main_call0_v0, val_main_call0_cst]
  rfl

/-- The rows the layer norm takes. -/
theorem sum_ref (l : Fin 4096) (q : Fin 1024) : val_main_v11 (F := Ideal) h wu wd (ix2 l q) = preNorm h wu wd l q := by
  pointwise [val_main_v11, val_main_v10, val_main_v9, val_main_v8, val_main_v5, val_main_cst_2]
  simp only [act_ref]
  rfl

theorem centred_ref (l : Fin 4096) (q : Fin 1024) :
    val_main_v17 (F := Ideal) h wu wd (ix2 l q) = centred (preNorm h wu wd l) q := by
  pointwise [val_main_v17, val_main_v16, val_main_v15, val_main_v14, val_main_v13, val_main_v12, val_main_cst_3, val_main_cst_4]
  simp only [sum_ref]
  rfl

theorem spread_ref (l : Fin 4096) (z : Fin 1) : val_main_v26 (F := Ideal) h wu wd (ix2 l z) = spread (preNorm h wu wd l) := by
  pointwise [val_main_v26, val_main_v25, val_main_v24, val_main_v23, val_main_v22, val_main_v21, val_main_v18, val_main_cst_6,
    val_main_cst_7, val_main_cst_8]
  simp only [centred_ref]
  rfl

theorem scale_ref (l : Fin 4096) (z : Fin 1) : val_main_v27 (F := Ideal) h wu wd (ix2 l z) = scale (preNorm h wu wd l) := by
  pointwise [val_main_v27]
  rw [spread_ref]
  rfl

theorem fromSpread_ref (l : Fin 4096) (z : Fin 1) :
    val_main_v56 (F := Ideal) h g wu wd dy (ix2 l z) = fromSpread (preNorm h wu wd l) (gainRow g) (rowOf dy l) := by
  pointwise [val_main_v56, val_main_v55, val_main_v54, val_main_v51, val_main_v50, val_main_v49, val_main_v47, val_main_v46,
    val_main_v39, val_main_v33, val_main_v30, val_main_v29, val_main_v28, val_main_cst_9, val_main_cst_14, val_main_cst_15]
  simp only [centred_ref, spread_ref, scale_ref]
  rfl

theorem inner_ref (l : Fin 4096) (q : Fin 1024) :
    val_main_v60 (F := Ideal) h g wu wd dy (ix2 l q) = inner (preNorm h wu wd l) (gainRow g) (rowOf dy l) q := by
  pointwise [val_main_v60, val_main_v59, val_main_v58, val_main_v57, val_main_v53, val_main_v52, val_main_v47, val_main_v46,
    val_main_v39, val_main_v33, val_main_v20, val_main_v19, val_main_cst_5, val_main_cst_16]
  simp only [Fin.sum_univ_one, centred_ref, scale_ref, fromSpread_ref]
  rfl

/-- The gradient at the rows. -/
theorem dsum_ref (l : Fin 4096) (q : Fin 1024) :
    val_main_v68 (F := Ideal) h g wu wd dy (ix2 l q) = dSum h wu wd (gainRow g) dy l q := by
  pointwise [val_main_v68, val_main_v67, val_main_v66, val_main_v65, val_main_v64, val_main_v63, val_main_v62, val_main_v61,
    val_main_cst_17, val_main_cst_18, val_main_cst_19]
  simp only [Fin.sum_univ_one, inner_ref]
  rfl

/-- The gradient at the hidden layer: where the rectifier is off, its activation is zero. -/
theorem dhidden_ref (l f : Fin 4096) :
    val_main_v72 (F := Ideal) h g wu wd dy (ix2 l f) = dHidden h wu wd (gainRow g) dy l f := by
  pointwise [val_main_v72, val_main_v71, val_main_v70, val_main_v69, val_main_v7, val_main_v6, val_main_v3, val_main_v2, val_main_v0,
    val_main_cst, val_main_cst_1, val_main_cst_20]
  simp only [dsum_ref, act_ref]
  by_cases e : 0 < ∑ x, h (ix2 l x) * wu (ix2 x f)
  · rw [if_pos e]
    rfl
  · have z : act h wu l f = 0 := max_eq_right (not_lt.mp e)
    rw [if_neg e]
    unfold dHidden
    rw [z, mul_zero, mul_zero]

/-- The gradient at the layer's input. -/
theorem dinput_ref (l : Fin 4096) (k : Fin 1024) :
    val_main_v76 (F := Ideal) h g wu wd dy (ix2 l k) = dInput h wu wd (gainRow g) dy l k := by
  pointwise [val_main_v76, val_main_v75, val_main_v74, val_main_v73, val_main_cst_21]
  simp only [dsum_ref, dhidden_ref]
  rfl

/-- The hidden layer's gradient as the reference returns it. -/
theorem hidden_ref (l f : Fin 4096) :
    val_main_v77 (F := Ideal) h g wu wd dy (ix2 l f) = dHidden h wu wd (gainRow g) dy l f := by
  pointwise [val_main_v77]
  exact dhidden_ref h wu wd g dy l f

/-- The squared activations, transposed. -/
theorem squares_ref (f l : Fin 4096) : val_main_v79 (F := Ideal) h wu (ix2 f l) = act h wu l f * act h wu l f := by
  pointwise [val_main_v79, val_main_v78, val_main_v5]
  simp only [act_ref]

/-- The gradients of gain and shift. -/
theorem gain_ref (z : Fin 1) (q : Fin 1024) :
    val_main_v80 (F := Ideal) h wu wd dy (ix2 z q) = ∑ l, gainPart h wu wd dy l q := by
  pointwise [val_main_v80, val_main_v48, val_main_v45, val_main_v44, val_main_v43, val_main_v39, val_main_v32, val_main_v31,
    val_main_cst_12, val_main_cst_13]
  simp only [Fin.sum_univ_one, centred_ref, scale_ref]
  rfl

theorem shift_ref (z : Fin 1) (q : Fin 1024) : val_main_v81 (F := Ideal) dy (ix2 z q) = ∑ l, dy (ix2 l q) := by
  pointwise [val_main_v81, val_main_v42, val_main_v41, val_main_v40, val_main_cst_10, val_main_cst_11]
  simp only [Fin.sum_univ_one]

end Cert.FeedForward.Ref

end
-- ==== Proof.FfClaim.lean ====
/-
  The claims about the feed-forward layer's gradient: the kernel's result arrays and the reference's hold the same
  numbers.
-/
module

public import proofs.«01_k».proof.Defs
public import proofs.«01_k».proof.Proof.FfArrays
public import proofs.«01_k».proof.Proof.FfRef
public import proofs.«01_k».proof.Proof.Gen.Kernel2.Frame
public import proofs.«01_k».proof.Proof.Gen.Reference2Ideal.Run
public import Idealize.ShloMosaic.Lib.Quiescent

@[expose] public section

set_option maxRecDepth 16384

noncomputable section

namespace Cert.Proof.FeedForward

open Idealize.ShloMosaic Idealize.ShloMosaic.TcCoe Idealize.SL.Sem
open Cert.FeedForward Cert.FeedForward.Ref Cert.Reference2Ideal.Read

/-- The kernel, at bit patterns, runs to the end and leaves its arguments alone: the run of FfFrame.lean, the two
    programs having the same text. -/
theorem frame_kernel : Cert.quiescent_Kernel2 :=
  cast (by sl_kernel_rfl) (fun (m : (ℓ : Loc Cert.Kernel2Ideal.nD Cert.Kernel2Ideal.τ Cert.Kernel2Ideal.sig) → Buf (Elt Bits) ℓ)
    (ρ : Dev Cert.Kernel2Ideal.nD → PrngReg) (_ : True) => frame_ends (F := Bits) m ρ)
/-- So does its idealization, at extended reals. -/
theorem frame_ideal : Cert.quiescent_Kernel2Ideal := fun m ρ _ => frame_ends (F := Ideal) m ρ
/-- And the reference. -/
theorem frame_reference : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)
/-- The idealization rewrote nothing. -/
theorem preserves : Cert.preserves_Kernel2_Kernel2Ideal := trivial

/-- Started from equal arguments, kernel and reference end with equal results: the gradients at the sum, at the layer's
    input and at the hidden layer, the transposed squared activations, and the gradients of gain and shift. -/
theorem algebraic : Cert.algebraic_Kernel2Ideal_Reference2Ideal := by
  intro m ρ m' ρ' _ hagree
  refine ⟨fun c => resSum (H m c) (Up m c) (Down m c) (Gain m c) (Dy m c), fun c => resInput (H m c) (Up m c) (Down m c) (Gain m c) (Dy m c),
    fun c => resHidden (H m c) (Up m c) (Down m c) (Gain m c) (Dy m c), fun c => resAct (H m c) (Up m c),
    fun c => resGain (H m c) (Up m c) (Down m c) (Dy m c), fun c => resShift (Dy m c), ?_, ?_⟩
  · refine (θ_run Cert.Kernel2Ideal.defs _ _).mono (fun _ h c => ?_)
      (θ_run_and (run_main (F := Ideal) m ρ) (frame_ends (F := Ideal) m ρ))
    exact ⟨((h.1 c).1 7).trans (final7 m c), ((h.1 c).1 8).trans (final8 m c), ((h.1 c).1 9).trans (final9 m c),
      ((h.1 c).1 10).trans (final10 m c), ((h.1 c).1 11).trans (final11 m c), ((h.1 c).1 12).trans (final12 m c), h.2.1 c⟩
  · refine (θ_run Cert.Reference2Ideal.defs _ _).mono (fun _ h c => ?_) (Cert.Reference2Ideal.Value.run (F := Ideal) m' ρ')
    obtain ⟨h0, h1, h2, h3, h4, h5, hargs⟩ := h c
    obtain ⟨a0, a1, a2, a3, a4, a5⟩ := hagree c
    refine ⟨h0.trans ?_, h1.trans ?_, h2.trans ?_, h3.trans ?_, h4.trans ?_, h5.trans ?_, hargs⟩
    · refine (val_main_v68_eq (F := Ideal) ..).trans ?_
      rw [a0, a1, a3, a4, a5]
      exact funext fun y => (congrArg _ (eq_ix2 y)).trans (dsum_ref ..)
    · refine (val_main_v76_eq (F := Ideal) ..).trans ?_
      rw [a0, a1, a3, a4, a5]
      exact funext fun y => (congrArg _ (eq_ix2 y)).trans (dinput_ref ..)
    · refine (val_main_v77_eq (F := Ideal) ..).trans ?_
      rw [a0, a1, a3, a4, a5]
      exact funext fun y => (congrArg _ (eq_ix2 y)).trans (hidden_ref ..)
    · refine (val_main_v79_eq (F := Ideal) ..).trans ?_
      rw [a0, a3]
      exact funext fun y => (congrArg _ (eq_ix2 y)).trans (squares_ref ..)
    · refine (val_main_v80_eq (F := Ideal) ..).trans ?_
      rw [a0, a3, a4, a5]
      exact funext fun y => (congrArg _ (eq_ix2 y)).trans (gain_ref ..)
    · refine (val_main_v81_eq (F := Ideal) ..).trans ?_
      rw [a5]
      exact funext fun y => (congrArg _ (eq_ix2 y)).trans (shift_ref ..)

end Cert.Proof.FeedForward

end
-- ==== Proof.Products.lean ====
/-
  The gradients of the weight matrices, over the extended reals: the product of one matrix, transposed, with another,
  summed over the tokens. The kernels sum it in tiles, one grid point to a tile.
-/
module

public import proofs.«01_k».proof.Proof.FfSpec
public import Idealize.ShloMosaic.Lib.Pipeline.Value

@[expose] public section

noncomputable section

namespace Cert.Products

open Idealize.ShloMosaic
open Cert.Merge (Mat)

/-- The product of `x`, transposed, with `y`. -/
def tn {L M N : ℕ} (x : Mat L M) (y : Mat L N) : Mat M N := fun i => ∑ l : Fin L, x (ix2 l (i 0)) * y (ix2 l (i 1))

/-- A running sum that starts again at every multiple of `K` holds, after position `n`, the parts since the last start. -/
theorem running_sum (K N : ℕ) (hK : 0 < K) (acc : (n : ℕ) → n < N → EReal) (part : ℕ → EReal)
    (start : ∀ n h, n % K = 0 → acc n h = part n)
    (next : ∀ n h, (n + 1) % K ≠ 0 → acc (n + 1) h = acc n (Nat.lt_of_succ_lt h) + part (n + 1)) :
    ∀ n h, acc n h = ∑ i ∈ Finset.range (n % K + 1), part (K * (n / K) + i) := by
  have now : ∀ n h, n % K = 0 → acc n h = ∑ i ∈ Finset.range (n % K + 1), part (K * (n / K) + i) := fun n h e => by
    rw [start n h e, e, zero_add, Finset.sum_range_one, Nat.add_zero, Nat.mul_div_cancel' (Nat.dvd_of_mod_eq_zero e)]
  intro n
  induction n with
  | zero => exact fun h => now 0 h (Nat.zero_mod K)
  | succ n ih =>
    intro h
    by_cases e : (n + 1) % K = 0
    · exact now _ h e
    · have hd : (n + 1) / K = n / K := Nat.succ_div_of_not_dvd fun d => e (Nat.mod_eq_zero_of_dvd d)
      have a := Nat.div_add_mod n K
      have b := Nat.div_add_mod (n + 1) K
      rw [hd] at b
      have hm : (n + 1) % K = n % K + 1 := by omega
      rw [next n h e, ih, hm, hd, Finset.sum_range_succ _ (n % K + 1), show K * (n / K) + (n % K + 1) = n + 1 by omega]

/-- A sum of four tiles of 1024 terms is the sum over all 4096. -/
theorem four_tiles (f : Fin 4096 → EReal) :
    ∑ i ∈ Finset.range 4, ∑ x : Fin 1024, (if h : 1024 * i + x.val < 4096 then f ⟨1024 * i + x.val, h⟩ else 0) = ∑ l, f l := by
  refine (FeedForward.sum_tiles 4 1024 fun j => if h : j < 4096 then f ⟨j, h⟩ else 0).trans (Finset.sum_congr rfl fun l _ => ?_)
  exact dif_pos l.isLt

/-! ## Whole blocks -/

/-- Reading a whole block of 1024 by 1024 entries gives the block, and reading it where it was just written what was
    written. -/
theorem ld_square {e : EltTy} (X : Vec Ideal (⟨2, ![1024, 1024]⟩ : Shape) e) (inb) :
    View.ld X (Rect.unit ![0, 0] ![1024, 1024] inb) = X := View.ld_unit_zero (by decide) inb X
theorem readCov_square {sig : RefSig} (v : View sig .tc .vmem (⟨2, ![1024, 1024]⟩ : Shape) .f32)
    (w : Vec Ideal (⟨2, ![1024, 1024]⟩ : Shape) .f32) (inb) (inb') :
    v.readCov (Val := Elt Ideal) [⟨Rect.unit ![0, 0] ![1024, 1024] inb, w⟩] (Rect.unit ![0, 0] ![1024, 1024] inb').toLoadRect = w :=
  View.readCov_unit_zero v (by decide) inb w

end Cert.Products

end
-- ==== Proof.DwUp.lean ====
/-
  The gradient of the up-projection: the kernel multiplies the layer's input, transposed, with the hidden layer's
  gradient, one tile of 1024 tokens at a time, and writes a block of 1024 columns back after the last tile.
-/
module

public import proofs.«01_k».proof.Proof.Gen.Kernel3Ideal.Value
public import proofs.«01_k».proof.Proof.Products
public import Idealize.ShloMosaic.Lib.Pointwise
public import Idealize.ShloMosaic.Lib.Tactic
public import Idealize.ShloMosaic.Lib.StableHlo.ReadAt
public import Idealize.ShloMosaic.Lib.Pipeline.ValueKit

@[expose] public section

set_option maxRecDepth 16384

noncomputable section

namespace Cert.Products.Up

open Cert.Merge (Mat)
open Cert.Kernel3Ideal Cert.Kernel3Ideal.Gen Idealize.ShloMosaic Idealize.ShloMosaic.TcCoe Idealize.SL.Sem

variable (m : (ℓ : Loc nD τ sig) → Buf (Elt Ideal) ℓ)

/-! ## The arrays the program was given, and the blocks the body loads -/

/-- The layer's input and the hidden layer's gradient. -/
abbrev H (c : Dev nD) : Mat 4096 1024 := m (c.tc.loc main_arg0)
abbrev Da (c : Dev nD) : Mat 4096 4096 := m (c.tc.loc main_arg1)

theorem hz : (![0, 0] : Fin 2 → Nat) = fun _ => 0 := funext fun a => by fin_cases a <;> rfl
theorem lt16 (t : Fin cfg0.N) : t.val < 16 := lt_of_lt_of_eq t.isLt N_0
/-- The token of row `y` in the tile of point `t`, and the column of `x` in its block. -/
def token (t : Fin cfg0.N) (y : Fin 1024) : Fin 4096 := ⟨1024 * (t.val % 4) + y.val, by omega⟩
def column (t : Fin cfg0.N) (x : Fin 1024) : Fin 4096 := ⟨1024 * (t.val / 4) + x.val, by have := lt16 t; omega⟩

theorem V_v1 (c : Dev nD) (k : Fin 1024) (l : Fin 4096) :
    (V m c main_v1 : (⟨2, ![1024, 4096]⟩ : Shape).Idx → EReal) (ix2 k l) = H m c (ix2 l k) := by
  unfold V
  after_reads_at
theorem V_arg1 (c : Dev nD) : V m c main_arg1 = m (c.tc.loc main_arg1) := by
  unfold V
  after_reads_at

theorem idx0 : ∀ t : Fin cfg0.N, win0_0.index t 0 = 0 ∧ win0_0.index t 1 = t.val % 4 := by decide +kernel
theorem iblk0 (c : Dev nD) (t : Fin cfg0.N) (k y : Fin 1024) :
    (iblk m c 0 t : (⟨2, ![1024, 1024]⟩ : Shape).Idx → EReal) (ix2 k y) = H m c (ix2 (token t y) k) := by
  have hi := idx0 t
  rw [← V_v1]
  unfold iblk
  rw [View.read_apply]
  show V m c main_v1 _ = V m c main_v1 _
  congr 1
  funext a
  apply Fin.ext
  match a with
  | ⟨0, _⟩ => show win0_0.index t 0 * 1024 + 1 * k.val = k.val; rw [hi.1]; omega
  | ⟨1, _⟩ => show win0_0.index t 1 * 1024 + 1 * y.val = 1024 * (t.val % 4) + y.val; rw [hi.2]; omega

theorem idx1 : ∀ t : Fin cfg0.N, win0_1.index t 0 = t.val % 4 ∧ win0_1.index t 1 = t.val / 4 := by decide +kernel
theorem iblk1 (c : Dev nD) (t : Fin cfg0.N) (y x : Fin 1024) :
    (iblk m c 1 t : (⟨2, ![1024, 1024]⟩ : Shape).Idx → EReal) (ix2 y x) = Da m c (ix2 (token t y) (column t x)) := by
  have hi := idx1 t
  unfold iblk
  rw [View.read_apply]
  show V m c main_arg1 _ = m (c.tc.loc main_arg1) _
  rw [V_arg1]
  congr 1
  funext a
  apply Fin.ext
  match a with
  | ⟨0, _⟩ => show win0_1.index t 0 * 1024 + 1 * y.val = 1024 * (t.val % 4) + y.val; rw [hi.1]; omega
  | ⟨1, _⟩ => show win0_1.index t 1 * 1024 + 1 * x.val = 1024 * (t.val / 4) + x.val; rw [hi.2]; omega

/-! ## One point -/

/-- Reading the running sum gives what it was left at. -/
theorem carried (v : Vec Ideal S1024x1024 .f32) :
    (View.whole cc0_scratch0).read (Elt Ideal) ((Memref.isWhole_whole cc0_scratch0).unread v) = v :=
  (Memref.isWhole_whole cc0_scratch0).read_unread v

/-- What the tile of position `n` adds to the block at `(k, x)`. -/
def tile (c : Dev nD) (n : ℕ) (k : Fin 1024) (x : Fin 1024) : EReal :=
  if h : n < cfg0.N then ∑ y, H m c (ix2 (token ⟨n, h⟩ y) k) * Da m c (ix2 (token ⟨n, h⟩ y) (column ⟨n, h⟩ x)) else 0

theorem product (c : Dev nD) (t : Fin cfg0.N) (k x : Fin 1024) :
    k0_pay1 (F := Ideal) (iblk m c 0 t) (iblk m c 1 t) (ix2 k x) = tile m c t.val k x := by
  unfold tile
  rw [dif_pos t.isLt]
  pointwise [k0_pay1]
  simp only [iblk0, iblk1]

/-- The first tile of a block starts the sum. -/
theorem acc_A (c : Dev nD) (t : Fin cfg0.N) (h : t.val % 4 = 0) (k x : Fin 1024) :
    (outsAt0 m c t.val t.isLt).2 (ix2 k x) = tile m c t.val k x := by
  rw [outsAt0_A m c t h (by omega) (by omega)]
  dsimp only
  unfold sout0_A_0
  rw [View.read_writes_eq_canon _ _ _ (fun _ => scover0_A_0 ..)]
  unfold kernelRun0_A
  dsimp only
  sl_unfold_words
  rw [View.canon_unit_zero hz]
  simp only [View.readAt_eq_ld, Memref.IsWhole.read_unread, ld_square, readCov_square]
  rw [← product]
  pointwise [k0_pay2]

/-- The other tiles add to it. -/
theorem acc_B (c : Dev nD) (t : Fin cfg0.N) (h : t.val % 4 ≠ 0) (k x : Fin 1024) :
    (outsAt0 m c t.val t.isLt).2 (ix2 k x)
      = (outsAt0 m c (t.val - 1) (Nat.lt_of_le_of_lt (Nat.sub_le _ _) t.isLt)).2 (ix2 k x) + tile m c t.val k x := by
  by_cases h3 : t.val % 4 = 3
  · rw [outsAt0_C m c t h (by omega) h3]
    dsimp only
    unfold sout0_C_0
    rw [View.read_writes_eq_canon _ _ _ (fun _ => scover0_C_0 ..)]
    unfold kernelRun0_C
    dsimp only
    sl_unfold_words
    rw [View.canon_unit_zero hz]
    simp only [View.readAt_eq_ld, Memref.IsWhole.read_unread, ld_square, readCov_square]
    rw [← product]
    pointwise [k0_pay3]
    rw [carried]
  · rw [outsAt0_B m c t h (by omega) h3]
    dsimp only
    unfold sout0_B_0
    rw [View.read_writes_eq_canon _ _ _ (fun _ => scover0_B_0 ..)]
    unfold kernelRun0_B
    dsimp only
    sl_unfold_words
    rw [View.canon_unit_zero hz]
    simp only [View.readAt_eq_ld, Memref.IsWhole.read_unread, ld_square, readCov_square]
    rw [← product]
    pointwise [k0_pay3]
    rw [carried]

/-- The last tile's point writes the sum out. -/
theorem out_C (c : Dev nD) (t : Fin cfg0.N) (h : t.val % 4 = 3) (k x : Fin 1024) :
    (outsAt0 m c t.val t.isLt).1 (ix2 k x) = (outsAt0 m c t.val t.isLt).2 (ix2 k x) := by
  rw [acc_B m c t (by omega), outsAt0_C m c t (by omega) (by omega) h]
  dsimp only
  unfold out0_C_2
  rw [View.read_writes_eq_canon _ _ _ (fun _ => cover0_C_2 ..)]
  unfold kernelRun0_C
  dsimp only
  sl_unfold_words
  rw [View.canon_unit_zero hz]
  simp only [View.readAt_eq_ld, Memref.IsWhole.read_unread, ld_square, readCov_square]
  rw [← product]
  pointwise [k0_pay4, k0_pay3]
  rw [carried]

/-! ## The array -/

/-- The sum at a block's last point is the whole product. -/
theorem block_done (c : Dev nD) (t : Fin cfg0.N) (h : t.val % 4 = 3) (k x : Fin 1024) :
    (outsAt0 m c t.val t.isLt).2 (ix2 k x) = tn (H m c) (Da m c) (ix2 k (column t x)) := by
  refine (running_sum 4 cfg0.N (by omega) (fun n hn => (outsAt0 m c n hn).2 (ix2 k x)) (fun n => tile m c n k x)
    (fun n hn e => acc_A m c ⟨n, hn⟩ e k x) (fun n hn e => acc_B m c ⟨n + 1, hn⟩ e k x) t.val t.isLt).trans ?_
  rw [h]
  refine (Finset.sum_congr rfl fun i hi => ?_).trans (four_tiles fun l => H m c (ix2 l k) * Da m c (ix2 l (column t x)))
  have hi : i < 4 := Finset.mem_range.mp hi
  have ht := lt16 t
  have hN : cfg0.N = 16 := N_0
  unfold tile
  rw [dif_pos (by omega)]
  refine Finset.sum_congr rfl fun y _ => ?_
  rw [dif_pos (by omega)]
  have e1 : token ⟨4 * (t.val / 4) + i, by omega⟩ y = (⟨1024 * i + y.val, by omega⟩ : Fin 4096) :=
    Fin.ext (by show 1024 * ((4 * (t.val / 4) + i) % 4) + y.val = 1024 * i + y.val; omega)
  have e2 : column ⟨4 * (t.val / 4) + i, by omega⟩ x = column t x :=
    Fin.ext (by show 1024 * ((4 * (t.val / 4) + i) / 4) + x.val = 1024 * (t.val / 4) + x.val; omega)
  rw [e1, e2]

theorem idx2 : ∀ t : Fin cfg0.N, win0_2.index t 0 = 0 ∧ win0_2.index t 1 = t.val / 4 := by decide +kernel
theorem emb2 (t : Fin cfg0.N) (k x : Fin 1024) :
    (((cfg0.win 2).blk t).view.emb (ix2 k x) : S1024x4096.Idx) = ix2 k (column t x) := by
  have hi := idx2 t
  funext a
  apply Fin.ext
  match a with
  | ⟨0, _⟩ => show win0_2.index t 0 * 1024 + 1 * k.val = k.val; rw [hi.1]; omega
  | ⟨1, _⟩ => show win0_2.index t 1 * 1024 + 1 * x.val = 1024 * (t.val / 4) + x.val; rw [hi.2]; omega

/-- The result array after the run. -/
theorem final (c : Dev nD) : (dats m 0 c).arrAt 2 cfg0.N = (tn (H m c) (Da m c) : Vec Ideal S1024x4096 .bf16) :=
  (dats m 0 c).arrAt_eq_of_covers 2 (tn (H m c) (Da m c) : Vec Ideal S1024x4096 .bf16) (by decide +kernel) fun t hf y => by
    obtain ⟨k, x, rfl⟩ : ∃ (k : Fin 1024) (x : Fin 1024), y = ix2 k x := ⟨y 0, y 1, eq_ix2 y⟩
    rw [emb2]
    show (dats m 0 c).after 2 t (ix2 k x) = _
    have h : t.val % 4 = 3 := (flush0_2 t).mp hf
    rw [after0_2, out_C m c t h, block_done m c t h]

end Cert.Products.Up

end
-- ==== Proof.DwUpClaim.lean ====
/-
  The claims about the up-projection's gradient: the kernel's result array and the reference's hold the same numbers.
-/
module

public import proofs.«01_k».proof.Defs
public import proofs.«01_k».proof.Proof.DwUp
public import proofs.«01_k».proof.Proof.Gen.Kernel3.Frame
public import proofs.«01_k».proof.Proof.Gen.Reference3Ideal.Run
public import proofs.«01_k».proof.Proof.Gen.Reference3Ideal.Read
public import Idealize.ShloMosaic.Lib.Quiescent

@[expose] public section

set_option maxRecDepth 16384

noncomputable section

namespace Cert.Proof.DwUp

open Idealize.ShloMosaic Idealize.ShloMosaic.TcCoe Idealize.SL.Sem
open Cert.Merge (Mat)
open Cert.Products Cert.Products.Up Cert.Reference3Ideal.Read

/-- What the reference computes. -/
theorem reference (h : Mat 4096 1024) (da : Mat 4096 4096) (k : Fin 1024) (f : Fin 4096) :
    val_main_v4 (F := Ideal) h da (ix2 k f) = tn h da (ix2 k f) := by
  pointwise [val_main_v4, val_main_v3, val_main_v2]
  exact Finset.sum_congr rfl fun l _ => mul_comm _ _

/-- The kernel, at bit patterns, runs to the end and leaves its arguments alone. -/
theorem frame_kernel : Cert.quiescent_Kernel3 := fun m ρ _ => Cert.Kernel3.Gen.frame m ρ
/-- So does its idealization, at extended reals. -/
theorem frame_ideal : Cert.quiescent_Kernel3Ideal := fun m ρ _ => Cert.Kernel3Ideal.Gen.frame m ρ
/-- And the reference. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
/-- The idealization rewrote nothing. -/
theorem preserves : Cert.preserves_Kernel3_Kernel3Ideal := trivial

/-- Started from equal arguments, kernel and reference end with the same gradient. -/
theorem algebraic : Cert.algebraic_Kernel3Ideal_Reference3Ideal := by
  intro m ρ m' ρ' _ hagree
  refine ⟨fun c => tn (H m c) (Da m c), ?_, ?_⟩
  · refine (θ_run Cert.Kernel3Ideal.defs _ _).mono (fun _ h c => ?_) (Cert.Kernel3Ideal.Value.run_blocks (F := Ideal) m ρ)
    exact ⟨(h c).1.trans (final m c), (h c).2⟩
  · refine (θ_run Cert.Reference3Ideal.defs _ _).mono (fun _ h c => ?_) (Cert.Reference3Ideal.Value.run (F := Ideal) m' ρ')
    refine ⟨(h c).1.trans ?_, (h c).2⟩
    obtain ⟨a0, a1⟩ := hagree c
    refine (val_main_v4_eq (F := Ideal) ..).trans ?_
    rw [a0, a1]
    exact funext fun y => (congrArg _ (eq_ix2 y)).trans (reference ..)

end Cert.Proof.DwUp

end
-- ==== Proof.DwDown.lean ====
/-
  The gradient of the down-projection: the kernel multiplies the hidden layer, transposed, with the gradient of the
  feed-forward's result, one tile of 1024 tokens at a time, and writes a block of 1024 rows back after the last tile.
-/
module

public import proofs.«01_k».proof.Proof.Gen.Kernel4Ideal.Value
public import proofs.«01_k».proof.Proof.Products
public import Idealize.ShloMosaic.Lib.Pointwise
public import Idealize.ShloMosaic.Lib.Tactic
public import Idealize.ShloMosaic.Lib.StableHlo.ReadAt
public import Idealize.ShloMosaic.Lib.Pipeline.ValueKit

@[expose] public section

set_option maxRecDepth 16384

noncomputable section

namespace Cert.Products.Down

open Cert.Merge (Mat)
open Cert.Kernel4Ideal Cert.Kernel4Ideal.Gen Idealize.ShloMosaic Idealize.ShloMosaic.TcCoe Idealize.SL.Sem

variable (m : (ℓ : Loc nD τ sig) → Buf (Elt Ideal) ℓ)

/-! ## The arrays the program was given, and the blocks the body loads -/

/-- The hidden layer and the gradient of the result. -/
abbrev R (c : Dev nD) : Mat 4096 4096 := m (c.tc.loc main_arg0)
abbrev Du (c : Dev nD) : Mat 4096 1024 := m (c.tc.loc main_arg1)

theorem hz : (![0, 0] : Fin 2 → Nat) = fun _ => 0 := funext fun a => by fin_cases a <;> rfl
theorem lt16 (t : Fin cfg0.N) : t.val < 16 := lt_of_lt_of_eq t.isLt N_0
/-- The token of row `y` in the tile of point `t`, and the feature of `k` in its block. -/
def token (t : Fin cfg0.N) (y : Fin 1024) : Fin 4096 := ⟨1024 * (t.val % 4) + y.val, by omega⟩
def feature (t : Fin cfg0.N) (k : Fin 1024) : Fin 4096 := ⟨1024 * (t.val / 4) + k.val, by have := lt16 t; omega⟩

theorem V_v1 (c : Dev nD) (k : Fin 4096) (l : Fin 4096) :
    (V m c main_v1 : (⟨2, ![4096, 4096]⟩ : Shape).Idx → EReal) (ix2 k l) = R m c (ix2 l k) := by
  unfold V
  after_reads_at
theorem V_arg1 (c : Dev nD) : V m c main_arg1 = m (c.tc.loc main_arg1) := by
  unfold V
  after_reads_at

theorem idx0 : ∀ t : Fin cfg0.N, win0_0.index t 0 = t.val / 4 ∧ win0_0.index t 1 = t.val % 4 := by decide +kernel
theorem iblk0 (c : Dev nD) (t : Fin cfg0.N) (k y : Fin 1024) :
    (iblk m c 0 t : (⟨2, ![1024, 1024]⟩ : Shape).Idx → EReal) (ix2 k y) = R m c (ix2 (token t y) (feature t k)) := by
  have hi := idx0 t
  rw [← V_v1]
  unfold iblk
  rw [View.read_apply]
  show V m c main_v1 _ = V m c main_v1 _
  congr 1
  funext a
  apply Fin.ext
  match a with
  | ⟨0, _⟩ => show win0_0.index t 0 * 1024 + 1 * k.val = 1024 * (t.val / 4) + k.val; rw [hi.1]; omega
  | ⟨1, _⟩ => show win0_0.index t 1 * 1024 + 1 * y.val = 1024 * (t.val % 4) + y.val; rw [hi.2]; omega

theorem idx1 : ∀ t : Fin cfg0.N, win0_1.index t 0 = t.val % 4 ∧ win0_1.index t 1 = 0 := by decide +kernel
theorem iblk1 (c : Dev nD) (t : Fin cfg0.N) (y x : Fin 1024) :
    (iblk m c 1 t : (⟨2, ![1024, 1024]⟩ : Shape).Idx → EReal) (ix2 y x) = Du m c (ix2 (token t y) x) := by
  have hi := idx1 t
  unfold iblk
  rw [View.read_apply]
  show V m c main_arg1 _ = m (c.tc.loc main_arg1) _
  rw [V_arg1]
  congr 1
  funext a
  apply Fin.ext
  match a with
  | ⟨0, _⟩ => show win0_1.index t 0 * 1024 + 1 * y.val = 1024 * (t.val % 4) + y.val; rw [hi.1]; omega
  | ⟨1, _⟩ => show win0_1.index t 1 * 1024 + 1 * x.val = x.val; rw [hi.2]; omega

/-! ## One point -/

/-- Reading the running sum gives what it was left at. -/
theorem carried (v : Vec Ideal S1024x1024 .f32) :
    (View.whole cc0_scratch0).read (Elt Ideal) ((Memref.isWhole_whole cc0_scratch0).unread v) = v :=
  (Memref.isWhole_whole cc0_scratch0).read_unread v

/-- What the tile of position `n` adds to the block at `(k, x)`. -/
def tile (c : Dev nD) (n : ℕ) (k : Fin 1024) (x : Fin 1024) : EReal :=
  if h : n < cfg0.N then ∑ y, R m c (ix2 (token ⟨n, h⟩ y) (feature ⟨n, h⟩ k)) * Du m c (ix2 (token ⟨n, h⟩ y) x) else 0

theorem product (c : Dev nD) (t : Fin cfg0.N) (k x : Fin 1024) :
    k0_pay1 (F := Ideal) (iblk m c 0 t) (iblk m c 1 t) (ix2 k x) = tile m c t.val k x := by
  unfold tile
  rw [dif_pos t.isLt]
  pointwise [k0_pay1]
  simp only [iblk0, iblk1]

/-- The first tile of a block starts the sum. -/
theorem acc_A (c : Dev nD) (t : Fin cfg0.N) (h : t.val % 4 = 0) (k x : Fin 1024) :
    (outsAt0 m c t.val t.isLt).2 (ix2 k x) = tile m c t.val k x := by
  rw [outsAt0_A m c t h (by omega) (by omega)]
  dsimp only
  unfold sout0_A_0
  rw [View.read_writes_eq_canon _ _ _ (fun _ => scover0_A_0 ..)]
  unfold kernelRun0_A
  dsimp only
  sl_unfold_words
  rw [View.canon_unit_zero hz]
  simp only [View.readAt_eq_ld, Memref.IsWhole.read_unread, ld_square, readCov_square]
  rw [← product]
  pointwise [k0_pay2]

/-- The other tiles add to it. -/
theorem acc_B (c : Dev nD) (t : Fin cfg0.N) (h : t.val % 4 ≠ 0) (k x : Fin 1024) :
    (outsAt0 m c t.val t.isLt).2 (ix2 k x)
      = (outsAt0 m c (t.val - 1) (Nat.lt_of_le_of_lt (Nat.sub_le _ _) t.isLt)).2 (ix2 k x) + tile m c t.val k x := by
  by_cases h3 : t.val % 4 = 3
  · rw [outsAt0_C m c t h (by omega) h3]
    dsimp only
    unfold sout0_C_0
    rw [View.read_writes_eq_canon _ _ _ (fun _ => scover0_C_0 ..)]
    unfold kernelRun0_C
    dsimp only
    sl_unfold_words
    rw [View.canon_unit_zero hz]
    simp only [View.readAt_eq_ld, Memref.IsWhole.read_unread, ld_square, readCov_square]
    rw [← product]
    pointwise [k0_pay3]
    rw [carried]
  · rw [outsAt0_B m c t h (by omega) h3]
    dsimp only
    unfold sout0_B_0
    rw [View.read_writes_eq_canon _ _ _ (fun _ => scover0_B_0 ..)]
    unfold kernelRun0_B
    dsimp only
    sl_unfold_words
    rw [View.canon_unit_zero hz]
    simp only [View.readAt_eq_ld, Memref.IsWhole.read_unread, ld_square, readCov_square]
    rw [← product]
    pointwise [k0_pay3]
    rw [carried]

/-- The last tile's point writes the sum out. -/
theorem out_C (c : Dev nD) (t : Fin cfg0.N) (h : t.val % 4 = 3) (k x : Fin 1024) :
    (outsAt0 m c t.val t.isLt).1 (ix2 k x) = (outsAt0 m c t.val t.isLt).2 (ix2 k x) := by
  rw [acc_B m c t (by omega), outsAt0_C m c t (by omega) (by omega) h]
  dsimp only
  unfold out0_C_2
  rw [View.read_writes_eq_canon _ _ _ (fun _ => cover0_C_2 ..)]
  unfold kernelRun0_C
  dsimp only
  sl_unfold_words
  rw [View.canon_unit_zero hz]
  simp only [View.readAt_eq_ld, Memref.IsWhole.read_unread, ld_square, readCov_square]
  rw [← product]
  pointwise [k0_pay4, k0_pay3]
  rw [carried]

/-! ## The array -/

/-- The sum at a block's last point is the whole product. -/
theorem block_done (c : Dev nD) (t : Fin cfg0.N) (h : t.val % 4 = 3) (k x : Fin 1024) :
    (outsAt0 m c t.val t.isLt).2 (ix2 k x) = tn (R m c) (Du m c) (ix2 (feature t k) x) := by
  refine (running_sum 4 cfg0.N (by omega) (fun n hn => (outsAt0 m c n hn).2 (ix2 k x)) (fun n => tile m c n k x)
    (fun n hn e => acc_A m c ⟨n, hn⟩ e k x) (fun n hn e => acc_B m c ⟨n + 1, hn⟩ e k x) t.val t.isLt).trans ?_
  rw [h]
  refine (Finset.sum_congr rfl fun i hi => ?_).trans (four_tiles fun l => R m c (ix2 l (feature t k)) * Du m c (ix2 l x))
  have hi : i < 4 := Finset.mem_range.mp hi
  have ht := lt16 t
  have hN : cfg0.N = 16 := N_0
  unfold tile
  rw [dif_pos (by omega)]
  refine Finset.sum_congr rfl fun y _ => ?_
  rw [dif_pos (by omega)]
  have e1 : token ⟨4 * (t.val / 4) + i, by omega⟩ y = (⟨1024 * i + y.val, by omega⟩ : Fin 4096) :=
    Fin.ext (by show 1024 * ((4 * (t.val / 4) + i) % 4) + y.val = 1024 * i + y.val; omega)
  have e2 : feature ⟨4 * (t.val / 4) + i, by omega⟩ k = feature t k :=
    Fin.ext (by show 1024 * ((4 * (t.val / 4) + i) / 4) + k.val = 1024 * (t.val / 4) + k.val; omega)
  rw [e1, e2]

theorem idx2 : ∀ t : Fin cfg0.N, win0_2.index t 0 = t.val / 4 ∧ win0_2.index t 1 = 0 := by decide +kernel
theorem emb2 (t : Fin cfg0.N) (k x : Fin 1024) :
    (((cfg0.win 2).blk t).view.emb (ix2 k x) : S4096x1024.Idx) = ix2 (feature t k) x := by
  have hi := idx2 t
  funext a
  apply Fin.ext
  match a with
  | ⟨0, _⟩ => show win0_2.index t 0 * 1024 + 1 * k.val = 1024 * (t.val / 4) + k.val; rw [hi.1]; omega
  | ⟨1, _⟩ => show win0_2.index t 1 * 1024 + 1 * x.val = x.val; rw [hi.2]; omega

/-- The result array after the run. -/
theorem final (c : Dev nD) : (dats m 0 c).arrAt 2 cfg0.N = (tn (R m c) (Du m c) : Vec Ideal S4096x1024 .bf16) :=
  (dats m 0 c).arrAt_eq_of_covers 2 (tn (R m c) (Du m c) : Vec Ideal S4096x1024 .bf16) (by decide +kernel) fun t hf y => by
    obtain ⟨k, x, rfl⟩ : ∃ (k : Fin 1024) (x : Fin 1024), y = ix2 k x := ⟨y 0, y 1, eq_ix2 y⟩
    rw [emb2]
    show (dats m 0 c).after 2 t (ix2 k x) = _
    have h : t.val % 4 = 3 := (flush0_2 t).mp hf
    rw [after0_2, out_C m c t h, block_done m c t h]

end Cert.Products.Down

end
-- ==== Proof.DwDownClaim.lean ====
/-
  The claims about the down-projection's gradient: the kernel's result array and the reference's hold the same numbers.
-/
module

public import proofs.«01_k».proof.Defs
public import proofs.«01_k».proof.Proof.DwDown
public import proofs.«01_k».proof.Proof.Gen.Kernel4.Frame
public import proofs.«01_k».proof.Proof.Gen.Reference4Ideal.Run
public import proofs.«01_k».proof.Proof.Gen.Reference4Ideal.Read
public import Idealize.ShloMosaic.Lib.Quiescent

@[expose] public section

set_option maxRecDepth 16384

noncomputable section

namespace Cert.Proof.DwDown

open Idealize.ShloMosaic Idealize.ShloMosaic.TcCoe Idealize.SL.Sem
open Cert.Merge (Mat)
open Cert.Products Cert.Products.Down Cert.Reference4Ideal.Read

/-- What the reference computes. -/
theorem reference (r : Mat 4096 4096) (du : Mat 4096 1024) (f : Fin 4096) (k : Fin 1024) :
    val_main_v4 (F := Ideal) r du (ix2 f k) = tn r du (ix2 f k) := by
  pointwise [val_main_v4, val_main_v3, val_main_v2]
  exact Finset.sum_congr rfl fun l _ => mul_comm _ _

/-- The kernel, at bit patterns, runs to the end and leaves its arguments alone. -/
theorem frame_kernel : Cert.quiescent_Kernel4 := fun m ρ _ => Cert.Kernel4.Gen.frame m ρ
/-- So does its idealization, at extended reals. -/
theorem frame_ideal : Cert.quiescent_Kernel4Ideal := fun m ρ _ => Cert.Kernel4Ideal.Gen.frame m ρ
/-- And the reference. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)
/-- The idealization rewrote nothing. -/
theorem preserves : Cert.preserves_Kernel4_Kernel4Ideal := trivial

/-- Started from equal arguments, kernel and reference end with the same gradient. -/
theorem algebraic : Cert.algebraic_Kernel4Ideal_Reference4Ideal := by
  intro m ρ m' ρ' _ hagree
  refine ⟨fun c => tn (R m c) (Du m c), ?_, ?_⟩
  · refine (θ_run Cert.Kernel4Ideal.defs _ _).mono (fun _ h c => ?_) (Cert.Kernel4Ideal.Value.run_blocks (F := Ideal) m ρ)
    exact ⟨(h c).1.trans (final m c), (h c).2⟩
  · refine (θ_run Cert.Reference4Ideal.defs _ _).mono (fun _ h c => ?_) (Cert.Reference4Ideal.Value.run (F := Ideal) m' ρ')
    refine ⟨(h c).1.trans ?_, (h c).2⟩
    obtain ⟨a0, a1⟩ := hagree c
    refine (val_main_v4_eq (F := Ideal) ..).trans ?_
    rw [a0, a1]
    exact funext fun y => (congrArg _ (eq_ix2 y)).trans (reference ..)

end Cert.Proof.DwDown

end
-- ==== Proof.OutBack.lean ====
/-
  The backward pass of the output projection with its residual and layer norm: what the kernel leaves in its arrays.

  The forward computation adds `α h` to the merged rows times the matrix `w`, and normalises each row of the sum. Each of
  the eight grid points takes 512 rows: it finds the gradient at the sum, multiplies it with the matrix, transposed, and
  adds the block's part to the gradients of gain and shift.
-/
module

public import proofs.«01_k».proof.Proof.Gen.Kernel5Ideal.Value
public import proofs.«01_k».proof.Proof.FfBlock
public import proofs.«01_k».proof.Proof.Products
public import Idealize.ShloMosaic.Lib.Pointwise
public import Idealize.ShloMosaic.Lib.Tactic
public import Idealize.ShloMosaic.Lib.StableHlo.ReadAt
public import Idealize.ShloMosaic.Lib.Pipeline.ValueKit

@[expose] public section

set_option maxRecDepth 16384

noncomputable section

namespace Cert.OutBack

open Cert.Merge (Mat Stack)
open Cert.FeedForward (Row centred scale normBack rowOf alpha blockRow line)

/-! ## The results -/

section
variable (x h : Mat 4096 1024) (w : Mat 1024 1024) (g : Row) (dy : Mat 4096 1024)

/-- The rows the layer norm takes. -/
def preNorm (l : Fin 4096) : Row := fun q => alpha * h (Idealize.ShloMosaic.ix2 l q) + ∑ k, x (Idealize.ShloMosaic.ix2 l k) * w (Idealize.ShloMosaic.ix2 k q)
/-- The gradient at those rows. -/
def dSum (l : Fin 4096) : Row := normBack (preNorm x h w l) g (rowOf dy l)

/-- The four results: the gradients of the sum, of the merged rows, of the gain and of the shift. -/
def resSum : Mat 4096 1024 := fun y => dSum x h w g dy (y 0) (y 1)
def resMerged : Mat 4096 1024 := fun y => ∑ q, dSum x h w g dy (y 0) q * w (Idealize.ShloMosaic.ix2 (y 1) q)
def gainPart (l : Fin 4096) : Row := fun q => centred (preNorm x h w l) q * scale (preNorm x h w l) * dy (Idealize.ShloMosaic.ix2 l q)
def resGain : Mat 1 1024 := fun y => ∑ l, gainPart x h w dy l (y 1)
def resShift : Mat 1 1024 := fun y => ∑ l, dy (Idealize.ShloMosaic.ix2 l (y 1))
end

open Cert.Kernel5Ideal Cert.Kernel5Ideal.Gen Idealize.ShloMosaic Idealize.ShloMosaic.TcCoe Idealize.SL.Sem

variable (m : (ℓ : Loc nD τ sig) → Buf (Elt Ideal) ℓ)

/-! ## The arrays the program was given, and the blocks the body loads -/

/-- The merged rows, the residual's rows, the gain, the matrix and the gradient at the normalised rows. -/
abbrev X (c : Dev nD) : Mat 4096 1024 := m (c.tc.loc main_arg0)
abbrev H (c : Dev nD) : Mat 4096 1024 := m (c.tc.loc main_arg1)
abbrev Gain (c : Dev nD) : Row := fun k => (m (c.tc.loc main_arg2) : (⟨1, ![1024]⟩ : Shape).Idx → EReal) (ix1 k)
abbrev W (c : Dev nD) : Mat 1024 1024 := m (c.tc.loc main_arg4)
abbrev Dy (c : Dev nD) : Mat 4096 1024 := m (c.tc.loc main_arg5)

theorem hz : (![0, 0] : Fin 2 → Nat) = fun _ => 0 := funext fun a => by fin_cases a <;> rfl
theorem hz3 : (![0, 0, 0] : Fin 3 → Nat) = fun _ => 0 := funext fun a => by fin_cases a <;> rfl
theorem lt8 (t : Fin cfg0.N) : t.val < 8 := lt_of_lt_of_eq t.isLt N_0
/-- The token of row `r` in the block of point `t`. -/
def token (t : Fin cfg0.N) (r : Fin 512) : Fin 4096 := ⟨512 * t.val + r.val, by have := lt8 t; omega⟩

theorem V_sum (c : Dev nD) (l : Fin 4096) (q : Fin 1024) :
    (V m c main_v3 : Mat 4096 1024) (ix2 l q) = preNorm (X m c) (H m c) (W m c) l q := by
  unfold V
  after_reads_at
  rfl
theorem V_gain (c : Dev nD) (q : Fin 1024) : (V m c main_v4 : Mat 1 1024) (ix2 0 q) = Gain m c q := by
  unfold V
  after_reads_at
theorem V_w (c : Dev nD) (k q : Fin 1024) : (V m c main_v7 : Stack 1 1024 1024) (ix3 0 k q) = W m c (ix2 k q) := by
  unfold V
  after_reads_at
theorem V_dy (c : Dev nD) : V m c main_arg5 = m (c.tc.loc main_arg5) := by
  unfold V
  after_reads_at

theorem idx0 : ∀ t : Fin cfg0.N, win0_0.index t 0 = t.val ∧ win0_0.index t 1 = 0 := by decide +kernel
theorem iblk0 (c : Dev nD) (t : Fin cfg0.N) (r : Fin 512) (q : Fin 1024) :
    (iblk m c 0 t : (⟨2, ![512, 1024]⟩ : Shape).Idx → EReal) (ix2 r q) = preNorm (X m c) (H m c) (W m c) (token t r) q := by
  have hi := idx0 t
  rw [← V_sum]
  unfold iblk
  rw [View.read_apply]
  show V m c main_v3 _ = V m c main_v3 _
  congr 1
  funext a
  apply Fin.ext
  match a with
  | ⟨0, _⟩ => show win0_0.index t 0 * 512 + 1 * r.val = 512 * t.val + r.val; rw [hi.1]; omega
  | ⟨1, _⟩ => show win0_0.index t 1 * 1024 + 1 * q.val = q.val; rw [hi.2]; omega

theorem idx1 : ∀ t : Fin cfg0.N, win0_1.index t 0 = t.val ∧ win0_1.index t 1 = 0 := by decide +kernel
theorem iblk1 (c : Dev nD) (t : Fin cfg0.N) (r : Fin 512) (q : Fin 1024) :
    (iblk m c 1 t : (⟨2, ![512, 1024]⟩ : Shape).Idx → EReal) (ix2 r q) = Dy m c (ix2 (token t r) q) := by
  have hi := idx1 t
  unfold iblk
  rw [View.read_apply]
  show V m c main_arg5 _ = m (c.tc.loc main_arg5) _
  rw [V_dy]
  congr 1
  funext a
  apply Fin.ext
  match a with
  | ⟨0, _⟩ => show win0_1.index t 0 * 512 + 1 * r.val = 512 * t.val + r.val; rw [hi.1]; omega
  | ⟨1, _⟩ => show win0_1.index t 1 * 1024 + 1 * q.val = q.val; rw [hi.2]; omega

theorem idx2 : ∀ t : Fin cfg0.N, win0_2.index t 0 = 0 ∧ win0_2.index t 1 = 0 := by decide +kernel
theorem iblk2 (c : Dev nD) (t : Fin cfg0.N) (q : Fin 1024) :
    (iblk m c 2 t : (⟨2, ![1, 1024]⟩ : Shape).Idx → EReal) (ix2 0 q) = Gain m c q := by
  have hi := idx2 t
  rw [← V_gain]
  unfold iblk
  rw [View.read_apply]
  show V m c main_v4 _ = V m c main_v4 _
  congr 1
  funext a
  apply Fin.ext
  match a with
  | ⟨0, _⟩ => show win0_2.index t 0 * 1 + 1 * 0 = 0; rw [hi.1]
  | ⟨1, _⟩ => show win0_2.index t 1 * 1024 + 1 * q.val = q.val; rw [hi.2]; omega

theorem idx4 : ∀ t : Fin cfg0.N, win0_4.index t 0 = 0 ∧ win0_4.index t 1 = 0 ∧ win0_4.index t 2 = 0 := by decide +kernel
theorem iblk4 (c : Dev nD) (t : Fin cfg0.N) (k q : Fin 1024) :
    (iblk m c 4 t : (⟨3, ![1, 1024, 1024]⟩ : Shape).Idx → EReal) (ix3 0 k q) = W m c (ix2 k q) := by
  have hi := idx4 t
  rw [← V_w]
  unfold iblk
  rw [View.read_apply]
  show V m c main_v7 _ = V m c main_v7 _
  congr 1
  funext a
  apply Fin.ext
  match a with
  | ⟨0, _⟩ => show win0_4.index t 0 * 1 + 1 * 0 = 0; rw [hi.1]
  | ⟨1, _⟩ => show win0_4.index t 1 * 1024 + 1 * k.val = k.val; rw [hi.2.1]; omega
  | ⟨2, _⟩ => show win0_4.index t 2 * 1024 + 1 * q.val = q.val; rw [hi.2.2]; omega

theorem row0 (c : Dev nD) (t : Fin cfg0.N) (r : Fin 512) : blockRow (iblk m c 0 t) r = preNorm (X m c) (H m c) (W m c) (token t r) :=
  funext fun q => iblk0 m c t r q
theorem row1 (c : Dev nD) (t : Fin cfg0.N) (r : Fin 512) : blockRow (iblk m c 1 t) r = rowOf (Dy m c) (token t r) :=
  funext fun q => iblk1 m c t r q
theorem line2 (c : Dev nD) (t : Fin cfg0.N) : line (iblk m c 2 t) = Gain m c := funext fun q => iblk2 m c t q

/-! ## One point

The layer norm's part of the body has the text it has in the feed-forward layer's kernel, so that kernel's lemmas say what
it computes. -/

section
variable (u dy : FeedForward.Rows Ideal) (g : FeedForward.Line Ideal)

/-- The gradient at the rows of a block. -/
def grad : FeedForward.Rows Ideal := k0_pay1 (k0_pay5 u) (k0_pay12 u g dy) (k0_pay13 u g dy)

theorem grad_at (r : Fin 512) (q : Fin 1024) : grad u dy g (ix2 r q) = normBack (blockRow u r) (line g) (blockRow dy r) q :=
  FeedForward.normGrad_block u dy g r q
theorem gain_at (z : Fin 1) (q : Fin 1024) :
    k0_pay10 (F := Ideal) u dy (ix2 z q) = ∑ r, centred (blockRow u r) q * scale (blockRow u r) * dy (ix2 r q) :=
  FeedForward.gain_block u dy q z
theorem shift_at (z : Fin 1) (q : Fin 1024) : k0_pay9 (F := Ideal) dy (ix2 z q) = ∑ r, dy (ix2 r q) :=
  FeedForward.shift_block dy q z
theorem merged_at (w : FeedForward.Tile Ideal) (r : Fin 512) (k : Fin 1024) :
    k0_pay2 (F := Ideal) (k0_pay5 u) (k0_pay12 u g dy) (k0_pay13 u g dy) w (ix2 r k) = ∑ q, grad u dy g (ix2 r q) * w (ix3 0 k q) := by
  pointwise [k0_pay2]
  rfl
theorem add_gain (v w : FeedForward.Line Ideal) (z : Fin 1) (q : Fin 1024) :
    k0_pay3 (F := Ideal) v w (ix2 z q) = w (ix2 z q) + v (ix2 z q) := by
  pointwise [k0_pay3]
theorem add_shift (v w : FeedForward.Line Ideal) (z : Fin 1) (q : Fin 1024) :
    k0_pay4 (F := Ideal) v w (ix2 z q) = w (ix2 z q) + v (ix2 z q) := by
  pointwise [k0_pay4]
end

/-! Reading a whole block gives the block. -/

theorem ld_rows {e : EltTy} (v : Vec Ideal (⟨2, ![512, 1024]⟩ : Shape) e) (inb) :
    View.ld v (Rect.unit ![0, 0] ![512, 1024] inb) = v := View.ld_unit_zero (by decide) inb v
theorem ld_line {e : EltTy} (v : Vec Ideal (⟨2, ![1, 1024]⟩ : Shape) e) (inb) :
    View.ld v (Rect.unit ![0, 0] ![1, 1024] inb) = v := View.ld_unit_zero (by decide) inb v
theorem ld_slab {e : EltTy} (v : Vec Ideal (⟨3, ![1, 1024, 1024]⟩ : Shape) e) (inb) :
    View.ld v (Rect.unit ![0, 0, 0] ![1, 1024, 1024] inb) = v := View.ld_unit_zero (by decide) inb v

/-- What the block of position `n` adds to the gradients of gain and shift. -/
def gainTile (c : Dev nD) (n : ℕ) (q : Fin 1024) : EReal :=
  if h : n < cfg0.N then ∑ r, gainPart (X m c) (H m c) (W m c) (Dy m c) (token ⟨n, h⟩ r) q else 0
def shiftTile (c : Dev nD) (n : ℕ) (q : Fin 1024) : EReal :=
  if h : n < cfg0.N then ∑ r, Dy m c (ix2 (token ⟨n, h⟩ r) q) else 0

theorem sum_point (c : Dev nD) (t : Fin cfg0.N) : (outsAt0 m c t.val t.isLt).1 = grad (iblk m c 0 t) (iblk m c 1 t) (iblk m c 2 t) := by
  by_cases h : t.val = 0
  · rw [outsAt0_A m c t (by omega) (by omega) (by omega) (by omega)]
    dsimp only
    unfold out0_A_5
    rw [View.read_writes_eq_canon _ _ _ (fun _ => cover0_A_5 ..)]
    unfold kernelRun0_A
    dsimp only
    sl_unfold_words
    rw [View.canon_unit_zero hz]
    simp only [View.readAt_eq_ld, Memref.IsWhole.read_unread, ld_rows, ld_line]
    rfl
  · have := lt8 t
    rw [outsAt0_B m c t (by omega) (by omega) (by omega) (by omega)]
    dsimp only
    unfold out0_B_5
    rw [View.read_writes_eq_canon _ _ _ (fun _ => cover0_B_5 ..)]
    unfold kernelRun0_B
    dsimp only
    sl_unfold_words
    rw [View.canon_unit_zero hz]
    simp only [View.readAt_eq_ld, Memref.IsWhole.read_unread, ld_rows, ld_line]
    rfl

theorem merged_point (c : Dev nD) (t : Fin cfg0.N) :
    (outsAt0 m c t.val t.isLt).2.1 = k0_pay2 (F := Ideal) (k0_pay5 (iblk m c 0 t)) (k0_pay12 (iblk m c 0 t) (iblk m c 2 t) (iblk m c 1 t))
      (k0_pay13 (iblk m c 0 t) (iblk m c 2 t) (iblk m c 1 t)) (iblk m c 4 t) := by
  by_cases h : t.val = 0
  · rw [outsAt0_A m c t (by omega) (by omega) (by omega) (by omega)]
    dsimp only
    unfold out0_A_6
    rw [View.read_writes_eq_canon _ _ _ (fun _ => cover0_A_6 ..)]
    unfold kernelRun0_A
    dsimp only
    sl_unfold_words
    rw [View.canon_unit_zero hz]
    simp only [View.readAt_eq_ld, Memref.IsWhole.read_unread, ld_rows, ld_line, ld_slab]
  · have := lt8 t
    rw [outsAt0_B m c t (by omega) (by omega) (by omega) (by omega)]
    dsimp only
    unfold out0_B_6
    rw [View.read_writes_eq_canon _ _ _ (fun _ => cover0_B_6 ..)]
    unfold kernelRun0_B
    dsimp only
    sl_unfold_words
    rw [View.canon_unit_zero hz]
    simp only [View.readAt_eq_ld, Memref.IsWhole.read_unread, ld_rows, ld_line, ld_slab]

/-- The first block starts the sums of gain and shift, and the others add to them. -/
theorem gain_first (c : Dev nD) (t : Fin cfg0.N) (h : t.val = 0) :
    (outsAt0 m c t.val t.isLt).2.2.1 = k0_pay10 (F := Ideal) (iblk m c 0 t) (iblk m c 1 t) := by
  rw [outsAt0_A m c t (by omega) (by omega) (by omega) (by omega)]
  dsimp only
  unfold out0_A_7
  rw [View.read_writes_eq_canon _ _ _ (fun _ => cover0_A_7 ..)]
  unfold kernelRun0_A
  dsimp only
  sl_unfold_words
  rw [View.canon_unit_zero hz]
  simp only [View.readAt_eq_ld, Memref.IsWhole.read_unread, ld_rows, ld_line, ld_slab]

theorem shift_first (c : Dev nD) (t : Fin cfg0.N) (h : t.val = 0) :
    (outsAt0 m c t.val t.isLt).2.2.2 = k0_pay9 (F := Ideal) (iblk m c 1 t) := by
  rw [outsAt0_A m c t (by omega) (by omega) (by omega) (by omega)]
  dsimp only
  unfold out0_A_8
  rw [View.read_writes_eq_canon _ _ _ (fun _ => cover0_A_8 ..)]
  unfold kernelRun0_A
  dsimp only
  sl_unfold_words
  rw [View.canon_unit_zero hz]
  simp only [View.readAt_eq_ld, Memref.IsWhole.read_unread, ld_rows, ld_line, ld_slab]

theorem gain_next (c : Dev nD) (t : Fin cfg0.N) (h : t.val ≠ 0) :
    (outsAt0 m c t.val t.isLt).2.2.1 = k0_pay3 (F := Ideal) (k0_pay10 (iblk m c 0 t) (iblk m c 1 t))
      (outsAt0 m c (t.val - 1) (Nat.lt_of_le_of_lt (Nat.sub_le _ _) t.isLt)).2.2.1 := by
  have := lt8 t
  rw [outsAt0_B m c t (by omega) (by omega) (by omega) (by omega)]
  dsimp only
  unfold out0_B_7
  rw [View.read_writes_eq_canon _ _ _ (fun _ => cover0_B_7 ..)]
  unfold kernelRun0_B
  dsimp only
  sl_unfold_words
  rw [View.canon_unit_zero hz]
  simp only [View.readAt_eq_ld, Memref.IsWhole.read_unread, ld_rows, ld_line, ld_slab]

theorem shift_next (c : Dev nD) (t : Fin cfg0.N) (h : t.val ≠ 0) :
    (outsAt0 m c t.val t.isLt).2.2.2 = k0_pay4 (F := Ideal) (k0_pay9 (iblk m c 1 t))
      (outsAt0 m c (t.val - 1) (Nat.lt_of_le_of_lt (Nat.sub_le _ _) t.isLt)).2.2.2 := by
  have := lt8 t
  rw [outsAt0_B m c t (by omega) (by omega) (by omega) (by omega)]
  dsimp only
  unfold out0_B_8
  rw [View.read_writes_eq_canon _ _ _ (fun _ => cover0_B_8 ..)]
  unfold kernelRun0_B
  dsimp only
  sl_unfold_words
  rw [View.canon_unit_zero hz]
  simp only [View.readAt_eq_ld, Memref.IsWhole.read_unread, ld_rows, ld_line, ld_slab]

theorem gain_tile (c : Dev nD) (t : Fin cfg0.N) (z : Fin 1) (q : Fin 1024) :
    k0_pay10 (F := Ideal) (iblk m c 0 t) (iblk m c 1 t) (ix2 z q) = gainTile m c t.val q := by
  rw [gain_at]
  unfold gainTile
  rw [dif_pos t.isLt]
  exact Finset.sum_congr rfl fun r _ => by rw [row0, iblk1]; rfl
theorem shift_tile (c : Dev nD) (t : Fin cfg0.N) (z : Fin 1) (q : Fin 1024) :
    k0_pay9 (F := Ideal) (iblk m c 1 t) (ix2 z q) = shiftTile m c t.val q := by
  rw [shift_at]
  unfold shiftTile
  rw [dif_pos t.isLt]
  exact Finset.sum_congr rfl fun r _ => by rw [iblk1]

/-! ## The arrays -/

/-- A sum of eight blocks of 512 terms is the sum over all 4096. -/
theorem eight_blocks (f : Fin 4096 → EReal) :
    ∑ i ∈ Finset.range 8, ∑ x : Fin 512, (if h : 512 * i + x.val < 4096 then f ⟨512 * i + x.val, h⟩ else 0) = ∑ l, f l := by
  refine (FeedForward.sum_tiles 8 512 fun j => if h : j < 4096 then f ⟨j, h⟩ else 0).trans (Finset.sum_congr rfl fun l _ => ?_)
  exact dif_pos l.isLt

/-- What the sums hold at the last point. -/
theorem gain_last (c : Dev nD) (t : Fin cfg0.N) (h : t.val = 7) (z : Fin 1) (q : Fin 1024) :
    (outsAt0 m c t.val t.isLt).2.2.1 (ix2 z q) = ∑ l, gainPart (X m c) (H m c) (W m c) (Dy m c) l q := by
  refine (Products.running_sum 8 cfg0.N (by omega) (fun n hn => (outsAt0 m c n hn).2.2.1 (ix2 z q)) (fun n => gainTile m c n q)
    (fun n hn e => ?_) (fun n hn e => ?_) t.val t.isLt).trans ?_
  · exact (congrFun (gain_first m c ⟨n, hn⟩ (by have : n < 8 := lt_of_lt_of_eq hn N_0; show n = 0; omega)) _).trans (gain_tile m c ⟨n, hn⟩ z q)
  · refine (congrFun (gain_next m c ⟨n + 1, hn⟩ (Nat.succ_ne_zero n)) _).trans ((add_gain ..).trans ?_)
    exact congrArg _ (gain_tile m c ⟨n + 1, hn⟩ z q)
  · rw [h]
    refine (Finset.sum_congr rfl fun i hi => ?_).trans (eight_blocks fun l => gainPart (X m c) (H m c) (W m c) (Dy m c) l q)
    have hi : i < 8 := Finset.mem_range.mp hi
    have hN : cfg0.N = 8 := N_0
    unfold gainTile
    rw [dif_pos (by omega)]
    refine Finset.sum_congr rfl fun r _ => ?_
    rw [dif_pos (by omega)]
    exact congrArg (fun l => gainPart (X m c) (H m c) (W m c) (Dy m c) l q) (Fin.ext (by show 512 * (8 * (7 / 8) + i) + r.val = 512 * i + r.val; omega))
theorem shift_last (c : Dev nD) (t : Fin cfg0.N) (h : t.val = 7) (z : Fin 1) (q : Fin 1024) :
    (outsAt0 m c t.val t.isLt).2.2.2 (ix2 z q) = ∑ l, Dy m c (ix2 l q) := by
  refine (Products.running_sum 8 cfg0.N (by omega) (fun n hn => (outsAt0 m c n hn).2.2.2 (ix2 z q)) (fun n => shiftTile m c n q)
    (fun n hn e => ?_) (fun n hn e => ?_) t.val t.isLt).trans ?_
  · exact (congrFun (shift_first m c ⟨n, hn⟩ (by have : n < 8 := lt_of_lt_of_eq hn N_0; show n = 0; omega)) _).trans (shift_tile m c ⟨n, hn⟩ z q)
  · refine (congrFun (shift_next m c ⟨n + 1, hn⟩ (Nat.succ_ne_zero n)) _).trans ((add_shift ..).trans ?_)
    exact congrArg _ (shift_tile m c ⟨n + 1, hn⟩ z q)
  · rw [h]
    refine (Finset.sum_congr rfl fun i hi => ?_).trans (eight_blocks fun l => Dy m c (ix2 l q))
    have hi : i < 8 := Finset.mem_range.mp hi
    have hN : cfg0.N = 8 := N_0
    unfold shiftTile
    rw [dif_pos (by omega)]
    refine Finset.sum_congr rfl fun r _ => ?_
    rw [dif_pos (by omega)]
    exact congrArg (fun l => Dy m c (ix2 l q)) (Fin.ext (by show 512 * (8 * (7 / 8) + i) + r.val = 512 * i + r.val; omega))

theorem idx5 : ∀ t : Fin cfg0.N, win0_5.index t 0 = t.val ∧ win0_5.index t 1 = 0 := by decide +kernel
theorem emb5 (t : Fin cfg0.N) (r : Fin 512) (q : Fin 1024) :
    (((cfg0.win 5).blk t).view.emb (ix2 r q) : S4096x1024.Idx) = ix2 (token t r) q := by
  have hi := idx5 t
  funext a
  apply Fin.ext
  match a with
  | ⟨0, _⟩ => show win0_5.index t 0 * 512 + 1 * r.val = 512 * t.val + r.val; rw [hi.1]; omega
  | ⟨1, _⟩ => show win0_5.index t 1 * 1024 + 1 * q.val = q.val; rw [hi.2]; omega
theorem emb6 (t : Fin cfg0.N) (r : Fin 512) (q : Fin 1024) :
    (((cfg0.win 6).blk t).view.emb (ix2 r q) : S4096x1024.Idx) = ix2 (token t r) q := emb5 t r q
theorem idx7 : ∀ t : Fin cfg0.N, win0_7.index t 0 = 0 ∧ win0_7.index t 1 = 0 := by decide +kernel
theorem emb7 (t : Fin cfg0.N) (z : Fin 1) (q : Fin 1024) :
    (((cfg0.win 7).blk t).view.emb (ix2 z q) : S1x1024.Idx) = ix2 z q := by
  have hi := idx7 t
  funext a
  apply Fin.ext
  match a with
  | ⟨0, _⟩ => show win0_7.index t 0 * 1 + 1 * z.val = z.val; rw [hi.1]; omega
  | ⟨1, _⟩ => show win0_7.index t 1 * 1024 + 1 * q.val = q.val; rw [hi.2]; omega
theorem emb8 (t : Fin cfg0.N) (z : Fin 1) (q : Fin 1024) :
    (((cfg0.win 8).blk t).view.emb (ix2 z q) : S1x1024.Idx) = ix2 z q := emb7 t z q

theorem grad_point (c : Dev nD) (t : Fin cfg0.N) (r : Fin 512) (q : Fin 1024) :
    grad (iblk m c 0 t) (iblk m c 1 t) (iblk m c 2 t) (ix2 r q) = dSum (X m c) (H m c) (W m c) (Gain m c) (Dy m c) (token t r) q := by
  rw [grad_at, row0, row1, line2]
  rfl

theorem merged_rows (c : Dev nD) (t : Fin cfg0.N) (r : Fin 512) (k : Fin 1024) :
    k0_pay2 (F := Ideal) (k0_pay5 (iblk m c 0 t)) (k0_pay12 (iblk m c 0 t) (iblk m c 2 t) (iblk m c 1 t))
      (k0_pay13 (iblk m c 0 t) (iblk m c 2 t) (iblk m c 1 t)) (iblk m c 4 t) (ix2 r k)
      = resMerged (X m c) (H m c) (W m c) (Gain m c) (Dy m c) (ix2 (token t r) k) :=
  (merged_at ..).trans (Finset.sum_congr rfl fun q _ => by rw [grad_point, iblk4]; rfl)

/-- The four result arrays after the run. -/
theorem final5 (c : Dev nD) :
    (dats m 0 c).arrAt 5 cfg0.N = (resSum (X m c) (H m c) (W m c) (Gain m c) (Dy m c) : Vec Ideal S4096x1024 .f32) :=
  (dats m 0 c).arrAt_eq_of_covers 5 (resSum (X m c) (H m c) (W m c) (Gain m c) (Dy m c) : Vec Ideal S4096x1024 .f32) (by decide +kernel)
    fun t hf y => by
    obtain ⟨r, q, rfl⟩ : ∃ (r : Fin 512) (q : Fin 1024), y = ix2 r q := ⟨y 0, y 1, eq_ix2 y⟩
    rw [emb5]
    show (dats m 0 c).after 5 t (ix2 r q) = _
    rw [after0_5, sum_point, grad_point]
    rfl
theorem final6 (c : Dev nD) :
    (dats m 0 c).arrAt 6 cfg0.N = (resMerged (X m c) (H m c) (W m c) (Gain m c) (Dy m c) : Vec Ideal S4096x1024 .f32) :=
  (dats m 0 c).arrAt_eq_of_covers 6 (resMerged (X m c) (H m c) (W m c) (Gain m c) (Dy m c) : Vec Ideal S4096x1024 .f32) (by decide +kernel)
    fun t hf y => by
    obtain ⟨r, q, rfl⟩ : ∃ (r : Fin 512) (q : Fin 1024), y = ix2 r q := ⟨y 0, y 1, eq_ix2 y⟩
    rw [emb6]
    show (dats m 0 c).after 6 t (ix2 r q) = _
    rw [after0_6, merged_point]
    exact merged_rows m c t r q
theorem final7 (c : Dev nD) :
    (dats m 0 c).arrAt 7 cfg0.N = (resGain (X m c) (H m c) (W m c) (Dy m c) : Vec Ideal S1x1024 .f32) :=
  (dats m 0 c).arrAt_eq_of_covers 7 (resGain (X m c) (H m c) (W m c) (Dy m c) : Vec Ideal S1x1024 .f32) (by decide +kernel)
    fun t hf y => by
    obtain ⟨z, q, rfl⟩ : ∃ (z : Fin 1) (q : Fin 1024), y = ix2 z q := ⟨y 0, y 1, eq_ix2 y⟩
    rw [emb7]
    show (dats m 0 c).after 7 t (ix2 z q) = _
    have h : t.val = 7 := by have := lt8 t; have := (flush0_7 t).mp hf; omega
    rw [after0_7, gain_last m c t h]
    rfl
theorem final8 (c : Dev nD) :
    (dats m 0 c).arrAt 8 cfg0.N = (resShift (Dy m c) : Vec Ideal S1x1024 .f32) :=
  (dats m 0 c).arrAt_eq_of_covers 8 (resShift (Dy m c) : Vec Ideal S1x1024 .f32) (by decide +kernel)
    fun t hf y => by
    obtain ⟨z, q, rfl⟩ : ∃ (z : Fin 1) (q : Fin 1024), y = ix2 z q := ⟨y 0, y 1, eq_ix2 y⟩
    rw [emb8]
    show (dats m 0 c).after 8 t (ix2 z q) = _
    have h : t.val = 7 := by have := lt8 t; have := (flush0_8 t).mp hf; omega
    rw [after0_8, shift_last m c t h]
    rfl

end Cert.OutBack

end
-- ==== Proof.OutRef.lean ====
/-
  What the reference for the output projection's backward pass computes, read element by element over the extended
  reals.
-/
module

public import proofs.«01_k».proof.Proof.Gen.Reference5Ideal.Read
public import proofs.«01_k».proof.Proof.OutBack
public import Idealize.ShloMosaic.Lib.Pointwise

@[expose] public section

set_option maxRecDepth 16384

noncomputable section

namespace Cert.OutBack.Ref

open Cert.Merge (Mat)
open Cert.FeedForward (Row centred spread scale fromSpread inner normBack rowOf)
open Cert.Reference5Ideal Cert.Reference5Ideal.Gen Cert.Reference5Ideal.Read Idealize.ShloMosaic

variable (x h : Mat 4096 1024) (w : Mat 1024 1024) (g : (⟨1, ![1024]⟩ : Shape).Idx → EReal) (dy : Mat 4096 1024)

/-- The gain, as a row. -/
def gainRow : Row := fun q => g (ix1 q)

/-- The rows the layer norm takes. -/
theorem sum_ref (l : Fin 4096) (q : Fin 1024) : val_main_v3 (F := Ideal) x h w (ix2 l q) = preNorm x h w l q := by
  pointwise [val_main_v3, val_main_v2, val_main_v1, val_main_v0, val_main_cst]
  rfl

theorem centred_ref (l : Fin 4096) (q : Fin 1024) :
    val_main_v9 (F := Ideal) x h w (ix2 l q) = centred (preNorm x h w l) q := by
  pointwise [val_main_v9, val_main_v8, val_main_v7, val_main_v6, val_main_v5, val_main_v4, val_main_cst_0, val_main_cst_1]
  simp only [sum_ref]
  rfl

theorem spread_ref (l : Fin 4096) (z : Fin 1) : val_main_v18 (F := Ideal) x h w (ix2 l z) = spread (preNorm x h w l) := by
  pointwise [val_main_v18, val_main_v17, val_main_v16, val_main_v15, val_main_v14, val_main_v13, val_main_v10, val_main_cst_3,
    val_main_cst_4, val_main_cst_5]
  simp only [centred_ref]
  rfl

theorem scale_ref (l : Fin 4096) (z : Fin 1) : val_main_v19 (F := Ideal) x h w (ix2 l z) = scale (preNorm x h w l) := by
  pointwise [val_main_v19]
  rw [spread_ref]
  rfl

theorem fromSpread_ref (l : Fin 4096) (z : Fin 1) :
    val_main_v48 (F := Ideal) x h g w dy (ix2 l z) = fromSpread (preNorm x h w l) (gainRow g) (rowOf dy l) := by
  pointwise [val_main_v48, val_main_v47, val_main_v46, val_main_v43, val_main_v42, val_main_v41, val_main_v39, val_main_v38,
    val_main_v31, val_main_v25, val_main_v22, val_main_v21, val_main_v20, val_main_cst_6, val_main_cst_11, val_main_cst_12]
  simp only [centred_ref, spread_ref, scale_ref]
  rfl

theorem inner_ref (l : Fin 4096) (q : Fin 1024) :
    val_main_v52 (F := Ideal) x h g w dy (ix2 l q) = inner (preNorm x h w l) (gainRow g) (rowOf dy l) q := by
  pointwise [val_main_v52, val_main_v51, val_main_v50, val_main_v49, val_main_v45, val_main_v44, val_main_v39, val_main_v38,
    val_main_v31, val_main_v25, val_main_v12, val_main_v11, val_main_cst_2, val_main_cst_13]
  simp only [Fin.sum_univ_one, centred_ref, scale_ref, fromSpread_ref]
  rfl

/-- The gradient at the rows. -/
theorem dsum_ref (l : Fin 4096) (q : Fin 1024) :
    val_main_v60 (F := Ideal) x h g w dy (ix2 l q) = dSum x h w (gainRow g) dy l q := by
  pointwise [val_main_v60, val_main_v59, val_main_v58, val_main_v57, val_main_v56, val_main_v55, val_main_v54, val_main_v53,
    val_main_cst_14, val_main_cst_15, val_main_cst_16]
  simp only [Fin.sum_univ_one, inner_ref]
  rfl

/-- The gradient at the merged rows. -/
theorem merged_ref (l : Fin 4096) (k : Fin 1024) :
    val_main_v61 (F := Ideal) x h g w dy (ix2 l k) = resMerged x h w (gainRow g) dy (ix2 l k) := by
  pointwise [val_main_v61]
  simp only [dsum_ref]
  rfl

/-- The gradients of gain and shift. -/
theorem gain_ref (z : Fin 1) (q : Fin 1024) :
    val_main_v62 (F := Ideal) x h w dy (ix2 z q) = ∑ l, gainPart x h w dy l q := by
  pointwise [val_main_v62, val_main_v40, val_main_v37, val_main_v36, val_main_v35, val_main_v31, val_main_v24, val_main_v23,
    val_main_cst_9, val_main_cst_10]
  simp only [Fin.sum_univ_one, centred_ref, scale_ref]
  rfl

theorem shift_ref (z : Fin 1) (q : Fin 1024) : val_main_v63 (F := Ideal) dy (ix2 z q) = ∑ l, dy (ix2 l q) := by
  pointwise [val_main_v63, val_main_v34, val_main_v33, val_main_v32, val_main_cst_7, val_main_cst_8]
  simp only [Fin.sum_univ_one]

end Cert.OutBack.Ref

end
-- ==== Proof.OutClaim.lean ====
/-
  The claims about the output projection's backward pass: the kernel's four result arrays and the reference's hold the
  same numbers.
-/
module

public import proofs.«01_k».proof.Defs
public import proofs.«01_k».proof.Proof.OutRef
public import proofs.«01_k».proof.Proof.Gen.Kernel5.Frame
public import proofs.«01_k».proof.Proof.Gen.Reference5Ideal.Run
public import Idealize.ShloMosaic.Lib.Quiescent

@[expose] public section

set_option maxRecDepth 16384

noncomputable section

namespace Cert.Proof.OutBack

open Idealize.ShloMosaic Idealize.ShloMosaic.TcCoe Idealize.SL.Sem
open Cert.OutBack Cert.OutBack.Ref Cert.Reference5Ideal.Read

/-- The kernel, at bit patterns, runs to the end and leaves its arguments alone. -/
theorem frame_kernel : Cert.quiescent_Kernel5 := fun m ρ _ => Cert.Kernel5.Gen.frame m ρ
/-- So does its idealization, at extended reals. -/
theorem frame_ideal : Cert.quiescent_Kernel5Ideal := fun m ρ _ => Cert.Kernel5Ideal.Gen.frame m ρ
/-- And the reference. -/
theorem frame_reference : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)
/-- The idealization rewrote nothing. -/
theorem preserves : Cert.preserves_Kernel5_Kernel5Ideal := trivial

/-- Started from equal arguments, kernel and reference end with equal results: the gradients at the sum, at the merged
    rows, and of gain and shift. -/
theorem algebraic : Cert.algebraic_Kernel5Ideal_Reference5Ideal := by
  intro m ρ m' ρ' _ hagree
  refine ⟨fun c => resSum (X m c) (H m c) (W m c) (Gain m c) (Dy m c), fun c => resMerged (X m c) (H m c) (W m c) (Gain m c) (Dy m c),
    fun c => resGain (X m c) (H m c) (W m c) (Dy m c), fun c => resShift (Dy m c), ?_, ?_⟩
  · refine (θ_run Cert.Kernel5Ideal.defs _ _).mono (fun _ h c => ?_) (Cert.Kernel5Ideal.Value.run_blocks (F := Ideal) m ρ)
    obtain ⟨h5, h6, h7, h8, hargs⟩ := h c
    exact ⟨h5.trans (final5 m c), h6.trans (final6 m c), h7.trans (final7 m c), h8.trans (final8 m c), hargs⟩
  · refine (θ_run Cert.Reference5Ideal.defs _ _).mono (fun _ h c => ?_) (Cert.Reference5Ideal.Value.run (F := Ideal) m' ρ')
    obtain ⟨h0, h1, h2, h3, hargs⟩ := h c
    obtain ⟨a0, a1, a2, a3, a4, a5⟩ := hagree c
    refine ⟨h0.trans ?_, h1.trans ?_, h2.trans ?_, h3.trans ?_, hargs⟩
    · refine (val_main_v60_eq (F := Ideal) ..).trans ?_
      rw [a0, a1, a2, a4, a5]
      exact funext fun y => (congrArg _ (eq_ix2 y)).trans (dsum_ref ..)
    · refine (val_main_v61_eq (F := Ideal) ..).trans ?_
      rw [a0, a1, a2, a4, a5]
      exact funext fun y => (congrArg _ (eq_ix2 y)).trans (merged_ref ..)
    · refine (val_main_v62_eq (F := Ideal) ..).trans ?_
      rw [a0, a1, a4, a5]
      exact funext fun y => (congrArg _ (eq_ix2 y)).trans (gain_ref ..)
    · refine (val_main_v63_eq (F := Ideal) ..).trans ?_
      rw [a5]
      exact funext fun y => (congrArg _ (eq_ix2 y)).trans (shift_ref ..)

end Cert.Proof.OutBack

end
-- ==== Proof.InBackSpec.lean ====
/-
  The gradient at the input of the projections: over the extended reals, √2 times the gradient of the residual stream
  plus, for each group of columns of `w_in`, the product of that group's gradient with the group, transposed.
-/
module

public import proofs.«01_k».proof.Proof.FfSpec

@[expose] public section

noncomputable section

namespace Cert.InBack

open Idealize.ShloMosaic
open Cert.Merge (Mat)
open Cert.FeedForward (alpha)

/-- The gradients at the eleven groups of columns, in the order of the columns. -/
structure Grads where
  dz : Mat 4096 512
  dxbc : Mat 4096 1024
  ddt : Mat 4096 8
  dqkv : Mat 4096 1536
  dbeta : Mat 4096 4
  da : Mat 4096 4
  dgate : Mat 4096 512
  duv : Mat 4096 1024
  dfox : Mat 4096 1536
  df : Mat 4096 8
  dgates : Mat 4096 4096

/-- The product of one group's gradient with its columns, which start at `o`, transposed. -/
def part {n : ℕ} (o : ℕ) (ho : o + n ≤ 10264) (d : Mat 4096 n) (w : Mat 1024 10264) (l : Fin 4096) (k : Fin 1024) : EReal :=
  ∑ j : Fin n, d (ix2 l j) * w (ix2 k ⟨o + j.val, by have := j.isLt; omega⟩)

/-- The four small groups. -/
def small (G : Grads) (w : Mat 1024 10264) (l : Fin 4096) (k : Fin 1024) : EReal :=
  part 1536 (by omega) G.ddt w l k + part 3080 (by omega) G.dbeta w l k + part 3084 (by omega) G.da w l k
    + part 6160 (by omega) G.df w l k

/-- The gradient at the input. -/
def dInput (G : Grads) (w : Mat 1024 10264) (du : Mat 4096 1024) (l : Fin 4096) (k : Fin 1024) : EReal :=
  alpha * du (ix2 l k) + part 0 (by omega) G.dz w l k + part 512 (by omega) G.dxbc w l k + part 1544 (by omega) G.dqkv w l k
    + part 3088 (by omega) G.dgate w l k + part 3600 (by omega) G.duv w l k + part 4624 (by omega) G.dfox w l k
    + part 6168 (by omega) G.dgates w l k + small G w l k
def res (G : Grads) (w : Mat 1024 10264) (du : Mat 4096 1024) : Mat 4096 1024 := fun y => dInput G w du (y 0) (y 1)

/-! ## A whole lane of small groups -/

/-- Four small groups side by side, and zeros behind them. -/
def lane (a : Fin 8 → EReal) (b c : Fin 4 → EReal) (d : Fin 8 → EReal) (n : ℕ) : EReal :=
  if h : n < 8 then a ⟨n, h⟩ else if h : n - 8 < 4 then b ⟨n - 8, h⟩ else if h : n - 8 - 4 < 4 then c ⟨n - 8 - 4, h⟩
  else if h : n - 8 - 4 - 4 < 8 then d ⟨n - 8 - 4 - 4, h⟩ else 0

/-- The product of two such lanes is the sum of the four groups' products. -/
theorem lane_mul (a a' : Fin 8 → EReal) (b b' c c' : Fin 4 → EReal) (d d' : Fin 8 → EReal) :
    ∑ j : Fin 128, lane a b c d j.val * lane a' b' c' d' j.val
      = ∑ i, a i * a' i + ∑ i, b i * b' i + ∑ i, c i * c' i + ∑ i, d i * d' i := by
  rw [← Finset.sum_range (fun n => lane a b c d n * lane a' b' c' d' n),
    show (128 : ℕ) = 8 + 4 + 4 + 8 + 104 from rfl, Finset.sum_range_add, Finset.sum_range_add, Finset.sum_range_add,
    Finset.sum_range_add, Finset.sum_eq_zero (s := Finset.range 104), add_zero]
  · simp only [Finset.sum_range]
    refine congrArg₂ _ (congrArg₂ _ (congrArg₂ _ ?_ ?_) ?_) ?_ <;> refine Finset.sum_congr rfl fun i _ => ?_ <;>
      have hi := i.isLt <;> unfold lane
    · rw [dif_pos hi, dif_pos hi]
    · have e : 8 + i.val - 8 = i.val := by omega
      simp only [show ¬ 8 + i.val < 8 by omega, e, hi, dif_pos, dif_neg, not_false_eq_true]
    · have e : 8 + 4 + i.val - 8 - 4 = i.val := by omega
      simp only [show ¬ 8 + 4 + i.val < 8 by omega, show ¬ 8 + 4 + i.val - 8 < 4 by omega, e, hi, dif_pos, dif_neg, not_false_eq_true]
    · have e : 8 + 4 + 4 + i.val - 8 - 4 - 4 = i.val := by omega
      simp only [show ¬ 8 + 4 + 4 + i.val < 8 by omega, show ¬ 8 + 4 + 4 + i.val - 8 < 4 by omega,
        show ¬ 8 + 4 + 4 + i.val - 8 - 4 < 4 by omega, e, hi, dif_pos, dif_neg, not_false_eq_true]
  · intro i _
    unfold lane
    rw [dif_neg (by omega), dif_neg (by omega), dif_neg (by omega), dif_neg (by omega), zero_mul]

/-! ## All columns -/

/-- A sum over all 10264 columns is the sum over the eleven groups. -/
theorem all_columns (F : ℕ → EReal) :
    ∑ j : Fin 10264, F j.val = ∑ i : Fin 512, F (0 + i.val) + ∑ i : Fin 1024, F (512 + i.val) + ∑ i : Fin 8, F (1536 + i.val)
      + ∑ i : Fin 1536, F (1544 + i.val) + ∑ i : Fin 4, F (3080 + i.val) + ∑ i : Fin 4, F (3084 + i.val)
      + ∑ i : Fin 512, F (3088 + i.val) + ∑ i : Fin 1024, F (3600 + i.val) + ∑ i : Fin 1536, F (4624 + i.val)
      + ∑ i : Fin 8, F (6160 + i.val) + ∑ i : Fin 4096, F (6168 + i.val) := by
  rw [← Finset.sum_range F, show (10264 : ℕ) = 512 + 1024 + 8 + 1536 + 4 + 4 + 512 + 1024 + 1536 + 8 + 4096 from rfl,
    Finset.sum_range_add, Finset.sum_range_add, Finset.sum_range_add, Finset.sum_range_add, Finset.sum_range_add,
    Finset.sum_range_add, Finset.sum_range_add, Finset.sum_range_add, Finset.sum_range_add, Finset.sum_range_add]
  simp only [Finset.sum_range, Nat.zero_add, Nat.reduceAdd]

/-- The term of column `n` in the product with the transposed weight. -/
def column (D : Mat 4096 10264) (w : Mat 1024 10264) (l : Fin 4096) (k : Fin 1024) (n : ℕ) : EReal :=
  if h : n < 10264 then D (ix2 l ⟨n, h⟩) * w (ix2 k ⟨n, h⟩) else 0

/-- So the gradients of all columns, laid side by side as `D`, multiply to the sum of the groups' products. -/
theorem columns_mul (G : Grads) (w : Mat 1024 10264) (D : Mat 4096 10264) (l : Fin 4096) (k : Fin 1024)
    (h_dz : ∀ i : Fin 512, D (ix2 l ⟨0 + i.val, by omega⟩) = G.dz (ix2 l i))
    (h_dxbc : ∀ i : Fin 1024, D (ix2 l ⟨512 + i.val, by omega⟩) = G.dxbc (ix2 l i))
    (h_ddt : ∀ i : Fin 8, D (ix2 l ⟨1536 + i.val, by omega⟩) = G.ddt (ix2 l i))
    (h_dqkv : ∀ i : Fin 1536, D (ix2 l ⟨1544 + i.val, by omega⟩) = G.dqkv (ix2 l i))
    (h_dbeta : ∀ i : Fin 4, D (ix2 l ⟨3080 + i.val, by omega⟩) = G.dbeta (ix2 l i))
    (h_da : ∀ i : Fin 4, D (ix2 l ⟨3084 + i.val, by omega⟩) = G.da (ix2 l i))
    (h_dgate : ∀ i : Fin 512, D (ix2 l ⟨3088 + i.val, by omega⟩) = G.dgate (ix2 l i))
    (h_duv : ∀ i : Fin 1024, D (ix2 l ⟨3600 + i.val, by omega⟩) = G.duv (ix2 l i))
    (h_dfox : ∀ i : Fin 1536, D (ix2 l ⟨4624 + i.val, by omega⟩) = G.dfox (ix2 l i))
    (h_df : ∀ i : Fin 8, D (ix2 l ⟨6160 + i.val, by omega⟩) = G.df (ix2 l i))
    (h_dgates : ∀ i : Fin 4096, D (ix2 l ⟨6168 + i.val, by omega⟩) = G.dgates (ix2 l i)) (du : EReal) :
    (∑ j : Fin 10264, D (ix2 l j) * w (ix2 k j)) + du
      = du + part 0 (by omega) G.dz w l k + part 512 (by omega) G.dxbc w l k + part 1544 (by omega) G.dqkv w l k
        + part 3088 (by omega) G.dgate w l k + part 3600 (by omega) G.duv w l k + part 4624 (by omega) G.dfox w l k
        + part 6168 (by omega) G.dgates w l k + small G w l k := by
  have e : ∑ j : Fin 10264, D (ix2 l j) * w (ix2 k j)
      = ∑ j : Fin 10264, column D w l k j.val :=
    Finset.sum_congr rfl fun j _ => by
      unfold column
      rw [dif_pos j.isLt]
  have p : ∀ (n o : ℕ) (ho : o + n ≤ 10264) (d : Mat 4096 n)
      (_ : ∀ i : Fin n, D (ix2 l ⟨o + i.val, by omega⟩) = d (ix2 l i)),
      ∑ i : Fin n, column D w l k (o + i.val) = part o ho d w l k :=
    fun n o ho d hd => Finset.sum_congr rfl fun i _ => by
      have := i.isLt
      unfold column
      rw [dif_pos (by omega), hd]
  rw [e, all_columns (column D w l k), p 512 0 (by omega) G.dz h_dz, p 1024 512 (by omega) G.dxbc h_dxbc, p 8 1536 (by omega) G.ddt h_ddt, p 1536 1544 (by omega) G.dqkv h_dqkv, p 4 3080 (by omega) G.dbeta h_dbeta, p 4 3084 (by omega) G.da h_da, p 512 3088 (by omega) G.dgate h_dgate, p 1024 3600 (by omega) G.duv h_duv, p 1536 4624 (by omega) G.dfox h_dfox, p 8 6160 (by omega) G.df h_df, p 4096 6168 (by omega) G.dgates h_dgates]
  unfold small
  abel

end Cert.InBack

end
-- ==== Proof.InBlocks.lean ====
/-
  The blocks the kernels for the gradient at the projections' input load: 256 tokens of a group's gradient at a time, and
  a group's columns of the weight as a whole.
-/
module

public import proofs.«01_k».proof.Proof.InBackSpec
public import Idealize.ShloMosaic.Lib.Pipeline.ValueKit

@[expose] public section

noncomputable section

namespace Cert.InBack

open Idealize.ShloMosaic

theorem hz : (![0, 0] : Fin 2 → Nat) = fun _ => 0 := funext fun a => by fin_cases a <;> rfl
theorem hz3 : (![0, 0, 0] : Fin 3 → Nat) = fun _ => 0 := funext fun a => by fin_cases a <;> rfl
/-- The token of row `r` of block `n`. -/
def tokenAt (n : ℕ) (h : n < 16) (r : Fin 256) : Fin 4096 := ⟨256 * n + r.val, by omega⟩

/-- An index into a block of 256 rows. -/
theorem rows_pos {n t : ℕ} {ht : t < 16} {i : Fin 2 → ℕ} (hi : i 0 = t ∧ i 1 = 0) (r : Fin 256) (j : Fin n)
    (y : (⟨2, ![4096, n]⟩ : Shape).Idx) (h0 : (y 0).val = i 0 * 256 + 1 * r.val) (h1 : (y 1).val = i 1 * n + 1 * j.val) :
    y = ix2 (tokenAt t ht r) j := by
  funext a
  apply Fin.ext
  match a with
  | ⟨0, _⟩ => show (y 0).val = 256 * t + r.val; rw [h0, hi.1]; omega
  | ⟨1, _⟩ => show (y 1).val = j.val; rw [h1, hi.2, Nat.zero_mul]; omega

/-- An index into a window over a whole weight. -/
theorem weight_pos {n : ℕ} {i : Fin 3 → ℕ} (hi : i 0 = 0 ∧ i 1 = 0 ∧ i 2 = 0) (k : Fin 1024) (j : Fin n)
    (y : (⟨3, ![1, 1024, n]⟩ : Shape).Idx) (h0 : (y 0).val = i 0 * 1 + 1 * 0) (h1 : (y 1).val = i 1 * 1024 + 1 * k.val)
    (h2 : (y 2).val = i 2 * n + 1 * j.val) : y = ix3 0 k j := by
  funext a
  apply Fin.ext
  match a with
  | ⟨0, _⟩ => show (y 0).val = 0; rw [h0, hi.1]
  | ⟨1, _⟩ => show (y 1).val = k.val; rw [h1, hi.2.1]; omega
  | ⟨2, _⟩ => show (y 2).val = j.val; rw [h2, hi.2.2, Nat.zero_mul]; omega

/-! Reading a whole block gives the block. -/

theorem ld_rows {n : ℕ} (v : Vec Ideal (⟨2, ![256, n]⟩ : Shape) .f32) (inb) :
    View.ld v (Rect.unit ![0, 0] ![256, n] inb) = v := View.ld_unit_zero hz inb v
theorem ld_weight {n : ℕ} (v : Vec Ideal (⟨3, ![1, 1024, n]⟩ : Shape) .bf16) (inb) :
    View.ld v (Rect.unit ![0, 0, 0] ![1, 1024, n] inb) = v := View.ld_unit_zero hz3 inb v

end Cert.InBack

end
-- ==== Proof.InBack.lean ====
/-
  The gradient at the input of the projections, as the kernel computes it: for 256 tokens at a time, √2 times the
  gradient of the residual stream plus the eight products of a group's gradient with the group's columns, transposed.
-/
module

public import proofs.«01_k».proof.Proof.Gen.Kernel6Ideal.Value
public import proofs.«01_k».proof.Proof.InBlocks
public import Idealize.ShloMosaic.Lib.Pointwise
public import Idealize.ShloMosaic.Lib.Tactic
public import Idealize.ShloMosaic.Lib.StableHlo.ReadAt
public import Idealize.ShloMosaic.Lib.Pipeline.ValueKit

@[expose] public section

set_option maxRecDepth 16384

noncomputable section

namespace Cert.InBack

open Cert.Merge (Mat)
open Cert.Kernel6Ideal Cert.Kernel6Ideal.Gen Idealize.ShloMosaic Idealize.ShloMosaic.TcCoe Idealize.SL.Sem

variable (m : (ℓ : Loc nD τ sig) → Buf (Elt Ideal) ℓ)

/-! ## The arrays the program was given -/

/-- The gradients at the groups of columns, the weight of all input projections, and the gradient of the residual
    stream. -/
def G (c : Dev nD) : Grads where
  dz := m (c.tc.loc main_arg0)
  dxbc := m (c.tc.loc main_arg1)
  ddt := m (c.tc.loc main_arg2)
  dqkv := m (c.tc.loc main_arg3)
  dbeta := m (c.tc.loc main_arg4)
  da := m (c.tc.loc main_arg5)
  dgate := m (c.tc.loc main_arg6)
  duv := m (c.tc.loc main_arg7)
  dfox := m (c.tc.loc main_arg8)
  df := m (c.tc.loc main_arg9)
  dgates := m (c.tc.loc main_arg10)
abbrev W (c : Dev nD) : Mat 1024 10264 := m (c.tc.loc main_arg11)
abbrev Du (c : Dev nD) : Mat 4096 1024 := m (c.tc.loc main_arg12)

theorem lt16 (t : Fin cfg0.N) : t.val < 16 := lt_of_lt_of_eq t.isLt N_0
/-- The token of row `r` of the block of point `t`. -/
abbrev token (t : Fin cfg0.N) (r : Fin 256) : Fin 4096 := tokenAt t.val (lt16 t) r

/-! ## The rows a point takes -/

theorem V_args (c : Dev nD) :
    V m c main_arg0 = m (c.tc.loc main_arg0) ∧ V m c main_arg1 = m (c.tc.loc main_arg1) ∧ V m c main_arg3 = m (c.tc.loc main_arg3) ∧
    V m c main_arg6 = m (c.tc.loc main_arg6) ∧ V m c main_arg7 = m (c.tc.loc main_arg7) ∧ V m c main_arg8 = m (c.tc.loc main_arg8) ∧
    V m c main_arg10 = m (c.tc.loc main_arg10) ∧ V m c main_arg12 = m (c.tc.loc main_arg12) := by
  refine ⟨?_, ?_, ?_, ?_, ?_, ?_, ?_, ?_⟩ <;> unfold V <;> after_reads_at

theorem idx0 : ∀ t : Fin cfg0.N, win0_0.index t 0 = t.val ∧ win0_0.index t 1 = 0 := by decide +kernel
theorem iblk0 (c : Dev nD) (t : Fin cfg0.N) (r : Fin 256) (j : Fin 512) :
    (iblk m c 0 t : (⟨2, ![256, 512]⟩ : Shape).Idx → EReal) (ix2 r j) = (G m c).dz (ix2 (token t r) j) := by
  unfold iblk
  rw [View.read_apply]
  exact (congrFun ((V_args m c).1) _).trans (congrArg (m (c.tc.loc main_arg0)) (rows_pos (idx0 t) r j _ rfl rfl))
theorem idx1 : ∀ t : Fin cfg0.N, win0_1.index t 0 = t.val ∧ win0_1.index t 1 = 0 := by decide +kernel
theorem iblk1 (c : Dev nD) (t : Fin cfg0.N) (r : Fin 256) (j : Fin 1024) :
    (iblk m c 1 t : (⟨2, ![256, 1024]⟩ : Shape).Idx → EReal) (ix2 r j) = (G m c).dxbc (ix2 (token t r) j) := by
  unfold iblk
  rw [View.read_apply]
  exact (congrFun ((V_args m c).2.1) _).trans (congrArg (m (c.tc.loc main_arg1)) (rows_pos (idx1 t) r j _ rfl rfl))
theorem idx2 : ∀ t : Fin cfg0.N, win0_2.index t 0 = t.val ∧ win0_2.index t 1 = 0 := by decide +kernel
theorem iblk2 (c : Dev nD) (t : Fin cfg0.N) (r : Fin 256) (j : Fin 1536) :
    (iblk m c 2 t : (⟨2, ![256, 1536]⟩ : Shape).Idx → EReal) (ix2 r j) = (G m c).dqkv (ix2 (token t r) j) := by
  unfold iblk
  rw [View.read_apply]
  exact (congrFun ((V_args m c).2.2.1) _).trans (congrArg (m (c.tc.loc main_arg3)) (rows_pos (idx2 t) r j _ rfl rfl))
theorem idx3 : ∀ t : Fin cfg0.N, win0_3.index t 0 = t.val ∧ win0_3.index t 1 = 0 := by decide +kernel
theorem iblk3 (c : Dev nD) (t : Fin cfg0.N) (r : Fin 256) (j : Fin 512) :
    (iblk m c 3 t : (⟨2, ![256, 512]⟩ : Shape).Idx → EReal) (ix2 r j) = (G m c).dgate (ix2 (token t r) j) := by
  unfold iblk
  rw [View.read_apply]
  exact (congrFun ((V_args m c).2.2.2.1) _).trans (congrArg (m (c.tc.loc main_arg6)) (rows_pos (idx3 t) r j _ rfl rfl))
theorem idx4 : ∀ t : Fin cfg0.N, win0_4.index t 0 = t.val ∧ win0_4.index t 1 = 0 := by decide +kernel
theorem iblk4 (c : Dev nD) (t : Fin cfg0.N) (r : Fin 256) (j : Fin 1024) :
    (iblk m c 4 t : (⟨2, ![256, 1024]⟩ : Shape).Idx → EReal) (ix2 r j) = (G m c).duv (ix2 (token t r) j) := by
  unfold iblk
  rw [View.read_apply]
  exact (congrFun ((V_args m c).2.2.2.2.1) _).trans (congrArg (m (c.tc.loc main_arg7)) (rows_pos (idx4 t) r j _ rfl rfl))
theorem idx5 : ∀ t : Fin cfg0.N, win0_5.index t 0 = t.val ∧ win0_5.index t 1 = 0 := by decide +kernel
theorem iblk5 (c : Dev nD) (t : Fin cfg0.N) (r : Fin 256) (j : Fin 1536) :
    (iblk m c 5 t : (⟨2, ![256, 1536]⟩ : Shape).Idx → EReal) (ix2 r j) = (G m c).dfox (ix2 (token t r) j) := by
  unfold iblk
  rw [View.read_apply]
  exact (congrFun ((V_args m c).2.2.2.2.2.1) _).trans (congrArg (m (c.tc.loc main_arg8)) (rows_pos (idx5 t) r j _ rfl rfl))
theorem idx6 : ∀ t : Fin cfg0.N, win0_6.index t 0 = t.val ∧ win0_6.index t 1 = 0 := by decide +kernel
theorem iblk6 (c : Dev nD) (t : Fin cfg0.N) (r : Fin 256) (j : Fin 4096) :
    (iblk m c 6 t : (⟨2, ![256, 4096]⟩ : Shape).Idx → EReal) (ix2 r j) = (G m c).dgates (ix2 (token t r) j) := by
  unfold iblk
  rw [View.read_apply]
  exact (congrFun ((V_args m c).2.2.2.2.2.2.1) _).trans (congrArg (m (c.tc.loc main_arg10)) (rows_pos (idx6 t) r j _ rfl rfl))
theorem idx16 : ∀ t : Fin cfg0.N, win0_16.index t 0 = t.val ∧ win0_16.index t 1 = 0 := by decide +kernel
theorem iblk16 (c : Dev nD) (t : Fin cfg0.N) (r : Fin 256) (j : Fin 1024) :
    (iblk m c 16 t : (⟨2, ![256, 1024]⟩ : Shape).Idx → EReal) (ix2 r j) = Du m c (ix2 (token t r) j) := by
  unfold iblk
  rw [View.read_apply]
  exact (congrFun ((V_args m c).2.2.2.2.2.2.2) _).trans (congrArg (m (c.tc.loc main_arg12)) (rows_pos (idx16 t) r j _ rfl rfl))

/-- The small groups' gradients, side by side in one lane. -/
theorem V_small (c : Dev nD) (l : Fin 4096) (j : Fin 128) :
    (V m c main_v1 : Mat 4096 128) (ix2 l j)
      = lane (fun i => (G m c).ddt (ix2 l i)) (fun i => (G m c).dbeta (ix2 l i)) (fun i => (G m c).da (ix2 l i))
          (fun i => (G m c).df (ix2 l i)) j.val := by
  unfold V
  after_reads_at
  unfold lane
  split_ifs
  all_goals after_reads_at
  all_goals rfl
theorem idx7 : ∀ t : Fin cfg0.N, win0_7.index t 0 = t.val ∧ win0_7.index t 1 = 0 := by decide +kernel
theorem iblk7 (c : Dev nD) (t : Fin cfg0.N) (r : Fin 256) (j : Fin 128) :
    (iblk m c 7 t : (⟨2, ![256, 128]⟩ : Shape).Idx → EReal) (ix2 r j)
      = lane (fun i => (G m c).ddt (ix2 (token t r) i)) (fun i => (G m c).dbeta (ix2 (token t r) i))
          (fun i => (G m c).da (ix2 (token t r) i)) (fun i => (G m c).df (ix2 (token t r) i)) j.val := by
  rw [← V_small]
  unfold iblk
  rw [View.read_apply]
  exact congrArg (V m c main_v1) (rows_pos (idx7 t) r j _ rfl rfl)

/-! ## The weights -/

theorem V8 (c : Dev nD) (k : Fin 1024) (j : Fin 512) :
    (V m c main_v16 : (⟨3, ![1, 1024, 512]⟩ : Shape).Idx → EReal) (ix3 0 k j) = W m c (ix2 k ⟨0 + j.val, by omega⟩) := by
  unfold V
  after_reads_at
theorem V9 (c : Dev nD) (k : Fin 1024) (j : Fin 1024) :
    (V m c main_v18 : (⟨3, ![1, 1024, 1024]⟩ : Shape).Idx → EReal) (ix3 0 k j) = W m c (ix2 k ⟨512 + j.val, by omega⟩) := by
  unfold V
  after_reads_at
theorem V10 (c : Dev nD) (k : Fin 1024) (j : Fin 1536) :
    (V m c main_v20 : (⟨3, ![1, 1024, 1536]⟩ : Shape).Idx → EReal) (ix3 0 k j) = W m c (ix2 k ⟨1544 + j.val, by omega⟩) := by
  unfold V
  after_reads_at
theorem V11 (c : Dev nD) (k : Fin 1024) (j : Fin 512) :
    (V m c main_v22 : (⟨3, ![1, 1024, 512]⟩ : Shape).Idx → EReal) (ix3 0 k j) = W m c (ix2 k ⟨3088 + j.val, by omega⟩) := by
  unfold V
  after_reads_at
theorem V12 (c : Dev nD) (k : Fin 1024) (j : Fin 1024) :
    (V m c main_v24 : (⟨3, ![1, 1024, 1024]⟩ : Shape).Idx → EReal) (ix3 0 k j) = W m c (ix2 k ⟨3600 + j.val, by omega⟩) := by
  unfold V
  after_reads_at
theorem V13 (c : Dev nD) (k : Fin 1024) (j : Fin 1536) :
    (V m c main_v26 : (⟨3, ![1, 1024, 1536]⟩ : Shape).Idx → EReal) (ix3 0 k j) = W m c (ix2 k ⟨4624 + j.val, by omega⟩) := by
  unfold V
  after_reads_at
theorem V14 (c : Dev nD) (k : Fin 1024) (j : Fin 4096) :
    (V m c main_v28 : (⟨3, ![1, 1024, 4096]⟩ : Shape).Idx → EReal) (ix3 0 k j) = W m c (ix2 k ⟨6168 + j.val, by omega⟩) := by
  unfold V
  after_reads_at
theorem V15 (c : Dev nD) (k : Fin 1024) (j : Fin 128) :
    (V m c main_v30 : (⟨3, ![1, 1024, 128]⟩ : Shape).Idx → EReal) (ix3 0 k j)
      = lane (fun i => W m c (ix2 k ⟨1536 + i.val, by omega⟩)) (fun i => W m c (ix2 k ⟨3080 + i.val, by omega⟩))
          (fun i => W m c (ix2 k ⟨3084 + i.val, by omega⟩)) (fun i => W m c (ix2 k ⟨6160 + i.val, by omega⟩)) j.val := by
  unfold V
  after_reads_at
  unfold lane
  split_ifs
  all_goals after_reads_at

theorem idx8 : ∀ t : Fin cfg0.N, win0_8.index t 0 = 0 ∧ win0_8.index t 1 = 0 ∧ win0_8.index t 2 = 0 := by decide +kernel
theorem iblk8 (c : Dev nD) (t : Fin cfg0.N) (k : Fin 1024) (j : Fin 512) :
    (iblk m c 8 t : (⟨3, ![1, 1024, 512]⟩ : Shape).Idx → EReal) (ix3 0 k j) = W m c (ix2 k ⟨0 + j.val, by omega⟩) := by
  rw [← V8]
  unfold iblk
  rw [View.read_apply]
  exact congrArg (V m c main_v16) (weight_pos (idx8 t) k j _ rfl rfl rfl)
theorem idx9 : ∀ t : Fin cfg0.N, win0_9.index t 0 = 0 ∧ win0_9.index t 1 = 0 ∧ win0_9.index t 2 = 0 := by decide +kernel
theorem iblk9 (c : Dev nD) (t : Fin cfg0.N) (k : Fin 1024) (j : Fin 1024) :
    (iblk m c 9 t : (⟨3, ![1, 1024, 1024]⟩ : Shape).Idx → EReal) (ix3 0 k j) = W m c (ix2 k ⟨512 + j.val, by omega⟩) := by
  rw [← V9]
  unfold iblk
  rw [View.read_apply]
  exact congrArg (V m c main_v18) (weight_pos (idx9 t) k j _ rfl rfl rfl)
theorem idx10 : ∀ t : Fin cfg0.N, win0_10.index t 0 = 0 ∧ win0_10.index t 1 = 0 ∧ win0_10.index t 2 = 0 := by decide +kernel
theorem iblk10 (c : Dev nD) (t : Fin cfg0.N) (k : Fin 1024) (j : Fin 1536) :
    (iblk m c 10 t : (⟨3, ![1, 1024, 1536]⟩ : Shape).Idx → EReal) (ix3 0 k j) = W m c (ix2 k ⟨1544 + j.val, by omega⟩) := by
  rw [← V10]
  unfold iblk
  rw [View.read_apply]
  exact congrArg (V m c main_v20) (weight_pos (idx10 t) k j _ rfl rfl rfl)
theorem idx11 : ∀ t : Fin cfg0.N, win0_11.index t 0 = 0 ∧ win0_11.index t 1 = 0 ∧ win0_11.index t 2 = 0 := by decide +kernel
theorem iblk11 (c : Dev nD) (t : Fin cfg0.N) (k : Fin 1024) (j : Fin 512) :
    (iblk m c 11 t : (⟨3, ![1, 1024, 512]⟩ : Shape).Idx → EReal) (ix3 0 k j) = W m c (ix2 k ⟨3088 + j.val, by omega⟩) := by
  rw [← V11]
  unfold iblk
  rw [View.read_apply]
  exact congrArg (V m c main_v22) (weight_pos (idx11 t) k j _ rfl rfl rfl)
theorem idx12 : ∀ t : Fin cfg0.N, win0_12.index t 0 = 0 ∧ win0_12.index t 1 = 0 ∧ win0_12.index t 2 = 0 := by decide +kernel
theorem iblk12 (c : Dev nD) (t : Fin cfg0.N) (k : Fin 1024) (j : Fin 1024) :
    (iblk m c 12 t : (⟨3, ![1, 1024, 1024]⟩ : Shape).Idx → EReal) (ix3 0 k j) = W m c (ix2 k ⟨3600 + j.val, by omega⟩) := by
  rw [← V12]
  unfold iblk
  rw [View.read_apply]
  exact congrArg (V m c main_v24) (weight_pos (idx12 t) k j _ rfl rfl rfl)
theorem idx13 : ∀ t : Fin cfg0.N, win0_13.index t 0 = 0 ∧ win0_13.index t 1 = 0 ∧ win0_13.index t 2 = 0 := by decide +kernel
theorem iblk13 (c : Dev nD) (t : Fin cfg0.N) (k : Fin 1024) (j : Fin 1536) :
    (iblk m c 13 t : (⟨3, ![1, 1024, 1536]⟩ : Shape).Idx → EReal) (ix3 0 k j) = W m c (ix2 k ⟨4624 + j.val, by omega⟩) := by
  rw [← V13]
  unfold iblk
  rw [View.read_apply]
  exact congrArg (V m c main_v26) (weight_pos (idx13 t) k j _ rfl rfl rfl)
theorem idx14 : ∀ t : Fin cfg0.N, win0_14.index t 0 = 0 ∧ win0_14.index t 1 = 0 ∧ win0_14.index t 2 = 0 := by decide +kernel
theorem iblk14 (c : Dev nD) (t : Fin cfg0.N) (k : Fin 1024) (j : Fin 4096) :
    (iblk m c 14 t : (⟨3, ![1, 1024, 4096]⟩ : Shape).Idx → EReal) (ix3 0 k j) = W m c (ix2 k ⟨6168 + j.val, by omega⟩) := by
  rw [← V14]
  unfold iblk
  rw [View.read_apply]
  exact congrArg (V m c main_v28) (weight_pos (idx14 t) k j _ rfl rfl rfl)
theorem idx15 : ∀ t : Fin cfg0.N, win0_15.index t 0 = 0 ∧ win0_15.index t 1 = 0 ∧ win0_15.index t 2 = 0 := by decide +kernel
theorem iblk15 (c : Dev nD) (t : Fin cfg0.N) (k : Fin 1024) (j : Fin 128) :
    (iblk m c 15 t : (⟨3, ![1, 1024, 128]⟩ : Shape).Idx → EReal) (ix3 0 k j) =
      lane (fun i => W m c (ix2 k ⟨1536 + i.val, by omega⟩)) (fun i => W m c (ix2 k ⟨3080 + i.val, by omega⟩))
          (fun i => W m c (ix2 k ⟨3084 + i.val, by omega⟩)) (fun i => W m c (ix2 k ⟨6160 + i.val, by omega⟩)) j.val := by
  rw [← V15]
  unfold iblk
  rw [View.read_apply]
  exact congrArg (V m c main_v30) (weight_pos (idx15 t) k j _ rfl rfl rfl)

/-! ## One point, and the array -/

theorem after17 (c : Dev nD) (t : Fin cfg0.N) (r : Fin 256) (k : Fin 1024) :
    ((dats m 0 c).after 17 t : (⟨2, ![256, 1024]⟩ : Shape).Idx → EReal) (ix2 r k)
      = res (G m c) (W m c) (Du m c) (ix2 (token t r) k) := by
  rw [after0_17]
  unfold out0_17
  rw [View.canon_unit_zero hz]
  unfold r0_0 r0_1 r0_2 r0_3 r0_4 r0_5 r0_6 r0_7 r0_8 r0_9
  simp only [ld_rows, ld_weight]
  pointwise [k0_pay1, k0_pay2, k0_pay3]
  simp only [iblk0, iblk1, iblk2, iblk3, iblk4, iblk5, iblk6, iblk7, iblk8, iblk9, iblk10, iblk11, iblk12, iblk13, iblk14,
    iblk15, iblk16]
  refine (congrArg _ (lane_mul ..)).trans ?_
  rfl

theorem idx17 : ∀ t : Fin cfg0.N, win0_17.index t 0 = t.val ∧ win0_17.index t 1 = 0 := by decide +kernel
/-- The result array after the run. -/
theorem final17 (c : Dev nD) : (dats m 0 c).arrAt 17 cfg0.N = (res (G m c) (W m c) (Du m c) : Vec Ideal S4096x1024 .f32) :=
  (dats m 0 c).arrAt_eq_of_covers 17 (res (G m c) (W m c) (Du m c) : Vec Ideal S4096x1024 .f32) (by decide +kernel) fun t _ y => by
    obtain ⟨r, k, rfl⟩ : ∃ (r : Fin 256) (k : Fin 1024), y = ix2 r k := ⟨y 0, y 1, eq_ix2 y⟩
    exact (after17 m c t r k).trans (congrArg _ (rows_pos (idx17 t) r k _ rfl rfl).symm)

end Cert.InBack

end
-- ==== Proof.InBackRef.lean ====
/-
  What the reference for the gradient at the projections' input computes, read element by element over the extended
  reals.
-/
module

public import proofs.«01_k».proof.Proof.InBackSpec
public import proofs.«01_k».proof.Proof.Gen.Reference6Ideal.Read
public import Idealize.ShloMosaic.Lib.Pointwise

@[expose] public section

set_option maxRecDepth 16384

noncomputable section

namespace Cert.InBack

open Idealize.ShloMosaic
open Cert.Merge (Mat)
open Cert.Reference6Ideal.Read

/-- The gradients of all columns, side by side. -/
abbrev all (G : Grads) : Mat 4096 10264 := val_main_v15 (F := Ideal) G.dz G.dxbc G.ddt G.dqkv G.dbeta G.da G.dgate G.duv G.dfox G.df G.dgates

variable (G : Grads) (w : Mat 1024 10264) (du : Mat 4096 1024) (l : Fin 4096)

/-- Each group is found at its columns. -/
theorem same_row {n n' : ℕ} (i : Fin n) (j : Fin n') (b : Fin 2) (hb : b.cast rfl ≠ (1 : Fin 2)) :
    (ix2 l i b : Fin (![4096, n] b)).val = (ix2 l j (b.cast rfl) : Fin (![4096, n'] (b.cast rfl))).val := by
  match b with
  | 0 => rfl
  | 1 => exact absurd rfl hb
theorem all_dz (i : Fin 512) : all G (ix2 l ⟨0 + i.val, by omega⟩) = G.dz (ix2 l i) := by
  unfold all val_main_v15
  exact concatenate_apply_piece (t := ⟨2, ![4096, 10264]⟩) 1 _ _ _ 0 (by show 0 < 11; omega) ⟨2, ![4096, 512]⟩ G.dz rfl rfl 0 rfl (ix2 l i) (same_row l i _) rfl
theorem all_dxbc (i : Fin 1024) : all G (ix2 l ⟨512 + i.val, by omega⟩) = G.dxbc (ix2 l i) := by
  unfold all val_main_v15
  exact concatenate_apply_piece (t := ⟨2, ![4096, 10264]⟩) 1 _ _ _ 1 (by show 1 < 11; omega) ⟨2, ![4096, 1024]⟩ G.dxbc rfl rfl 512 rfl (ix2 l i) (same_row l i _) rfl
theorem all_ddt (i : Fin 8) : all G (ix2 l ⟨1536 + i.val, by omega⟩) = G.ddt (ix2 l i) := by
  unfold all val_main_v15
  exact concatenate_apply_piece (t := ⟨2, ![4096, 10264]⟩) 1 _ _ _ 2 (by show 2 < 11; omega) ⟨2, ![4096, 8]⟩ G.ddt rfl rfl 1536 rfl (ix2 l i) (same_row l i _) rfl
theorem all_dqkv (i : Fin 1536) : all G (ix2 l ⟨1544 + i.val, by omega⟩) = G.dqkv (ix2 l i) := by
  unfold all val_main_v15
  exact concatenate_apply_piece (t := ⟨2, ![4096, 10264]⟩) 1 _ _ _ 3 (by show 3 < 11; omega) ⟨2, ![4096, 1536]⟩ G.dqkv rfl rfl 1544 rfl (ix2 l i) (same_row l i _) rfl
theorem all_dbeta (i : Fin 4) : all G (ix2 l ⟨3080 + i.val, by omega⟩) = G.dbeta (ix2 l i) := by
  unfold all val_main_v15
  exact concatenate_apply_piece (t := ⟨2, ![4096, 10264]⟩) 1 _ _ _ 4 (by show 4 < 11; omega) ⟨2, ![4096, 4]⟩ G.dbeta rfl rfl 3080 rfl (ix2 l i) (same_row l i _) rfl
theorem all_da (i : Fin 4) : all G (ix2 l ⟨3084 + i.val, by omega⟩) = G.da (ix2 l i) := by
  unfold all val_main_v15
  exact concatenate_apply_piece (t := ⟨2, ![4096, 10264]⟩) 1 _ _ _ 5 (by show 5 < 11; omega) ⟨2, ![4096, 4]⟩ G.da rfl rfl 3084 rfl (ix2 l i) (same_row l i _) rfl
theorem all_dgate (i : Fin 512) : all G (ix2 l ⟨3088 + i.val, by omega⟩) = G.dgate (ix2 l i) := by
  unfold all val_main_v15
  exact concatenate_apply_piece (t := ⟨2, ![4096, 10264]⟩) 1 _ _ _ 6 (by show 6 < 11; omega) ⟨2, ![4096, 512]⟩ G.dgate rfl rfl 3088 rfl (ix2 l i) (same_row l i _) rfl
theorem all_duv (i : Fin 1024) : all G (ix2 l ⟨3600 + i.val, by omega⟩) = G.duv (ix2 l i) := by
  unfold all val_main_v15
  exact concatenate_apply_piece (t := ⟨2, ![4096, 10264]⟩) 1 _ _ _ 7 (by show 7 < 11; omega) ⟨2, ![4096, 1024]⟩ G.duv rfl rfl 3600 rfl (ix2 l i) (same_row l i _) rfl
theorem all_dfox (i : Fin 1536) : all G (ix2 l ⟨4624 + i.val, by omega⟩) = G.dfox (ix2 l i) := by
  unfold all val_main_v15
  exact concatenate_apply_piece (t := ⟨2, ![4096, 10264]⟩) 1 _ _ _ 8 (by show 8 < 11; omega) ⟨2, ![4096, 1536]⟩ G.dfox rfl rfl 4624 rfl (ix2 l i) (same_row l i _) rfl
theorem all_df (i : Fin 8) : all G (ix2 l ⟨6160 + i.val, by omega⟩) = G.df (ix2 l i) := by
  unfold all val_main_v15
  exact concatenate_apply_piece (t := ⟨2, ![4096, 10264]⟩) 1 _ _ _ 9 (by show 9 < 11; omega) ⟨2, ![4096, 8]⟩ G.df rfl rfl 6160 rfl (ix2 l i) (same_row l i _) rfl
theorem all_dgates (i : Fin 4096) : all G (ix2 l ⟨6168 + i.val, by omega⟩) = G.dgates (ix2 l i) := by
  unfold all val_main_v15
  exact concatenate_apply_piece (t := ⟨2, ![4096, 10264]⟩) 1 _ _ _ 10 (by show 10 < 11; omega) ⟨2, ![4096, 4096]⟩ G.dgates rfl rfl 6168 rfl (ix2 l i) (same_row l i _) rfl

theorem res_ref (k : Fin 1024) :
    val_main_v19 (F := Ideal) G.dz G.dxbc G.ddt G.dqkv G.dbeta G.da G.dgate G.duv G.dfox G.df G.dgates w du (ix2 l k) = res G w du (ix2 l k) := by
  pointwise [val_main_v19, val_main_v18, val_main_v17, val_main_cst_1, val_main_v16]
  exact columns_mul G w (all G) l k (all_dz G l) (all_dxbc G l) (all_ddt G l) (all_dqkv G l) (all_dbeta G l) (all_da G l)
    (all_dgate G l) (all_duv G l) (all_dfox G l) (all_df G l) (all_dgates G l) _

end Cert.InBack

end
-- ==== Proof.InBackClaim.lean ====
/-
  The claims about the gradient at the input of the projections: the kernel's result array and the reference's hold the
  same numbers.
-/
module

public import proofs.«01_k».proof.Defs
public import proofs.«01_k».proof.Proof.InBack
public import proofs.«01_k».proof.Proof.InBackRef
public import proofs.«01_k».proof.Proof.Gen.Kernel6.Frame
public import proofs.«01_k».proof.Proof.Gen.Reference6Ideal.Run
public import Idealize.ShloMosaic.Lib.Quiescent

@[expose] public section

set_option maxRecDepth 16384

noncomputable section

namespace Cert.Proof.InBack

open Idealize.ShloMosaic Idealize.ShloMosaic.TcCoe Idealize.SL.Sem
open Cert.InBack Cert.Reference6Ideal.Read

/-- The kernel, at bit patterns, runs to the end and leaves its arguments alone. -/
theorem frame_kernel : Cert.quiescent_Kernel6 := fun m ρ _ => Cert.Kernel6.Gen.frame m ρ
/-- So does its idealization, at extended reals. -/
theorem frame_ideal : Cert.quiescent_Kernel6Ideal := fun m ρ _ => Cert.Kernel6Ideal.Gen.frame m ρ
/-- And the reference. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)
/-- The idealization rewrote nothing. -/
theorem preserves : Cert.preserves_Kernel6_Kernel6Ideal := trivial

/-- Started from equal arguments, kernel and reference end with the same gradient. -/
theorem algebraic : Cert.algebraic_Kernel6Ideal_Reference6Ideal := by
  intro m ρ m' ρ' _ hagree
  refine ⟨fun c => res (G m c) (W m c) (Du m c), ?_, ?_⟩
  · refine (θ_run Cert.Kernel6Ideal.defs _ _).mono (fun _ h c => ?_) (Cert.Kernel6Ideal.Value.run_blocks (F := Ideal) m ρ)
    exact ⟨(h c).1.trans (final17 m c), (h c).2⟩
  · refine (θ_run Cert.Reference6Ideal.defs _ _).mono (fun _ h c => ?_) (Cert.Reference6Ideal.Value.run (F := Ideal) m' ρ')
    refine ⟨(h c).1.trans ?_, (h c).2⟩
    obtain ⟨a0, a1, a2, a3, a4, a5, a6, a7, a8, a9, a10, a11, a12⟩ := hagree c
    refine (val_main_v19_eq (F := Ideal) ..).trans ?_
    rw [a0, a1, a2, a3, a4, a5, a6, a7, a8, a9, a10, a11, a12]
    exact funext fun y => (congrArg _ (eq_ix2 y)).trans (res_ref (G m c) (W m c) (Du m c) ..)

end Cert.Proof.InBack

end
-- ==== Proof.InProj.lean ====
/-
  The input projections: the kernel multiplies 256 rows of the residual stream with the eight groups of columns of
  `w_in` and writes eight row blocks. Each block is stated as a group of columns of the one product `h · w_in`.
-/
module

public import proofs.«01_k».proof.Proof.Gen.Kernel7Ideal.Value
public import proofs.«01_k».proof.Proof.MergeSpec
public import Idealize.ShloMosaic.Lib.Pointwise
public import Idealize.ShloMosaic.Lib.Tactic
public import Idealize.ShloMosaic.Lib.StableHlo.ReadAt
public import Idealize.ShloMosaic.Lib.Pipeline.ValueKit

@[expose] public section

set_option maxRecDepth 16384

noncomputable section

namespace Cert.InProj

open Cert.Merge (Mat)
open Cert.Kernel7Ideal Cert.Kernel7Ideal.Gen Idealize.ShloMosaic Idealize.ShloMosaic.TcCoe Idealize.SL.Sem

/-! ## What is computed -/

/-- Columns `o, o + 1, …` of the product of `h` and `w`. -/
def columns (n o : ℕ) (ho : o + n ≤ 10264) (h : Mat 4096 1024) (w : Mat 1024 10264) : Mat 4096 n :=
  fun y => ∑ l : Fin 1024, h (ix2 (y 0) l) * w (ix2 l ⟨o + (y 1).val, by have := (y 1).isLt; simp at this; omega⟩)

/-- The narrow group of columns, out of all of them: four small groups and zeros up to a whole lane. -/
def lane (f : Fin 10264 → EReal) (j : Fin 128) : EReal :=
  if h : j.val < 8 then f ⟨1536 + j.val, by omega⟩
  else if h : j.val - 8 < 4 then f ⟨3080 + (j.val - 8), by omega⟩
  else if h : j.val - 8 - 4 < 4 then f ⟨3084 + (j.val - 8 - 4), by omega⟩
  else if h : j.val - 8 - 4 - 4 < 8 then f ⟨6160 + (j.val - 8 - 4 - 4), by omega⟩
  else 0

/-- The narrow group of columns of the product. -/
def narrow (h : Mat 4096 1024) (w : Mat 1024 10264) : Mat 4096 128 :=
  fun y => ∑ l : Fin 1024, h (ix2 (y 0) l) * lane (fun k => w (ix2 l k)) (y 1)

variable (m : (ℓ : Loc nD τ sig) → Buf (Elt Ideal) ℓ)

/-! ## The arrays the program was given, and the blocks the body loads -/

/-- The residual stream and the weight of all input projections. -/
abbrev H (c : Dev nD) : Mat 4096 1024 := m (c.tc.loc main_arg0)
abbrev W (c : Dev nD) : Mat 1024 10264 := m (c.tc.loc main_arg1)

theorem hz2 : (![0, 0] : Fin 2 → Nat) = fun _ => 0 := funext fun a => by fin_cases a <;> rfl
theorem hz3 : (![0, 0, 0] : Fin 3 → Nat) = fun _ => 0 := funext fun a => by fin_cases a <;> rfl
theorem lt16 (t : Fin cfg0.N) : t.val < 16 := lt_of_lt_of_eq t.isLt N_0
/-- The token of row `r` of the block of point `t`. -/
def token (t : Fin cfg0.N) (r : Fin 256) : Fin 4096 := ⟨256 * t.val + r.val, by have := lt16 t; omega⟩

theorem V_arg0 (c : Dev nD) : V m c main_arg0 = m (c.tc.loc main_arg0) := by
  unfold V
  after_reads_at

theorem idx0 : ∀ t : Fin cfg0.N, win0_0.index t 0 = t.val ∧ win0_0.index t 1 = 0 := by decide +kernel
/-- The rows of a point. -/
theorem iblk0 (c : Dev nD) (t : Fin cfg0.N) (r : Fin 256) (l : Fin 1024) :
    (iblk m c 0 t : (⟨2, ![256, 1024]⟩ : Shape).Idx → EReal) (ix2 r l) = H m c (ix2 (token t r) l) := by
  have hi := idx0 t
  unfold iblk
  rw [View.read_apply]
  show V m c main_arg0 _ = m (c.tc.loc main_arg0) _
  rw [V_arg0]
  congr 1
  funext a
  apply Fin.ext
  match a with
  | ⟨0, _⟩ => show win0_0.index t 0 * 256 + 1 * r.val = 256 * t.val + r.val; rw [hi.1]; omega
  | ⟨1, _⟩ => show win0_0.index t 1 * 1024 + 1 * l.val = l.val; rw [hi.2]; omega

/-! ### The weights

A weight's window is the whole array of its columns. -/

theorem V1 (c : Dev nD) (l : Fin 1024) (j : Fin 512) :
    (V m c main_v14 : (⟨3, ![1, 1024, 512]⟩ : Shape).Idx → EReal) (ix3 0 l j) = W m c (ix2 l ⟨0 + j.val, by omega⟩) := by
  unfold V
  after_reads_at
theorem V2 (c : Dev nD) (l : Fin 1024) (j : Fin 1024) :
    (V m c main_v16 : (⟨3, ![1, 1024, 1024]⟩ : Shape).Idx → EReal) (ix3 0 l j) = W m c (ix2 l ⟨512 + j.val, by omega⟩) := by
  unfold V
  after_reads_at
theorem V3 (c : Dev nD) (l : Fin 1024) (j : Fin 1536) :
    (V m c main_v18 : (⟨3, ![1, 1024, 1536]⟩ : Shape).Idx → EReal) (ix3 0 l j) = W m c (ix2 l ⟨1544 + j.val, by omega⟩) := by
  unfold V
  after_reads_at
theorem V4 (c : Dev nD) (l : Fin 1024) (j : Fin 512) :
    (V m c main_v20 : (⟨3, ![1, 1024, 512]⟩ : Shape).Idx → EReal) (ix3 0 l j) = W m c (ix2 l ⟨3088 + j.val, by omega⟩) := by
  unfold V
  after_reads_at
theorem V5 (c : Dev nD) (l : Fin 1024) (j : Fin 1024) :
    (V m c main_v22 : (⟨3, ![1, 1024, 1024]⟩ : Shape).Idx → EReal) (ix3 0 l j) = W m c (ix2 l ⟨3600 + j.val, by omega⟩) := by
  unfold V
  after_reads_at
theorem V6 (c : Dev nD) (l : Fin 1024) (j : Fin 1536) :
    (V m c main_v24 : (⟨3, ![1, 1024, 1536]⟩ : Shape).Idx → EReal) (ix3 0 l j) = W m c (ix2 l ⟨4624 + j.val, by omega⟩) := by
  unfold V
  after_reads_at
theorem V7 (c : Dev nD) (l : Fin 1024) (j : Fin 4096) :
    (V m c main_v26 : (⟨3, ![1, 1024, 4096]⟩ : Shape).Idx → EReal) (ix3 0 l j) = W m c (ix2 l ⟨6168 + j.val, by omega⟩) := by
  unfold V
  after_reads_at
theorem V8 (c : Dev nD) (l : Fin 1024) (j : Fin 128) :
    (V m c main_v28 : (⟨3, ![1, 1024, 128]⟩ : Shape).Idx → EReal) (ix3 0 l j) = lane (fun k => W m c (ix2 l k)) j := by
  unfold V
  after_reads_at
  unfold lane
  split_ifs
  all_goals after_reads_at

/-- An index into a window over a whole weight. -/
theorem weight_pos {n : ℕ} {i : Fin 3 → ℕ} (hi : i 0 = 0 ∧ i 1 = 0 ∧ i 2 = 0) (l : Fin 1024) (j : Fin n)
    (y : (⟨3, ![1, 1024, n]⟩ : Shape).Idx) (h0 : (y 0).val = i 0 * 1 + 1 * 0) (h1 : (y 1).val = i 1 * 1024 + 1 * l.val)
    (h2 : (y 2).val = i 2 * n + 1 * j.val) : y = ix3 0 l j := by
  funext a
  apply Fin.ext
  match a with
  | ⟨0, _⟩ => show (y 0).val = 0; rw [h0, hi.1]
  | ⟨1, _⟩ => show (y 1).val = l.val; rw [h1, hi.2.1]; omega
  | ⟨2, _⟩ => show (y 2).val = j.val; rw [h2, hi.2.2, Nat.zero_mul]; omega

theorem idx1 : ∀ t : Fin cfg0.N, win0_1.index t 0 = 0 ∧ win0_1.index t 1 = 0 ∧ win0_1.index t 2 = 0 := by decide +kernel
theorem iblk1 (c : Dev nD) (t : Fin cfg0.N) (l : Fin 1024) (j : Fin 512) :
    (iblk m c 1 t : (⟨3, ![1, 1024, 512]⟩ : Shape).Idx → EReal) (ix3 0 l j) = W m c (ix2 l ⟨0 + j.val, by omega⟩) := by
  rw [← V1]
  unfold iblk
  rw [View.read_apply]
  exact congrArg (V m c main_v14) (weight_pos (idx1 t) l j _ rfl rfl rfl)
theorem idx2 : ∀ t : Fin cfg0.N, win0_2.index t 0 = 0 ∧ win0_2.index t 1 = 0 ∧ win0_2.index t 2 = 0 := by decide +kernel
theorem iblk2 (c : Dev nD) (t : Fin cfg0.N) (l : Fin 1024) (j : Fin 1024) :
    (iblk m c 2 t : (⟨3, ![1, 1024, 1024]⟩ : Shape).Idx → EReal) (ix3 0 l j) = W m c (ix2 l ⟨512 + j.val, by omega⟩) := by
  rw [← V2]
  unfold iblk
  rw [View.read_apply]
  exact congrArg (V m c main_v16) (weight_pos (idx2 t) l j _ rfl rfl rfl)
theorem idx3 : ∀ t : Fin cfg0.N, win0_3.index t 0 = 0 ∧ win0_3.index t 1 = 0 ∧ win0_3.index t 2 = 0 := by decide +kernel
theorem iblk3 (c : Dev nD) (t : Fin cfg0.N) (l : Fin 1024) (j : Fin 1536) :
    (iblk m c 3 t : (⟨3, ![1, 1024, 1536]⟩ : Shape).Idx → EReal) (ix3 0 l j) = W m c (ix2 l ⟨1544 + j.val, by omega⟩) := by
  rw [← V3]
  unfold iblk
  rw [View.read_apply]
  exact congrArg (V m c main_v18) (weight_pos (idx3 t) l j _ rfl rfl rfl)
theorem idx4 : ∀ t : Fin cfg0.N, win0_4.index t 0 = 0 ∧ win0_4.index t 1 = 0 ∧ win0_4.index t 2 = 0 := by decide +kernel
theorem iblk4 (c : Dev nD) (t : Fin cfg0.N) (l : Fin 1024) (j : Fin 512) :
    (iblk m c 4 t : (⟨3, ![1, 1024, 512]⟩ : Shape).Idx → EReal) (ix3 0 l j) = W m c (ix2 l ⟨3088 + j.val, by omega⟩) := by
  rw [← V4]
  unfold iblk
  rw [View.read_apply]
  exact congrArg (V m c main_v20) (weight_pos (idx4 t) l j _ rfl rfl rfl)
theorem idx5 : ∀ t : Fin cfg0.N, win0_5.index t 0 = 0 ∧ win0_5.index t 1 = 0 ∧ win0_5.index t 2 = 0 := by decide +kernel
theorem iblk5 (c : Dev nD) (t : Fin cfg0.N) (l : Fin 1024) (j : Fin 1024) :
    (iblk m c 5 t : (⟨3, ![1, 1024, 1024]⟩ : Shape).Idx → EReal) (ix3 0 l j) = W m c (ix2 l ⟨3600 + j.val, by omega⟩) := by
  rw [← V5]
  unfold iblk
  rw [View.read_apply]
  exact congrArg (V m c main_v22) (weight_pos (idx5 t) l j _ rfl rfl rfl)
theorem idx6 : ∀ t : Fin cfg0.N, win0_6.index t 0 = 0 ∧ win0_6.index t 1 = 0 ∧ win0_6.index t 2 = 0 := by decide +kernel
theorem iblk6 (c : Dev nD) (t : Fin cfg0.N) (l : Fin 1024) (j : Fin 1536) :
    (iblk m c 6 t : (⟨3, ![1, 1024, 1536]⟩ : Shape).Idx → EReal) (ix3 0 l j) = W m c (ix2 l ⟨4624 + j.val, by omega⟩) := by
  rw [← V6]
  unfold iblk
  rw [View.read_apply]
  exact congrArg (V m c main_v24) (weight_pos (idx6 t) l j _ rfl rfl rfl)
theorem idx7 : ∀ t : Fin cfg0.N, win0_7.index t 0 = 0 ∧ win0_7.index t 1 = 0 ∧ win0_7.index t 2 = 0 := by decide +kernel
theorem iblk7 (c : Dev nD) (t : Fin cfg0.N) (l : Fin 1024) (j : Fin 4096) :
    (iblk m c 7 t : (⟨3, ![1, 1024, 4096]⟩ : Shape).Idx → EReal) (ix3 0 l j) = W m c (ix2 l ⟨6168 + j.val, by omega⟩) := by
  rw [← V7]
  unfold iblk
  rw [View.read_apply]
  exact congrArg (V m c main_v26) (weight_pos (idx7 t) l j _ rfl rfl rfl)
theorem idx8 : ∀ t : Fin cfg0.N, win0_8.index t 0 = 0 ∧ win0_8.index t 1 = 0 ∧ win0_8.index t 2 = 0 := by decide +kernel
theorem iblk8 (c : Dev nD) (t : Fin cfg0.N) (l : Fin 1024) (j : Fin 128) :
    (iblk m c 8 t : (⟨3, ![1, 1024, 128]⟩ : Shape).Idx → EReal) (ix3 0 l j) = lane (fun k => W m c (ix2 l k)) j := by
  rw [← V8]
  unfold iblk
  rw [View.read_apply]
  exact congrArg (V m c main_v28) (weight_pos (idx8 t) l j _ rfl rfl rfl)

/-! ## One point, and the arrays -/

theorem ld_rows (v : Vec Ideal (⟨2, ![256, 1024]⟩ : Shape) .f32) (inb) :
    View.ld v (Rect.unit ![0, 0] ![256, 1024] inb) = v := View.ld_unit_zero hz2 inb v
theorem ld_weight {n : ℕ} (v : Vec Ideal (⟨3, ![1, 1024, n]⟩ : Shape) .bf16) (inb) :
    View.ld v (Rect.unit ![0, 0, 0] ![1, 1024, n] inb) = v := View.ld_unit_zero hz3 inb v

/-- An index into a block of 256 rows. -/
theorem rows_pos {n : ℕ} {i : Fin 2 → ℕ} {t : Fin cfg0.N} (hi : i 0 = t.val ∧ i 1 = 0) (r : Fin 256) (j : Fin n)
    (y : (⟨2, ![4096, n]⟩ : Shape).Idx) (h0 : (y 0).val = i 0 * 256 + 1 * r.val) (h1 : (y 1).val = i 1 * n + 1 * j.val) :
    ix2 (token t r) j = y := by
  funext a
  apply Fin.ext
  match a with
  | ⟨0, _⟩ => show 256 * t.val + r.val = (y 0).val; rw [h0, hi.1]; omega
  | ⟨1, _⟩ => show j.val = (y 1).val; rw [h1, hi.2, Nat.zero_mul]; omega

/-! ### Columns of z -/

theorem after9 (c : Dev nD) (t : Fin cfg0.N) (r : Fin 256) (j : Fin 512) :
    ((dats m 0 c).after 9 t : (⟨2, ![256, 512]⟩ : Shape).Idx → EReal) (ix2 r j)
      = columns 512 0 (by omega) (H m c) (W m c) (ix2 (token t r) j) := by
  rw [after0_9]
  unfold out0_9
  rw [View.canon_unit_zero hz2]
  unfold r0_0
  simp only [ld_rows, ld_weight]
  pointwise [k0_pay5, k0_pay4]
  simp only [iblk0, iblk1]
  rfl
theorem idx9 : ∀ t : Fin cfg0.N, win0_9.index t 0 = t.val ∧ win0_9.index t 1 = 0 := by decide +kernel
theorem final9 (c : Dev nD) :
    (dats m 0 c).arrAt 9 cfg0.N = (columns 512 0 (by omega) (H m c) (W m c) : Vec Ideal S4096x512 .f32) :=
  (dats m 0 c).arrAt_eq_of_covers 9 (columns 512 0 (by omega) (H m c) (W m c) : Vec Ideal S4096x512 .f32) (by decide +kernel) fun t _ y => by
    obtain ⟨r, j, rfl⟩ : ∃ (r : Fin 256) (j : Fin 512), y = ix2 r j := ⟨y 0, y 1, eq_ix2 y⟩
    exact (after9 m c t r j).trans (congrArg _ (rows_pos (idx9 t) r j _ rfl rfl))

/-! ### Columns of x, b and c -/

theorem after10 (c : Dev nD) (t : Fin cfg0.N) (r : Fin 256) (j : Fin 1024) :
    ((dats m 0 c).after 10 t : (⟨2, ![256, 1024]⟩ : Shape).Idx → EReal) (ix2 r j)
      = columns 1024 512 (by omega) (H m c) (W m c) (ix2 (token t r) j) := by
  rw [after0_10]
  unfold out0_10
  rw [View.canon_unit_zero hz2]
  unfold r0_0
  simp only [ld_rows, ld_weight]
  pointwise [k0_pay6, k0_pay4]
  simp only [iblk0, iblk2]
  rfl
theorem idx10 : ∀ t : Fin cfg0.N, win0_10.index t 0 = t.val ∧ win0_10.index t 1 = 0 := by decide +kernel
theorem final10 (c : Dev nD) :
    (dats m 0 c).arrAt 10 cfg0.N = (columns 1024 512 (by omega) (H m c) (W m c) : Vec Ideal S4096x1024 .f32) :=
  (dats m 0 c).arrAt_eq_of_covers 10 (columns 1024 512 (by omega) (H m c) (W m c) : Vec Ideal S4096x1024 .f32) (by decide +kernel) fun t _ y => by
    obtain ⟨r, j, rfl⟩ : ∃ (r : Fin 256) (j : Fin 1024), y = ix2 r j := ⟨y 0, y 1, eq_ix2 y⟩
    exact (after10 m c t r j).trans (congrArg _ (rows_pos (idx10 t) r j _ rfl rfl))

/-! ### Columns of q, k and v -/

theorem after11 (c : Dev nD) (t : Fin cfg0.N) (r : Fin 256) (j : Fin 1536) :
    ((dats m 0 c).after 11 t : (⟨2, ![256, 1536]⟩ : Shape).Idx → EReal) (ix2 r j)
      = columns 1536 1544 (by omega) (H m c) (W m c) (ix2 (token t r) j) := by
  rw [after0_11]
  unfold out0_11
  rw [View.canon_unit_zero hz2]
  unfold r0_0
  simp only [ld_rows, ld_weight]
  pointwise [k0_pay7, k0_pay4]
  simp only [iblk0, iblk3]
  rfl
theorem idx11 : ∀ t : Fin cfg0.N, win0_11.index t 0 = t.val ∧ win0_11.index t 1 = 0 := by decide +kernel
theorem final11 (c : Dev nD) :
    (dats m 0 c).arrAt 11 cfg0.N = (columns 1536 1544 (by omega) (H m c) (W m c) : Vec Ideal S4096x1536 .f32) :=
  (dats m 0 c).arrAt_eq_of_covers 11 (columns 1536 1544 (by omega) (H m c) (W m c) : Vec Ideal S4096x1536 .f32) (by decide +kernel) fun t _ y => by
    obtain ⟨r, j, rfl⟩ : ∃ (r : Fin 256) (j : Fin 1536), y = ix2 r j := ⟨y 0, y 1, eq_ix2 y⟩
    exact (after11 m c t r j).trans (congrArg _ (rows_pos (idx11 t) r j _ rfl rfl))

/-! ### Columns of the gate -/

theorem after12 (c : Dev nD) (t : Fin cfg0.N) (r : Fin 256) (j : Fin 512) :
    ((dats m 0 c).after 12 t : (⟨2, ![256, 512]⟩ : Shape).Idx → EReal) (ix2 r j)
      = columns 512 3088 (by omega) (H m c) (W m c) (ix2 (token t r) j) := by
  rw [after0_12]
  unfold out0_12
  rw [View.canon_unit_zero hz2]
  unfold r0_0
  simp only [ld_rows, ld_weight]
  pointwise [k0_pay8, k0_pay4]
  simp only [iblk0, iblk4]
  rfl
theorem idx12 : ∀ t : Fin cfg0.N, win0_12.index t 0 = t.val ∧ win0_12.index t 1 = 0 := by decide +kernel
theorem final12 (c : Dev nD) :
    (dats m 0 c).arrAt 12 cfg0.N = (columns 512 3088 (by omega) (H m c) (W m c) : Vec Ideal S4096x512 .f32) :=
  (dats m 0 c).arrAt_eq_of_covers 12 (columns 512 3088 (by omega) (H m c) (W m c) : Vec Ideal S4096x512 .f32) (by decide +kernel) fun t _ y => by
    obtain ⟨r, j, rfl⟩ : ∃ (r : Fin 256) (j : Fin 512), y = ix2 r j := ⟨y 0, y 1, eq_ix2 y⟩
    exact (after12 m c t r j).trans (congrArg _ (rows_pos (idx12 t) r j _ rfl rfl))

/-! ### Columns of u and v -/

theorem after13 (c : Dev nD) (t : Fin cfg0.N) (r : Fin 256) (j : Fin 1024) :
    ((dats m 0 c).after 13 t : (⟨2, ![256, 1024]⟩ : Shape).Idx → EReal) (ix2 r j)
      = columns 1024 3600 (by omega) (H m c) (W m c) (ix2 (token t r) j) := by
  rw [after0_13]
  unfold out0_13
  rw [View.canon_unit_zero hz2]
  unfold r0_0
  simp only [ld_rows, ld_weight]
  pointwise [k0_pay9, k0_pay4]
  simp only [iblk0, iblk5]
  rfl
theorem idx13 : ∀ t : Fin cfg0.N, win0_13.index t 0 = t.val ∧ win0_13.index t 1 = 0 := by decide +kernel
theorem final13 (c : Dev nD) :
    (dats m 0 c).arrAt 13 cfg0.N = (columns 1024 3600 (by omega) (H m c) (W m c) : Vec Ideal S4096x1024 .f32) :=
  (dats m 0 c).arrAt_eq_of_covers 13 (columns 1024 3600 (by omega) (H m c) (W m c) : Vec Ideal S4096x1024 .f32) (by decide +kernel) fun t _ y => by
    obtain ⟨r, j, rfl⟩ : ∃ (r : Fin 256) (j : Fin 1024), y = ix2 r j := ⟨y 0, y 1, eq_ix2 y⟩
    exact (after13 m c t r j).trans (congrArg _ (rows_pos (idx13 t) r j _ rfl rfl))

/-! ### Columns of fox -/

theorem after14 (c : Dev nD) (t : Fin cfg0.N) (r : Fin 256) (j : Fin 1536) :
    ((dats m 0 c).after 14 t : (⟨2, ![256, 1536]⟩ : Shape).Idx → EReal) (ix2 r j)
      = columns 1536 4624 (by omega) (H m c) (W m c) (ix2 (token t r) j) := by
  rw [after0_14]
  unfold out0_14
  rw [View.canon_unit_zero hz2]
  unfold k0_pay10 r0_0
  simp only [ld_rows, ld_weight]
  pointwise [k0_pay1, k0_pay4]
  simp only [iblk0, iblk6]
  rfl
theorem idx14 : ∀ t : Fin cfg0.N, win0_14.index t 0 = t.val ∧ win0_14.index t 1 = 0 := by decide +kernel
theorem final14 (c : Dev nD) :
    (dats m 0 c).arrAt 14 cfg0.N = (columns 1536 4624 (by omega) (H m c) (W m c) : Vec Ideal S4096x1536 .f32) :=
  (dats m 0 c).arrAt_eq_of_covers 14 (columns 1536 4624 (by omega) (H m c) (W m c) : Vec Ideal S4096x1536 .f32) (by decide +kernel) fun t _ y => by
    obtain ⟨r, j, rfl⟩ : ∃ (r : Fin 256) (j : Fin 1536), y = ix2 r j := ⟨y 0, y 1, eq_ix2 y⟩
    exact (after14 m c t r j).trans (congrArg _ (rows_pos (idx14 t) r j _ rfl rfl))

/-! ### Columns of the gates of the merge -/

theorem after15 (c : Dev nD) (t : Fin cfg0.N) (r : Fin 256) (j : Fin 4096) :
    ((dats m 0 c).after 15 t : (⟨2, ![256, 4096]⟩ : Shape).Idx → EReal) (ix2 r j)
      = columns 4096 6168 (by omega) (H m c) (W m c) (ix2 (token t r) j) := by
  rw [after0_15]
  unfold out0_15
  rw [View.canon_unit_zero hz2]
  unfold k0_pay10 r0_0
  simp only [ld_rows, ld_weight]
  pointwise [k0_pay2, k0_pay4]
  simp only [iblk0, iblk7]
  rfl
theorem idx15 : ∀ t : Fin cfg0.N, win0_15.index t 0 = t.val ∧ win0_15.index t 1 = 0 := by decide +kernel
theorem final15 (c : Dev nD) :
    (dats m 0 c).arrAt 15 cfg0.N = (columns 4096 6168 (by omega) (H m c) (W m c) : Vec Ideal S4096x4096 .f32) :=
  (dats m 0 c).arrAt_eq_of_covers 15 (columns 4096 6168 (by omega) (H m c) (W m c) : Vec Ideal S4096x4096 .f32) (by decide +kernel) fun t _ y => by
    obtain ⟨r, j, rfl⟩ : ∃ (r : Fin 256) (j : Fin 4096), y = ix2 r j := ⟨y 0, y 1, eq_ix2 y⟩
    exact (after15 m c t r j).trans (congrArg _ (rows_pos (idx15 t) r j _ rfl rfl))

/-! ### Columns of the narrow columns -/

theorem after16 (c : Dev nD) (t : Fin cfg0.N) (r : Fin 256) (j : Fin 128) :
    ((dats m 0 c).after 16 t : (⟨2, ![256, 128]⟩ : Shape).Idx → EReal) (ix2 r j)
      = narrow (H m c) (W m c) (ix2 (token t r) j) := by
  rw [after0_16]
  unfold out0_16
  rw [View.canon_unit_zero hz2]
  unfold k0_pay10 r0_0
  simp only [ld_rows, ld_weight]
  pointwise [k0_pay3, k0_pay4]
  simp only [iblk0, iblk8]
  rfl
theorem idx16 : ∀ t : Fin cfg0.N, win0_16.index t 0 = t.val ∧ win0_16.index t 1 = 0 := by decide +kernel
theorem final16 (c : Dev nD) :
    (dats m 0 c).arrAt 16 cfg0.N = (narrow (H m c) (W m c) : Vec Ideal S4096x128 .f32) :=
  (dats m 0 c).arrAt_eq_of_covers 16 (narrow (H m c) (W m c) : Vec Ideal S4096x128 .f32) (by decide +kernel) fun t _ y => by
    obtain ⟨r, j, rfl⟩ : ∃ (r : Fin 256) (j : Fin 128), y = ix2 r j := ⟨y 0, y 1, eq_ix2 y⟩
    exact (after16 m c t r j).trans (congrArg _ (rows_pos (idx16 t) r j _ rfl rfl))

end Cert.InProj

end
-- ==== Proof.InProjClaim.lean ====
/-
  The claims about the input projections: each of the kernel's eight result arrays and the reference's hold the same
  numbers.
-/
module

public import proofs.«01_k».proof.Defs
public import proofs.«01_k».proof.Proof.InProj
public import proofs.«01_k».proof.Proof.Gen.Kernel7.Frame
public import proofs.«01_k».proof.Proof.Gen.Reference7Ideal.Run
public import proofs.«01_k».proof.Proof.Gen.Reference7Ideal.Read
public import Idealize.ShloMosaic.Lib.Quiescent

@[expose] public section

set_option maxRecDepth 16384

noncomputable section

namespace Cert.Proof.InProj

open Idealize.ShloMosaic Idealize.ShloMosaic.TcCoe Idealize.SL.Sem
open Cert.Merge (Mat)
open Cert.InProj Cert.Reference7Ideal.Read

/-! ## What the reference computes: groups of columns of one product -/

variable (h : Mat 4096 1024) (w : Mat 1024 10264) (l : Fin 4096)

theorem ref_z (j : Fin 512) : val_main_v1 (F := Ideal) h w (ix2 l j) = columns 512 0 (by omega) h w (ix2 l j) := by
  pointwise [val_main_v1, val_main_v0]
  simp only [columns]; congr!; simp
theorem ref_xbc (j : Fin 1024) : val_main_v2 (F := Ideal) h w (ix2 l j) = columns 1024 512 (by omega) h w (ix2 l j) := by
  pointwise [val_main_v2, val_main_v0]
  rfl
theorem ref_qkv (j : Fin 1536) : val_main_v4 (F := Ideal) h w (ix2 l j) = columns 1536 1544 (by omega) h w (ix2 l j) := by
  pointwise [val_main_v4, val_main_v0]
  rfl
theorem ref_gate (j : Fin 512) : val_main_v7 (F := Ideal) h w (ix2 l j) = columns 512 3088 (by omega) h w (ix2 l j) := by
  pointwise [val_main_v7, val_main_v0]
  rfl
theorem ref_uv (j : Fin 1024) : val_main_v8 (F := Ideal) h w (ix2 l j) = columns 1024 3600 (by omega) h w (ix2 l j) := by
  pointwise [val_main_v8, val_main_v0]
  rfl
theorem ref_fox (j : Fin 1536) : val_main_v9 (F := Ideal) h w (ix2 l j) = columns 1536 4624 (by omega) h w (ix2 l j) := by
  pointwise [val_main_v9, val_main_v0]
  rfl
theorem ref_gates (j : Fin 4096) : val_main_v11 (F := Ideal) h w (ix2 l j) = columns 4096 6168 (by omega) h w (ix2 l j) := by
  pointwise [val_main_v11, val_main_v0]
  rfl

/-- The product with the narrow columns: the products with the small groups, and zeros. -/
theorem narrow_apply (j : Fin 128) :
    narrow h w (ix2 l j) = lane (fun k => ∑ i : Fin 1024, h (ix2 l i) * w (ix2 i k)) j := by
  show ∑ i : Fin 1024, h (ix2 l i) * lane (fun k => w (ix2 i k)) j = _
  unfold lane
  split_ifs
  all_goals first | rfl | simp only [mul_zero, Finset.sum_const_zero]
theorem ref_narrow (j : Fin 128) : val_main_v13 (F := Ideal) h w (ix2 l j) = narrow h w (ix2 l j) := by
  rw [narrow_apply]
  pointwise [val_main_v13, val_main_v3, val_main_v5, val_main_v6, val_main_v10, val_main_v12, val_main_cst, val_main_v0]
  rfl

/-! ## The claims -/

/-- The kernel, at bit patterns, runs to the end and leaves its arguments alone. -/
theorem frame_kernel : Cert.quiescent_Kernel7 := fun m ρ _ => Cert.Kernel7.Gen.frame m ρ
/-- So does its idealization, at extended reals. -/
theorem frame_ideal : Cert.quiescent_Kernel7Ideal := fun m ρ _ => Cert.Kernel7Ideal.Gen.frame m ρ
/-- And the reference. -/
theorem frame_reference : Cert.quiescent_Reference7Ideal := fun m ρ _ =>
  (θ_run Cert.Reference7Ideal.defs _ _).mono (fun r h => ⟨fun c => (h c).2.2.2.2.2.2.2.2, sem_eq_zero_of_no_sems (by decide) r.2⟩)
    (Cert.Reference7Ideal.Value.run (F := Ideal) m ρ)
/-- The idealization rewrote nothing. -/
theorem preserves : Cert.preserves_Kernel7_Kernel7Ideal := trivial

/-- Started from equal arguments, kernel and reference end with equal projections. -/
theorem algebraic : Cert.algebraic_Kernel7Ideal_Reference7Ideal := by
  intro m ρ m' ρ' _ hagree
  refine ⟨fun c => columns 512 0 (by omega) (H m c) (W m c), fun c => columns 1024 512 (by omega) (H m c) (W m c),
    fun c => columns 1536 1544 (by omega) (H m c) (W m c), fun c => columns 512 3088 (by omega) (H m c) (W m c),
    fun c => columns 1024 3600 (by omega) (H m c) (W m c), fun c => columns 1536 4624 (by omega) (H m c) (W m c),
    fun c => columns 4096 6168 (by omega) (H m c) (W m c), fun c => narrow (H m c) (W m c), ?_, ?_⟩
  · refine (θ_run Cert.Kernel7Ideal.defs _ _).mono (fun _ h c => ?_) (Cert.Kernel7Ideal.Value.run_blocks (F := Ideal) m ρ)
    obtain ⟨h0, h1, h2, h3, h4, h5, h6, h7, hargs⟩ := h c
    exact ⟨h0.trans (final9 m c), h1.trans (final10 m c), h2.trans (final11 m c), h3.trans (final12 m c),
      h4.trans (final13 m c), h5.trans (final14 m c), h6.trans (final15 m c), h7.trans (final16 m c), hargs⟩
  · refine (θ_run Cert.Reference7Ideal.defs _ _).mono (fun _ h c => ?_) (Cert.Reference7Ideal.Value.run (F := Ideal) m' ρ')
    obtain ⟨h0, h1, h2, h3, h4, h5, h6, h7, hargs⟩ := h c
    obtain ⟨a0, a1⟩ := hagree c
    rw [a0, a1] at h0 h1 h2 h3 h4 h5 h6 h7
    exact ⟨h0.trans (funext fun y => (congrArg _ (eq_ix2 y)).trans (ref_z ..)),
      h1.trans (funext fun y => (congrArg _ (eq_ix2 y)).trans (ref_xbc ..)),
      h2.trans (funext fun y => (congrArg _ (eq_ix2 y)).trans (ref_qkv ..)),
      h3.trans (funext fun y => (congrArg _ (eq_ix2 y)).trans (ref_gate ..)),
      h4.trans (funext fun y => (congrArg _ (eq_ix2 y)).trans (ref_uv ..)),
      h5.trans (funext fun y => (congrArg _ (eq_ix2 y)).trans (ref_fox ..)),
      h6.trans (funext fun y => (congrArg _ (eq_ix2 y)).trans (ref_gates ..)),
      h7.trans (funext fun y => (congrArg _ (eq_ix2 y)).trans (ref_narrow ..)), hargs⟩

end Cert.Proof.InProj

end
-- ==== Proof.FfForward.lean ====
/-
  The feed-forward layer, forward: for each block of 1024 tokens the kernel sums the down-projection over four tiles of
  the hidden layer, and after the last tile adds the residual, writes the sum out, and its layer norm beside it.
-/
module

public import proofs.«01_k».proof.Proof.Gen.Kernel8Ideal.Value
public import proofs.«01_k».proof.Proof.Products
public import Idealize.ShloMosaic.Lib.Pointwise
public import Idealize.ShloMosaic.Lib.Tactic
public import Idealize.ShloMosaic.Lib.StableHlo.ReadAt
public import Idealize.ShloMosaic.Lib.Pipeline.ValueKit

@[expose] public section

set_option maxRecDepth 16384

noncomputable section

namespace Cert.FfForward

open Cert.Merge (Mat Stack)
open Cert.FeedForward (Row act preNorm centred scale alpha)
open Cert.Products
open Cert.Kernel8Ideal Cert.Kernel8Ideal.Gen Idealize.ShloMosaic Idealize.ShloMosaic.TcCoe Idealize.SL.Sem

/-! ## What is computed -/

/-- The layer norm of a row, with its gain and shift. -/
def norm (u g b : Row) : Row := fun q => centred u q * scale u * g q + b q
/-- The results: the sum of residual and layer, and its layer norm. -/
def resSum (h : Mat 4096 1024) (wu : Mat 1024 4096) (wd : Mat 4096 1024) : Mat 4096 1024 := fun y => preNorm h wu wd (y 0) (y 1)
def resNorm (h : Mat 4096 1024) (g b : Row) (wu : Mat 1024 4096) (wd : Mat 4096 1024) : Mat 4096 1024 :=
  fun y => norm (preNorm h wu wd (y 0)) g b (y 1)

variable (m : (ℓ : Loc nD τ sig) → Buf (Elt Ideal) ℓ)

/-! ## The arrays the program was given, and the blocks the body loads -/

/-- The layer's input, the layer norm's gain and shift, and the two weights. -/
abbrev H (c : Dev nD) : Mat 4096 1024 := m (c.tc.loc main_arg0)
abbrev Gain (c : Dev nD) : Row := fun q => (m (c.tc.loc main_arg1) : (⟨1, ![1024]⟩ : Shape).Idx → EReal) (ix1 q)
abbrev Shift (c : Dev nD) : Row := fun q => (m (c.tc.loc main_arg2) : (⟨1, ![1024]⟩ : Shape).Idx → EReal) (ix1 q)
abbrev Wu (c : Dev nD) : Mat 1024 4096 := m (c.tc.loc main_arg3)
abbrev Wd (c : Dev nD) : Mat 4096 1024 := m (c.tc.loc main_arg4)

theorem hz : (![0, 0] : Fin 2 → Nat) = fun _ => 0 := funext fun a => by fin_cases a <;> rfl
theorem hz3 : (![0, 0, 0] : Fin 3 → Nat) = fun _ => 0 := funext fun a => by fin_cases a <;> rfl
theorem lt16 (t : Fin cfg0.N) : t.val < 16 := lt_of_lt_of_eq t.isLt N_0
/-- The token of row `r` of the block of point `t`, and the feature of `f` in its tile. -/
def token (t : Fin cfg0.N) (r : Fin 1024) : Fin 4096 := ⟨1024 * (t.val / 4) + r.val, by have := lt16 t; omega⟩
def feature (t : Fin cfg0.N) (f : Fin 1024) : Fin 4096 := ⟨1024 * (t.val % 4) + f.val, by omega⟩

theorem V_h (c : Dev nD) : V m c main_arg0 = m (c.tc.loc main_arg0) := by
  unfold V
  after_reads_at
theorem V_up (c : Dev nD) (k : Fin 1024) (f : Fin 4096) : (V m c main_v1 : Stack 1 1024 4096) (ix3 0 k f) = Wu m c (ix2 k f) := by
  unfold V
  after_reads_at
theorem V_down (c : Dev nD) (f : Fin 4096) (q : Fin 1024) : (V m c main_v3 : Stack 1 4096 1024) (ix3 0 f q) = Wd m c (ix2 f q) := by
  unfold V
  after_reads_at
theorem V_gain (c : Dev nD) (q : Fin 1024) : (V m c main_v4 : Mat 1 1024) (ix2 0 q) = Gain m c q := by
  unfold V
  after_reads_at
theorem V_shift (c : Dev nD) (q : Fin 1024) : (V m c main_v5 : Mat 1 1024) (ix2 0 q) = Shift m c q := by
  unfold V
  after_reads_at

theorem idx0 : ∀ t : Fin cfg0.N, win0_0.index t 0 = t.val / 4 ∧ win0_0.index t 1 = 0 := by decide +kernel
theorem iblk0 (c : Dev nD) (t : Fin cfg0.N) (r k : Fin 1024) :
    (iblk m c 0 t : (⟨2, ![1024, 1024]⟩ : Shape).Idx → EReal) (ix2 r k) = H m c (ix2 (token t r) k) := by
  have hi := idx0 t
  unfold iblk
  rw [View.read_apply]
  show V m c main_arg0 _ = m (c.tc.loc main_arg0) _
  rw [V_h]
  congr 1
  funext a
  apply Fin.ext
  match a with
  | ⟨0, _⟩ => show win0_0.index t 0 * 1024 + 1 * r.val = 1024 * (t.val / 4) + r.val; rw [hi.1]; omega
  | ⟨1, _⟩ => show win0_0.index t 1 * 1024 + 1 * k.val = k.val; rw [hi.2]; omega

theorem idx1 : ∀ t : Fin cfg0.N, win0_1.index t 0 = 0 ∧ win0_1.index t 1 = 0 ∧ win0_1.index t 2 = t.val % 4 := by decide +kernel
theorem iblk1 (c : Dev nD) (t : Fin cfg0.N) (k f : Fin 1024) :
    (iblk m c 1 t : Stack 1 1024 1024) (ix3 0 k f) = Wu m c (ix2 k (feature t f)) := by
  have hi := idx1 t
  rw [← V_up]
  unfold iblk
  rw [View.read_apply]
  show V m c main_v1 _ = V m c main_v1 _
  congr 1
  funext a
  apply Fin.ext
  match a with
  | ⟨0, _⟩ => show win0_1.index t 0 * 1 + 1 * 0 = 0; rw [hi.1]
  | ⟨1, _⟩ => show win0_1.index t 1 * 1024 + 1 * k.val = k.val; rw [hi.2.1]; omega
  | ⟨2, _⟩ => show win0_1.index t 2 * 1024 + 1 * f.val = 1024 * (t.val % 4) + f.val; rw [hi.2.2]; omega

theorem idx2 : ∀ t : Fin cfg0.N, win0_2.index t 0 = 0 ∧ win0_2.index t 1 = t.val % 4 ∧ win0_2.index t 2 = 0 := by decide +kernel
theorem iblk2 (c : Dev nD) (t : Fin cfg0.N) (f q : Fin 1024) :
    (iblk m c 2 t : Stack 1 1024 1024) (ix3 0 f q) = Wd m c (ix2 (feature t f) q) := by
  have hi := idx2 t
  rw [← V_down]
  unfold iblk
  rw [View.read_apply]
  show V m c main_v3 _ = V m c main_v3 _
  congr 1
  funext a
  apply Fin.ext
  match a with
  | ⟨0, _⟩ => show win0_2.index t 0 * 1 + 1 * 0 = 0; rw [hi.1]
  | ⟨1, _⟩ => show win0_2.index t 1 * 1024 + 1 * f.val = 1024 * (t.val % 4) + f.val; rw [hi.2.1]; omega
  | ⟨2, _⟩ => show win0_2.index t 2 * 1024 + 1 * q.val = q.val; rw [hi.2.2]; omega

/-- An index into a window over a whole row. -/
theorem line_pos {i : Fin 2 → ℕ} (hi : i 0 = 0 ∧ i 1 = 0) (q : Fin 1024) (y : (⟨2, ![1, 1024]⟩ : Shape).Idx)
    (h0 : (y 0).val = i 0 * 1 + 1 * 0) (h1 : (y 1).val = i 1 * 1024 + 1 * q.val) : y = ix2 0 q := by
  funext a
  apply Fin.ext
  match a with
  | ⟨0, _⟩ => show (y 0).val = 0; rw [h0, hi.1]
  | ⟨1, _⟩ => show (y 1).val = q.val; rw [h1, hi.2]; omega
theorem idx3 : ∀ t : Fin cfg0.N, win0_3.index t 0 = 0 ∧ win0_3.index t 1 = 0 := by decide +kernel
theorem iblk3 (c : Dev nD) (t : Fin cfg0.N) (q : Fin 1024) : (iblk m c 3 t : Mat 1 1024) (ix2 0 q) = Gain m c q := by
  rw [← V_gain]
  unfold iblk
  rw [View.read_apply]
  exact congrArg (V m c main_v4) (line_pos (idx3 t) q _ rfl rfl)
theorem idx4 : ∀ t : Fin cfg0.N, win0_4.index t 0 = 0 ∧ win0_4.index t 1 = 0 := by decide +kernel
theorem iblk4 (c : Dev nD) (t : Fin cfg0.N) (q : Fin 1024) : (iblk m c 4 t : Mat 1 1024) (ix2 0 q) = Shift m c q := by
  rw [← V_shift]
  unfold iblk
  rw [View.read_apply]
  exact congrArg (V m c main_v5) (line_pos (idx4 t) q _ rfl rfl)

/-! ## What a block holds -/

theorem ld_line (v : Vec Ideal (⟨2, ![1, 1024]⟩ : Shape) .f32) (inb) :
    View.ld v (Rect.unit ![0, 0] ![1, 1024] inb) = v := View.ld_unit_zero hz inb v
theorem ld_slab (v : Vec Ideal (⟨3, ![1, 1024, 1024]⟩ : Shape) .bf16) (inb) :
    View.ld v (Rect.unit ![0, 0, 0] ![1, 1024, 1024] inb) = v := View.ld_unit_zero hz3 inb v
/-- Reading the running sum gives what it was left at. -/
theorem carried (v : Vec Ideal S1024x1024 .f32) :
    (View.whole cc0_scratch0).read (Elt Ideal) ((Memref.isWhole_whole cc0_scratch0).unread v) = v :=
  (Memref.isWhole_whole cc0_scratch0).read_unread v

/-- The layer norm of a block. -/
theorem norm_block (h acc : Vec Ideal S1024x1024 .f32) (g b : Vec Ideal S1x1024 .f32) (r q : Fin 1024) :
    k0_pay5 (F := Ideal) h acc g b (ix2 r q)
      = norm (fun k => k0_pay4 (F := Ideal) h acc (ix2 r k)) (fun k => g (ix2 0 k)) (fun k => b (ix2 0 k)) q := by
  pointwise [k0_pay5]
  rfl

/-- What the tile of position `n` adds to the block at `(r, q)`. -/
def tile (c : Dev nD) (n : ℕ) (r q : Fin 1024) : EReal :=
  if h : n < cfg0.N then ∑ f, act (H m c) (Wu m c) (token ⟨n, h⟩ r) (feature ⟨n, h⟩ f) * act (H m c) (Wu m c) (token ⟨n, h⟩ r) (feature ⟨n, h⟩ f)
    * Wd m c (ix2 (feature ⟨n, h⟩ f) q) else 0

theorem product (c : Dev nD) (t : Fin cfg0.N) (r q : Fin 1024) :
    k0_pay1 (F := Ideal) (iblk m c 0 t) (iblk m c 1 t) (iblk m c 2 t) (ix2 r q) = tile m c t.val r q := by
  unfold tile
  rw [dif_pos t.isLt]
  pointwise [k0_pay1]
  simp only [iblk0, iblk1, iblk2]
  rfl

/-- The first tile of a block starts the sum. -/
theorem acc_A (c : Dev nD) (t : Fin cfg0.N) (h : t.val % 4 = 0) (r q : Fin 1024) :
    (outsAt0 m c t.val t.isLt).2.2 (ix2 r q) = tile m c t.val r q := by
  rw [outsAt0_A m c t h (by omega) (by omega)]
  dsimp only
  unfold sout0_A_0
  rw [View.read_writes_eq_canon _ _ _ (fun _ => scover0_A_0 ..)]
  unfold kernelRun0_A
  dsimp only
  sl_unfold_words
  rw [View.canon_unit_zero hz]
  simp only [View.readAt_eq_ld, Memref.IsWhole.read_unread, ld_square, ld_slab, readCov_square]
  rw [← product]
  pointwise [k0_pay2]

/-- The other tiles add to it. -/
theorem acc_B (c : Dev nD) (t : Fin cfg0.N) (h : t.val % 4 ≠ 0) (r q : Fin 1024) :
    (outsAt0 m c t.val t.isLt).2.2 (ix2 r q)
      = (outsAt0 m c (t.val - 1) (Nat.lt_of_le_of_lt (Nat.sub_le _ _) t.isLt)).2.2 (ix2 r q) + tile m c t.val r q := by
  by_cases h3 : t.val % 4 = 3
  · rw [outsAt0_C m c t h (by omega) h3]
    dsimp only
    unfold sout0_C_0
    rw [View.read_writes_eq_canon _ _ _ (fun _ => scover0_C_0 ..)]
    unfold kernelRun0_C
    dsimp only
    sl_unfold_words
    rw [View.canon_unit_zero hz]
    simp only [View.readAt_eq_ld, Memref.IsWhole.read_unread, ld_square, ld_slab, readCov_square]
    rw [← product]
    pointwise [k0_pay3]
    rw [carried]
  · rw [outsAt0_B m c t h (by omega) h3]
    dsimp only
    unfold sout0_B_0
    rw [View.read_writes_eq_canon _ _ _ (fun _ => scover0_B_0 ..)]
    unfold kernelRun0_B
    dsimp only
    sl_unfold_words
    rw [View.canon_unit_zero hz]
    simp only [View.readAt_eq_ld, Memref.IsWhole.read_unread, ld_square, ld_slab, readCov_square]
    rw [← product]
    pointwise [k0_pay3]
    rw [carried]

/-- The last tile's point writes the residual and the sum out, -/
theorem sum_C (c : Dev nD) (t : Fin cfg0.N) (h : t.val % 4 = 3) :
    (outsAt0 m c t.val t.isLt).1 = k0_pay4 (F := Ideal) (iblk m c 0 t) (outsAt0 m c t.val t.isLt).2.2 := by
  rw [outsAt0_C m c t (by omega) (by omega) h]
  dsimp only
  unfold out0_C_5 sout0_C_0
  rw [View.read_writes_eq_canon _ _ _ (fun _ => cover0_C_5 ..), View.read_writes_eq_canon _ _ _ (fun _ => scover0_C_0 ..)]
  unfold kernelRun0_C
  dsimp only
  sl_unfold_words
  rw [View.canon_unit_zero hz, View.canon_unit_zero hz]
  simp only [View.readAt_eq_ld, Memref.IsWhole.read_unread, ld_square, ld_slab, readCov_square]

/-- and the layer norm of that. -/
theorem norm_C (c : Dev nD) (t : Fin cfg0.N) (h : t.val % 4 = 3) :
    (outsAt0 m c t.val t.isLt).2.1
      = k0_pay5 (F := Ideal) (iblk m c 0 t) (outsAt0 m c t.val t.isLt).2.2 (iblk m c 3 t) (iblk m c 4 t) := by
  rw [outsAt0_C m c t (by omega) (by omega) h]
  dsimp only
  unfold out0_C_6 sout0_C_0
  rw [View.read_writes_eq_canon _ _ _ (fun _ => cover0_C_6 ..), View.read_writes_eq_canon _ _ _ (fun _ => scover0_C_0 ..)]
  unfold kernelRun0_C
  dsimp only
  sl_unfold_words
  rw [View.canon_unit_zero hz, View.canon_unit_zero hz]
  simp only [View.readAt_eq_ld, Memref.IsWhole.read_unread, ld_square, ld_slab, ld_line, readCov_square]

/-! ## The arrays -/

/-- The sum at a block's last point is the whole down-projection. -/
theorem block_done (c : Dev nD) (t : Fin cfg0.N) (h : t.val % 4 = 3) (r q : Fin 1024) :
    (outsAt0 m c t.val t.isLt).2.2 (ix2 r q)
      = ∑ f, act (H m c) (Wu m c) (token t r) f * act (H m c) (Wu m c) (token t r) f * Wd m c (ix2 f q) := by
  refine (running_sum 4 cfg0.N (by omega) (fun n hn => (outsAt0 m c n hn).2.2 (ix2 r q)) (fun n => tile m c n r q)
    (fun n hn e => acc_A m c ⟨n, hn⟩ e r q) (fun n hn e => acc_B m c ⟨n + 1, hn⟩ e r q) t.val t.isLt).trans ?_
  rw [h]
  refine (Finset.sum_congr rfl fun i hi => ?_).trans
    (four_tiles fun f => act (H m c) (Wu m c) (token t r) f * act (H m c) (Wu m c) (token t r) f * Wd m c (ix2 f q))
  have hi : i < 4 := Finset.mem_range.mp hi
  have ht := lt16 t
  have hN : cfg0.N = 16 := N_0
  unfold tile
  rw [dif_pos (by omega)]
  refine Finset.sum_congr rfl fun y _ => ?_
  rw [dif_pos (by omega)]
  have e1 : feature ⟨4 * (t.val / 4) + i, by omega⟩ y = (⟨1024 * i + y.val, by omega⟩ : Fin 4096) :=
    Fin.ext (by show 1024 * ((4 * (t.val / 4) + i) % 4) + y.val = 1024 * i + y.val; omega)
  have e2 : token ⟨4 * (t.val / 4) + i, by omega⟩ r = token t r :=
    Fin.ext (by show 1024 * ((4 * (t.val / 4) + i) / 4) + r.val = 1024 * (t.val / 4) + r.val; omega)
  rw [e1, e2]

/-- The sum with the residual at a block's last point is the row the layer norm takes. -/
theorem sum_done (c : Dev nD) (t : Fin cfg0.N) (h : t.val % 4 = 3) (r q : Fin 1024) :
    k0_pay4 (F := Ideal) (iblk m c 0 t) (outsAt0 m c t.val t.isLt).2.2 (ix2 r q) = preNorm (H m c) (Wu m c) (Wd m c) (token t r) q := by
  pointwise [k0_pay4]
  rw [iblk0, block_done m c t h]
  rfl

/-- An index into a block of 1024 rows. -/
theorem rows_pos {i : Fin 2 → ℕ} {t : Fin cfg0.N} (hi : i 0 = t.val / 4 ∧ i 1 = 0) (r q : Fin 1024)
    (y : (⟨2, ![4096, 1024]⟩ : Shape).Idx) (h0 : (y 0).val = i 0 * 1024 + 1 * r.val) (h1 : (y 1).val = i 1 * 1024 + 1 * q.val) :
    ix2 (token t r) q = y := by
  funext a
  apply Fin.ext
  match a with
  | ⟨0, _⟩ => show 1024 * (t.val / 4) + r.val = (y 0).val; rw [h0, hi.1]; omega
  | ⟨1, _⟩ => show q.val = (y 1).val; rw [h1, hi.2]; omega

theorem idx5 : ∀ t : Fin cfg0.N, win0_5.index t 0 = t.val / 4 ∧ win0_5.index t 1 = 0 := by decide +kernel
theorem idx6 : ∀ t : Fin cfg0.N, win0_6.index t 0 = t.val / 4 ∧ win0_6.index t 1 = 0 := by decide +kernel

/-- The array of sums after the run. -/
theorem final5 (c : Dev nD) : (dats m 0 c).arrAt 5 cfg0.N = (resSum (H m c) (Wu m c) (Wd m c) : Vec Ideal S4096x1024 .f32) :=
  (dats m 0 c).arrAt_eq_of_covers 5 (resSum (H m c) (Wu m c) (Wd m c) : Vec Ideal S4096x1024 .f32) (by decide +kernel) fun t hf y => by
    obtain ⟨r, q, rfl⟩ : ∃ (r : Fin 1024) (q : Fin 1024), y = ix2 r q := ⟨y 0, y 1, eq_ix2 y⟩
    have h : t.val % 4 = 3 := (flush0_5 t).mp hf
    have e : ((dats m 0 c).after 5 t : Mat 1024 1024) (ix2 r q) = resSum (H m c) (Wu m c) (Wd m c) (ix2 (token t r) q) := by
      rw [after0_5, sum_C m c t h, sum_done m c t h]
      rfl
    exact e.trans (congrArg _ (rows_pos (idx5 t) r q _ rfl rfl))

/-- The array of layer norms after the run. -/
theorem final6 (c : Dev nD) :
    (dats m 0 c).arrAt 6 cfg0.N = (resNorm (H m c) (Gain m c) (Shift m c) (Wu m c) (Wd m c) : Vec Ideal S4096x1024 .f32) :=
  (dats m 0 c).arrAt_eq_of_covers 6 (resNorm (H m c) (Gain m c) (Shift m c) (Wu m c) (Wd m c) : Vec Ideal S4096x1024 .f32)
    (by decide +kernel) fun t hf y => by
    obtain ⟨r, q, rfl⟩ : ∃ (r : Fin 1024) (q : Fin 1024), y = ix2 r q := ⟨y 0, y 1, eq_ix2 y⟩
    have h : t.val % 4 = 3 := (flush0_6 t).mp hf
    have e : ((dats m 0 c).after 6 t : Mat 1024 1024) (ix2 r q)
        = resNorm (H m c) (Gain m c) (Shift m c) (Wu m c) (Wd m c) (ix2 (token t r) q) := by
      rw [after0_6, norm_C m c t h, norm_block]
      simp only [sum_done m c t h, iblk3, iblk4]
      rfl
    exact e.trans (congrArg _ (rows_pos (idx6 t) r q _ rfl rfl))

end Cert.FfForward

end
-- ==== Proof.FfForwardClaim.lean ====
/-
  The claims about the feed-forward layer, forward: the kernel's two result arrays and the reference's hold the same
  numbers.
-/
module

public import proofs.«01_k».proof.Defs
public import proofs.«01_k».proof.Proof.FfForward
public import proofs.«01_k».proof.Proof.Gen.Kernel8.Frame
public import proofs.«01_k».proof.Proof.Gen.Reference8Ideal.Run
public import proofs.«01_k».proof.Proof.Gen.Reference8Ideal.Read
public import Idealize.ShloMosaic.Lib.Quiescent

@[expose] public section

set_option maxRecDepth 16384

noncomputable section

namespace Cert.Proof.FfForward

open Idealize.ShloMosaic Idealize.ShloMosaic.TcCoe Idealize.SL.Sem
open Cert.Merge (Mat)
open Cert.FeedForward (Row act preNorm centred spread scale)
open Cert.FfForward Cert.Reference8Ideal.Read

/-! ## What the reference computes -/

variable (h : Mat 4096 1024) (g b : (⟨1, ![1024]⟩ : Shape).Idx → EReal) (wu : Mat 1024 4096) (wd : Mat 4096 1024)

/-- The hidden layer after the rectifier. -/
theorem act_ref (l f : Fin 4096) : val_main_v3 (F := Ideal) h wu (ix2 l f) = act h wu l f := by
  pointwise [val_main_v3, val_main_v2, val_main_call0_v0, val_main_call0_cst]
  rfl

/-- The sum of residual and layer. -/
theorem sum_ref (l : Fin 4096) (q : Fin 1024) : val_main_v6 (F := Ideal) h wu wd (ix2 l q) = preNorm h wu wd l q := by
  pointwise [val_main_v6, val_main_v5, val_main_v4, val_main_v1, val_main_v0, val_main_cst]
  simp only [act_ref]
  rfl

theorem centred_ref (l : Fin 4096) (q : Fin 1024) :
    val_main_v12 (F := Ideal) h wu wd (ix2 l q) = centred (preNorm h wu wd l) q := by
  pointwise [val_main_v12, val_main_v11, val_main_v10, val_main_v9, val_main_v8, val_main_v7, val_main_cst_0, val_main_cst_1]
  simp only [sum_ref]
  rfl

theorem spread_ref (l : Fin 4096) (z : Fin 1) : val_main_v19 (F := Ideal) h wu wd (ix2 l z) = spread (preNorm h wu wd l) := by
  pointwise [val_main_v19, val_main_v18, val_main_v17, val_main_v16, val_main_v15, val_main_v14, val_main_v13, val_main_cst_2,
    val_main_cst_3, val_main_cst_4]
  simp only [centred_ref]
  rfl

/-- The layer norm of the sum. -/
theorem norm_ref (l : Fin 4096) (q : Fin 1024) :
    val_main_v28 (F := Ideal) h g b wu wd (ix2 l q) = norm (preNorm h wu wd l) (fun k => g (ix1 k)) (fun k => b (ix1 k)) q := by
  pointwise [val_main_v28, val_main_v27, val_main_v26, val_main_v25, val_main_v24, val_main_v23, val_main_v22, val_main_v21,
    val_main_v20]
  simp only [centred_ref, spread_ref]
  rfl

/-! ## The claims -/

/-- The kernel, at bit patterns, runs to the end and leaves its arguments alone. -/
theorem frame_kernel : Cert.quiescent_Kernel8 := fun m ρ _ => Cert.Kernel8.Gen.frame m ρ
/-- So does its idealization, at extended reals. -/
theorem frame_ideal : Cert.quiescent_Kernel8Ideal := fun m ρ _ => Cert.Kernel8Ideal.Gen.frame m ρ
/-- And the reference. -/
theorem frame_reference : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)
/-- The idealization rewrote nothing. -/
theorem preserves : Cert.preserves_Kernel8_Kernel8Ideal := trivial

/-- Started from equal arguments, kernel and reference end with the same sum and the same layer norm of it. -/
theorem algebraic : Cert.algebraic_Kernel8Ideal_Reference8Ideal := by
  intro m ρ m' ρ' _ hagree
  refine ⟨fun c => resSum (H m c) (Wu m c) (Wd m c), fun c => resNorm (H m c) (Gain m c) (Shift m c) (Wu m c) (Wd m c), ?_, ?_⟩
  · refine (θ_run Cert.Kernel8Ideal.defs _ _).mono (fun _ h c => ?_) (Cert.Kernel8Ideal.Value.run_blocks (F := Ideal) m ρ)
    obtain ⟨h5, h6, hargs⟩ := h c
    exact ⟨h5.trans (final5 m c), h6.trans (final6 m c), hargs⟩
  · refine (θ_run Cert.Reference8Ideal.defs _ _).mono (fun _ h c => ?_) (Cert.Reference8Ideal.Value.run (F := Ideal) m' ρ')
    obtain ⟨h0, h1, hargs⟩ := h c
    obtain ⟨a0, a1, a2, a3, a4⟩ := hagree c
    refine ⟨h0.trans ?_, h1.trans ?_, hargs⟩
    · refine (val_main_v6_eq (F := Ideal) ..).trans ?_
      rw [a0, a3, a4]
      exact funext fun y => (congrArg _ (eq_ix2 y)).trans (sum_ref ..)
    · refine (val_main_v28_eq (F := Ideal) ..).trans ?_
      rw [a0, a1, a2, a3, a4]
      exact funext fun y => (congrArg _ (eq_ix2 y)).trans (norm_ref ..)

end Cert.Proof.FfForward

end
-- ==== Proof.InNormRun.lean ====
/-
  One grid point of the kernel that takes the gradient back through the projections and the layer norm before them: the
  body reads its twenty blocks, stores 256 rows of the gradient, and starts or goes on with the sums of the gradients of
  gain and shift.
-/
module

public import proofs.«01_k».proof.Proof.Gen.Kernel9Ideal.Skeleton
public import proofs.«01_k».proof.Proof.Gen.Kernel9Ideal.Frame.Runs
public import Idealize.ShloMosaic.Lib.Pipeline.FrameBody
public import Idealize.ShloMosaic.Lib.Pipeline.Value

@[expose] public section

set_option maxRecDepth 16384

noncomputable section

namespace Cert.InNorm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen

variable {F : FTy → Type} [FloatOps F]

local notation "𝕄" => MT nD τ sig Unit (Elt F) ℕ (UR sig nD τ) ℕ

/-- A block of 256 rows of width 1024. -/
abbrev Rows (F : FTy → Type) [FloatOps F] := Vec F S256x1024 .f32
/-- One row of width 1024. -/
abbrev Line (F : FTy → Type) [FloatOps F] := Vec F S1x1024 .f32

/-- What a point is given: the gradients at the eight groups of projections, the weights of each, the gradient that comes
    past the projections, the rows before the norm, and the norm's gain and shift. -/
structure Given (F : FTy → Type) [FloatOps F] where
  d0 : Vec F S256x512 .f32
  d1 : Vec F S256x1024 .f32
  d2 : Vec F S256x1536 .f32
  d3 : Vec F S256x512 .f32
  d4 : Vec F S256x1024 .f32
  d5 : Vec F S256x1536 .f32
  d6 : Vec F S256x4096 .f32
  d7 : Vec F S256x128 .f32
  w0 : Vec F S1x1024x512 .bf16
  w1 : Vec F S1x1024x1024 .bf16
  w2 : Vec F S1x1024x1536 .bf16
  w3 : Vec F S1x1024x512 .bf16
  w4 : Vec F S1x1024x1024 .bf16
  w5 : Vec F S1x1024x1536 .bf16
  w6 : Vec F S1x1024x4096 .bf16
  w7 : Vec F S1x1024x128 .bf16
  du : Vec F S256x1024 .f32
  x : Vec F S256x1024 .f32
  g : Vec F S1x1024 .f32
  b : Vec F S1x1024 .f32

/-- The sums over the rows so far: the gradients of gain and of shift. -/
structure Sums (F : FTy → Type) [FloatOps F] where
  gain : Line F
  shift : Line F

/-- The gradient at the projections' input. -/
def dInputOf (B : Given F) : Rows F :=
  k0_pay5 (k0_pay3 B.du B.d0 B.w0 B.d1 B.w1 B.d2 B.w2 B.d3 B.w3) (k0_pay4 B.d4) B.w4 B.d5 B.w5 B.d6 B.w6 B.d7 B.w7
/-- The gradient at the rows before the norm. -/
def rowsOf (B : Given F) : Rows F := k0_pay13 (dInputOf B) (k0_pay6 B.g) (k0_pay7 B.x) (k0_pay8 B.x)
/-- The block's part of the gradient of the gain. -/
def gainOf (B : Given F) : Line F := k0_pay12 (dInputOf B) (k0_pay7 B.x) (k0_pay8 B.x)
/-- The block's part of the gradient of the shift. -/
def shiftOf (B : Given F) : Line F := k0_pay11 (dInputOf B)

/-- The point is the first. -/
abbrev First (i : grid0.Coords) : Prop := k0_cond1 i = 1#1

open scoped Classical in
/-- The sums after a point: the first starts them. -/
def step (i : grid0.Coords) (B : Given F) (s : Sums F) : Sums F :=
  if First i then ⟨gainOf B, shiftOf B⟩ else ⟨k0_pay1 (gainOf B) s.gain, k0_pay2 (shiftOf B) s.shift⟩

/-- The body's other branch conditions. -/
structure Branch (i : grid0.Coords) : Prop where
  c2 : k0_cond2 i = 1#1 ↔ ¬First i
  c3 : k0_cond3 i = 1#1 ↔ First i
  c4 : k0_cond4 i = 1#1 ↔ ¬First i

/-- A load of a whole block is the block. -/
theorem ld_flat {e : EltTy} {a b : ℕ} (X : Vec F (⟨2, ![a, b]⟩ : Shape) e) (inb) :
    View.ld X (Rect.unit ![0, 0] ![a, b] inb) = X :=
  View.ld_unit_zero (funext fun q => by fin_cases q <;> rfl) inb X
theorem ld_slab {e : EltTy} {a b d : ℕ} (X : Vec F (⟨3, ![a, b, d]⟩ : Shape) e) (inb) :
    View.ld X (Rect.unit ![0, 0, 0] ![a, b, d] inb) = X :=
  View.ld_unit_zero (funext fun q => by fin_cases q <;> rfl) inb X

/-- A block that one store filled whole holds what was stored. -/
theorem read_stored {κ : Kind} {sp : Space} {a b : ℕ} {e : EltTy} (v : View sig κ sp (⟨2, ![a, b]⟩ : Shape) e)
    (f : v.ty.Contents (Elt F)) (inb) (w : Vec F (⟨2, ![a, b]⟩ : Shape) e) :
    v.read (Elt F) (v.writes (Elt F) f [⟨Rect.unit ![0, 0] ![a, b] inb, w⟩]) = w := by
  have h : (![0, 0] : Fin 2 → Nat) = fun _ => 0 := funext fun q => by fin_cases q <;> rfl
  revert inb
  rw [h]
  exact fun _ => View.read_writes_whole v f w

set_option maxHeartbeats 6000000 in
/-- The body at any grid point leaves its blocks alone, stores the rows' gradient, and takes the sums one step on. -/
theorem run (c : Dev nD) (i : grid0.Coords) (a1 : Memref sig .tc .vmem S256x512 .f32) (h1 : a1.IsWhole) (a2 : Memref sig .tc .vmem S256x1024 .f32) (h2 : a2.IsWhole) (a3 : Memref sig .tc .vmem S256x1536 .f32) (h3 : a3.IsWhole) (a4 : Memref sig .tc .vmem S256x512 .f32) (h4 : a4.IsWhole) (a5 : Memref sig .tc .vmem S256x1024 .f32) (h5 : a5.IsWhole) (a6 : Memref sig .tc .vmem S256x1536 .f32) (h6 : a6.IsWhole) (a7 : Memref sig .tc .vmem S256x4096 .f32) (h7 : a7.IsWhole) (a8 : Memref sig .tc .vmem S256x128 .f32) (h8 : a8.IsWhole) (a9 : Memref sig .tc .vmem S1x1024x512 .bf16) (h9 : a9.IsWhole) (a10 : Memref sig .tc .vmem S1x1024x1024 .bf16) (h10 : a10.IsWhole) (a11 : Memref sig .tc .vmem S1x1024x1536 .bf16) (h11 : a11.IsWhole) (a12 : Memref sig .tc .vmem S1x1024x512 .bf16) (h12 : a12.IsWhole) (a13 : Memref sig .tc .vmem S1x1024x1024 .bf16) (h13 : a13.IsWhole) (a14 : Memref sig .tc .vmem S1x1024x1536 .bf16) (h14 : a14.IsWhole) (a15 : Memref sig .tc .vmem S1x1024x4096 .bf16) (h15 : a15.IsWhole) (a16 : Memref sig .tc .vmem S1x1024x128 .bf16) (h16 : a16.IsWhole) (a17 : Memref sig .tc .vmem S256x1024 .f32) (h17 : a17.IsWhole) (a18 : Memref sig .tc .vmem S256x1024 .f32) (h18 : a18.IsWhole) (a19 : Memref sig .tc .vmem S1x1024 .f32) (h19 : a19.IsWhole) (a20 : Memref sig .tc .vmem S1x1024 .f32) (h20 : a20.IsWhole) (a21 : Memref sig .tc .vmem S256x1024 .f32) (h21 : a21.IsWhole) (a22 : Memref sig .tc .vmem S1x1024 .f32) (h22 : a22.IsWhole) (a23 : Memref sig .tc .vmem S1x1024 .f32) (h23 : a23.IsWhole)
    (hi : Branch i) (B : Given F) (r : Rows F) (s : Sums F) (E : Set ℕ) (K : PUnit → sProp 𝕄) :
    iprop(owns (c : Thread nD τ) a1 fullShare B.d0 ∗ owns (c : Thread nD τ) a2 fullShare B.d1 ∗ owns (c : Thread nD τ) a3 fullShare B.d2 ∗ owns (c : Thread nD τ) a4 fullShare B.d3 ∗ owns (c : Thread nD τ) a5 fullShare B.d4 ∗ owns (c : Thread nD τ) a6 fullShare B.d5 ∗ owns (c : Thread nD τ) a7 fullShare B.d6 ∗ owns (c : Thread nD τ) a8 fullShare B.d7 ∗ owns (c : Thread nD τ) a9 fullShare B.w0 ∗ owns (c : Thread nD τ) a10 fullShare B.w1 ∗ owns (c : Thread nD τ) a11 fullShare B.w2 ∗ owns (c : Thread nD τ) a12 fullShare B.w3 ∗ owns (c : Thread nD τ) a13 fullShare B.w4 ∗ owns (c : Thread nD τ) a14 fullShare B.w5 ∗ owns (c : Thread nD τ) a15 fullShare B.w6 ∗ owns (c : Thread nD τ) a16 fullShare B.w7 ∗ owns (c : Thread nD τ) a17 fullShare B.du ∗ owns (c : Thread nD τ) a18 fullShare B.x ∗ owns (c : Thread nD τ) a19 fullShare B.g ∗ owns (c : Thread nD τ) a20 fullShare B.b
        ∗ owns (c : Thread nD τ) a21 fullShare r ∗ owns (c : Thread nD τ) a22 fullShare s.gain ∗ owns (c : Thread nD τ) a23 fullShare s.shift
        ∗ (iprop(owns (c : Thread nD τ) a1 fullShare B.d0 ∗ owns (c : Thread nD τ) a2 fullShare B.d1 ∗ owns (c : Thread nD τ) a3 fullShare B.d2 ∗ owns (c : Thread nD τ) a4 fullShare B.d3 ∗ owns (c : Thread nD τ) a5 fullShare B.d4 ∗ owns (c : Thread nD τ) a6 fullShare B.d5 ∗ owns (c : Thread nD τ) a7 fullShare B.d6 ∗ owns (c : Thread nD τ) a8 fullShare B.d7 ∗ owns (c : Thread nD τ) a9 fullShare B.w0 ∗ owns (c : Thread nD τ) a10 fullShare B.w1 ∗ owns (c : Thread nD τ) a11 fullShare B.w2 ∗ owns (c : Thread nD τ) a12 fullShare B.w3 ∗ owns (c : Thread nD τ) a13 fullShare B.w4 ∗ owns (c : Thread nD τ) a14 fullShare B.w5 ∗ owns (c : Thread nD τ) a15 fullShare B.w6 ∗ owns (c : Thread nD τ) a16 fullShare B.w7 ∗ owns (c : Thread nD τ) a17 fullShare B.du ∗ owns (c : Thread nD τ) a18 fullShare B.x ∗ owns (c : Thread nD τ) a19 fullShare B.g ∗ owns (c : Thread nD τ) a20 fullShare B.b
            ∗ owns (c : Thread nD τ) a21 fullShare (rowsOf B) ∗ owns (c : Thread nD τ) a22 fullShare (step i B s).gain ∗ owns (c : Thread nD τ) a23 fullShare (step i B s).shift) -∗ K ⟨⟩))
      ⊢ wp frame (wpE (defs₀ (F := F)) Variants.none c none) E (cc0_dh_0 i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23) K := by
  obtain ⟨c2, c3, c4⟩ := hi
  obtain ⟨d0, d1, d2, d3, d4, d5, d6, d7, w0, w1, w2, w3, w4, w5, w6, w7, du, x, g, b⟩ := B
  dsimp only
  simp only [cc0_dh_0_eq_skeleton]; unfold cc0_dh_0_skel
  simp only [k0_part1_eq_skeleton, k0_part2_eq_skeleton, k0_part3_eq_skeleton]; unfold k0_part1_skel k0_part2_skel k0_part3_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, Hk⟩
  obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15; obtain rfl := h16.eq_unread e16; obtain rfl := h17.eq_unread e17; obtain rfl := h18.eq_unread e18; obtain rfl := h19.eq_unread e19; obtain rfl := h20.eq_unread e20; obtain rfl := h21.eq_unread e21; obtain rfl := h22.eq_unread e22; obtain rfl := h23.eq_unread e23
  by_cases c1 : k0_cond1 i = 1#1
  on_goal 1 => replace c2 : ¬k0_cond2 i = 1#1 := fun e => c2.mp e c1; replace c3 := c3.mpr c1; replace c4 : ¬k0_cond4 i = 1#1 := fun e => c4.mp e c1
  on_goal 2 => replace c2 := c2.mpr c1; replace c3 : ¬k0_cond3 i = 1#1 := fun e => c1 (c3.mp e); replace c4 := c4.mpr c1
  all_goals
  sl_exec (disch := first | sl_exact c1 | sl_exact c2 | sl_exact c3 | sl_exact c4)
  sl_step
  iapply Hk
  isplitl [H1]
  · iexists _; isplitr; swap; · iexact H1
    ipureintro; exact h1.read_unread _
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; exact h7.read_unread _
  isplitl [H8]
  · iexists _; isplitr; swap; · iexact H8
    ipureintro; exact h8.read_unread _
  isplitl [H9]
  · iexists _; isplitr; swap; · iexact H9
    ipureintro; exact h9.read_unread _
  isplitl [H10]
  · iexists _; isplitr; swap; · iexact H10
    ipureintro; exact h10.read_unread _
  isplitl [H11]
  · iexists _; isplitr; swap; · iexact H11
    ipureintro; exact h11.read_unread _
  isplitl [H12]
  · iexists _; isplitr; swap; · iexact H12
    ipureintro; exact h12.read_unread _
  isplitl [H13]
  · iexists _; isplitr; swap; · iexact H13
    ipureintro; exact h13.read_unread _
  isplitl [H14]
  · iexists _; isplitr; swap; · iexact H14
    ipureintro; exact h14.read_unread _
  isplitl [H15]
  · iexists _; isplitr; swap; · iexact H15
    ipureintro; exact h15.read_unread _
  isplitl [H16]
  · iexists _; isplitr; swap; · iexact H16
    ipureintro; exact h16.read_unread _
  isplitl [H17]
  · iexists _; isplitr; swap; · iexact H17
    ipureintro; exact h17.read_unread _
  isplitl [H18]
  · iexists _; isplitr; swap; · iexact H18
    ipureintro; exact h18.read_unread _
  isplitl [H19]
  · iexists _; isplitr; swap; · iexact H19
    ipureintro; exact h19.read_unread _
  isplitl [H20]
  · iexists _; isplitr; swap; · iexact H20
    ipureintro; exact h20.read_unread _
  isplitl [H21]
  · iexists _; isplitr; swap; · iexact H21
    ipureintro; sl_unfold_words; dsimp only; refine (read_stored _ _ _ _).trans ?_; simp only [View.readAt_eq_ld, Memref.IsWhole.read_unread, ld_flat, ld_slab, rowsOf, dInputOf]
  isplitl [H22]
  · iexists _; isplitr; swap; · iexact H22
    ipureintro; sl_unfold_words; dsimp only; refine (read_stored _ _ _ _).trans ?_; simp only [View.readAt_eq_ld, Memref.IsWhole.read_unread, ld_flat, ld_slab, step, First, c1, if_true, if_false, gainOf, dInputOf]
  iexists _; isplitr; swap; · iexact H23
  ipureintro; sl_unfold_words; dsimp only; refine (read_stored _ _ _ _).trans ?_; simp only [View.readAt_eq_ld, Memref.IsWhole.read_unread, ld_flat, ld_slab, step, First, c1, if_true, if_false, shiftOf, dInputOf]

end Cert.InNorm

end
-- ==== Proof.InNormFrame.lean ====
/-
  The kernel of InNormRun.lean runs: the sixteen grid points one after another, and the launch around them. Of what a point
  leaves, only the two sums are taken up by the next.
-/
module

public import proofs.«01_k».proof.Proof.InNormRun
public import Idealize.ShloMosaic.Lib.Claim

@[expose] public section

set_option maxRecDepth 16384

noncomputable section

namespace Cert.InNorm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which point is which -/

theorem first_iff : ∀ t : Fin cfg0.N, First (grid0.coords t) ↔ t.val = 0 := by decide +kernel
theorem branch (t : Fin cfg0.N) : Branch (grid0.coords t) where
  c2 := (by decide +kernel : ∀ t : Fin cfg0.N, k0_cond2 (grid0.coords t) = 1#1 ↔ ¬First (grid0.coords t)) t
  c3 := (by decide +kernel : ∀ t : Fin cfg0.N, k0_cond3 (grid0.coords t) = 1#1 ↔ First (grid0.coords t)) t
  c4 := (by decide +kernel : ∀ t : Fin cfg0.N, k0_cond4 (grid0.coords t) = 1#1 ↔ ¬First (grid0.coords t)) t

/-- Every point stores into all three results; the two sums are written back after the last point only. -/
theorem live20 : ∀ t : Fin cfg0.N, cfg0.idle 20 (cfg0.grid.coords t) = false := by decide +kernel
theorem live21 : ∀ t : Fin cfg0.N, cfg0.idle 21 (cfg0.grid.coords t) = false := by decide +kernel
theorem live22 : ∀ t : Fin cfg0.N, cfg0.idle 22 (cfg0.grid.coords t) = false := by decide +kernel
theorem back21 : ∀ t : Fin cfg0.N, (cfg0.win 21).flush t = decide (t.val = 15) := by decide +kernel
theorem back22 : ∀ t : Fin cfg0.N, (cfg0.win 22).flush t = decide (t.val = 15) := by decide +kernel
theorem fetch21 : ∀ t : Fin cfg0.N, (cfg0.win 21).fetch t = false := by decide +kernel
theorem fetch22 : ∀ t : Fin cfg0.N, (cfg0.win 22).fetch t = false := by decide +kernel

/-! ## The sums -/

/-- The blocks of a point. -/
abbrev blocks (c : Dev nD) (t : Fin cfg0.N) : Given F where
  d0 := iblk m c 0 t
  d1 := iblk m c 1 t
  d2 := iblk m c 2 t
  d3 := iblk m c 3 t
  d4 := iblk m c 4 t
  d5 := iblk m c 5 t
  d6 := iblk m c 6 t
  d7 := iblk m c 7 t
  w0 := iblk m c 8 t
  w1 := iblk m c 9 t
  w2 := iblk m c 10 t
  w3 := iblk m c 11 t
  w4 := iblk m c 12 t
  w5 := iblk m c 13 t
  w6 := iblk m c 14 t
  w7 := iblk m c 15 t
  du := iblk m c 16 t
  x := iblk m c 17 t
  g := iblk m c 18 t
  b := iblk m c 19 t

/-- The grid point at a position. -/
def pt (n : ℕ) : Fin cfg0.N := ⟨n % 16, N_0 ▸ Nat.mod_lt n (by decide)⟩
theorem pt_val (t : Fin cfg0.N) : pt t.val = t := Fin.ext (Nat.mod_eq_of_lt (N_0 ▸ t.isLt))

/-- The sums after the point at position `n`. -/
def sums (c : Dev nD) : ℕ → Sums F
  | 0 => ⟨gainOf (blocks m c (pt 0)), shiftOf (blocks m c (pt 0))⟩
  | n + 1 => ⟨k0_pay1 (gainOf (blocks m c (pt (n + 1)))) (sums c n).gain, k0_pay2 (shiftOf (blocks m c (pt (n + 1)))) (sums c n).shift⟩

/-- One step from the sums of the point before, which the first point does not read, gives the sums. -/
theorem step_sums (c : Dev nD) (t : Fin cfg0.N) (s : Sums F) (h : t.val ≠ 0 → s = sums m c (t.val - 1)) :
    step (grid0.coords t) (blocks m c t) s = sums m c t.val := by
  obtain ⟨n, hn⟩ := t
  have e := pt_val ⟨n, hn⟩
  unfold step
  cases n with
  | zero =>
    rw [if_pos ((first_iff _).mpr rfl)]
    unfold sums
    rw [show pt 0 = ⟨0, hn⟩ from e]
  | succ n =>
    rw [if_neg (fun f => Nat.succ_ne_zero n ((first_iff _).mp f)), h (Nat.succ_ne_zero n)]
    show _ = sums m c (n + 1)
    conv_rhs => unfold sums
    rw [show pt (n + 1) = ⟨n + 1, hn⟩ from e]
    rfl

/-! ## The proof data -/

/-- What every window's block holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => rowsOf (blocks m c t)
    | ⟨21, _⟩ => (sums m c t.val).gain
    | ⟨22, _⟩ => (sums m c t.val).shift
    | ⟨_ + 23, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  before0_10_of m (dats m 0 c) (A_eq m c 10) (after_10 m c) t d
theorem after_11 (c : Dev nD) (t : Fin cfg0.N) : (dats m 0 c).after 11 t = iblk m c 11 t := by dsimp only [dats]
theorem before_11 (c : Dev nD) (t : Fin cfg0.N) (d) : (dats m 0 c).before 11 t d = iblk m c 11 t :=
  before0_11_of m (dats m 0 c) (A_eq m c 11) (after_11 m c) t d
theorem after_12 (c : Dev nD) (t : Fin cfg0.N) : (dats m 0 c).after 12 t = iblk m c 12 t := by dsimp only [dats]
theorem before_12 (c : Dev nD) (t : Fin cfg0.N) (d) : (dats m 0 c).before 12 t d = iblk m c 12 t :=
  before0_12_of m (dats m 0 c) (A_eq m c 12) (after_12 m c) t d
theorem after_13 (c : Dev nD) (t : Fin cfg0.N) : (dats m 0 c).after 13 t = iblk m c 13 t := by dsimp only [dats]
theorem before_13 (c : Dev nD) (t : Fin cfg0.N) (d) : (dats m 0 c).before 13 t d = iblk m c 13 t :=
  before0_13_of m (dats m 0 c) (A_eq m c 13) (after_13 m c) t d
theorem after_14 (c : Dev nD) (t : Fin cfg0.N) : (dats m 0 c).after 14 t = iblk m c 14 t := by dsimp only [dats]
theorem before_14 (c : Dev nD) (t : Fin cfg0.N) (d) : (dats m 0 c).before 14 t d = iblk m c 14 t :=
  before0_14_of m (dats m 0 c) (A_eq m c 14) (after_14 m c) t d
theorem after_15 (c : Dev nD) (t : Fin cfg0.N) : (dats m 0 c).after 15 t = iblk m c 15 t := by dsimp only [dats]
theorem before_15 (c : Dev nD) (t : Fin cfg0.N) (d) : (dats m 0 c).before 15 t d = iblk m c 15 t :=
  before0_15_of m (dats m 0 c) (A_eq m c 15) (after_15 m c) t d
theorem after_16 (c : Dev nD) (t : Fin cfg0.N) : (dats m 0 c).after 16 t = iblk m c 16 t := by dsimp only [dats]
theorem before_16 (c : Dev nD) (t : Fin cfg0.N) (d) : (dats m 0 c).before 16 t d = iblk m c 16 t :=
  before0_16_of m (dats m 0 c) (A_eq m c 16) (after_16 m c) t d
theorem after_17 (c : Dev nD) (t : Fin cfg0.N) : (dats m 0 c).after 17 t = iblk m c 17 t := by dsimp only [dats]
theorem before_17 (c : Dev nD) (t : Fin cfg0.N) (d) : (dats m 0 c).before 17 t d = iblk m c 17 t :=
  before0_17_of m (dats m 0 c) (A_eq m c 17) (after_17 m c) t d
theorem after_18 (c : Dev nD) (t : Fin cfg0.N) : (dats m 0 c).after 18 t = iblk m c 18 t := by dsimp only [dats]
theorem before_18 (c : Dev nD) (t : Fin cfg0.N) (d) : (dats m 0 c).before 18 t d = iblk m c 18 t :=
  before0_18_of m (dats m 0 c) (A_eq m c 18) (after_18 m c) t d
theorem after_19 (c : Dev nD) (t : Fin cfg0.N) : (dats m 0 c).after 19 t = iblk m c 19 t := by dsimp only [dats]
theorem before_19 (c : Dev nD) (t : Fin cfg0.N) (d) : (dats m 0 c).before 19 t d = iblk m c 19 t :=
  before0_19_of m (dats m 0 c) (A_eq m c 19) (after_19 m c) t d
theorem after_20 (c : Dev nD) (t : Fin cfg0.N) : (dats m 0 c).after 20 t = rowsOf (blocks m c t) := by dsimp only [dats]
theorem after_21 (c : Dev nD) (t : Fin cfg0.N) : (dats m 0 c).after 21 t = (sums m c t.val).gain := by dsimp only [dats]
theorem after_22 (c : Dev nD) (t : Fin cfg0.N) : (dats m 0 c).after 22 t = (sums m c t.val).shift := by dsimp only [dats]

/-- A result that every point stores into and none but the last writes back is found as the point before left it. -/
theorem found (c : Dev nD) (w : Fin cfg0.W) (live : ∀ t : Fin cfg0.N, cfg0.idle w (cfg0.grid.coords t) = false)
    (fetch : ∀ t : Fin cfg0.N, (cfg0.win w).fetch t = false)
    (back : ∀ t : Fin cfg0.N, (cfg0.win w).flush t = decide (t.val = 15)) (n : ℕ) (h : n + 1 < cfg0.N) (d) :
    (dats m 0 c).before w ⟨n + 1, h⟩ d = (dats m 0 c).kept w ⟨n, Nat.lt_of_succ_lt h⟩ d := by
  have hN : cfg0.N = 16 := N_0
  rw [Dat.before_of_pos (dats m 0 c) w ⟨n + 1, h⟩ (Nat.succ_ne_zero n) (fetch _) d]
  show (if (cfg0.win w).flush ⟨n, Nat.lt_of_succ_lt h⟩ then d else (dats m 0 c).left w ⟨n, Nat.lt_of_succ_lt h⟩ d) = _
  rw [back, decide_eq_false (by show ¬n = 15; omega), if_neg Bool.false_ne_true]
  unfold Dat.left
  rw [live]

theorem sums_found (c : Dev nD) (t : Fin cfg0.N) (d d') (h : t.val ≠ 0) :
    (⟨(dats m 0 c).before 21 t d, (dats m 0 c).before 22 t d'⟩ : Sums F) = sums m c (t.val - 1) := by
  obtain ⟨n, hn⟩ := t
  cases n with
  | zero => exact absurd rfl h
  | succ n =>
    rw [found m c 21 live21 fetch21 back21 n hn d, found m c 22 live22 fetch22 back22 n hn d']
    show (⟨(dats m 0 c).after 21 ⟨n, Nat.lt_of_succ_lt hn⟩, (dats m 0 c).after 22 ⟨n, Nat.lt_of_succ_lt hn⟩⟩ : Sums F) = sums m c n
    rw [after_21, after_22]

/-- A block that holds what the proof data states after a point is what the body hands back of it. -/
theorem give (c : Dev nD) (w : Fin cfg0.W) (t : Fin cfg0.N) (X : (cfg0.win w).block.Idx → Elt F (cfg0.win w).elt)
    (h : X = (dats m 0 c).after w t) (live : cfg0.idle w (cfg0.grid.coords t) = false) :
    owns (c : Thread nD τ) ((cfg0.win w).stage (cfg0.slots t w)) fullShare X ⊢ ((dats m 0 c).leavesExact w t : sProp 𝕄) := by
  subst h
  unfold Dat.leavesExact
  rw [live]

/-! ## The body at every point -/

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t)

set_option maxHeartbeats 3000000 in
/-- The body's triple at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19]
  rw [show (dats m 0 c).owesAt () t.succ = (dats m 0 c).owesAt () t.castSucc from rfl,
    show (dats m 0 c).Φ t.succ = (dats m 0 c).Φ t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  have k := step_sums m c t ⟨(dats m 0 c).before 21 t d21, (dats m 0 c).before 22 t d22⟩ (sums_found m c t d21 d22)
  iapply (run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) (st0_21 t) (hstage0_21 ((cfg0.slots t 21).cast nbuf0_21)) (st0_22 t) (hstage0_22 ((cfg0.slots t 22).cast nbuf0_22)) (branch t)
    (blocks m c t) ((dats m 0 c).before 20 t d20) ⟨(dats m 0 c).before 21 t d21, (dats m 0 c).before 22 t d22⟩ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iapply (give m c 0 t _ (after_0 m c t).symm rfl); iexact H0
  isplitl [H1]; · iapply (give m c 1 t _ (after_1 m c t).symm rfl); iexact H1
  isplitl [H2]; · iapply (give m c 2 t _ (after_2 m c t).symm rfl); iexact H2
  isplitl [H3]; · iapply (give m c 3 t _ (after_3 m c t).symm rfl); iexact H3
  isplitl [H4]; · iapply (give m c 4 t _ (after_4 m c t).symm rfl); iexact H4
  isplitl [H5]; · iapply (give m c 5 t _ (after_5 m c t).symm rfl); iexact H5
  isplitl [H6]; · iapply (give m c 6 t _ (after_6 m c t).symm rfl); iexact H6
  isplitl [H7]; · iapply (give m c 7 t _ (after_7 m c t).symm rfl); iexact H7
  isplitl [H8]; · iapply (give m c 8 t _ (after_8 m c t).symm rfl); iexact H8
  isplitl [H9]; · iapply (give m c 9 t _ (after_9 m c t).symm rfl); iexact H9
  isplitl [H10]; · iapply (give m c 10 t _ (after_10 m c t).symm rfl); iexact H10
  isplitl [H11]; · iapply (give m c 11 t _ (after_11 m c t).symm rfl); iexact H11
  isplitl [H12]; · iapply (give m c 12 t _ (after_12 m c t).symm rfl); iexact H12
  isplitl [H13]; · iapply (give m c 13 t _ (after_13 m c t).symm rfl); iexact H13
  isplitl [H14]; · iapply (give m c 14 t _ (after_14 m c t).symm rfl); iexact H14
  isplitl [H15]; · iapply (give m c 15 t _ (after_15 m c t).symm rfl); iexact H15
  isplitl [H16]; · iapply (give m c 16 t _ (after_16 m c t).symm rfl); iexact H16
  isplitl [H17]; · iapply (give m c 17 t _ (after_17 m c t).symm rfl); iexact H17
  isplitl [H18]; · iapply (give m c 18 t _ (after_18 m c t).symm rfl); iexact H18
  isplitl [H19]; · iapply (give m c 19 t _ (after_19 m c t).symm rfl); iexact H19
  isplitl [H20]; · iapply (give m c 20 t _ (after_20 m c t).symm (live20 t)); iexact H20
  isplitl [H21]; · iapply (give m c 21 t _ ((congrArg Sums.gain k).trans (after_21 m c t).symm) (live21 t)); iexact H21
  iapply (give m c 22 t _ ((congrArg Sums.shift k).trans (after_22 m c t).symm) (live22 t)); iexact H22

/-- The body table's row at a point is the body on the staging buffers. -/
theorem row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The launch -/

set_option backward.isDefEq.respectTransparency.types false in
/-- Every run ends, with every array at what the blocks written back make of it and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- Every run ends, the arguments as they were and no semaphore raised. -/
theorem frame_ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (frame_of m ρ (dats m) (A_eq m) (run_main m ρ)) ((θ_run defs _ _).mono (fun _ h => h.2) (run_quiescent m ρ))

end Cert.InNorm

end
-- ==== Proof.InNormBlocks.lean ====
/-
  The kernel that takes the gradient at the projections' input on through the layer norm before them: what it loads, and
  the gradient at that input as it computes it, 256 tokens at a time.
-/
module

public import proofs.«01_k».proof.Proof.InNormFrame
public import proofs.«01_k».proof.Proof.InBlocks
public import Idealize.ShloMosaic.Lib.Pointwise
public import Idealize.ShloMosaic.Lib.Tactic
public import Idealize.ShloMosaic.Lib.StableHlo.ReadAt
public import Idealize.ShloMosaic.Lib.Pipeline.ValueKit

@[expose] public section

set_option maxRecDepth 16384

noncomputable section

namespace Cert.InNorm

open Cert.Merge (Mat)
open Cert.FeedForward (Row rowOf)
open Cert.InBack (Grads tokenAt rows_pos weight_pos lane lane_mul dInput)
open Cert.Kernel9Ideal Cert.Kernel9Ideal.Gen Idealize.ShloMosaic Idealize.ShloMosaic.TcCoe Idealize.SL.Sem

variable (m : (ℓ : Loc nD τ sig) → Buf (Elt Ideal) ℓ)

/-! ## The arrays the program was given -/

/-- The gradients at the groups of columns, the weight of all input projections, and the gradient of the residual
    stream. -/
def G (c : Dev nD) : Grads where
  dz := m (c.tc.loc main_arg0)
  dxbc := m (c.tc.loc main_arg1)
  ddt := m (c.tc.loc main_arg2)
  dqkv := m (c.tc.loc main_arg3)
  dbeta := m (c.tc.loc main_arg4)
  da := m (c.tc.loc main_arg5)
  dgate := m (c.tc.loc main_arg6)
  duv := m (c.tc.loc main_arg7)
  dfox := m (c.tc.loc main_arg8)
  df := m (c.tc.loc main_arg9)
  dgates := m (c.tc.loc main_arg10)
abbrev W (c : Dev nD) : Mat 1024 10264 := m (c.tc.loc main_arg11)
abbrev Du (c : Dev nD) : Mat 4096 1024 := m (c.tc.loc main_arg12)
/-- The rows the layer norm takes, and its gain. -/
abbrev X (c : Dev nD) : Mat 4096 1024 := m (c.tc.loc main_arg13)
abbrev Gain (c : Dev nD) : Row := fun k => (m (c.tc.loc main_arg14) : (⟨1, ![1024]⟩ : Shape).Idx → EReal) (ix1 k)

theorem lt16 (t : Fin cfg0.N) : t.val < 16 := lt_of_lt_of_eq t.isLt N_0
/-- The token of row `r` of the block of point `t`. -/
abbrev token (t : Fin cfg0.N) (r : Fin 256) : Fin 4096 := tokenAt t.val (lt16 t) r

/-! ## The rows a point takes -/

theorem V_args (c : Dev nD) :
    V m c main_arg0 = m (c.tc.loc main_arg0) ∧ V m c main_arg1 = m (c.tc.loc main_arg1) ∧ V m c main_arg3 = m (c.tc.loc main_arg3) ∧
    V m c main_arg6 = m (c.tc.loc main_arg6) ∧ V m c main_arg7 = m (c.tc.loc main_arg7) ∧ V m c main_arg8 = m (c.tc.loc main_arg8) ∧
    V m c main_arg10 = m (c.tc.loc main_arg10) ∧ V m c main_arg12 = m (c.tc.loc main_arg12) ∧
    V m c main_arg13 = m (c.tc.loc main_arg13) := by
  refine ⟨?_, ?_, ?_, ?_, ?_, ?_, ?_, ?_, ?_⟩ <;> unfold V <;> after_reads_at

theorem idx0 : ∀ t : Fin cfg0.N, win0_0.index t 0 = t.val ∧ win0_0.index t 1 = 0 := by decide +kernel
theorem iblk0 (c : Dev nD) (t : Fin cfg0.N) (r : Fin 256) (j : Fin 512) :
    (iblk m c 0 t : (⟨2, ![256, 512]⟩ : Shape).Idx → EReal) (ix2 r j) = (G m c).dz (ix2 (token t r) j) := by
  unfold iblk
  rw [View.read_apply]
  exact (congrFun ((V_args m c).1) _).trans (congrArg (m (c.tc.loc main_arg0)) (rows_pos (idx0 t) r j _ rfl rfl))
theorem idx1 : ∀ t : Fin cfg0.N, win0_1.index t 0 = t.val ∧ win0_1.index t 1 = 0 := by decide +kernel
theorem iblk1 (c : Dev nD) (t : Fin cfg0.N) (r : Fin 256) (j : Fin 1024) :
    (iblk m c 1 t : (⟨2, ![256, 1024]⟩ : Shape).Idx → EReal) (ix2 r j) = (G m c).dxbc (ix2 (token t r) j) := by
  unfold iblk
  rw [View.read_apply]
  exact (congrFun ((V_args m c).2.1) _).trans (congrArg (m (c.tc.loc main_arg1)) (rows_pos (idx1 t) r j _ rfl rfl))
theorem idx2 : ∀ t : Fin cfg0.N, win0_2.index t 0 = t.val ∧ win0_2.index t 1 = 0 := by decide +kernel
theorem iblk2 (c : Dev nD) (t : Fin cfg0.N) (r : Fin 256) (j : Fin 1536) :
    (iblk m c 2 t : (⟨2, ![256, 1536]⟩ : Shape).Idx → EReal) (ix2 r j) = (G m c).dqkv (ix2 (token t r) j) := by
  unfold iblk
  rw [View.read_apply]
  exact (congrFun ((V_args m c).2.2.1) _).trans (congrArg (m (c.tc.loc main_arg3)) (rows_pos (idx2 t) r j _ rfl rfl))
theorem idx3 : ∀ t : Fin cfg0.N, win0_3.index t 0 = t.val ∧ win0_3.index t 1 = 0 := by decide +kernel
theorem iblk3 (c : Dev nD) (t : Fin cfg0.N) (r : Fin 256) (j : Fin 512) :
    (iblk m c 3 t : (⟨2, ![256, 512]⟩ : Shape).Idx → EReal) (ix2 r j) = (G m c).dgate (ix2 (token t r) j) := by
  unfold iblk
  rw [View.read_apply]
  exact (congrFun ((V_args m c).2.2.2.1) _).trans (congrArg (m (c.tc.loc main_arg6)) (rows_pos (idx3 t) r j _ rfl rfl))
theorem idx4 : ∀ t : Fin cfg0.N, win0_4.index t 0 = t.val ∧ win0_4.index t 1 = 0 := by decide +kernel
theorem iblk4 (c : Dev nD) (t : Fin cfg0.N) (r : Fin 256) (j : Fin 1024) :
    (iblk m c 4 t : (⟨2, ![256, 1024]⟩ : Shape).Idx → EReal) (ix2 r j) = (G m c).duv (ix2 (token t r) j) := by
  unfold iblk
  rw [View.read_apply]
  exact (congrFun ((V_args m c).2.2.2.2.1) _).trans (congrArg (m (c.tc.loc main_arg7)) (rows_pos (idx4 t) r j _ rfl rfl))
theorem idx5 : ∀ t : Fin cfg0.N, win0_5.index t 0 = t.val ∧ win0_5.index t 1 = 0 := by decide +kernel
theorem iblk5 (c : Dev nD) (t : Fin cfg0.N) (r : Fin 256) (j : Fin 1536) :
    (iblk m c 5 t : (⟨2, ![256, 1536]⟩ : Shape).Idx → EReal) (ix2 r j) = (G m c).dfox (ix2 (token t r) j) := by
  unfold iblk
  rw [View.read_apply]
  exact (congrFun ((V_args m c).2.2.2.2.2.1) _).trans (congrArg (m (c.tc.loc main_arg8)) (rows_pos (idx5 t) r j _ rfl rfl))
theorem idx6 : ∀ t : Fin cfg0.N, win0_6.index t 0 = t.val ∧ win0_6.index t 1 = 0 := by decide +kernel
theorem iblk6 (c : Dev nD) (t : Fin cfg0.N) (r : Fin 256) (j : Fin 4096) :
    (iblk m c 6 t : (⟨2, ![256, 4096]⟩ : Shape).Idx → EReal) (ix2 r j) = (G m c).dgates (ix2 (token t r) j) := by
  unfold iblk
  rw [View.read_apply]
  exact (congrFun ((V_args m c).2.2.2.2.2.2.1) _).trans (congrArg (m (c.tc.loc main_arg10)) (rows_pos (idx6 t) r j _ rfl rfl))
theorem idx16 : ∀ t : Fin cfg0.N, win0_16.index t 0 = t.val ∧ win0_16.index t 1 = 0 := by decide +kernel
theorem iblk16 (c : Dev nD) (t : Fin cfg0.N) (r : Fin 256) (j : Fin 1024) :
    (iblk m c 16 t : (⟨2, ![256, 1024]⟩ : Shape).Idx → EReal) (ix2 r j) = Du m c (ix2 (token t r) j) := by
  unfold iblk
  rw [View.read_apply]
  exact (congrFun ((V_args m c).2.2.2.2.2.2.2.1) _).trans (congrArg (m (c.tc.loc main_arg12)) (rows_pos (idx16 t) r j _ rfl rfl))

/-- The small groups' gradients, side by side in one lane. -/
theorem V_small (c : Dev nD) (l : Fin 4096) (j : Fin 128) :
    (V m c main_v1 : Mat 4096 128) (ix2 l j)
      = lane (fun i => (G m c).ddt (ix2 l i)) (fun i => (G m c).dbeta (ix2 l i)) (fun i => (G m c).da (ix2 l i))
          (fun i => (G m c).df (ix2 l i)) j.val := by
  unfold V
  after_reads_at
  unfold lane
  split_ifs
  all_goals after_reads_at
  all_goals rfl
theorem idx7 : ∀ t : Fin cfg0.N, win0_7.index t 0 = t.val ∧ win0_7.index t 1 = 0 := by decide +kernel
theorem iblk7 (c : Dev nD) (t : Fin cfg0.N) (r : Fin 256) (j : Fin 128) :
    (iblk m c 7 t : (⟨2, ![256, 128]⟩ : Shape).Idx → EReal) (ix2 r j)
      = lane (fun i => (G m c).ddt (ix2 (token t r) i)) (fun i => (G m c).dbeta (ix2 (token t r) i))
          (fun i => (G m c).da (ix2 (token t r) i)) (fun i => (G m c).df (ix2 (token t r) i)) j.val := by
  rw [← V_small]
  unfold iblk
  rw [View.read_apply]
  exact congrArg (V m c main_v1) (rows_pos (idx7 t) r j _ rfl rfl)

/-! ## The weights -/

theorem V8 (c : Dev nD) (k : Fin 1024) (j : Fin 512) :
    (V m c main_v16 : (⟨3, ![1, 1024, 512]⟩ : Shape).Idx → EReal) (ix3 0 k j) = W m c (ix2 k ⟨0 + j.val, by omega⟩) := by
  unfold V
  after_reads_at
theorem V9 (c : Dev nD) (k : Fin 1024) (j : Fin 1024) :
    (V m c main_v18 : (⟨3, ![1, 1024, 1024]⟩ : Shape).Idx → EReal) (ix3 0 k j) = W m c (ix2 k ⟨512 + j.val, by omega⟩) := by
  unfold V
  after_reads_at
theorem V10 (c : Dev nD) (k : Fin 1024) (j : Fin 1536) :
    (V m c main_v20 : (⟨3, ![1, 1024, 1536]⟩ : Shape).Idx → EReal) (ix3 0 k j) = W m c (ix2 k ⟨1544 + j.val, by omega⟩) := by
  unfold V
  after_reads_at
theorem V11 (c : Dev nD) (k : Fin 1024) (j : Fin 512) :
    (V m c main_v22 : (⟨3, ![1, 1024, 512]⟩ : Shape).Idx → EReal) (ix3 0 k j) = W m c (ix2 k ⟨3088 + j.val, by omega⟩) := by
  unfold V
  after_reads_at
theorem V12 (c : Dev nD) (k : Fin 1024) (j : Fin 1024) :
    (V m c main_v24 : (⟨3, ![1, 1024, 1024]⟩ : Shape).Idx → EReal) (ix3 0 k j) = W m c (ix2 k ⟨3600 + j.val, by omega⟩) := by
  unfold V
  after_reads_at
theorem V13 (c : Dev nD) (k : Fin 1024) (j : Fin 1536) :
    (V m c main_v26 : (⟨3, ![1, 1024, 1536]⟩ : Shape).Idx → EReal) (ix3 0 k j) = W m c (ix2 k ⟨4624 + j.val, by omega⟩) := by
  unfold V
  after_reads_at
theorem V14 (c : Dev nD) (k : Fin 1024) (j : Fin 4096) :
    (V m c main_v28 : (⟨3, ![1, 1024, 4096]⟩ : Shape).Idx → EReal) (ix3 0 k j) = W m c (ix2 k ⟨6168 + j.val, by omega⟩) := by
  unfold V
  after_reads_at
theorem V15 (c : Dev nD) (k : Fin 1024) (j : Fin 128) :
    (V m c main_v30 : (⟨3, ![1, 1024, 128]⟩ : Shape).Idx → EReal) (ix3 0 k j)
      = lane (fun i => W m c (ix2 k ⟨1536 + i.val, by omega⟩)) (fun i => W m c (ix2 k ⟨3080 + i.val, by omega⟩))
          (fun i => W m c (ix2 k ⟨3084 + i.val, by omega⟩)) (fun i => W m c (ix2 k ⟨6160 + i.val, by omega⟩)) j.val := by
  unfold V
  after_reads_at
  unfold lane
  split_ifs
  all_goals after_reads_at

theorem idx8 : ∀ t : Fin cfg0.N, win0_8.index t 0 = 0 ∧ win0_8.index t 1 = 0 ∧ win0_8.index t 2 = 0 := by decide +kernel
theorem iblk8 (c : Dev nD) (t : Fin cfg0.N) (k : Fin 1024) (j : Fin 512) :
    (iblk m c 8 t : (⟨3, ![1, 1024, 512]⟩ : Shape).Idx → EReal) (ix3 0 k j) = W m c (ix2 k ⟨0 + j.val, by omega⟩) := by
  rw [← V8]
  unfold iblk
  rw [View.read_apply]
  exact congrArg (V m c main_v16) (weight_pos (idx8 t) k j _ rfl rfl rfl)
theorem idx9 : ∀ t : Fin cfg0.N, win0_9.index t 0 = 0 ∧ win0_9.index t 1 = 0 ∧ win0_9.index t 2 = 0 := by decide +kernel
theorem iblk9 (c : Dev nD) (t : Fin cfg0.N) (k : Fin 1024) (j : Fin 1024) :
    (iblk m c 9 t : (⟨3, ![1, 1024, 1024]⟩ : Shape).Idx → EReal) (ix3 0 k j) = W m c (ix2 k ⟨512 + j.val, by omega⟩) := by
  rw [← V9]
  unfold iblk
  rw [View.read_apply]
  exact congrArg (V m c main_v18) (weight_pos (idx9 t) k j _ rfl rfl rfl)
theorem idx10 : ∀ t : Fin cfg0.N, win0_10.index t 0 = 0 ∧ win0_10.index t 1 = 0 ∧ win0_10.index t 2 = 0 := by decide +kernel
theorem iblk10 (c : Dev nD) (t : Fin cfg0.N) (k : Fin 1024) (j : Fin 1536) :
    (iblk m c 10 t : (⟨3, ![1, 1024, 1536]⟩ : Shape).Idx → EReal) (ix3 0 k j) = W m c (ix2 k ⟨1544 + j.val, by omega⟩) := by
  rw [← V10]
  unfold iblk
  rw [View.read_apply]
  exact congrArg (V m c main_v20) (weight_pos (idx10 t) k j _ rfl rfl rfl)
theorem idx11 : ∀ t : Fin cfg0.N, win0_11.index t 0 = 0 ∧ win0_11.index t 1 = 0 ∧ win0_11.index t 2 = 0 := by decide +kernel
theorem iblk11 (c : Dev nD) (t : Fin cfg0.N) (k : Fin 1024) (j : Fin 512) :
    (iblk m c 11 t : (⟨3, ![1, 1024, 512]⟩ : Shape).Idx → EReal) (ix3 0 k j) = W m c (ix2 k ⟨3088 + j.val, by omega⟩) := by
  rw [← V11]
  unfold iblk
  rw [View.read_apply]
  exact congrArg (V m c main_v22) (weight_pos (idx11 t) k j _ rfl rfl rfl)
theorem idx12 : ∀ t : Fin cfg0.N, win0_12.index t 0 = 0 ∧ win0_12.index t 1 = 0 ∧ win0_12.index t 2 = 0 := by decide +kernel
theorem iblk12 (c : Dev nD) (t : Fin cfg0.N) (k : Fin 1024) (j : Fin 1024) :
    (iblk m c 12 t : (⟨3, ![1, 1024, 1024]⟩ : Shape).Idx → EReal) (ix3 0 k j) = W m c (ix2 k ⟨3600 + j.val, by omega⟩) := by
  rw [← V12]
  unfold iblk
  rw [View.read_apply]
  exact congrArg (V m c main_v24) (weight_pos (idx12 t) k j _ rfl rfl rfl)
theorem idx13 : ∀ t : Fin cfg0.N, win0_13.index t 0 = 0 ∧ win0_13.index t 1 = 0 ∧ win0_13.index t 2 = 0 := by decide +kernel
theorem iblk13 (c : Dev nD) (t : Fin cfg0.N) (k : Fin 1024) (j : Fin 1536) :
    (iblk m c 13 t : (⟨3, ![1, 1024, 1536]⟩ : Shape).Idx → EReal) (ix3 0 k j) = W m c (ix2 k ⟨4624 + j.val, by omega⟩) := by
  rw [← V13]
  unfold iblk
  rw [View.read_apply]
  exact congrArg (V m c main_v26) (weight_pos (idx13 t) k j _ rfl rfl rfl)
theorem idx14 : ∀ t : Fin cfg0.N, win0_14.index t 0 = 0 ∧ win0_14.index t 1 = 0 ∧ win0_14.index t 2 = 0 := by decide +kernel
theorem iblk14 (c : Dev nD) (t : Fin cfg0.N) (k : Fin 1024) (j : Fin 4096) :
    (iblk m c 14 t : (⟨3, ![1, 1024, 4096]⟩ : Shape).Idx → EReal) (ix3 0 k j) = W m c (ix2 k ⟨6168 + j.val, by omega⟩) := by
  rw [← V14]
  unfold iblk
  rw [View.read_apply]
  exact congrArg (V m c main_v28) (weight_pos (idx14 t) k j _ rfl rfl rfl)
theorem idx15 : ∀ t : Fin cfg0.N, win0_15.index t 0 = 0 ∧ win0_15.index t 1 = 0 ∧ win0_15.index t 2 = 0 := by decide +kernel
theorem iblk15 (c : Dev nD) (t : Fin cfg0.N) (k : Fin 1024) (j : Fin 128) :
    (iblk m c 15 t : (⟨3, ![1, 1024, 128]⟩ : Shape).Idx → EReal) (ix3 0 k j) =
      lane (fun i => W m c (ix2 k ⟨1536 + i.val, by omega⟩)) (fun i => W m c (ix2 k ⟨3080 + i.val, by omega⟩))
          (fun i => W m c (ix2 k ⟨3084 + i.val, by omega⟩)) (fun i => W m c (ix2 k ⟨6160 + i.val, by omega⟩)) j.val := by
  rw [← V15]
  unfold iblk
  rw [View.read_apply]
  exact congrArg (V m c main_v30) (weight_pos (idx15 t) k j _ rfl rfl rfl)

/-! ## The layer norm's rows and gain -/

theorem idx17 : ∀ t : Fin cfg0.N, win0_17.index t 0 = t.val ∧ win0_17.index t 1 = 0 := by decide +kernel
theorem iblk17 (c : Dev nD) (t : Fin cfg0.N) (r : Fin 256) (j : Fin 1024) :
    (iblk m c 17 t : (⟨2, ![256, 1024]⟩ : Shape).Idx → EReal) (ix2 r j) = X m c (ix2 (token t r) j) := by
  unfold iblk
  rw [View.read_apply]
  exact (congrFun ((V_args m c).2.2.2.2.2.2.2.2) _).trans (congrArg (m (c.tc.loc main_arg13)) (rows_pos (idx17 t) r j _ rfl rfl))

theorem V_gain (c : Dev nD) (q : Fin 1024) : (V m c main_v31 : Mat 1 1024) (ix2 0 q) = Gain m c q := by
  unfold V
  after_reads_at
theorem idx18 : ∀ t : Fin cfg0.N, win0_18.index t 0 = 0 ∧ win0_18.index t 1 = 0 := by decide +kernel
theorem iblk18 (c : Dev nD) (t : Fin cfg0.N) (q : Fin 1024) :
    (iblk m c 18 t : (⟨2, ![1, 1024]⟩ : Shape).Idx → EReal) (ix2 0 q) = Gain m c q := by
  have hi := idx18 t
  rw [← V_gain]
  unfold iblk
  rw [View.read_apply]
  show V m c main_v31 _ = V m c main_v31 _
  congr 1
  funext a
  apply Fin.ext
  match a with
  | ⟨0, _⟩ => show win0_18.index t 0 * 1 + 1 * 0 = 0; rw [hi.1]
  | ⟨1, _⟩ => show win0_18.index t 1 * 1024 + 1 * q.val = q.val; rw [hi.2]; omega

/-! ## The gradient at the projections' input -/

/-- What the body computes of the blocks of a point before it turns to the layer norm. -/
abbrev dh (c : Dev nD) (t : Fin cfg0.N) : Rows Ideal := dInputOf (blocks m c t)

theorem dh_at (c : Dev nD) (t : Fin cfg0.N) (r : Fin 256) (k : Fin 1024) :
    dh m c t (ix2 r k) = dInput (G m c) (W m c) (Du m c) (token t r) k := by
  pointwise [dh, dInputOf, k0_pay3, k0_pay4, k0_pay5]
  simp only [iblk0, iblk1, iblk2, iblk3, iblk4, iblk5, iblk6, iblk7, iblk8, iblk9, iblk10, iblk11, iblk12, iblk13, iblk14,
    iblk15, iblk16]
  refine (congrArg _ (lane_mul ..)).trans ?_
  rfl

end Cert.InNorm

end
-- ==== Proof.InNorm.lean ====
/-
  The layer norm before the projections, backwards: what the kernel leaves in its arrays. Each of the sixteen grid points
  takes 256 rows: it finds the gradient at the projections' input, takes it through the layer norm, and adds the block's
  part to the gradients of gain and shift.
-/
module

public import proofs.«01_k».proof.Proof.InNormBlocks
public import proofs.«01_k».proof.Proof.FfBlock
public import proofs.«01_k».proof.Proof.Products

@[expose] public section

set_option maxRecDepth 16384

noncomputable section

namespace Cert.InNorm

open Cert.Merge (Mat)
open Cert.FeedForward (Row centred spread scale fromSpread normBack rowOf line)
open Cert.InBack (Grads dInput rows_pos)

/-! ## The results -/

section
variable (G : Grads) (w : Mat 1024 10264) (du x : Mat 4096 1024) (g : Row)

/-- The three results: the gradients of the rows, of the gain and of the shift. -/
def resRows : Mat 4096 1024 := fun y => normBack (rowOf x (y 0)) g (dInput G w du (y 0)) (y 1)
def gainPart (l : Fin 4096) : Row := fun q => centred (rowOf x l) q * scale (rowOf x l) * dInput G w du l q
def resGain : Mat 1 1024 := fun y => ∑ l, gainPart G w du x l (y 1)
def resShift : Mat 1 1024 := fun y => ∑ l, dInput G w du l (y 1)
end

open Cert.Kernel9Ideal Cert.Kernel9Ideal.Gen Idealize.ShloMosaic Idealize.ShloMosaic.TcCoe Idealize.SL.Sem

/-! ## One point -/

section
variable (u d : Rows Ideal) (g : Line Ideal)

/-- Row `r` of a block. -/
def blockRow (r : Fin 256) : Row := fun k => u (ix2 r k)

theorem centred_at (r : Fin 256) (q : Fin 1024) : k0_pay7 (F := Ideal) u (ix2 r q) = centred (blockRow u r) q := by
  pointwise [k0_pay7]
  rfl
theorem square_at (r : Fin 256) (q : Fin 1024) :
    k0_pay8 (F := Ideal) u (ix2 r q) = centred (blockRow u r) q * centred (blockRow u r) q := by
  pointwise [k0_pay8]
  simp only [centred_at]
theorem spread_at (r : Fin 256) (z : Fin 1) : k0_pay9 (F := Ideal) (k0_pay8 u) (ix2 r z) = spread (blockRow u r) := by
  pointwise [k0_pay9]
  simp only [square_at]
  rfl
theorem scale_at (r : Fin 256) (z : Fin 1) : k0_pay10 (F := Ideal) (k0_pay8 u) (ix2 r z) = scale (blockRow u r) := by
  pointwise [k0_pay10]
  rw [spread_at]
  rfl

/-- The gradient at the rows of a block. -/
def grad : Rows Ideal := k0_pay13 (F := Ideal) d (k0_pay6 g) (k0_pay7 u) (k0_pay8 u)

theorem grad_at (r : Fin 256) (q : Fin 1024) : grad u d g (ix2 r q) = normBack (blockRow u r) (line g) (blockRow d r) q := by
  pointwise [grad, k0_pay13, k0_pay6]
  simp only [centred_at, spread_at, scale_at, Fin.sum_univ_one, FeedForward.twice, zero_sub]
  rfl
theorem gain_at (z : Fin 1) (q : Fin 1024) :
    k0_pay12 (F := Ideal) d (k0_pay7 u) (k0_pay8 u) (ix2 z q)
      = ∑ r, centred (blockRow u r) q * scale (blockRow u r) * d (ix2 r q) := by
  pointwise [k0_pay12]
  simp only [centred_at, scale_at]
theorem shift_at (z : Fin 1) (q : Fin 1024) : k0_pay11 (F := Ideal) d (ix2 z q) = ∑ r, d (ix2 r q) := by
  pointwise [k0_pay11]
theorem add_gain (v w : Line Ideal) (z : Fin 1) (q : Fin 1024) : k0_pay1 (F := Ideal) v w (ix2 z q) = w (ix2 z q) + v (ix2 z q) := by
  pointwise [k0_pay1]
theorem add_shift (v w : Line Ideal) (z : Fin 1) (q : Fin 1024) : k0_pay2 (F := Ideal) v w (ix2 z q) = w (ix2 z q) + v (ix2 z q) := by
  pointwise [k0_pay2]
end

variable (m : (ℓ : Loc nD τ sig) → Buf (Elt Ideal) ℓ)

/-- What a point adds to the sums, and what the first block starts them with. -/
theorem sums_first (c : Dev nD) (t : Fin cfg0.N) (h : t.val = 0) :
    sums m c t.val = ⟨gainOf (blocks m c t), shiftOf (blocks m c t)⟩ := by
  rw [← step_sums m c t ⟨gainOf (blocks m c t), shiftOf (blocks m c t)⟩ (fun e => absurd h e)]
  exact if_pos ((first_iff t).mpr h)
theorem sums_next (c : Dev nD) (t : Fin cfg0.N) (h : t.val ≠ 0) :
    sums m c t.val = ⟨k0_pay1 (gainOf (blocks m c t)) (sums m c (t.val - 1)).gain,
      k0_pay2 (shiftOf (blocks m c t)) (sums m c (t.val - 1)).shift⟩ := by
  rw [← step_sums m c t (sums m c (t.val - 1)) fun _ => rfl]
  exact if_neg fun e => h ((first_iff t).mp e)

/-! ## The blocks' rows -/

theorem row_x (c : Dev nD) (t : Fin cfg0.N) (r : Fin 256) : blockRow (iblk m c 17 t) r = rowOf (X m c) (token t r) :=
  funext fun q => iblk17 m c t r q
theorem row_dh (c : Dev nD) (t : Fin cfg0.N) (r : Fin 256) : blockRow (dh m c t) r = dInput (G m c) (W m c) (Du m c) (token t r) :=
  funext fun q => dh_at m c t r q
theorem line_gain (c : Dev nD) (t : Fin cfg0.N) : line (iblk m c 18 t) = Gain m c := funext fun q => iblk18 m c t q

/-- What the block of position `n` adds to the gradients of gain and shift, a sum over tokens of `f`. -/
def tile (f : Fin 4096 → EReal) (n : ℕ) : EReal := if h : n < 16 then ∑ r, f (InBack.tokenAt n h r) else 0

theorem gain_tile (c : Dev nD) (t : Fin cfg0.N) (z : Fin 1) (q : Fin 1024) :
    gainOf (blocks m c t) (ix2 z q)
      = tile (fun l => gainPart (G m c) (W m c) (Du m c) (X m c) l q) t.val := by
  unfold gainOf tile
  rw [gain_at]
  rw [dif_pos (lt16 t)]
  exact Finset.sum_congr rfl fun r _ => by rw [row_x, show dInputOf (blocks m c t) (ix2 r q) = _ from dh_at m c t r q]; rfl
theorem shift_tile (c : Dev nD) (t : Fin cfg0.N) (z : Fin 1) (q : Fin 1024) :
    shiftOf (blocks m c t) (ix2 z q) = tile (fun l => dInput (G m c) (W m c) (Du m c) l q) t.val := by
  unfold shiftOf tile
  rw [shift_at]
  rw [dif_pos (lt16 t)]
  exact Finset.sum_congr rfl fun r _ => dh_at m c t r q

/-- The sixteen blocks make up all the tokens. -/
theorem sum_tile (f : Fin 4096 → EReal) : ∑ i ∈ Finset.range 16, tile f i = ∑ l, f l := by
  refine Eq.trans (Finset.sum_congr rfl fun i hi => ?_)
    ((FeedForward.sum_tiles 16 256 fun j => if h : j < 4096 then f ⟨j, h⟩ else 0).trans (Finset.sum_congr rfl fun l _ => dif_pos l.isLt))
  have hi : i < 16 := Finset.mem_range.mp hi
  unfold tile
  rw [dif_pos hi]
  refine Finset.sum_congr rfl fun r _ => ?_
  rw [dif_pos (show 256 * i + r.val < 4096 by omega)]
  rfl

/-- A sum that starts at the first block and grows by a block's part at each other holds at the last point the sum over
    all tokens. -/
theorem last_sum (f : Fin 4096 → EReal) (acc : (n : ℕ) → n < cfg0.N → EReal)
    (start : ∀ t : Fin cfg0.N, t.val = 0 → acc t.val t.isLt = tile f t.val)
    (next : ∀ t : Fin cfg0.N, t.val ≠ 0 →
      acc t.val t.isLt = acc (t.val - 1) (Nat.lt_of_le_of_lt (Nat.sub_le _ _) t.isLt) + tile f t.val)
    (t : Fin cfg0.N) (h : t.val = 15) : acc t.val t.isLt = ∑ l, f l := by
  refine (Products.running_sum 16 cfg0.N (by omega) acc (tile f)
    (fun n hn e => start ⟨n, hn⟩ (by have : n < 16 := lt_of_lt_of_eq hn N_0; show n = 0; omega))
    (fun n hn e => next ⟨n + 1, hn⟩ (Nat.succ_ne_zero n)) t.val t.isLt).trans ?_
  rw [h, ← sum_tile f]
  exact Finset.sum_congr rfl fun i _ => congrArg (tile f) (by omega)

theorem gain_last (c : Dev nD) (t : Fin cfg0.N) (h : t.val = 15) (z : Fin 1) (q : Fin 1024) :
    (sums m c t.val).gain (ix2 z q) = ∑ l, gainPart (G m c) (W m c) (Du m c) (X m c) l q :=
  last_sum _ (fun n _ => (sums m c n).gain (ix2 z q))
    (fun t h => (congrFun (congrArg Sums.gain (sums_first m c t h)) _).trans (gain_tile m c t z q))
    (fun t h => (congrFun (congrArg Sums.gain (sums_next m c t h)) _).trans
      ((add_gain ..).trans (congrArg _ (gain_tile m c t z q)))) t h
theorem shift_last (c : Dev nD) (t : Fin cfg0.N) (h : t.val = 15) (z : Fin 1) (q : Fin 1024) :
    (sums m c t.val).shift (ix2 z q) = ∑ l, dInput (G m c) (W m c) (Du m c) l q :=
  last_sum _ (fun n _ => (sums m c n).shift (ix2 z q))
    (fun t h => (congrFun (congrArg Sums.shift (sums_first m c t h)) _).trans (shift_tile m c t z q))
    (fun t h => (congrFun (congrArg Sums.shift (sums_next m c t h)) _).trans
      ((add_shift ..).trans (congrArg _ (shift_tile m c t z q)))) t h

/-! ## The arrays -/

theorem idx20 : ∀ t : Fin cfg0.N, win0_20.index t 0 = t.val ∧ win0_20.index t 1 = 0 := by decide +kernel
theorem idx21 : ∀ t : Fin cfg0.N, win0_21.index t 0 = 0 ∧ win0_21.index t 1 = 0 := by decide +kernel
theorem emb21 (t : Fin cfg0.N) (z : Fin 1) (q : Fin 1024) :
    (((cfg0.win 21).blk t).view.emb (ix2 z q) : S1x1024.Idx) = ix2 z q := by
  have hi := idx21 t
  funext a
  apply Fin.ext
  match a with
  | ⟨0, _⟩ => show win0_21.index t 0 * 1 + 1 * z.val = z.val; rw [hi.1]; omega
  | ⟨1, _⟩ => show win0_21.index t 1 * 1024 + 1 * q.val = q.val; rw [hi.2]; omega
theorem emb22 (t : Fin cfg0.N) (z : Fin 1) (q : Fin 1024) :
    (((cfg0.win 22).blk t).view.emb (ix2 z q) : S1x1024.Idx) = ix2 z q := emb21 t z q

theorem after20 (c : Dev nD) (t : Fin cfg0.N) (r : Fin 256) (k : Fin 1024) :
    ((dats m 0 c).after 20 t : (⟨2, ![256, 1024]⟩ : Shape).Idx → EReal) (ix2 r k)
      = resRows (G m c) (W m c) (Du m c) (X m c) (Gain m c) (ix2 (token t r) k) := by
  rw [after_20]
  refine (grad_at (iblk m c 17 t) (dh m c t) (iblk m c 18 t) r k).trans ?_
  rw [row_x, row_dh, line_gain]
  rfl

/-- The three result arrays after the run. -/
theorem final20 (c : Dev nD) :
    (dats m 0 c).arrAt 20 cfg0.N = (resRows (G m c) (W m c) (Du m c) (X m c) (Gain m c) : Vec Ideal S4096x1024 .f32) :=
  (dats m 0 c).arrAt_eq_of_covers 20 (resRows (G m c) (W m c) (Du m c) (X m c) (Gain m c) : Vec Ideal S4096x1024 .f32)
    (by decide +kernel) fun t _ y => by
    obtain ⟨r, k, rfl⟩ : ∃ (r : Fin 256) (k : Fin 1024), y = ix2 r k := ⟨y 0, y 1, eq_ix2 y⟩
    exact (after20 m c t r k).trans (congrArg _ (rows_pos (idx20 t) r k _ rfl rfl).symm)
theorem final21 (c : Dev nD) :
    (dats m 0 c).arrAt 21 cfg0.N = (resGain (G m c) (W m c) (Du m c) (X m c) : Vec Ideal S1x1024 .f32) :=
  (dats m 0 c).arrAt_eq_of_covers 21 (resGain (G m c) (W m c) (Du m c) (X m c) : Vec Ideal S1x1024 .f32) (by decide +kernel)
    fun t hf y => by
    obtain ⟨z, q, rfl⟩ : ∃ (z : Fin 1) (q : Fin 1024), y = ix2 z q := ⟨y 0, y 1, eq_ix2 y⟩
    rw [emb21]
    show (dats m 0 c).after 21 t (ix2 z q) = _
    have h : t.val = 15 := by rw [back21] at hf; exact of_decide_eq_true hf
    rw [after_21, gain_last m c t h]
    rfl
theorem final22 (c : Dev nD) :
    (dats m 0 c).arrAt 22 cfg0.N = (resShift (G m c) (W m c) (Du m c) : Vec Ideal S1x1024 .f32) :=
  (dats m 0 c).arrAt_eq_of_covers 22 (resShift (G m c) (W m c) (Du m c) : Vec Ideal S1x1024 .f32) (by decide +kernel)
    fun t hf y => by
    obtain ⟨z, q, rfl⟩ : ∃ (z : Fin 1) (q : Fin 1024), y = ix2 z q := ⟨y 0, y 1, eq_ix2 y⟩
    rw [emb22]
    show (dats m 0 c).after 22 t (ix2 z q) = _
    have h : t.val = 15 := by rw [back22] at hf; exact of_decide_eq_true hf
    rw [after_22, shift_last m c t h]
    rfl

end Cert.InNorm

end
-- ==== Proof.InNormRef.lean ====
/-
  What the reference for the gradient at the projections' input and the layer norm before them computes, read element by
  element over the extended reals.
-/
module

public import proofs.«01_k».proof.Proof.Gen.Reference9Ideal.Read
public import proofs.«01_k».proof.Proof.InNorm
public import proofs.«01_k».proof.Proof.InBackRef
public import Idealize.ShloMosaic.Lib.Pointwise

@[expose] public section

set_option maxRecDepth 16384

noncomputable section

namespace Cert.InNorm.Ref

open Cert.Merge (Mat)
open Cert.FeedForward (Row centred spread scale fromSpread inner normBack rowOf)
open Cert.InBack
open Cert.Reference9Ideal Cert.Reference9Ideal.Gen Cert.Reference9Ideal.Read Idealize.ShloMosaic

variable (G : Grads) (w : Mat 1024 10264) (du x : Mat 4096 1024) (g : (⟨1, ![1024]⟩ : Shape).Idx → EReal)

/-- The gain, as a row. -/
def gainRow : Row := fun q => g (ix1 q)

/-- The gradients of all columns are laid side by side as in the reference without the layer norm. -/
theorem all_ref : val_main_v41 (F := Ideal) G.dz G.dxbc G.ddt G.dqkv G.dbeta G.da G.dgate G.duv G.dfox G.df G.dgates = all G := rfl

/-- The gradient at the projections' input. -/
theorem dh_ref (l : Fin 4096) (k : Fin 1024) : val_main_v45 (F := Ideal) G.dz G.dxbc G.ddt G.dqkv G.dbeta G.da G.dgate G.duv G.dfox G.df G.dgates w du (ix2 l k) = dInput G w du l k := by
  pointwise [val_main_v45, val_main_v44, val_main_v43, val_main_cst_7, val_main_v42]
  rw [all_ref]
  exact columns_mul G w (all G) l k (all_dz G l) (all_dxbc G l) (all_ddt G l) (all_dqkv G l) (all_dbeta G l) (all_da G l)
    (all_dgate G l) (all_duv G l) (all_dfox G l) (all_df G l) (all_dgates G l) _

theorem centred_ref (l : Fin 4096) (q : Fin 1024) : val_main_v5 (F := Ideal) x (ix2 l q) = centred (rowOf x l) q := by
  pointwise [val_main_v5, val_main_v4, val_main_v3, val_main_v2, val_main_v1, val_main_v0, val_main_cst, val_main_cst_0]
  rfl
theorem spread_ref (l : Fin 4096) (z : Fin 1) : val_main_v14 (F := Ideal) x (ix2 l z) = spread (rowOf x l) := by
  pointwise [val_main_v14, val_main_v13, val_main_v12, val_main_v11, val_main_v10, val_main_v9, val_main_v6, val_main_cst_2,
    val_main_cst_3, val_main_cst_4]
  simp only [centred_ref]
  rfl
theorem scale_ref (l : Fin 4096) (z : Fin 1) : val_main_v15 (F := Ideal) x (ix2 l z) = scale (rowOf x l) := by
  pointwise [val_main_v15]
  rw [spread_ref]
  rfl

theorem fromSpread_ref (l : Fin 4096) (z : Fin 1) :
    val_main_v62 (F := Ideal) G.dz G.dxbc G.ddt G.dqkv G.dbeta G.da G.dgate G.duv G.dfox G.df G.dgates w du x g (ix2 l z) = fromSpread (rowOf x l) (gainRow g) (dInput G w du l) := by
  pointwise [val_main_v62, val_main_v61, val_main_v60, val_main_v57, val_main_v56, val_main_v55, val_main_v53, val_main_v52,
    val_main_v21, val_main_v18, val_main_v17, val_main_v16, val_main_cst_5, val_main_cst_12, val_main_cst_13]
  simp only [centred_ref, spread_ref, scale_ref, dh_ref]
  rfl

theorem inner_ref (l : Fin 4096) (q : Fin 1024) :
    val_main_v66 (F := Ideal) G.dz G.dxbc G.ddt G.dqkv G.dbeta G.da G.dgate G.duv G.dfox G.df G.dgates w du x g (ix2 l q) = inner (rowOf x l) (gainRow g) (dInput G w du l) q := by
  pointwise [val_main_v66, val_main_v65, val_main_v64, val_main_v63, val_main_v59, val_main_v58, val_main_v53, val_main_v52,
    val_main_v21, val_main_v8, val_main_v7, val_main_cst_1, val_main_cst_14]
  simp only [Fin.sum_univ_one, centred_ref, scale_ref, fromSpread_ref, dh_ref]
  rfl

/-- The gradient at the rows. -/
theorem rows_ref (l : Fin 4096) (q : Fin 1024) :
    val_main_v74 (F := Ideal) G.dz G.dxbc G.ddt G.dqkv G.dbeta G.da G.dgate G.duv G.dfox G.df G.dgates w du x g (ix2 l q) = resRows G w du x (gainRow g) (ix2 l q) := by
  pointwise [val_main_v74, val_main_v73, val_main_v72, val_main_v71, val_main_v70, val_main_v69, val_main_v68, val_main_v67,
    val_main_cst_15, val_main_cst_16, val_main_cst_17]
  simp only [Fin.sum_univ_one, inner_ref]
  rfl

/-- The gradients of gain and shift. -/
theorem gain_ref (z : Fin 1) (q : Fin 1024) :
    val_main_v75 (F := Ideal) G.dz G.dxbc G.ddt G.dqkv G.dbeta G.da G.dgate G.duv G.dfox G.df G.dgates w du x (ix2 z q) = resGain G w du x (ix2 z q) := by
  pointwise [val_main_v75, val_main_v54, val_main_v51, val_main_v50, val_main_v49, val_main_v20, val_main_v19,
    val_main_cst_10, val_main_cst_11]
  simp only [Fin.sum_univ_one, centred_ref, scale_ref, dh_ref]
  rfl
theorem shift_ref (z : Fin 1) (q : Fin 1024) :
    val_main_v76 (F := Ideal) G.dz G.dxbc G.ddt G.dqkv G.dbeta G.da G.dgate G.duv G.dfox G.df G.dgates w du (ix2 z q) = resShift G w du (ix2 z q) := by
  pointwise [val_main_v76, val_main_v48, val_main_v47, val_main_v46, val_main_cst_8, val_main_cst_9]
  simp only [Fin.sum_univ_one, dh_ref]
  rfl

end Cert.InNorm.Ref

end
-- ==== Proof.InNormClaim.lean ====
/-
  The claims about the gradient at the projections' input and the layer norm before them: the kernel's three result arrays
  and the reference's hold the same numbers.
-/
module

public import proofs.«01_k».proof.Defs
public import proofs.«01_k».proof.Proof.InNormRef
public import proofs.«01_k».proof.Proof.Gen.Kernel9
public import proofs.«01_k».proof.Proof.Gen.Reference9Ideal.Run
public import Idealize.ShloMosaic.Lib.Quiescent

@[expose] public section

set_option maxRecDepth 16384

noncomputable section

namespace Cert.Proof.InNorm

open Idealize.ShloMosaic Idealize.ShloMosaic.TcCoe Idealize.SL.Sem
open Cert.InNorm Cert.InNorm.Ref Cert.Reference9Ideal.Read

/-- The kernel, at bit patterns, runs to the end and leaves its arguments alone: the run of InNormFrame.lean, the two
    programs having the same text. -/
theorem frame_kernel : Cert.quiescent_Kernel9 :=
  cast (by sl_kernel_rfl) (fun (m : (ℓ : Loc Cert.Kernel9Ideal.nD Cert.Kernel9Ideal.τ Cert.Kernel9Ideal.sig) → Buf (Elt Bits) ℓ)
    (ρ : Dev Cert.Kernel9Ideal.nD → PrngReg) (_ : True) => frame_ends (F := Bits) m ρ)
/-- So does its idealization, at extended reals. -/
theorem frame_ideal : Cert.quiescent_Kernel9Ideal := fun m ρ _ => frame_ends (F := Ideal) m ρ
/-- And the reference. -/
theorem frame_reference : Cert.quiescent_Reference9Ideal := fun m ρ _ =>
  (θ_run Cert.Reference9Ideal.defs _ _).mono (fun r h => ⟨fun c => (h c).2.2.2, sem_eq_zero_of_no_sems (by decide) r.2⟩)
    (Cert.Reference9Ideal.Value.run (F := Ideal) m ρ)
/-- The idealization rewrote nothing. -/
theorem preserves : Cert.preserves_Kernel9_Kernel9Ideal := trivial

set_option maxHeartbeats 1000000 in
/-- Started from equal arguments, kernel and reference end with equal results: the gradients at the rows, and of gain and
    shift. -/
theorem algebraic : Cert.algebraic_Kernel9Ideal_Reference9Ideal := by
  intro m ρ m' ρ' _ hagree
  refine ⟨fun c => resRows (G m c) (W m c) (Du m c) (X m c) (Gain m c), fun c => resGain (G m c) (W m c) (Du m c) (X m c),
    fun c => resShift (G m c) (W m c) (Du m c), ?_, ?_⟩
  · refine (θ_run Cert.Kernel9Ideal.defs _ _).mono (fun _ h c => ?_)
      (θ_run_and (run_main (F := Ideal) m ρ) (frame_ends (F := Ideal) m ρ))
    exact ⟨((h.1 c).1 20).trans (final20 m c), ((h.1 c).1 21).trans (final21 m c), ((h.1 c).1 22).trans (final22 m c), h.2.1 c⟩
  · refine (θ_run Cert.Reference9Ideal.defs _ _).mono (fun _ h c => ?_) (Cert.Reference9Ideal.Value.run (F := Ideal) m' ρ')
    obtain ⟨h0, h1, h2, hargs⟩ := h c
    obtain ⟨a0, a1, a2, a3, a4, a5, a6, a7, a8, a9, a10, a11, a12, a13, a14, a15⟩ := hagree c
    refine ⟨h0.trans ?_, h1.trans ?_, h2.trans ?_, hargs⟩
    · refine (val_main_v74_eq (F := Ideal) ..).trans ?_
      rw [a0, a1, a2, a3, a4, a5, a6, a7, a8, a9, a10, a11, a12, a13, a14]
      exact funext fun y => (congrArg _ (eq_ix2 y)).trans (rows_ref (G m c) (W m c) (Du m c) ..)
    · refine (val_main_v75_eq (F := Ideal) ..).trans ?_
      rw [a0, a1, a2, a3, a4, a5, a6, a7, a8, a9, a10, a11, a12, a13]
      exact funext fun y => (congrArg _ (eq_ix2 y)).trans (gain_ref (G m c) (W m c) (Du m c) ..)
    · refine (val_main_v76_eq (F := Ideal) ..).trans ?_
      rw [a0, a1, a2, a3, a4, a5, a6, a7, a8, a9, a10, a11, a12]
      exact funext fun y => (congrArg _ (eq_ix2 y)).trans (shift_ref (G m c) (W m c) (Du m c) ..)

end Cert.Proof.InNorm

end
-- ==== Proof.DwOut.lean ====
/-
  The gradient of the output projection: the kernel multiplies the merged rows, transposed, with the gradient of the
  result, one tile of 1024 tokens at a time, and writes the product back after the last tile.
-/
module

public import proofs.«01_k».proof.Proof.Gen.Kernel10Ideal.Value
public import proofs.«01_k».proof.Proof.Products
public import Idealize.ShloMosaic.Lib.Pointwise
public import Idealize.ShloMosaic.Lib.Tactic
public import Idealize.ShloMosaic.Lib.StableHlo.ReadAt
public import Idealize.ShloMosaic.Lib.Pipeline.ValueKit

@[expose] public section

set_option maxRecDepth 16384

noncomputable section

namespace Cert.Products.Out

open Cert.Merge (Mat)
open Cert.Kernel10Ideal Cert.Kernel10Ideal.Gen Idealize.ShloMosaic Idealize.ShloMosaic.TcCoe Idealize.SL.Sem

variable (m : (ℓ : Loc nD τ sig) → Buf (Elt Ideal) ℓ)

/-! ## The arrays the program was given, and the blocks the body loads -/

/-- The merged rows and the gradient of the result. -/
abbrev R (c : Dev nD) : Mat 4096 1024 := m (c.tc.loc main_arg0)
abbrev Du (c : Dev nD) : Mat 4096 1024 := m (c.tc.loc main_arg1)

theorem hz : (![0, 0] : Fin 2 → Nat) = fun _ => 0 := funext fun a => by fin_cases a <;> rfl
theorem lt4 (t : Fin cfg0.N) : t.val < 4 := lt_of_lt_of_eq t.isLt N_0
/-- The token of row `y` in the tile of point `t`. -/
def token (t : Fin cfg0.N) (y : Fin 1024) : Fin 4096 := ⟨1024 * t.val + y.val, by have := lt4 t; omega⟩

theorem V_v1 (c : Dev nD) (k : Fin 1024) (l : Fin 4096) :
    (V m c main_v1 : (⟨2, ![1024, 4096]⟩ : Shape).Idx → EReal) (ix2 k l) = R m c (ix2 l k) := by
  unfold V
  after_reads_at
theorem V_arg1 (c : Dev nD) : V m c main_arg1 = m (c.tc.loc main_arg1) := by
  unfold V
  after_reads_at

theorem idx0 : ∀ t : Fin cfg0.N, win0_0.index t 0 = 0 ∧ win0_0.index t 1 = t.val := by decide +kernel
theorem iblk0 (c : Dev nD) (t : Fin cfg0.N) (k y : Fin 1024) :
    (iblk m c 0 t : (⟨2, ![1024, 1024]⟩ : Shape).Idx → EReal) (ix2 k y) = R m c (ix2 (token t y) k) := by
  have hi := idx0 t
  rw [← V_v1]
  unfold iblk
  rw [View.read_apply]
  show V m c main_v1 _ = V m c main_v1 _
  congr 1
  funext a
  apply Fin.ext
  match a with
  | ⟨0, _⟩ => show win0_0.index t 0 * 1024 + 1 * k.val = k.val; rw [hi.1]; omega
  | ⟨1, _⟩ => show win0_0.index t 1 * 1024 + 1 * y.val = 1024 * t.val + y.val; rw [hi.2]; omega

theorem idx1 : ∀ t : Fin cfg0.N, win0_1.index t 0 = t.val ∧ win0_1.index t 1 = 0 := by decide +kernel
theorem iblk1 (c : Dev nD) (t : Fin cfg0.N) (y x : Fin 1024) :
    (iblk m c 1 t : (⟨2, ![1024, 1024]⟩ : Shape).Idx → EReal) (ix2 y x) = Du m c (ix2 (token t y) x) := by
  have hi := idx1 t
  unfold iblk
  rw [View.read_apply]
  show V m c main_arg1 _ = m (c.tc.loc main_arg1) _
  rw [V_arg1]
  congr 1
  funext a
  apply Fin.ext
  match a with
  | ⟨0, _⟩ => show win0_1.index t 0 * 1024 + 1 * y.val = 1024 * t.val + y.val; rw [hi.1]; omega
  | ⟨1, _⟩ => show win0_1.index t 1 * 1024 + 1 * x.val = x.val; rw [hi.2]; omega

/-! ## One point -/

/-- Reading the running sum gives what it was left at. -/
theorem carried (v : Vec Ideal S1024x1024 .f32) :
    (View.whole cc0_scratch0).read (Elt Ideal) ((Memref.isWhole_whole cc0_scratch0).unread v) = v :=
  (Memref.isWhole_whole cc0_scratch0).read_unread v

/-- What the tile of position `n` adds to the block at `(k, x)`. -/
def tile (c : Dev nD) (n : ℕ) (k : Fin 1024) (x : Fin 1024) : EReal :=
  if h : n < cfg0.N then ∑ y, R m c (ix2 (token ⟨n, h⟩ y) k) * Du m c (ix2 (token ⟨n, h⟩ y) x) else 0

theorem product (c : Dev nD) (t : Fin cfg0.N) (k x : Fin 1024) :
    k0_pay1 (F := Ideal) (iblk m c 0 t) (iblk m c 1 t) (ix2 k x) = tile m c t.val k x := by
  unfold tile
  rw [dif_pos t.isLt]
  pointwise [k0_pay1]
  simp only [iblk0, iblk1]

/-- The first tile starts the sum. -/
theorem acc_A (c : Dev nD) (t : Fin cfg0.N) (h : t.val % 4 = 0) (k x : Fin 1024) :
    (outsAt0 m c t.val t.isLt).2 (ix2 k x) = tile m c t.val k x := by
  have := lt4 t
  rw [outsAt0_A m c t h (by omega) (by omega)]
  dsimp only
  unfold sout0_A_0
  rw [View.read_writes_eq_canon _ _ _ (fun _ => scover0_A_0 ..)]
  unfold kernelRun0_A
  dsimp only
  sl_unfold_words
  rw [View.canon_unit_zero hz]
  simp only [View.readAt_eq_ld, Memref.IsWhole.read_unread, ld_square, readCov_square]
  rw [← product]
  pointwise [k0_pay2]

/-- The other tiles add to it. -/
theorem acc_B (c : Dev nD) (t : Fin cfg0.N) (h : t.val % 4 ≠ 0) (k x : Fin 1024) :
    (outsAt0 m c t.val t.isLt).2 (ix2 k x)
      = (outsAt0 m c (t.val - 1) (Nat.lt_of_le_of_lt (Nat.sub_le _ _) t.isLt)).2 (ix2 k x) + tile m c t.val k x := by
  by_cases h3 : t.val % 4 = 3
  · rw [outsAt0_C m c t h (by omega) h3]
    dsimp only
    unfold sout0_C_0
    rw [View.read_writes_eq_canon _ _ _ (fun _ => scover0_C_0 ..)]
    unfold kernelRun0_C
    dsimp only
    sl_unfold_words
    rw [View.canon_unit_zero hz]
    simp only [View.readAt_eq_ld, Memref.IsWhole.read_unread, ld_square, readCov_square]
    rw [← product]
    pointwise [k0_pay3]
    rw [carried]
  · rw [outsAt0_B m c t h (by omega) h3]
    dsimp only
    unfold sout0_B_0
    rw [View.read_writes_eq_canon _ _ _ (fun _ => scover0_B_0 ..)]
    unfold kernelRun0_B
    dsimp only
    sl_unfold_words
    rw [View.canon_unit_zero hz]
    simp only [View.readAt_eq_ld, Memref.IsWhole.read_unread, ld_square, readCov_square]
    rw [← product]
    pointwise [k0_pay3]
    rw [carried]

/-- The last tile's point writes the sum out. -/
theorem out_C (c : Dev nD) (t : Fin cfg0.N) (h : t.val % 4 = 3) (k x : Fin 1024) :
    (outsAt0 m c t.val t.isLt).1 (ix2 k x) = (outsAt0 m c t.val t.isLt).2 (ix2 k x) := by
  rw [acc_B m c t (by omega), outsAt0_C m c t (by omega) (by omega) h]
  dsimp only
  unfold out0_C_2
  rw [View.read_writes_eq_canon _ _ _ (fun _ => cover0_C_2 ..)]
  unfold kernelRun0_C
  dsimp only
  sl_unfold_words
  rw [View.canon_unit_zero hz]
  simp only [View.readAt_eq_ld, Memref.IsWhole.read_unread, ld_square, readCov_square]
  rw [← product]
  pointwise [k0_pay4, k0_pay3]
  rw [carried]

/-! ## The array -/

/-- The sum at the last point is the whole product. -/
theorem block_done (c : Dev nD) (t : Fin cfg0.N) (h : t.val % 4 = 3) (k x : Fin 1024) :
    (outsAt0 m c t.val t.isLt).2 (ix2 k x) = tn (R m c) (Du m c) (ix2 k x) := by
  refine (running_sum 4 cfg0.N (by omega) (fun n hn => (outsAt0 m c n hn).2 (ix2 k x)) (fun n => tile m c n k x)
    (fun n hn e => acc_A m c ⟨n, hn⟩ e k x) (fun n hn e => acc_B m c ⟨n + 1, hn⟩ e k x) t.val t.isLt).trans ?_
  rw [h]
  refine (Finset.sum_congr rfl fun i hi => ?_).trans (four_tiles fun l => R m c (ix2 l k) * Du m c (ix2 l x))
  have hi : i < 4 := Finset.mem_range.mp hi
  have ht := lt4 t
  have hN : cfg0.N = 4 := N_0
  unfold tile
  rw [dif_pos (by omega)]
  refine Finset.sum_congr rfl fun y _ => ?_
  rw [dif_pos (by omega)]
  have e1 : token ⟨4 * (t.val / 4) + i, by omega⟩ y = (⟨1024 * i + y.val, by omega⟩ : Fin 4096) :=
    Fin.ext (by show 1024 * (4 * (t.val / 4) + i) + y.val = 1024 * i + y.val; omega)
  rw [e1]

theorem idx2 : ∀ t : Fin cfg0.N, win0_2.index t 0 = 0 ∧ win0_2.index t 1 = 0 := by decide +kernel
theorem emb2 (t : Fin cfg0.N) (k x : Fin 1024) :
    (((cfg0.win 2).blk t).view.emb (ix2 k x) : S1024x1024.Idx) = ix2 k x := by
  have hi := idx2 t
  funext a
  apply Fin.ext
  match a with
  | ⟨0, _⟩ => show win0_2.index t 0 * 1024 + 1 * k.val = k.val; rw [hi.1]; omega
  | ⟨1, _⟩ => show win0_2.index t 1 * 1024 + 1 * x.val = x.val; rw [hi.2]; omega

/-- The result array after the run. -/
theorem final (c : Dev nD) : (dats m 0 c).arrAt 2 cfg0.N = (tn (R m c) (Du m c) : Vec Ideal S1024x1024 .bf16) :=
  (dats m 0 c).arrAt_eq_of_covers 2 (tn (R m c) (Du m c) : Vec Ideal S1024x1024 .bf16) (by decide +kernel) fun t hf y => by
    obtain ⟨k, x, rfl⟩ : ∃ (k : Fin 1024) (x : Fin 1024), y = ix2 k x := ⟨y 0, y 1, eq_ix2 y⟩
    rw [emb2]
    show (dats m 0 c).after 2 t (ix2 k x) = _
    have h : t.val % 4 = 3 := (flush0_2 t).mp hf
    rw [after0_2, out_C m c t h, block_done m c t h]

end Cert.Products.Out

end
-- ==== Proof.DwOutClaim.lean ====
/-
  The claims about the output projection's gradient: the kernel's result array and the reference's hold the same numbers.
-/
module

public import proofs.«01_k».proof.Defs
public import proofs.«01_k».proof.Proof.DwOut
public import proofs.«01_k».proof.Proof.Gen.Kernel10.Frame
public import proofs.«01_k».proof.Proof.Gen.Reference10Ideal.Run
public import proofs.«01_k».proof.Proof.Gen.Reference10Ideal.Read
public import Idealize.ShloMosaic.Lib.Quiescent

@[expose] public section

set_option maxRecDepth 16384

noncomputable section

namespace Cert.Proof.DwOut

open Idealize.ShloMosaic Idealize.ShloMosaic.TcCoe Idealize.SL.Sem
open Cert.Merge (Mat)
open Cert.Products Cert.Products.Out Cert.Reference10Ideal.Read

/-- What the reference computes. -/
theorem reference (r du : Mat 4096 1024) (f : Fin 1024) (k : Fin 1024) :
    val_main_v4 (F := Ideal) r du (ix2 f k) = tn r du (ix2 f k) := by
  pointwise [val_main_v4, val_main_v3, val_main_v2]
  exact Finset.sum_congr rfl fun l _ => mul_comm _ _

/-- The kernel, at bit patterns, runs to the end and leaves its arguments alone. -/
theorem frame_kernel : Cert.quiescent_Kernel10 := fun m ρ _ => Cert.Kernel10.Gen.frame m ρ
/-- So does its idealization, at extended reals. -/
theorem frame_ideal : Cert.quiescent_Kernel10Ideal := fun m ρ _ => Cert.Kernel10Ideal.Gen.frame m ρ
/-- And the reference. -/
theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)
/-- The idealization rewrote nothing. -/
theorem preserves : Cert.preserves_Kernel10_Kernel10Ideal := trivial

/-- Started from equal arguments, kernel and reference end with the same gradient. -/
theorem algebraic : Cert.algebraic_Kernel10Ideal_Reference10Ideal := by
  intro m ρ m' ρ' _ hagree
  refine ⟨fun c => tn (R m c) (Du m c), ?_, ?_⟩
  · refine (θ_run Cert.Kernel10Ideal.defs _ _).mono (fun _ h c => ?_) (Cert.Kernel10Ideal.Value.run_blocks (F := Ideal) m ρ)
    exact ⟨(h c).1.trans (final m c), (h c).2⟩
  · refine (θ_run Cert.Reference10Ideal.defs _ _).mono (fun _ h c => ?_) (Cert.Reference10Ideal.Value.run (F := Ideal) m' ρ')
    refine ⟨(h c).1.trans ?_, (h c).2⟩
    obtain ⟨a0, a1⟩ := hagree c
    refine (val_main_v4_eq (F := Ideal) ..).trans ?_
    rw [a0, a1]
    exact funext fun y => (congrArg _ (eq_ix2 y)).trans (reference ..)

end Cert.Proof.DwOut

end
-- ==== Proof.OutForward.lean ====
/-
  The output projection with its residual and layer norm, forward: each of the eight grid points takes 512 rows, adds
  `α h` to the merged rows times the matrix, writes the sum out, and its layer norm beside it.
-/
module

public import proofs.«01_k».proof.Proof.Gen.Kernel11Ideal.Value
public import proofs.«01_k».proof.Proof.FfForward
public import proofs.«01_k».proof.Proof.OutBack

@[expose] public section

set_option maxRecDepth 16384

noncomputable section

namespace Cert.OutForward

open Cert.Merge (Mat Stack)
open Cert.FeedForward (Row)
open Cert.FfForward (norm)
open Cert.OutBack (preNorm ld_rows ld_line ld_slab hz)
open Cert.Kernel11Ideal Cert.Kernel11Ideal.Gen Idealize.ShloMosaic Idealize.ShloMosaic.TcCoe Idealize.SL.Sem

/-! ## What is computed -/

/-- The results: the sum of the residual and the projected rows, and its layer norm. -/
def resSum (x h : Mat 4096 1024) (w : Mat 1024 1024) : Mat 4096 1024 := fun y => preNorm x h w (y 0) (y 1)
def resNorm (x h : Mat 4096 1024) (g b : Row) (w : Mat 1024 1024) : Mat 4096 1024 := fun y => norm (preNorm x h w (y 0)) g b (y 1)

variable (m : (ℓ : Loc nD τ sig) → Buf (Elt Ideal) ℓ)

/-! ## The arrays the program was given, and the blocks the body loads -/

/-- The merged rows, the residual's rows, the layer norm's gain and shift, and the matrix. -/
abbrev X (c : Dev nD) : Mat 4096 1024 := m (c.tc.loc main_arg0)
abbrev H (c : Dev nD) : Mat 4096 1024 := m (c.tc.loc main_arg1)
abbrev Gain (c : Dev nD) : Row := fun q => (m (c.tc.loc main_arg2) : (⟨1, ![1024]⟩ : Shape).Idx → EReal) (ix1 q)
abbrev Shift (c : Dev nD) : Row := fun q => (m (c.tc.loc main_arg3) : (⟨1, ![1024]⟩ : Shape).Idx → EReal) (ix1 q)
abbrev W (c : Dev nD) : Mat 1024 1024 := m (c.tc.loc main_arg4)

theorem lt8 (t : Fin cfg0.N) : t.val < 8 := lt_of_lt_of_eq t.isLt N_0
/-- The token of row `r` in the block of point `t`. -/
def token (t : Fin cfg0.N) (r : Fin 512) : Fin 4096 := ⟨512 * t.val + r.val, by have := lt8 t; omega⟩

theorem V_x (c : Dev nD) : V m c main_arg0 = m (c.tc.loc main_arg0) := by
  unfold V
  after_reads_at
theorem V_h (c : Dev nD) : V m c main_arg1 = m (c.tc.loc main_arg1) := by
  unfold V
  after_reads_at
theorem V_w (c : Dev nD) (k q : Fin 1024) : (V m c main_v1 : Stack 1 1024 1024) (ix3 0 k q) = W m c (ix2 k q) := by
  unfold V
  after_reads_at
theorem V_gain (c : Dev nD) (q : Fin 1024) : (V m c main_v2 : Mat 1 1024) (ix2 0 q) = Gain m c q := by
  unfold V
  after_reads_at
theorem V_shift (c : Dev nD) (q : Fin 1024) : (V m c main_v3 : Mat 1 1024) (ix2 0 q) = Shift m c q := by
  unfold V
  after_reads_at

/-- An index into a block of 512 rows. -/
theorem rows_pos {i : Fin 2 → ℕ} {t : Fin cfg0.N} (hi : i 0 = t.val ∧ i 1 = 0) (r : Fin 512) (q : Fin 1024)
    (y : (⟨2, ![4096, 1024]⟩ : Shape).Idx) (h0 : (y 0).val = i 0 * 512 + 1 * r.val) (h1 : (y 1).val = i 1 * 1024 + 1 * q.val) :
    y = ix2 (token t r) q := by
  funext a
  apply Fin.ext
  match a with
  | ⟨0, _⟩ => show (y 0).val = 512 * t.val + r.val; rw [h0, hi.1]; omega
  | ⟨1, _⟩ => show (y 1).val = q.val; rw [h1, hi.2]; omega

theorem idx0 : ∀ t : Fin cfg0.N, win0_0.index t 0 = t.val ∧ win0_0.index t 1 = 0 := by decide +kernel
theorem iblk0 (c : Dev nD) (t : Fin cfg0.N) (r : Fin 512) (k : Fin 1024) :
    (iblk m c 0 t : Mat 512 1024) (ix2 r k) = X m c (ix2 (token t r) k) := by
  unfold iblk
  rw [View.read_apply]
  show V m c main_arg0 _ = m (c.tc.loc main_arg0) _
  rw [V_x]
  exact congrArg (m (c.tc.loc main_arg0)) (rows_pos (idx0 t) r k _ rfl rfl)

theorem idx1 : ∀ t : Fin cfg0.N, win0_1.index t 0 = t.val ∧ win0_1.index t 1 = 0 := by decide +kernel
theorem iblk1 (c : Dev nD) (t : Fin cfg0.N) (r : Fin 512) (k : Fin 1024) :
    (iblk m c 1 t : Mat 512 1024) (ix2 r k) = H m c (ix2 (token t r) k) := by
  unfold iblk
  rw [View.read_apply]
  show V m c main_arg1 _ = m (c.tc.loc main_arg1) _
  rw [V_h]
  exact congrArg (m (c.tc.loc main_arg1)) (rows_pos (idx1 t) r k _ rfl rfl)

theorem idx2 : ∀ t : Fin cfg0.N, win0_2.index t 0 = 0 ∧ win0_2.index t 1 = 0 ∧ win0_2.index t 2 = 0 := by decide +kernel
theorem iblk2 (c : Dev nD) (t : Fin cfg0.N) (k q : Fin 1024) :
    (iblk m c 2 t : Stack 1 1024 1024) (ix3 0 k q) = W m c (ix2 k q) := by
  have hi := idx2 t
  rw [← V_w]
  unfold iblk
  rw [View.read_apply]
  show V m c main_v1 _ = V m c main_v1 _
  congr 1
  funext a
  apply Fin.ext
  match a with
  | ⟨0, _⟩ => show win0_2.index t 0 * 1 + 1 * 0 = 0; rw [hi.1]
  | ⟨1, _⟩ => show win0_2.index t 1 * 1024 + 1 * k.val = k.val; rw [hi.2.1]; omega
  | ⟨2, _⟩ => show win0_2.index t 2 * 1024 + 1 * q.val = q.val; rw [hi.2.2]; omega

theorem idx3 : ∀ t : Fin cfg0.N, win0_3.index t 0 = 0 ∧ win0_3.index t 1 = 0 := by decide +kernel
theorem iblk3 (c : Dev nD) (t : Fin cfg0.N) (q : Fin 1024) : (iblk m c 3 t : Mat 1 1024) (ix2 0 q) = Gain m c q := by
  rw [← V_gain]
  unfold iblk
  rw [View.read_apply]
  exact congrArg (V m c main_v2) (Cert.FfForward.line_pos (idx3 t) q _ rfl rfl)
theorem idx4 : ∀ t : Fin cfg0.N, win0_4.index t 0 = 0 ∧ win0_4.index t 1 = 0 := by decide +kernel
theorem iblk4 (c : Dev nD) (t : Fin cfg0.N) (q : Fin 1024) : (iblk m c 4 t : Mat 1 1024) (ix2 0 q) = Shift m c q := by
  rw [← V_shift]
  unfold iblk
  rw [View.read_apply]
  exact congrArg (V m c main_v3) (Cert.FfForward.line_pos (idx4 t) q _ rfl rfl)

/-! ## What a block holds -/

/-- The sum of a block. -/
theorem sum_block (c : Dev nD) (t : Fin cfg0.N) (r : Fin 512) (q : Fin 1024) :
    k0_pay1 (F := Ideal) (iblk m c 1 t) (iblk m c 0 t) (iblk m c 2 t) (ix2 r q) = preNorm (X m c) (H m c) (W m c) (token t r) q := by
  pointwise [k0_pay1]
  simp only [iblk0, iblk1, iblk2]
  rfl

/-- The layer norm of a block. -/
theorem norm_block (h x : Vec Ideal S512x1024 .f32) (w : Vec Ideal S1x1024x1024 .bf16) (g b : Vec Ideal S1x1024 .f32)
    (r : Fin 512) (q : Fin 1024) :
    k0_pay2 (F := Ideal) h x w g b (ix2 r q)
      = norm (fun k => k0_pay1 (F := Ideal) h x w (ix2 r k)) (fun k => g (ix2 0 k)) (fun k => b (ix2 0 k)) q := by
  pointwise [k0_pay2]
  rfl

/-! ## The arrays -/

theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel

/-- The array of sums after the run. -/
theorem final5 (c : Dev nD) : (dats m 0 c).arrAt 5 cfg0.N = (resSum (X m c) (H m c) (W m c) : Vec Ideal S4096x1024 .f32) :=
  (dats m 0 c).arrAt_eq_of_covers 5 (resSum (X m c) (H m c) (W m c) : Vec Ideal S4096x1024 .f32) (by decide +kernel) fun t _ y => by
    obtain ⟨r, q, rfl⟩ : ∃ (r : Fin 512) (q : Fin 1024), y = ix2 r q := ⟨y 0, y 1, eq_ix2 y⟩
    have e : ((dats m 0 c).after 5 t : Mat 512 1024) (ix2 r q) = resSum (X m c) (H m c) (W m c) (ix2 (token t r) q) := by
      rw [after0_5]
      unfold out0_5
      rw [View.canon_unit_zero hz]
      unfold r0_0 r0_1
      simp only [ld_rows, ld_slab]
      exact sum_block m c t r q
    exact e.trans (congrArg _ (rows_pos (idx5 t) r q _ rfl rfl).symm)

/-- The array of layer norms after the run. -/
theorem final6 (c : Dev nD) :
    (dats m 0 c).arrAt 6 cfg0.N = (resNorm (X m c) (H m c) (Gain m c) (Shift m c) (W m c) : Vec Ideal S4096x1024 .f32) :=
  (dats m 0 c).arrAt_eq_of_covers 6 (resNorm (X m c) (H m c) (Gain m c) (Shift m c) (W m c) : Vec Ideal S4096x1024 .f32)
    (by decide +kernel) fun t _ y => by
    obtain ⟨r, q, rfl⟩ : ∃ (r : Fin 512) (q : Fin 1024), y = ix2 r q := ⟨y 0, y 1, eq_ix2 y⟩
    have e : ((dats m 0 c).after 6 t : Mat 512 1024) (ix2 r q)
        = resNorm (X m c) (H m c) (Gain m c) (Shift m c) (W m c) (ix2 (token t r) q) := by
      rw [after0_6]
      unfold out0_6
      rw [View.canon_unit_zero hz]
      unfold r0_0 r0_1 r0_2
      simp only [ld_rows, ld_slab, ld_line]
      rw [norm_block]
      simp only [sum_block, iblk3, iblk4]
      rfl
    exact e.trans (congrArg _ (rows_pos (idx6 t) r q _ rfl rfl).symm)

end Cert.OutForward

end
-- ==== Proof.OutForwardClaim.lean ====
/-
  The claims about the output projection, forward: the kernel's two result arrays and the reference's hold the same
  numbers.
-/
module

public import proofs.«01_k».proof.Defs
public import proofs.«01_k».proof.Proof.OutForward
public import proofs.«01_k».proof.Proof.Gen.Kernel11.Frame
public import proofs.«01_k».proof.Proof.Gen.Reference11Ideal.Run
public import proofs.«01_k».proof.Proof.Gen.Reference11Ideal.Read
public import Idealize.ShloMosaic.Lib.Quiescent

@[expose] public section

set_option maxRecDepth 16384

noncomputable section

namespace Cert.Proof.OutForward

open Idealize.ShloMosaic Idealize.ShloMosaic.TcCoe Idealize.SL.Sem
open Cert.Merge (Mat)
open Cert.FeedForward (centred spread)
open Cert.FfForward (norm)
open Cert.OutBack (preNorm)
open Cert.OutForward Cert.Reference11Ideal.Read

/-! ## What the reference computes -/

variable (x h : Mat 4096 1024) (g b : (⟨1, ![1024]⟩ : Shape).Idx → EReal) (w : Mat 1024 1024)

/-- The sum of the residual and the projected rows. -/
theorem sum_ref (l : Fin 4096) (q : Fin 1024) : val_main_v3 (F := Ideal) x h w (ix2 l q) = preNorm x h w l q := by
  pointwise [val_main_v3, val_main_v2, val_main_v1, val_main_v0, val_main_cst]
  rfl

theorem centred_ref (l : Fin 4096) (q : Fin 1024) :
    val_main_v9 (F := Ideal) x h w (ix2 l q) = centred (preNorm x h w l) q := by
  pointwise [val_main_v9, val_main_v8, val_main_v7, val_main_v6, val_main_v5, val_main_v4, val_main_cst_0, val_main_cst_1]
  simp only [sum_ref]
  rfl

theorem spread_ref (l : Fin 4096) (z : Fin 1) : val_main_v16 (F := Ideal) x h w (ix2 l z) = spread (preNorm x h w l) := by
  pointwise [val_main_v16, val_main_v15, val_main_v14, val_main_v13, val_main_v12, val_main_v11, val_main_v10, val_main_cst_2,
    val_main_cst_3, val_main_cst_4]
  simp only [centred_ref]
  rfl

/-- The layer norm of the sum. -/
theorem norm_ref (l : Fin 4096) (q : Fin 1024) :
    val_main_v25 (F := Ideal) x h g b w (ix2 l q) = norm (preNorm x h w l) (fun k => g (ix1 k)) (fun k => b (ix1 k)) q := by
  pointwise [val_main_v25, val_main_v24, val_main_v23, val_main_v22, val_main_v21, val_main_v20, val_main_v19, val_main_v18,
    val_main_v17]
  simp only [centred_ref, spread_ref]
  rfl

/-! ## The claims -/

/-- The kernel, at bit patterns, runs to the end and leaves its arguments alone. -/
theorem frame_kernel : Cert.quiescent_Kernel11 := fun m ρ _ => Cert.Kernel11.Gen.frame m ρ
/-- So does its idealization, at extended reals. -/
theorem frame_ideal : Cert.quiescent_Kernel11Ideal := fun m ρ _ => Cert.Kernel11Ideal.Gen.frame m ρ
/-- And the reference. -/
theorem frame_reference : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)
/-- The idealization rewrote nothing. -/
theorem preserves : Cert.preserves_Kernel11_Kernel11Ideal := trivial

/-- Started from equal arguments, kernel and reference end with the same sum and the same layer norm of it. -/
theorem algebraic : Cert.algebraic_Kernel11Ideal_Reference11Ideal := by
  intro m ρ m' ρ' _ hagree
  refine ⟨fun c => resSum (X m c) (H m c) (W m c), fun c => resNorm (X m c) (H m c) (Gain m c) (Shift m c) (W m c), ?_, ?_⟩
  · refine (θ_run Cert.Kernel11Ideal.defs _ _).mono (fun _ h c => ?_) (Cert.Kernel11Ideal.Value.run_blocks (F := Ideal) m ρ)
    obtain ⟨h5, h6, hargs⟩ := h c
    exact ⟨h5.trans (final5 m c), h6.trans (final6 m c), hargs⟩
  · refine (θ_run Cert.Reference11Ideal.defs _ _).mono (fun _ h c => ?_) (Cert.Reference11Ideal.Value.run (F := Ideal) m' ρ')
    obtain ⟨h0, h1, hargs⟩ := h c
    obtain ⟨a0, a1, a2, a3, a4⟩ := hagree c
    refine ⟨h0.trans ?_, h1.trans ?_, hargs⟩
    · refine (val_main_v3_eq (F := Ideal) ..).trans ?_
      rw [a0, a1, a4]
      exact funext fun y => (congrArg _ (eq_ix2 y)).trans (sum_ref ..)
    · refine (val_main_v25_eq (F := Ideal) ..).trans ?_
      rw [a0, a1, a2, a3, a4]
      exact funext fun y => (congrArg _ (eq_ix2 y)).trans (norm_ref ..)

end Cert.Proof.OutForward

end
-- ==== Proof.MergeForward.lean ====
/-
  The gated merge, forward: each of the sixteen grid points takes 256 tokens, multiplies each of the four branches with
  its matrix, weighs the product with the branch's gate, and adds the four.
-/
module

public import proofs.«01_k».proof.Proof.Gen.Kernel12Ideal.Value
public import proofs.«01_k».proof.Proof.MergeSpec
public import proofs.«01_k».proof.Proof.InBlocks
public import Idealize.ShloMosaic.Lib.Pointwise
public import Idealize.ShloMosaic.Lib.Tactic
public import Idealize.ShloMosaic.Lib.StableHlo.ReadAt
public import Idealize.ShloMosaic.Lib.Pipeline.ValueKit

@[expose] public section

set_option maxRecDepth 16384

noncomputable section

namespace Cert.MergeForward

open Cert.Merge (Mat Stack pick col gate proj)
open Cert.InBack (tokenAt rows_pos ld_rows hz)
open Cert.Kernel12Ideal Cert.Kernel12Ideal.Gen Idealize.ShloMosaic Idealize.ShloMosaic.TcCoe Idealize.SL.Sem

/-- The merged rows: the sum over the branches of gate times projection. -/
def merged (y : Fin 4 → Mat 4096 512) (gl : Mat 4096 4096) (gb : Mat 4 1024) (w : Stack 4 512 1024) : Mat 4096 1024 :=
  fun z => ∑ i, gate gl gb i (z 0) (z 1) * proj (y i) w i (z 0) (z 1)

variable (m : (ℓ : Loc nD τ sig) → Buf (Elt Ideal) ℓ)

/-! ## The arrays the program was given, and the blocks the body loads -/

/-- The four branches, the gates' logits and biases, and the four matrices. -/
abbrev Y (c : Dev nD) : Fin 4 → Mat 4096 512 :=
  pick (m (c.tc.loc main_arg0)) (m (c.tc.loc main_arg1)) (m (c.tc.loc main_arg2)) (m (c.tc.loc main_arg3))
abbrev Logits (c : Dev nD) : Mat 4096 4096 := m (c.tc.loc main_arg4)
abbrev Bias (c : Dev nD) : Mat 4 1024 := m (c.tc.loc main_arg5)
abbrev Wts (c : Dev nD) : Stack 4 512 1024 := m (c.tc.loc main_arg6)

theorem lt16 (t : Fin cfg0.N) : t.val < 16 := lt_of_lt_of_eq t.isLt N_0
/-- The token of row `r` in the block of point `t`. -/
abbrev token (t : Fin cfg0.N) (r : Fin 256) : Fin 4096 := tokenAt t.val (lt16 t) r

theorem V_0 (c : Dev nD) : V m c main_arg0 = m (c.tc.loc main_arg0) := by
  unfold V
  after_reads_at
theorem V_1 (c : Dev nD) : V m c main_arg1 = m (c.tc.loc main_arg1) := by
  unfold V
  after_reads_at
theorem V_2 (c : Dev nD) : V m c main_arg2 = m (c.tc.loc main_arg2) := by
  unfold V
  after_reads_at
theorem V_3 (c : Dev nD) : V m c main_arg3 = m (c.tc.loc main_arg3) := by
  unfold V
  after_reads_at
theorem V_4 (c : Dev nD) : V m c main_arg4 = m (c.tc.loc main_arg4) := by
  unfold V
  after_reads_at
theorem V_5 (c : Dev nD) : V m c main_arg5 = m (c.tc.loc main_arg5) := by
  unfold V
  after_reads_at
/-- The host hands the kernel the matrices with a leading axis of one element. -/
theorem V_w (c : Dev nD) (i : Fin 4) (k : Fin 512) (q : Fin 1024) :
    (V m c main_v1 : S1x4x512x1024.Idx → EReal) (ix4 0 i k q) = Wts m c (ix3 i k q) := by
  unfold V
  after_reads_at

theorem idx0 : ∀ t : Fin cfg0.N, win0_0.index t 0 = t.val ∧ win0_0.index t 1 = 0 := by decide +kernel
theorem iblk0 (c : Dev nD) (t : Fin cfg0.N) (r : Fin 256) (j : Fin 512) :
    (iblk m c 0 t : Mat 256 512) (ix2 r j) = Y m c 0 (ix2 (token t r) j) := by
  unfold iblk
  rw [View.read_apply]
  show V m c main_arg0 _ = m (c.tc.loc main_arg0) _
  rw [V_0]
  exact congrArg (m (c.tc.loc main_arg0)) (rows_pos (idx0 t) r j _ rfl rfl)
theorem idx1 : ∀ t : Fin cfg0.N, win0_1.index t 0 = t.val ∧ win0_1.index t 1 = 0 := by decide +kernel
theorem iblk1 (c : Dev nD) (t : Fin cfg0.N) (r : Fin 256) (j : Fin 512) :
    (iblk m c 1 t : Mat 256 512) (ix2 r j) = Y m c 1 (ix2 (token t r) j) := by
  unfold iblk
  rw [View.read_apply]
  show V m c main_arg1 _ = m (c.tc.loc main_arg1) _
  rw [V_1]
  exact congrArg (m (c.tc.loc main_arg1)) (rows_pos (idx1 t) r j _ rfl rfl)
theorem idx2 : ∀ t : Fin cfg0.N, win0_2.index t 0 = t.val ∧ win0_2.index t 1 = 0 := by decide +kernel
theorem iblk2 (c : Dev nD) (t : Fin cfg0.N) (r : Fin 256) (j : Fin 512) :
    (iblk m c 2 t : Mat 256 512) (ix2 r j) = Y m c 2 (ix2 (token t r) j) := by
  unfold iblk
  rw [View.read_apply]
  show V m c main_arg2 _ = m (c.tc.loc main_arg2) _
  rw [V_2]
  exact congrArg (m (c.tc.loc main_arg2)) (rows_pos (idx2 t) r j _ rfl rfl)
theorem idx3 : ∀ t : Fin cfg0.N, win0_3.index t 0 = t.val ∧ win0_3.index t 1 = 0 := by decide +kernel
theorem iblk3 (c : Dev nD) (t : Fin cfg0.N) (r : Fin 256) (j : Fin 512) :
    (iblk m c 3 t : Mat 256 512) (ix2 r j) = Y m c 3 (ix2 (token t r) j) := by
  unfold iblk
  rw [View.read_apply]
  show V m c main_arg3 _ = m (c.tc.loc main_arg3) _
  rw [V_3]
  exact congrArg (m (c.tc.loc main_arg3)) (rows_pos (idx3 t) r j _ rfl rfl)
theorem idx4 : ∀ t : Fin cfg0.N, win0_4.index t 0 = t.val ∧ win0_4.index t 1 = 0 := by decide +kernel
theorem iblk4 (c : Dev nD) (t : Fin cfg0.N) (r : Fin 256) (j : Fin 4096) :
    (iblk m c 4 t : Mat 256 4096) (ix2 r j) = Logits m c (ix2 (token t r) j) := by
  unfold iblk
  rw [View.read_apply]
  show V m c main_arg4 _ = m (c.tc.loc main_arg4) _
  rw [V_4]
  exact congrArg (m (c.tc.loc main_arg4)) (rows_pos (idx4 t) r j _ rfl rfl)

theorem idx5 : ∀ t : Fin cfg0.N, win0_5.index t 0 = 0 ∧ win0_5.index t 1 = 0 := by decide +kernel
theorem iblk5 (c : Dev nD) (t : Fin cfg0.N) (i : Fin 4) (q : Fin 1024) :
    (iblk m c 5 t : Mat 4 1024) (ix2 i q) = Bias m c (ix2 i q) := by
  have hi := idx5 t
  unfold iblk
  rw [View.read_apply]
  show V m c main_arg5 _ = m (c.tc.loc main_arg5) _
  rw [V_5]
  congr 1
  funext a
  apply Fin.ext
  match a with
  | ⟨0, _⟩ => show win0_5.index t 0 * 4 + 1 * i.val = i.val; rw [hi.1]; omega
  | ⟨1, _⟩ => show win0_5.index t 1 * 1024 + 1 * q.val = q.val; rw [hi.2]; omega

theorem idx6 : ∀ t : Fin cfg0.N, win0_6.index t 0 = 0 ∧ win0_6.index t 1 = 0 ∧ win0_6.index t 2 = 0 ∧ win0_6.index t 3 = 0 := by
  decide +kernel
theorem iblk6 (c : Dev nD) (t : Fin cfg0.N) (i : Fin 4) (k : Fin 512) (q : Fin 1024) :
    (iblk m c 6 t : S1x4x512x1024.Idx → EReal) (ix4 0 i k q) = Wts m c (ix3 i k q) := by
  have hi := idx6 t
  rw [← V_w]
  unfold iblk
  rw [View.read_apply]
  show V m c main_v1 _ = V m c main_v1 _
  congr 1
  funext a
  apply Fin.ext
  match a with
  | ⟨0, _⟩ => show win0_6.index t 0 * 1 + 1 * 0 = 0; rw [hi.1]
  | ⟨1, _⟩ => show win0_6.index t 1 * 4 + 1 * i.val = i.val; rw [hi.2.1]; omega
  | ⟨2, _⟩ => show win0_6.index t 2 * 512 + 1 * k.val = k.val; rw [hi.2.2.1]; omega
  | ⟨3, _⟩ => show win0_6.index t 3 * 1024 + 1 * q.val = q.val; rw [hi.2.2.2]; omega

/-! ## What a block holds -/

/-- One branch's part at `(l, q)`. -/
abbrev part (c : Dev nD) (i : Fin 4) (l : Fin 4096) (q : Fin 1024) : EReal :=
  gate (Logits m c) (Bias m c) i l q * proj (Y m c i) (Wts m c) i l q

/-- The first two branches of a block. -/
theorem pair_block (c : Dev nD) (t : Fin cfg0.N) (r : Fin 256) (q : Fin 1024) :
    k0_pay2 (F := Ideal) (View.ld (iblk m c 0 t) r0_0) (View.ld (iblk m c 6 t) r0_1) (View.ld (iblk m c 4 t) r0_2)
        (View.ld (iblk m c 5 t) r0_3) (View.ld (iblk m c 1 t) r0_0) (View.ld (iblk m c 6 t) r0_4) (View.ld (iblk m c 4 t) r0_5)
        (View.ld (iblk m c 5 t) r0_6) (ix2 r q)
      = part m c 0 (token t r) q + part m c 1 (token t r) q := by
  unfold r0_0 r0_1 r0_2 r0_3 r0_4 r0_5 r0_6
  pointwise [k0_pay2]
  simp only [iblk0, iblk1, iblk4, iblk5, iblk6]
  have e : (⟨q.val, by omega⟩ : Fin 4096) = col 0 q := Fin.ext (by show q.val = 1024 * 0 + q.val; omega)
  simp only [e]
  rfl

/-- All four. -/
theorem block (c : Dev nD) (t : Fin cfg0.N) (r : Fin 256) (q : Fin 1024) :
    ((dats m 0 c).after 7 t : Mat 256 1024) (ix2 r q)
      = part m c 0 (token t r) q + part m c 1 (token t r) q + part m c 2 (token t r) q + part m c 3 (token t r) q := by
  rw [after0_7]
  unfold out0_7
  rw [View.canon_unit_zero hz]
  rw [← pair_block]
  generalize k0_pay2 (F := Ideal) _ _ _ _ _ _ _ _ = p
  unfold r0_0 r0_7 r0_8 r0_9 r0_10 r0_11 r0_12
  pointwise [k0_pay1, k0_pay3, k0_pay4]
  simp only [iblk2, iblk3, iblk4, iblk5, iblk6]
  rfl

/-! ## The array -/

theorem idx7 : ∀ t : Fin cfg0.N, win0_7.index t 0 = t.val ∧ win0_7.index t 1 = 0 := by decide +kernel

/-- The result after the run. -/
theorem final (c : Dev nD) :
    (dats m 0 c).arrAt 7 cfg0.N = (merged (Y m c) (Logits m c) (Bias m c) (Wts m c) : Vec Ideal S4096x1024 .f32) :=
  (dats m 0 c).arrAt_eq_of_covers 7 (merged (Y m c) (Logits m c) (Bias m c) (Wts m c) : Vec Ideal S4096x1024 .f32)
    (by decide +kernel) fun t _ y => by
    obtain ⟨r, q, rfl⟩ : ∃ (r : Fin 256) (q : Fin 1024), y = ix2 r q := ⟨y 0, y 1, eq_ix2 y⟩
    have e : ((dats m 0 c).after 7 t : Mat 256 1024) (ix2 r q)
        = merged (Y m c) (Logits m c) (Bias m c) (Wts m c) (ix2 (token t r) q) := by
      rw [block]
      exact (Fin.sum_univ_four fun i => part m c i (token t r) q).symm
    exact e.trans (congrArg _ (rows_pos (idx7 t) r q _ rfl rfl).symm)

end Cert.MergeForward

end
-- ==== Proof.MergeForwardClaim.lean ====
/-
  The claims about the gated merge, forward: the kernel's result and the reference's hold the same numbers.
-/
module

public import proofs.«01_k».proof.Defs
public import proofs.«01_k».proof.Proof.MergeForward
public import proofs.«01_k».proof.Proof.Gen.Kernel12.Frame
public import proofs.«01_k».proof.Proof.Gen.Reference12Ideal.Run
public import proofs.«01_k».proof.Proof.Gen.Reference12Ideal.Read
public import Idealize.ShloMosaic.Lib.Quiescent

@[expose] public section

set_option maxRecDepth 16384

noncomputable section

namespace Cert.Proof.MergeForward

open Idealize.ShloMosaic Idealize.ShloMosaic.TcCoe Idealize.SL.Sem
open Cert.Merge (Mat Stack pick col gate proj)
open Cert.MergeForward Cert.Reference12Ideal.Read

/-! ## What the reference computes -/

variable (y0 y1 y2 y3 : Mat 4096 512) (gl : Mat 4096 4096) (gb : Mat 4 1024) (w : Stack 4 512 1024)

/-- The four gates. -/
theorem gates_ref (i : Fin 4) (l : Fin 4096) (q : Fin 1024) :
    val_main_v21 (F := Ideal) gl gb (ix3 l i q) = gate gl gb i l q := by
  pointwise [val_main_v21, val_main_v20, val_main_v19, val_main_v18, val_main_v17, val_main_v16, val_main_v15,
    val_main_v14, val_main_v13, val_main_v12, val_main_cst, val_main_cst_0]
  have e : (⟨i.val * 1024 + q.val, by omega⟩ : Fin 4096) = col i q := Fin.ext (by show i.val * 1024 + q.val = 1024 * i.val + q.val; omega)
  simp only [e]
  rfl

/-- The four projections. -/
theorem projections_ref (l : Fin 4096) (q : Fin 1024) :
    val_main_v2 (F := Ideal) y0 w (ix2 l q) = proj y0 w 0 l q ∧ val_main_v5 (F := Ideal) y1 w (ix2 l q) = proj y1 w 1 l q
      ∧ val_main_v8 (F := Ideal) y2 w (ix2 l q) = proj y2 w 2 l q ∧ val_main_v11 (F := Ideal) y3 w (ix2 l q) = proj y3 w 3 l q := by
  refine ⟨?_, ?_, ?_, ?_⟩
  · pointwise [val_main_v2, val_main_v1, val_main_v0]
    rfl
  · pointwise [val_main_v5, val_main_v4, val_main_v3]
    rfl
  · pointwise [val_main_v8, val_main_v7, val_main_v6]
    rfl
  · pointwise [val_main_v11, val_main_v10, val_main_v9]
    rfl

/-- The merged rows. -/
theorem merged_ref (l : Fin 4096) (q : Fin 1024) :
    val_main_v36 (F := Ideal) y0 y1 y2 y3 gl gb w (ix2 l q) = merged (pick y0 y1 y2 y3) gl gb w (ix2 l q) := by
  obtain ⟨p0, p1, p2, p3⟩ := projections_ref y0 y1 y2 y3 w l q
  pointwise [val_main_v36, val_main_v35, val_main_v34, val_main_v33, val_main_v32, val_main_v31, val_main_v30, val_main_v29,
    val_main_v28, val_main_v27, val_main_v26, val_main_v25, val_main_v24, val_main_v23, val_main_v22]
  simp only [gates_ref, p0, p1, p2, p3]
  exact (Fin.sum_univ_four fun i => gate gl gb i l q * proj (pick y0 y1 y2 y3 i) w i l q).symm

/-! ## The claims -/

/-- The kernel, at bit patterns, runs to the end and leaves its arguments alone. -/
theorem frame_kernel : Cert.quiescent_Kernel12 := fun m ρ _ => Cert.Kernel12.Gen.frame m ρ
/-- So does its idealization, at extended reals. -/
theorem frame_ideal : Cert.quiescent_Kernel12Ideal := fun m ρ _ => Cert.Kernel12Ideal.Gen.frame m ρ
/-- And the reference. -/
theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)
/-- The idealization rewrote nothing. -/
theorem preserves : Cert.preserves_Kernel12_Kernel12Ideal := trivial

/-- Started from equal arguments, kernel and reference end with the same merged rows. -/
theorem algebraic : Cert.algebraic_Kernel12Ideal_Reference12Ideal := by
  intro m ρ m' ρ' _ hagree
  refine ⟨fun c => merged (Y m c) (Logits m c) (Bias m c) (Wts m c), ?_, ?_⟩
  · refine (θ_run Cert.Kernel12Ideal.defs _ _).mono (fun _ h c => ?_) (Cert.Kernel12Ideal.Value.run_blocks (F := Ideal) m ρ)
    exact ⟨(h c).1.trans (final m c), (h c).2⟩
  · refine (θ_run Cert.Reference12Ideal.defs _ _).mono (fun _ h c => ?_) (Cert.Reference12Ideal.Value.run (F := Ideal) m' ρ')
    obtain ⟨a0, a1, a2, a3, a4, a5, a6⟩ := hagree c
    refine ⟨(h c).1.trans ((val_main_v36_eq (F := Ideal) ..).trans ?_), (h c).2⟩
    rw [a0, a1, a2, a3, a4, a5, a6]
    exact funext fun y => (congrArg _ (eq_ix2 y)).trans ((merged_ref ..).trans (congrArg _ (eq_ix2 y).symm))

end Cert.Proof.MergeForward

end
-- ==== Proof.DwIn.lean ====
/-
  The gradient of 1536 columns of the projections' weight: the kernel multiplies the layer's input, transposed, with the
  gradient at those columns, one tile of 1024 tokens at a time, and writes a block of 768 columns back after the last tile.
-/
module

public import proofs.«01_k».proof.Proof.Gen.Kernel13Ideal.Value
public import proofs.«01_k».proof.Proof.Products
public import Idealize.ShloMosaic.Lib.Pointwise
public import Idealize.ShloMosaic.Lib.Tactic
public import Idealize.ShloMosaic.Lib.StableHlo.ReadAt
public import Idealize.ShloMosaic.Lib.Pipeline.ValueKit

@[expose] public section

set_option maxRecDepth 16384

noncomputable section

namespace Cert.Products.Columns

open Cert.Merge (Mat)
open Cert.Kernel13Ideal Cert.Kernel13Ideal.Gen Idealize.ShloMosaic Idealize.ShloMosaic.TcCoe Idealize.SL.Sem

variable (m : (ℓ : Loc nD τ sig) → Buf (Elt Ideal) ℓ)

/-! ## The arrays the program was given, and the blocks the body loads -/

/-- The layer's input and the gradient at the columns. -/
abbrev R (c : Dev nD) : Mat 4096 1024 := m (c.tc.loc main_arg0)
abbrev Du (c : Dev nD) : Mat 4096 1536 := m (c.tc.loc main_arg1)

theorem hz : (![0, 0] : Fin 2 → Nat) = fun _ => 0 := funext fun a => by fin_cases a <;> rfl
theorem lt8 (t : Fin cfg0.N) : t.val < 8 := lt_of_lt_of_eq t.isLt N_0
/-- The token of row `y` in the tile of point `t`, and the column of `x` in its block. -/
def token (t : Fin cfg0.N) (y : Fin 1024) : Fin 4096 := ⟨1024 * (t.val % 4) + y.val, by omega⟩
def column (t : Fin cfg0.N) (x : Fin 768) : Fin 1536 := ⟨768 * (t.val / 4) + x.val, by have := lt8 t; omega⟩

theorem V_v1 (c : Dev nD) (k : Fin 1024) (l : Fin 4096) :
    (V m c main_v1 : (⟨2, ![1024, 4096]⟩ : Shape).Idx → EReal) (ix2 k l) = R m c (ix2 l k) := by
  unfold V
  after_reads_at
theorem V_arg1 (c : Dev nD) : V m c main_arg1 = m (c.tc.loc main_arg1) := by
  unfold V
  after_reads_at

theorem idx0 : ∀ t : Fin cfg0.N, win0_0.index t 0 = 0 ∧ win0_0.index t 1 = t.val % 4 := by decide +kernel
theorem iblk0 (c : Dev nD) (t : Fin cfg0.N) (k y : Fin 1024) :
    (iblk m c 0 t : (⟨2, ![1024, 1024]⟩ : Shape).Idx → EReal) (ix2 k y) = R m c (ix2 (token t y) k) := by
  have hi := idx0 t
  rw [← V_v1]
  unfold iblk
  rw [View.read_apply]
  show V m c main_v1 _ = V m c main_v1 _
  congr 1
  funext a
  apply Fin.ext
  match a with
  | ⟨0, _⟩ => show win0_0.index t 0 * 1024 + 1 * k.val = k.val; rw [hi.1]; omega
  | ⟨1, _⟩ => show win0_0.index t 1 * 1024 + 1 * y.val = 1024 * (t.val % 4) + y.val; rw [hi.2]; omega

theorem idx1 : ∀ t : Fin cfg0.N, win0_1.index t 0 = t.val % 4 ∧ win0_1.index t 1 = t.val / 4 := by decide +kernel
theorem iblk1 (c : Dev nD) (t : Fin cfg0.N) (y : Fin 1024) (x : Fin 768) :
    (iblk m c 1 t : (⟨2, ![1024, 768]⟩ : Shape).Idx → EReal) (ix2 y x) = Du m c (ix2 (token t y) (column t x)) := by
  have hi := idx1 t
  unfold iblk
  rw [View.read_apply]
  show V m c main_arg1 _ = m (c.tc.loc main_arg1) _
  rw [V_arg1]
  congr 1
  funext a
  apply Fin.ext
  match a with
  | ⟨0, _⟩ => show win0_1.index t 0 * 1024 + 1 * y.val = 1024 * (t.val % 4) + y.val; rw [hi.1]; omega
  | ⟨1, _⟩ => show win0_1.index t 1 * 768 + 1 * x.val = 768 * (t.val / 4) + x.val; rw [hi.2]; omega

/-! ## One point -/

/-- Reading the running sum gives what it was left at. -/
theorem carried (v : Vec Ideal S1024x768 .f32) :
    (View.whole cc0_scratch0).read (Elt Ideal) ((Memref.isWhole_whole cc0_scratch0).unread v) = v :=
  (Memref.isWhole_whole cc0_scratch0).read_unread v

/-- Reading a whole block of 768 columns gives the block, and reading it where it was just written what was written. -/
theorem ld_wide {e : EltTy} (X : Vec Ideal (⟨2, ![1024, 768]⟩ : Shape) e) (inb) :
    View.ld X (Rect.unit ![0, 0] ![1024, 768] inb) = X := View.ld_unit_zero hz inb X
theorem readCov_wide {sig : RefSig} (v : View sig .tc .vmem (⟨2, ![1024, 768]⟩ : Shape) .f32)
    (w : Vec Ideal (⟨2, ![1024, 768]⟩ : Shape) .f32) (inb) (inb') :
    v.readCov (Val := Elt Ideal) [⟨Rect.unit ![0, 0] ![1024, 768] inb, w⟩] (Rect.unit ![0, 0] ![1024, 768] inb').toLoadRect = w :=
  View.readCov_unit_zero v hz inb w

/-- What the tile of position `n` adds to the block at `(k, x)`. -/
def tile (c : Dev nD) (n : ℕ) (k : Fin 1024) (x : Fin 768) : EReal :=
  if h : n < cfg0.N then ∑ y, R m c (ix2 (token ⟨n, h⟩ y) k) * Du m c (ix2 (token ⟨n, h⟩ y) (column ⟨n, h⟩ x)) else 0

theorem product (c : Dev nD) (t : Fin cfg0.N) (k : Fin 1024) (x : Fin 768) :
    k0_pay1 (F := Ideal) (iblk m c 0 t) (iblk m c 1 t) (ix2 k x) = tile m c t.val k x := by
  unfold tile
  rw [dif_pos t.isLt]
  pointwise [k0_pay1]
  simp only [iblk0, iblk1]

/-- The first tile of a block starts the sum. -/
theorem acc_A (c : Dev nD) (t : Fin cfg0.N) (h : t.val % 4 = 0) (k : Fin 1024) (x : Fin 768) :
    (outsAt0 m c t.val t.isLt).2 (ix2 k x) = tile m c t.val k x := by
  rw [outsAt0_A m c t h (by omega) (by omega)]
  dsimp only
  unfold sout0_A_0
  rw [View.read_writes_eq_canon _ _ _ (fun _ => scover0_A_0 ..)]
  unfold kernelRun0_A
  dsimp only
  sl_unfold_words
  rw [View.canon_unit_zero hz]
  simp only [View.readAt_eq_ld, Memref.IsWhole.read_unread, ld_square, ld_wide, readCov_wide]
  rw [← product]
  pointwise [k0_pay2]

/-- The other tiles add to it. -/
theorem acc_B (c : Dev nD) (t : Fin cfg0.N) (h : t.val % 4 ≠ 0) (k : Fin 1024) (x : Fin 768) :
    (outsAt0 m c t.val t.isLt).2 (ix2 k x)
      = (outsAt0 m c (t.val - 1) (Nat.lt_of_le_of_lt (Nat.sub_le _ _) t.isLt)).2 (ix2 k x) + tile m c t.val k x := by
  by_cases h3 : t.val % 4 = 3
  · rw [outsAt0_C m c t h (by omega) h3]
    dsimp only
    unfold sout0_C_0
    rw [View.read_writes_eq_canon _ _ _ (fun _ => scover0_C_0 ..)]
    unfold kernelRun0_C
    dsimp only
    sl_unfold_words
    rw [View.canon_unit_zero hz]
    simp only [View.readAt_eq_ld, Memref.IsWhole.read_unread, ld_square, ld_wide, readCov_wide]
    rw [← product]
    pointwise [k0_pay3]
    rw [carried]
  · rw [outsAt0_B m c t h (by omega) h3]
    dsimp only
    unfold sout0_B_0
    rw [View.read_writes_eq_canon _ _ _ (fun _ => scover0_B_0 ..)]
    unfold kernelRun0_B
    dsimp only
    sl_unfold_words
    rw [View.canon_unit_zero hz]
    simp only [View.readAt_eq_ld, Memref.IsWhole.read_unread, ld_square, ld_wide, readCov_wide]
    rw [← product]
    pointwise [k0_pay3]
    rw [carried]

/-- The last tile's point writes the sum out. -/
theorem out_C (c : Dev nD) (t : Fin cfg0.N) (h : t.val % 4 = 3) (k : Fin 1024) (x : Fin 768) :
    (outsAt0 m c t.val t.isLt).1 (ix2 k x) = (outsAt0 m c t.val t.isLt).2 (ix2 k x) := by
  rw [acc_B m c t (by omega), outsAt0_C m c t (by omega) (by omega) h]
  dsimp only
  unfold out0_C_2
  rw [View.read_writes_eq_canon _ _ _ (fun _ => cover0_C_2 ..)]
  unfold kernelRun0_C
  dsimp only
  sl_unfold_words
  rw [View.canon_unit_zero hz]
  simp only [View.readAt_eq_ld, Memref.IsWhole.read_unread, ld_square, ld_wide, readCov_wide]
  rw [← product]
  pointwise [k0_pay4, k0_pay3]
  rw [carried]

/-! ## The array -/

/-- The sum at a block's last point is the whole product. -/
theorem block_done (c : Dev nD) (t : Fin cfg0.N) (h : t.val % 4 = 3) (k : Fin 1024) (x : Fin 768) :
    (outsAt0 m c t.val t.isLt).2 (ix2 k x) = tn (R m c) (Du m c) (ix2 k (column t x)) := by
  refine (running_sum 4 cfg0.N (by omega) (fun n hn => (outsAt0 m c n hn).2 (ix2 k x)) (fun n => tile m c n k x)
    (fun n hn e => acc_A m c ⟨n, hn⟩ e k x) (fun n hn e => acc_B m c ⟨n + 1, hn⟩ e k x) t.val t.isLt).trans ?_
  rw [h]
  refine (Finset.sum_congr rfl fun i hi => ?_).trans (four_tiles fun l => R m c (ix2 l k) * Du m c (ix2 l (column t x)))
  have hi : i < 4 := Finset.mem_range.mp hi
  have ht := lt8 t
  have hN : cfg0.N = 8 := N_0
  unfold tile
  rw [dif_pos (by omega)]
  refine Finset.sum_congr rfl fun y _ => ?_
  rw [dif_pos (by omega)]
  have e1 : token ⟨4 * (t.val / 4) + i, by omega⟩ y = (⟨1024 * i + y.val, by omega⟩ : Fin 4096) :=
    Fin.ext (by show 1024 * ((4 * (t.val / 4) + i) % 4) + y.val = 1024 * i + y.val; omega)
  have e2 : column ⟨4 * (t.val / 4) + i, by omega⟩ x = column t x :=
    Fin.ext (by show 768 * ((4 * (t.val / 4) + i) / 4) + x.val = 768 * (t.val / 4) + x.val; omega)
  rw [e1, e2]

theorem idx2 : ∀ t : Fin cfg0.N, win0_2.index t 0 = 0 ∧ win0_2.index t 1 = t.val / 4 := by decide +kernel
theorem emb2 (t : Fin cfg0.N) (k : Fin 1024) (x : Fin 768) :
    (((cfg0.win 2).blk t).view.emb (ix2 k x) : S1024x1536.Idx) = ix2 k (column t x) := by
  have hi := idx2 t
  funext a
  apply Fin.ext
  match a with
  | ⟨0, _⟩ => show win0_2.index t 0 * 1024 + 1 * k.val = k.val; rw [hi.1]; omega
  | ⟨1, _⟩ => show win0_2.index t 1 * 768 + 1 * x.val = 768 * (t.val / 4) + x.val; rw [hi.2]; omega

/-- The result array after the run. -/
theorem final (c : Dev nD) : (dats m 0 c).arrAt 2 cfg0.N = (tn (R m c) (Du m c) : Vec Ideal S1024x1536 .bf16) :=
  (dats m 0 c).arrAt_eq_of_covers 2 (tn (R m c) (Du m c) : Vec Ideal S1024x1536 .bf16) (by decide +kernel) fun t hf y => by
    obtain ⟨k, x, rfl⟩ : ∃ (k : Fin 1024) (x : Fin 768), y = ix2 k x := ⟨y 0, y 1, eq_ix2 y⟩
    rw [emb2]
    show (dats m 0 c).after 2 t (ix2 k x) = _
    have h : t.val % 4 = 3 := (flush0_2 t).mp hf
    rw [after0_2, out_C m c t h, block_done m c t h]

end Cert.Products.Columns

end
-- ==== Proof.DwInClaim.lean ====
/-
  The claims about the gradient of 1536 columns of the projections' weight: the kernel's result array and the reference's hold the same numbers.
-/
module

public import proofs.«01_k».proof.Defs
public import proofs.«01_k».proof.Proof.DwIn
public import proofs.«01_k».proof.Proof.Gen.Kernel13.Frame
public import proofs.«01_k».proof.Proof.Gen.Reference13Ideal.Run
public import proofs.«01_k».proof.Proof.Gen.Reference13Ideal.Read
public import Idealize.ShloMosaic.Lib.Quiescent

@[expose] public section

set_option maxRecDepth 16384

noncomputable section

namespace Cert.Proof.DwIn

open Idealize.ShloMosaic Idealize.ShloMosaic.TcCoe Idealize.SL.Sem
open Cert.Merge (Mat)
open Cert.Products Cert.Products.Columns Cert.Reference13Ideal.Read

/-- What the reference computes. -/
theorem reference (r : Mat 4096 1024) (du : Mat 4096 1536) (f : Fin 1024) (k : Fin 1536) :
    val_main_v4 (F := Ideal) r du (ix2 f k) = tn r du (ix2 f k) := by
  pointwise [val_main_v4, val_main_v3, val_main_v2]
  exact Finset.sum_congr rfl fun l _ => mul_comm _ _

/-- The kernel, at bit patterns, runs to the end and leaves its arguments alone. -/
theorem frame_kernel : Cert.quiescent_Kernel13 := fun m ρ _ => Cert.Kernel13.Gen.frame m ρ
/-- So does its idealization, at extended reals. -/
theorem frame_ideal : Cert.quiescent_Kernel13Ideal := fun m ρ _ => Cert.Kernel13Ideal.Gen.frame m ρ
/-- And the reference. -/
theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)
/-- The idealization rewrote nothing. -/
theorem preserves : Cert.preserves_Kernel13_Kernel13Ideal := trivial

/-- Started from equal arguments, kernel and reference end with the same gradient. -/
theorem algebraic : Cert.algebraic_Kernel13Ideal_Reference13Ideal := by
  intro m ρ m' ρ' _ hagree
  refine ⟨fun c => tn (R m c) (Du m c), ?_, ?_⟩
  · refine (θ_run Cert.Kernel13Ideal.defs _ _).mono (fun _ h c => ?_) (Cert.Kernel13Ideal.Value.run_blocks (F := Ideal) m ρ)
    exact ⟨(h c).1.trans (final m c), (h c).2⟩
  · refine (θ_run Cert.Reference13Ideal.defs _ _).mono (fun _ h c => ?_) (Cert.Reference13Ideal.Value.run (F := Ideal) m' ρ')
    refine ⟨(h c).1.trans ?_, (h c).2⟩
    obtain ⟨a0, a1⟩ := hagree c
    refine (val_main_v4_eq (F := Ideal) ..).trans ?_
    rw [a0, a1]
    exact funext fun y => (congrArg _ (eq_ix2 y)).trans (reference ..)

end Cert.Proof.DwIn

end
-- ==== Proof.GateRun.lean ====
module

public import proofs.«01_k».proof.Proof.Gen.Kernel14Ideal.Skeleton
public import proofs.«01_k».proof.Proof.Gen.Kernel14Ideal.Frame
public import Idealize.ShloMosaic.Lib.Pipeline.FrameBody
public import Idealize.ShloMosaic.Lib.Pipeline.Value

/-! One grid point of the spatial gate's forward kernel: what its body leaves in the buffers, run once over any
    float values. The kept state goes round between the scratch block and the state result; the gated block is computed
    from the inputs alone. -/

@[expose] public section

set_option maxRecDepth 16384

noncomputable section

namespace Cert.SpatialGate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel14Ideal Cert.Kernel14Ideal.Gen

variable {F : FTy → Type} [FloatOps F]

local notation "𝕄" => MT nD τ sig Unit (Elt F) ℕ (UR sig nD τ) ℕ

/-- One piece, 128 positions by 128 channels. -/
abbrev Piece (F : FTy → Type) [FloatOps F] := Vec F S128x128 .f32

/-- The gate's half of a block: its four pieces, each row without its mean, the sum of the first piece's squares along the
    rows, and the second piece's squares. -/
structure Halves (F : FTy → Type) [FloatOps F] where
  p0 : Piece F
  p1 : Piece F
  p2 : Piece F
  p3 : Piece F
  sum0 : Vec F S128x1 .f32
  sq1 : Piece F

/-- The gate's half of one block of rows, activated and centred. -/
def halves (uv : Vec F S128x1024 .f32) : Halves F :=
  let a := k0_pay10 uv
  let b := k0_pay11 uv
  let c := k0_pay12 uv
  let d := k0_pay13 uv
  let e := k0_pay35 (k0_pay10 uv)
  let f := k0_pay36 (k0_pay11 uv)
  let h := k0_pay37 (k0_pay12 uv)
  { p0 := k0_pay41 c d e f h (Scalar.ofBits .f32 0x3F800000#32)
    p1 := k0_pay42 c d e f h (Scalar.ofBits .f32 0x3F800000#32)
    p2 := k0_pay43 c d e f h (Scalar.ofBits .f32 0x3F800000#32)
    p3 := k0_pay44 c d e f h (Scalar.ofBits .f32 0x3F800000#32)
    sum0 := k0_pay45 c d e f h (Scalar.ofBits .f32 0x3F800000#32)
    sq1 := k0_pay46 c d e f h (Scalar.ofBits .f32 0x3F800000#32) }

/-- The gated block of 128 positions. -/
def gated (uv : Vec F S128x1024 .f32) (g b : Vec F S1x512 .f32) (W : Vec F S4x128x128 .f32) (bt : Piece F) : Vec F S128x512 .f32 :=
  let n := halves uv
  k0_pay1 (k0_pay34 (k0_pay9 uv) (k0_pay33 (k0_pay9 uv)))
    (k0_pay49 (k0_pay15 g) (k0_pay20 b) (k0_pay24 W) (k0_pay28 bt) (k0_pay30 (k0_pay6 uv)) n.p0 n.p2 n.p3 n.sum0 n.sq1)
    (k0_pay52 (k0_pay28 bt) (k0_pay31 (k0_pay7 uv)) (k0_pay50 (k0_pay25 W)) (k0_pay51 (k0_pay16 g) (k0_pay21 b) n.p1 n.p2 n.p3 n.sum0 n.sq1))
    (k0_pay53 (k0_pay17 g) (k0_pay22 b) (k0_pay26 W) (k0_pay28 bt) (k0_pay32 (k0_pay8 uv)) n.p2 (k0_pay47 n.p2 n.p3 n.sum0 n.sq1) (k0_pay48 (F := F)))
    (k0_pay54 (k0_pay18 g) (k0_pay23 b) (k0_pay27 W) n.p3 (k0_pay47 n.p2 n.p3 n.sum0 n.sq1) (k0_pay48 (F := F)))
    (k0_pay55 (k0_pay28 bt))

/-- What the body leaves: the two result blocks, and the scratch block. -/
structure Held (F : FTy → Type) [FloatOps F] where
  y : Vec F S128x512 .f32
  st : Vec F S1x1x1x8x128 .f32
  sc : Vec F S1x1x8x128 .f32

/-- The point is the first of its state slot. -/
abbrev First (i : grid0.Coords) : Prop := k0_cond1 i = 1#1

open scoped Classical in
/-- The state a point finds: nothing at the first. -/
def entry (i : grid0.Coords) (s : Vec F S1x1x8x128 .f32) : Vec F S1x1x8x128 .f32 := if First i then k0_pay3 else s

/-- One grid point: what is held after it, of what was held before. -/
def step (i : grid0.Coords) (uv : Vec F S128x1024 .f32) (g b : Vec F S1x512 .f32) (W : Vec F S4x128x128 .f32) (bt : Piece F) (s : Held F) : Held F :=
  { y := gated uv g b W bt
    st := k0_pay5 (entry i s.sc)
    sc := k0_pay2 (k0_pay29 (k0_pay4 (entry i s.sc))) }

theorem off1_eq (i : grid0.Coords) : k0_off1 i = ![0, 0, 0, 0] := by
  have h : (i 1).val = 0 := Nat.lt_one_iff.1 (i 1).isLt
  unfold k0_off1; simp only [h]; decide
theorem off2_eq (i : grid0.Coords) : k0_off2 i = ![0, 0, 0, 0] := by
  have h : (i 1).val = 0 := Nat.lt_one_iff.1 (i 1).isLt
  unfold k0_off2; simp only [h]; decide

/-- Reading a block whose last store filled it whole. -/
theorem read_filled {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  subst h; exact View.read_writes_whole v f w

theorem ld_all {S : Shape} {e : EltTy} (X : Vec F S e) {off : Fin S.rank → Nat} (h : off = fun _ => 0) (inb) :
    View.ld X (Rect.unit off S.size inb) = X := View.ld_unit_zero h inb X

theorem zero2 : (![0, 0] : Fin 2 → Nat) = fun _ => 0 := by decide
theorem zero3 : (![0, 0, 0] : Fin 3 → Nat) = fun _ => 0 := by decide
theorem zero4 : (![0, 0, 0, 0] : Fin 4 → Nat) = fun _ => 0 := by decide
theorem zero5 : (![0, 0, 0, 0, 0] : Fin 5 → Nat) = fun _ => 0 := by decide

theorem ld_uv (X : Vec F S128x1024 .f32) (inb) : View.ld X (Rect.unit ![0, 0] ![128, 1024] inb) = X := View.ld_unit_zero zero2 inb X
theorem ld_line (X : Vec F S1x512 .f32) (inb) : View.ld X (Rect.unit ![0, 0] ![1, 512] inb) = X := View.ld_unit_zero zero2 inb X
theorem ld_w (X : Vec F S4x128x128 .f32) (inb) : View.ld X (Rect.unit ![0, 0, 0] ![4, 128, 128] inb) = X := View.ld_unit_zero zero3 inb X
theorem ld_piece (X : Piece F) (inb) : View.ld X (Rect.unit ![0, 0] ![128, 128] inb) = X := View.ld_unit_zero zero2 inb X
theorem ld_sc (X : Vec F S1x1x8x128 .f32) (inb) : View.ld X (Rect.unit ![0, 0, 0, 0] ![1, 1, 8, 128] inb) = X := View.ld_unit_zero zero4 inb X
theorem ld_sc1 (i : grid0.Coords) (X : Vec F S1x1x8x128 .f32) (inb) : View.ld X (Rect.unit (k0_off1 i) ![1, 1, 8, 128] inb) = X := View.ld_unit_zero ((off1_eq i).trans zero4) inb X
theorem ld_sc2 (i : grid0.Coords) (X : Vec F S1x1x8x128 .f32) (inb) : View.ld X (Rect.unit (k0_off2 i) ![1, 1, 8, 128] inb) = X := View.ld_unit_zero ((off2_eq i).trans zero4) inb X

/-- The state read back after the first point's store of it. -/
theorem found (i : grid0.Coords) (v : View sig .tc .vmem S1x1x8x128 .f32) (w : Vec F S1x1x8x128 .f32) (inb) (inb') :
    v.readCov (Val := Elt F) [⟨Rect.unit (k0_off1 i) ![1, 1, 8, 128] inb, w⟩] (Rect.unit (k0_off2 i) ![1, 1, 8, 128] inb').toLoadRect = w := by
  have h1 := (off1_eq i).trans zero4
  have h2 := (off2_eq i).trans zero4
  generalize k0_off1 i = o1 at *
  generalize k0_off2 i = o2 at *
  subst h1; subst h2
  exact View.readCov_unit_zero v rfl inb w

set_option maxHeartbeats 1500000 in
/-- The body at any grid point takes what its buffers hold one step on. -/
theorem run (c : Dev nD) (i : grid0.Coords) (a2 : Memref sig .tc .vmem S128x1024 .f32) (h2 : a2.IsWhole) (a3 : Memref sig .tc .vmem S1x512 .f32) (h3 : a3.IsWhole) (a4 : Memref sig .tc .vmem S1x512 .f32) (h4 : a4.IsWhole) (a5 : Memref sig .tc .vmem S4x128x128 .f32) (h5 : a5.IsWhole) (a6 : Memref sig .tc .vmem S128x128 .f32) (h6 : a6.IsWhole) (a7 : Memref sig .tc .vmem S128x512 .f32) (h7 : a7.IsWhole) (a8 : Memref sig .tc .vmem S1x1x1x8x128 .f32) (h8 : a8.IsWhole) (a9 : Memref sig .tc .vmem S1x1x8x128 .f32) (h9 : a9.IsWhole)
    (uv : Vec F S128x1024 .f32) (g b : Vec F S1x512 .f32) (W : Vec F S4x128x128 .f32) (bt : Piece F) (s : Held F) (E : Set ℕ) (K : PUnit → sProp 𝕄) :
    iprop(owns (c : Thread nD τ) a2 fullShare uv ∗ owns (c : Thread nD τ) a3 fullShare g ∗ owns (c : Thread nD τ) a4 fullShare b ∗ owns (c : Thread nD τ) a5 fullShare W ∗ owns (c : Thread nD τ) a6 fullShare bt ∗ owns (c : Thread nD τ) a7 fullShare s.y ∗ owns (c : Thread nD τ) a8 fullShare s.st ∗ owns (c : Thread nD τ) a9 fullShare s.sc
        ∗ (iprop(owns (c : Thread nD τ) a2 fullShare uv ∗ owns (c : Thread nD τ) a3 fullShare g ∗ owns (c : Thread nD τ) a4 fullShare b ∗ owns (c : Thread nD τ) a5 fullShare W ∗ owns (c : Thread nD τ) a6 fullShare bt ∗ owns (c : Thread nD τ) a7 fullShare (step i uv g b W bt s).y ∗ owns (c : Thread nD τ) a8 fullShare (step i uv g b W bt s).st ∗ owns (c : Thread nD τ) a9 fullShare (step i uv g b W bt s).sc) -∗ K ⟨⟩))
      ⊢ wp frame (wpE (defs₀ (F := F)) Variants.none c none) E (cc0_sg_fwd i a2 h2 a3 h3 a4 h4 a5 h5 a6 h6 a7 h7 a8 h8 a9 h9) K := by
  simp only [cc0_sg_fwd_eq_skeleton]; unfold cc0_sg_fwd_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, Hk⟩
  obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9
  by_cases c1 : k0_cond1 i = 1#1
  · sl_exec (disch := first | sl_exact c1)
    sl_step
    iapply Hk
    isplitl [H2]
    · iexists _; isplitr; swap; · iexact H2
      ipureintro; exact h2.read_unread _
    isplitl [H3]
    · iexists _; isplitr; swap; · iexact H3
      ipureintro; exact h3.read_unread _
    isplitl [H4]
    · iexists _; isplitr; swap; · iexact H4
      ipureintro; exact h4.read_unread _
    isplitl [H5]
    · iexists _; isplitr; swap; · iexact H5
      ipureintro; exact h5.read_unread _
    isplitl [H6]
    · iexists _; isplitr; swap; · iexact H6
      ipureintro; exact h6.read_unread _
    isplitl [H7]
    · iexists _; isplitr; swap; · iexact H7
      ipureintro; sl_unfold_words; dsimp only; refine (read_filled _ _ zero2 _ _).trans ?_
      simp only [View.readAt_eq_ld, Memref.IsWhole.read_unread, ld_uv, ld_line, ld_w, ld_piece, ld_sc, ld_sc1, ld_sc2, step, entry, First, c1, if_true, if_false]; rfl
    isplitl [H8]
    · iexists _; isplitr; swap; · iexact H8
      ipureintro; sl_unfold_words; dsimp only; refine (read_filled _ _ zero5 _ _).trans ?_
      simp only [View.readAt_eq_ld, Memref.IsWhole.read_unread, ld_sc1, ld_sc2, step, entry, First, c1, if_true, if_false]
      exact congrArg k0_pay5 (found i _ _ _ _)
    iexists _; isplitr; swap; · iexact H9
    ipureintro; sl_unfold_words; dsimp only; refine (read_filled _ _ ((off2_eq i).trans zero4) _ _).trans ?_
    simp only [View.readAt_eq_ld, Memref.IsWhole.read_unread, ld_sc1, ld_sc2, step, entry, First, c1, if_true, if_false]
    exact congrArg (fun x => k0_pay2 (k0_pay29 (k0_pay4 x))) (found i _ _ _ _)
  · sl_exec (disch := first | sl_exact c1)
    sl_step
    iapply Hk
    isplitl [H2]
    · iexists _; isplitr; swap; · iexact H2
      ipureintro; exact h2.read_unread _
    isplitl [H3]
    · iexists _; isplitr; swap; · iexact H3
      ipureintro; exact h3.read_unread _
    isplitl [H4]
    · iexists _; isplitr; swap; · iexact H4
      ipureintro; exact h4.read_unread _
    isplitl [H5]
    · iexists _; isplitr; swap; · iexact H5
      ipureintro; exact h5.read_unread _
    isplitl [H6]
    · iexists _; isplitr; swap; · iexact H6
      ipureintro; exact h6.read_unread _
    isplitl [H7]
    · iexists _; isplitr; swap; · iexact H7
      ipureintro; sl_unfold_words; dsimp only; refine (read_filled _ _ zero2 _ _).trans ?_
      simp only [View.readAt_eq_ld, Memref.IsWhole.read_unread, ld_uv, ld_line, ld_w, ld_piece, ld_sc, ld_sc1, ld_sc2, step, entry, First, c1, if_true, if_false]; rfl
    isplitl [H8]
    · iexists _; isplitr; swap; · iexact H8
      ipureintro; sl_unfold_words; dsimp only; refine (read_filled _ _ zero5 _ _).trans ?_
      simp only [View.readAt_eq_ld, Memref.IsWhole.read_unread, ld_sc1, ld_sc2, step, entry, First, c1, if_true, if_false]
      exact congrArg k0_pay5 (ld_sc2 i _ _)
    iexists _; isplitr; swap; · iexact H9
    ipureintro; sl_unfold_words; dsimp only; refine (read_filled _ _ ((off2_eq i).trans zero4) _ _).trans ?_
    simp only [View.readAt_eq_ld, Memref.IsWhole.read_unread, ld_sc1, ld_sc2, step, entry, First, c1, if_true, if_false]
    exact congrArg (fun x => k0_pay2 (k0_pay29 (k0_pay4 x))) (ld_sc2 i _ _)

end Cert.SpatialGate

end
-- ==== Proof.GateFrame.lean ====
module

public import proofs.«01_k».proof.Proof.GateRun
public import Idealize.ShloMosaic.Lib.Claim

/-! The spatial gate's forward kernel runs: the grid points one after another, and the launch around them. -/

@[expose] public section

set_option maxRecDepth 16384

noncomputable section

namespace Cert.SpatialGate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel14Ideal Cert.Kernel14Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of all starts the state afresh. -/
theorem first_zero : ∀ t : Fin cfg0.N, t.val = 0 → First (grid0.coords t) := by decide +kernel

/-- Every point stores into both results. -/
theorem live5 : ∀ t : Fin cfg0.N, cfg0.idle 5 (cfg0.grid.coords t) = false := by decide +kernel
theorem live6 : ∀ t : Fin cfg0.N, cfg0.idle 6 (cfg0.grid.coords t) = false := by decide +kernel

/-- The grid point at a position. -/
def pt (n : ℕ) : Fin cfg0.N := ⟨n % 32, N_0 ▸ Nat.mod_lt n (by decide)⟩
theorem pt_val (t : Fin cfg0.N) : pt t.val = t := Fin.ext (Nat.mod_eq_of_lt (N_0 ▸ t.isLt))

/-- The state kept before the point at position `n`. -/
def kept : ℕ → Vec F S1x1x8x128 .f32
  | 0 => k0_pay3
  | n + 1 => k0_pay2 (k0_pay29 (k0_pay4 (entry (grid0.coords (pt n)) (kept n))))

theorem kept_succ (t : Fin cfg0.N) : kept (F := F) (t.val + 1) = k0_pay2 (k0_pay29 (k0_pay4 (entry (grid0.coords t) (kept t.val)))) := by
  conv_lhs => unfold kept
  rw [pt_val]

/-- The first point does not read what is there. -/
theorem entry_kept (t : Fin cfg0.N) (S : Vec F S1x1x8x128 .f32) (h : t.val ≠ 0 → S = kept t.val) :
    entry (grid0.coords t) S = entry (grid0.coords t) (kept t.val) := by
  by_cases e : t.val = 0
  · unfold entry; rw [if_pos (first_zero t e), if_pos (first_zero t e)]
  · rw [h e]

/-- The gated block of a point. -/
abbrev gatedAt (c : Dev nD) (t : Fin cfg0.N) : Vec F S128x512 .f32 :=
  gated (iblk m c 0 t) (iblk m c 1 t) (iblk m c 2 t) (iblk m c 3 t) (iblk m c 4 t)

/-- The scratch block. -/
abbrev stateBuf : Memref sig .tc .vmem S1x1x8x128 .f32 := Memref.whole cc0_scratch0

/-- Between points: the scratch block, at what the point before left in it. -/
def between (c : Dev nD) (n : ℕ) : sProp 𝕄 :=
  iprop(∃ S : Vec F S1x1x8x128 .f32, ⌜n ≠ 0 → S = kept n⌝ ∗ owns (c : Thread nD τ) stateBuf fullShare S ∗ (∃ r, prngReg c r))

/-- What every window's block holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => gatedAt m c t
    | ⟨6, _⟩ => k0_pay5 (entry (grid0.coords t) (kept t.val))
  Φ t := between c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = gatedAt m c t := by dsimp only [dats]
theorem after_6 (c : Dev nD) (t : Fin cfg0.N) : (dats m 0 c).after 6 t = k0_pay5 (entry (grid0.coords t) (kept t.val)) := by dsimp only [dats]

/-- A block that holds what the proof data states after a point is what the body hands back of it. -/
theorem give (c : Dev nD) (w : Fin cfg0.W) (t : Fin cfg0.N) (X : (cfg0.win w).block.Idx → Elt F (cfg0.win w).elt)
    (h : X = (dats m 0 c).after w t) (live : cfg0.idle w (cfg0.grid.coords t) = false) :
    owns (c : Thread nD τ) ((cfg0.win w).stage (cfg0.slots t w)) fullShare X ⊢ ((dats m 0 c).leavesExact w t : sProp 𝕄) := by
  subst h
  unfold Dat.leavesExact
  rw [live]

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)

/-- The body's triple at any point: one step, from what the windows and the scratch block hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    show (dats m 0 c).Φ t.succ = between c (t.val + 1) from rfl, show (dats m 0 c).Φ t.castSucc = between c t.val from rfl]
  unfold between
  iintro ⟨⟨%S, %hS, HS, Hg⟩, Ho, ⟨%d0, H0⟩, ⟨%d1, H1⟩, ⟨%d2, H2⟩, ⟨%d3, H3⟩, ⟨%d4, H4⟩, ⟨%d5, H5⟩, ⟨%d6, H6⟩⟩
  have k := entry_kept t S hS
  iapply (run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _)
    (iblk m c 0 t) (iblk m c 1 t) (iblk m c 2 t) (iblk m c 3 t) (iblk m c 4 t)
    ⟨(dats m 0 c).before 5 t d5, (dats m 0 c).before 6 t d6, S⟩ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · iexists _
    isplitr
    swap
    · isplitl [HS]; · iexact HS
      iexact Hg
    ipureintro; intro _
    rw [kept_succ, ← k]; rfl
  isplitl [Ho]; · iexact Ho
  isplitl [H0]; · iapply (give m c 0 t _ (after_0 m c t).symm rfl); iexact H0
  isplitl [H1]; · iapply (give m c 1 t _ (after_1 m c t).symm rfl); iexact H1
  isplitl [H2]; · iapply (give m c 2 t _ (after_2 m c t).symm rfl); iexact H2
  isplitl [H3]; · iapply (give m c 3 t _ (after_3 m c t).symm rfl); iexact H3
  isplitl [H4]; · iapply (give m c 4 t _ (after_4 m c t).symm rfl); iexact H4
  isplitl [H5]; · iapply (give m c 5 t _ (after_5 m c t).symm (live5 t)); iexact H5
  iapply (give m c 6 t _ (Eq.trans (by rw [← k]) (after_6 m c t).symm) (live6 t)); iexact H6

/-- The body table's row at a point is the body on the staging buffers. -/
theorem row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-- What the launch hands the region: the scratch block and the generator register, each at something. -/
theorem ΦA_eq (c : Dev nD) : (Pipeline.ΦA spec0 c : sProp 𝕄)
    = iprop((∃ d, owns (c : Thread nD τ) stateBuf fullShare d) ∗ (∃ r, prngReg c r)) := by
  unfold Pipeline.ΦA; rw [scopedRest0_eq]; simp only [stateBuf, owns_whole]; try rfl

theorem hin (c : Dev nD) : Pipeline.ΦA spec0 c ⊢ (dats m 0 c).Φ 0 := by
  rw [show (dats m 0 c).Φ 0 = between c 0 from rfl, ΦA_eq]
  unfold between
  iintro ⟨⟨%S, HS⟩, Hg⟩
  iexists S
  isplitr
  swap
  · isplitl [HS]; · iexact HS
    iexact Hg
  ipureintro; exact fun h => absurd rfl h

theorem hout (c : Dev nD) : (dats m 0 c).Φ (Fin.last cfg0.N) ⊢ Pipeline.ΦA spec0 c := by
  rw [show (dats m 0 c).Φ (Fin.last cfg0.N) = between c cfg0.N from rfl, ΦA_eq]
  unfold between
  iintro ⟨%S, -, HS, Hg⟩
  isplitl [HS]
  · iexists _; iexact HS
  iexact Hg

/-! ## The launch -/

set_option backward.isDefEq.respectTransparency.types false in
/-- Every run ends, with every array at what the blocks written back make of it and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- Every run ends, the arguments as they were and no semaphore raised. -/
theorem frame_ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.SpatialGate

end
-- ==== Proof.GateBlock.lean ====
/-
  One block of the spatial gate's forward kernel: 128 positions of 512 channels, the channels in four groups of 128. What
  each stage of it holds, element by element over the extended reals.
-/
module

public import proofs.«01_k».proof.Proof.GateRun
public import proofs.«01_k».proof.Proof.FfSpec
public import Idealize.ShloMosaic.Lib.Pointwise
public import Idealize.ShloMosaic.Lib.Tactic

@[expose] public section

set_option maxRecDepth 16384

noncomputable section

namespace Cert.SpatialGate

open Cert.Merge (Mat)
open Cert.Kernel14Ideal Cert.Kernel14Ideal.Gen Idealize.ShloMosaic Idealize.ShloMosaic.TcCoe

/-! ## What is computed -/

/-- A row of 512 channels. -/
abbrev Chan : Type := Fin 512 → EReal

/-- The activation: x/2 · (1 + tanh(√(2/π)·(x + 0.044715·x³))), with the constants' nearest floats. -/
def gelu (x : EReal) : EReal :=
  x * (Ideal.ofBits FTy.f32 0x3F000000#32 * (1
    + Ideal.tanh (Ideal.ofBits FTy.f32 0x3F4C422A#32 * (x + Ideal.ofBits FTy.f32 0x3D372713#32 * (x * (x * x))))))

/-- The row without its mean, and the factor that normalises it. -/
def centred (v : Chan) : Chan := fun q => v q - Ideal.div (∑ k, v k) (Ideal.ofBits FTy.f32 0x44000000#32)
def scale (v : Chan) : EReal :=
  Ideal.rsqrt (Ideal.div (∑ k, centred v k * centred v k) (Ideal.ofBits FTy.f32 0x44000000#32) + Ideal.ofBits FTy.f32 0x3727C5AC#32)
/-- The layer norm of a row. -/
def norm (v g b : Chan) : Chan := fun q => centred v q * scale v * g q + b q

/-- Channel `j` of group `p`. -/
def chan (p : Fin 4) (j : Fin 128) : Fin 512 := ⟨128 * p.val + j.val, by omega⟩

/-- A sum over all channels is the four groups' sums, one after another. -/
theorem sum_groups (f : Chan) :
    ∑ k, f k = (∑ j, f (chan 0 j)) + (∑ j, f (chan 1 j)) + (∑ j, f (chan 2 j)) + ∑ j, f (chan 3 j) := by
  have h := FeedForward.sum_tiles 4 128 fun n => if h : n < 512 then f ⟨n, h⟩ else 0
  rw [Finset.sum_range_succ, Finset.sum_range_succ, Finset.sum_range_succ, Finset.sum_range_succ, Finset.sum_range_zero, zero_add] at h
  refine ((Finset.sum_congr rfl fun k _ => ?_).trans h.symm).trans ?_
  · show f k = if h : k.val < 512 then f ⟨k.val, h⟩ else 0
    rw [dif_pos k.isLt]
  · have e (p : Fin 4) : (∑ x : Fin 128, if h : 128 * p.val + x.val < 512 then f ⟨128 * p.val + x.val, h⟩ else 0) = ∑ j, f (chan p j) :=
      Finset.sum_congr rfl fun j _ => dif_pos (by omega)
    exact congr (congrArg _ (congr (congrArg _ (congr (congrArg _ (e 0)) (e 1))) (e 2))) (e 3)

/-- One where the position `s` is not after `t`. -/
def below (t s : Fin 128) : EReal := if s ≤ t then 1 else 0

section
variable (uv : Vec Ideal S128x1024 .f32) (g b : Vec Ideal S1x512 .f32) (W : Vec Ideal S4x128x128 .f32) (bt : Piece Ideal)

/-- The activations of the gate's half, of row `r`. -/
def gateRow (r : Fin 128) : Chan := fun q => gelu (uv (ix2 r ⟨512 + q.val, by omega⟩))

theorem activated (r : Fin 128) (k : Fin 1024) (q : Fin 512) (h : k.val = 512 + q.val) : gelu (uv (ix2 r k)) = gateRow uv r q :=
  congrArg (fun x => gelu (uv (ix2 r x))) (Fin.ext h)

theorem g0_at (r j : Fin 128) : k0_pay35 (F := Ideal) (k0_pay10 uv) (ix2 r j) = gateRow uv r (chan 0 j) := by
  pointwise [k0_pay35, k0_pay10]
  exact activated uv r _ _ (by simp only [chan]; omega)
theorem g1_at (r j : Fin 128) : k0_pay36 (F := Ideal) (k0_pay11 uv) (ix2 r j) = gateRow uv r (chan 1 j) := by
  pointwise [k0_pay36, k0_pay11]
  exact activated uv r _ _ (by simp only [chan]; omega)
theorem g2_at (r j : Fin 128) : k0_pay38 (F := Ideal) (k0_pay12 uv) (k0_pay37 (k0_pay12 uv)) (1 : EReal) (ix2 r j) = gateRow uv r (chan 2 j) := by
  pointwise [k0_pay38, k0_pay37, k0_pay12]
  exact activated uv r _ _ (by simp only [chan]; omega)
theorem g3_at (r j : Fin 128) : k0_pay39 (F := Ideal) (k0_pay13 uv) (ix2 r j) = gateRow uv r (chan 3 j) := by
  pointwise [k0_pay39, k0_pay13]
  exact activated uv r _ _ (by simp only [chan]; omega)
theorem mean_at (r : Fin 128) (z : Fin 1) : k0_pay40 (F := Ideal) (k0_pay12 uv) (k0_pay13 uv) (k0_pay35 (k0_pay10 uv)) (k0_pay36 (k0_pay11 uv)) (k0_pay37 (k0_pay12 uv)) (1 : EReal) (ix2 r z)
    = Ideal.div (∑ k, gateRow uv r k) (Ideal.ofBits FTy.f32 0x44000000#32) := by
  pointwise [k0_pay40]
  simp only [g0_at, g1_at, g2_at, g3_at]
  rw [sum_groups (gateRow uv r)]

/-! The gate's rows without their means, one group at a time, and their squares. -/

theorem c0_at (r j : Fin 128) : k0_pay41 (F := Ideal) (k0_pay12 uv) (k0_pay13 uv) (k0_pay35 (k0_pay10 uv)) (k0_pay36 (k0_pay11 uv)) (k0_pay37 (k0_pay12 uv)) (1 : EReal) (ix2 r j)
    = centred (gateRow uv r) (chan 0 j) := by
  pointwise [k0_pay41]
  simp only [g0_at, mean_at]; rfl
theorem p0_at (r j : Fin 128) : (halves (F := Ideal) uv).p0 (ix2 r j) = centred (gateRow uv r) (chan 0 j) := by
  unfold halves
  pointwise []
  exact c0_at uv r j
theorem c1_at (r j : Fin 128) : k0_pay42 (F := Ideal) (k0_pay12 uv) (k0_pay13 uv) (k0_pay35 (k0_pay10 uv)) (k0_pay36 (k0_pay11 uv)) (k0_pay37 (k0_pay12 uv)) (1 : EReal) (ix2 r j)
    = centred (gateRow uv r) (chan 1 j) := by
  pointwise [k0_pay42]
  simp only [g1_at, mean_at]; rfl
theorem p1_at (r j : Fin 128) : (halves (F := Ideal) uv).p1 (ix2 r j) = centred (gateRow uv r) (chan 1 j) := by
  unfold halves
  pointwise []
  exact c1_at uv r j
theorem c2_at (r j : Fin 128) : k0_pay43 (F := Ideal) (k0_pay12 uv) (k0_pay13 uv) (k0_pay35 (k0_pay10 uv)) (k0_pay36 (k0_pay11 uv)) (k0_pay37 (k0_pay12 uv)) (1 : EReal) (ix2 r j)
    = centred (gateRow uv r) (chan 2 j) := by
  pointwise [k0_pay43]
  simp only [g2_at, mean_at]; rfl
theorem p2_at (r j : Fin 128) : (halves (F := Ideal) uv).p2 (ix2 r j) = centred (gateRow uv r) (chan 2 j) := by
  unfold halves
  pointwise []
  exact c2_at uv r j
theorem c3_at (r j : Fin 128) : k0_pay44 (F := Ideal) (k0_pay12 uv) (k0_pay13 uv) (k0_pay35 (k0_pay10 uv)) (k0_pay36 (k0_pay11 uv)) (k0_pay37 (k0_pay12 uv)) (1 : EReal) (ix2 r j)
    = centred (gateRow uv r) (chan 3 j) := by
  pointwise [k0_pay44]
  simp only [g3_at, mean_at]; rfl
theorem p3_at (r j : Fin 128) : (halves (F := Ideal) uv).p3 (ix2 r j) = centred (gateRow uv r) (chan 3 j) := by
  unfold halves
  pointwise []
  exact c3_at uv r j
theorem q0_at (r : Fin 128) (z : Fin 1) :
    (halves (F := Ideal) uv).sum0 (ix2 r z) = ∑ j, centred (gateRow uv r) (chan 0 j) * centred (gateRow uv r) (chan 0 j) := by
  unfold halves
  pointwise [k0_pay45]
  simp only [c0_at]
theorem q1_at (r j : Fin 128) :
    (halves (F := Ideal) uv).sq1 (ix2 r j) = centred (gateRow uv r) (chan 1 j) * centred (gateRow uv r) (chan 1 j) := by
  unfold halves
  pointwise [k0_pay46]
  simp only [c1_at]
/-- The factor that normalises a row. -/
theorem scale_at (r : Fin 128) (z : Fin 1) :
    k0_pay47 (F := Ideal) (halves uv).p2 (halves uv).p3 (halves uv).sum0 (halves uv).sq1 (ix2 r z) = scale (gateRow uv r) := by
  pointwise [k0_pay47]
  simp only [p2_at, p3_at, q0_at, q1_at]
  unfold scale
  rw [sum_groups fun k => centred (gateRow uv r) k * centred (gateRow uv r) k]

/-! ## The masks -/

theorem mask_bits : ∀ t s : Fin 128, (BitVec.setWidth 32 (IntOp.cmpi .sge (BitVec.ofNat 32 t.val) (BitVec.ofNat 32 s.val))).toInt
    = if s ≤ t then 1 else 0 := by decide +kernel
theorem lane_bits : ∀ s p : Fin 128, (BitVec.setWidth 32 (IntOp.cmpi .eq (BitVec.ofNat 32 s.val) (BitVec.ofNat 32 p.val))).toInt
    = if s = p then 1 else 0 := by decide +kernel
theorem mask_at (t s : Fin 128) : k0_pay48 (F := Ideal) (ix2 t s) = below t s := by
  pointwise [k0_pay48]
  refine (congrArg (fun n : ℤ => (((n : ℝ)) : EReal)) (mask_bits t s)).trans ?_
  unfold below
  split_ifs <;> simp
/-- A sum over the lanes of one lane's entry. -/
theorem lane_sum (f : Fin 128 → EReal) (p : Fin 128) :
    ∑ x, f x * (FloatOps.sitofp FTy.f32 (BitVec.setWidth 32 (IntOp.cmpi .eq (BitVec.ofNat 32 x.val) (BitVec.ofNat 32 p.val))) : Ideal .f32) = f p := by
  have h (x : Fin 128) : f x * (FloatOps.sitofp FTy.f32 (BitVec.setWidth 32 (IntOp.cmpi .eq (BitVec.ofNat 32 x.val) (BitVec.ofNat 32 p.val))) : Ideal .f32)
      = if x = p then f x else 0 := by
    refine (congrArg (fun n : ℤ => f x * (((n : ℝ)) : EReal)) (lane_bits x p)).trans ?_
    split_ifs <;> simp
  rw [Finset.sum_congr rfl fun x _ => h x, Finset.sum_ite_eq' Finset.univ p f, if_pos (Finset.mem_univ p)]

/-! ## The pieces -/

theorem pay49_at (a c : Vec Ideal S1x128 .f32) (w v u n0 n2 n3 : Piece Ideal) (q : Vec Ideal S128x1 .f32) (e : Piece Ideal) (t d : Fin 128) :
    k0_pay49 (F := Ideal) a c w v u n0 n2 n3 q e (ix2 t d)
      = u (ix2 t d) * ((∑ x, w (ix2 t x) * below t x * (n0 (ix2 x d) * (k0_pay47 (F := Ideal) n2 n3 q e (ix2 x 0) : EReal) * a (ix2 0 d) + c (ix2 0 d))) + v (ix2 t 0)) := by
  pointwise [k0_pay49]
  simp only [mask_at]
  exact congrArg _ (congrArg _ (lane_sum (fun x => v (ix2 t x)) 0))
theorem pay51_at (a c : Vec Ideal S1x128 .f32) (n1 n2 n3 : Piece Ideal) (q : Vec Ideal S128x1 .f32) (e : Piece Ideal) (x d : Fin 128) :
    (k0_pay51 (F := Ideal) a c n1 n2 n3 q e (ix2 x d) : EReal)
      = n1 (ix2 x d) * (k0_pay47 (F := Ideal) n2 n3 q e (ix2 x 0) : EReal) * a (ix2 0 d) + c (ix2 0 d) := by
  pointwise [k0_pay51]
theorem pay50_at (w : Piece Ideal) (t x : Fin 128) : k0_pay50 (F := Ideal) w (ix2 t x) = w (ix2 t x) * below t x := by
  pointwise [k0_pay50]
  simp only [mask_at]
theorem pay52_at (v u : Piece Ideal) (w n : FVec Ideal S128x128 .bf16) (t d : Fin 128) :
    k0_pay52 (F := Ideal) v u w n (ix2 t d) = u (ix2 t d) * ((∑ x, w (ix2 t x) * n (ix2 x d)) + v (ix2 t 1)) := by
  pointwise [k0_pay52]
  exact congrArg _ (congrArg _ (lane_sum (fun x => v (ix2 t x)) 1))
theorem pay53_at (a c : Vec Ideal S1x128 .f32) (w v u n2 : Piece Ideal) (f : Vec Ideal S128x1 .f32) (k : Piece Ideal) (t d : Fin 128) :
    k0_pay53 (F := Ideal) a c w v u n2 f k (ix2 t d)
      = u (ix2 t d) * ((∑ x, w (ix2 t x) * k (ix2 t x) * (n2 (ix2 x d) * f (ix2 x 0) * a (ix2 0 d) + c (ix2 0 d))) + v (ix2 t 2)) := by
  pointwise [k0_pay53]
  exact congrArg _ (congrArg _ (lane_sum (fun x => v (ix2 t x)) 2))
theorem pay54_at (a c : Vec Ideal S1x128 .f32) (w n3 : Piece Ideal) (f : Vec Ideal S128x1 .f32) (k : Piece Ideal) (t d : Fin 128) :
    k0_pay54 (F := Ideal) a c w n3 f k (ix2 t d)
      = ∑ x, w (ix2 t x) * k (ix2 t x) * (n3 (ix2 x d) * f (ix2 x 0) * a (ix2 0 d) + c (ix2 0 d)) := by
  pointwise [k0_pay54]
theorem pay55_at (v : Piece Ideal) (t : Fin 128) : (∑ x, k0_pay55 (F := Ideal) v (ix2 t x)) = v (ix2 t 3) := by
  pointwise [k0_pay55]
  exact lane_sum (fun x => v (ix2 t x)) 3

theorem join0 (u y0 y1 y2 z β : Piece Ideal) (t d : Fin 128) : k0_pay1 (F := Ideal) u y0 y1 y2 z β (ix2 t (chan 0 d)) = y0 (ix2 t d) := by
  unfold chan
  pointwise [k0_pay1]
theorem join1 (u y0 y1 y2 z β : Piece Ideal) (t d : Fin 128) : k0_pay1 (F := Ideal) u y0 y1 y2 z β (ix2 t (chan 1 d)) = y1 (ix2 t d) := by
  unfold chan
  pointwise [k0_pay1]
theorem join2 (u y0 y1 y2 z β : Piece Ideal) (t d : Fin 128) : k0_pay1 (F := Ideal) u y0 y1 y2 z β (ix2 t (chan 2 d)) = y2 (ix2 t d) := by
  unfold chan
  pointwise [k0_pay1]
  rw [dif_neg (by omega), dif_neg (by omega), dif_pos (by omega)]
  exact congrArg (fun k => y2 (ix2 t k)) (Fin.ext (by simp <;> omega))
theorem join3 (u y0 y1 y2 z β : Piece Ideal) (t d : Fin 128) :
    k0_pay1 (F := Ideal) u y0 y1 y2 z β (ix2 t (chan 3 d)) = u (ix2 t d) * (z (ix2 t d) + ∑ x, β (ix2 t x)) := by
  unfold chan
  pointwise [k0_pay1]
  rw [dif_neg (by omega), dif_neg (by omega), dif_neg (by omega)]
  exact congrArg (fun k : Fin 128 => u (ix2 t k) * (z (ix2 t k) + ∑ x, β (ix2 t x))) (Fin.ext (by simp <;> omega))

/-! ## The block -/

/-- Gain or shift, as a row. -/
def lineOf (g : Vec Ideal S1x512 .f32) : Chan := fun q => g (ix2 0 q)

theorem u0_at (t d : Fin 128) : k0_pay30 (F := Ideal) (k0_pay6 uv) (ix2 t d) = gelu (uv (ix2 t ⟨(chan 0 d).val, by omega⟩)) := by
  pointwise [k0_pay30, k0_pay6]
  exact congrArg (fun x => gelu (uv (ix2 t x))) (Fin.ext (by simp only [chan]; omega))
theorem gain0_at (d : Fin 128) : k0_pay15 (F := Ideal) g (ix2 0 d) = lineOf g (chan 0 d) := by
  pointwise [k0_pay15, k0_pay14]
  exact congrArg (fun x => g (ix2 0 x)) (Fin.ext (by simp only [chan]; omega))
theorem shift0_at (d : Fin 128) : k0_pay20 (F := Ideal) b (ix2 0 d) = lineOf b (chan 0 d) := by
  pointwise [k0_pay20, k0_pay19]
  exact congrArg (fun x => b (ix2 0 x)) (Fin.ext (by simp only [chan]; omega))
theorem w0_at (t x : Fin 128) : k0_pay24 (F := Ideal) W (ix2 t x) = W (ix3 0 t x) := by
  pointwise [k0_pay24]
theorem u1_at (t d : Fin 128) : k0_pay31 (F := Ideal) (k0_pay7 uv) (ix2 t d) = gelu (uv (ix2 t ⟨(chan 1 d).val, by omega⟩)) := by
  pointwise [k0_pay31, k0_pay7]
  exact congrArg (fun x => gelu (uv (ix2 t x))) (Fin.ext (by simp only [chan]; omega))
theorem gain1_at (d : Fin 128) : k0_pay16 (F := Ideal) g (ix2 0 d) = lineOf g (chan 1 d) := by
  pointwise [k0_pay16, k0_pay14]
  exact congrArg (fun x => g (ix2 0 x)) (Fin.ext (by simp only [chan]; omega))
theorem shift1_at (d : Fin 128) : k0_pay21 (F := Ideal) b (ix2 0 d) = lineOf b (chan 1 d) := by
  pointwise [k0_pay21, k0_pay19]
  exact congrArg (fun x => b (ix2 0 x)) (Fin.ext (by simp only [chan]; omega))
theorem w1_at (t x : Fin 128) : k0_pay25 (F := Ideal) W (ix2 t x) = W (ix3 1 t x) := by
  pointwise [k0_pay25]
theorem u2_at (t d : Fin 128) : k0_pay32 (F := Ideal) (k0_pay8 uv) (ix2 t d) = gelu (uv (ix2 t ⟨(chan 2 d).val, by omega⟩)) := by
  pointwise [k0_pay32, k0_pay8]
  exact congrArg (fun x => gelu (uv (ix2 t x))) (Fin.ext (by simp only [chan]; omega))
theorem gain2_at (d : Fin 128) : k0_pay17 (F := Ideal) g (ix2 0 d) = lineOf g (chan 2 d) := by
  pointwise [k0_pay17, k0_pay14]
  exact congrArg (fun x => g (ix2 0 x)) (Fin.ext (by simp only [chan]; omega))
theorem shift2_at (d : Fin 128) : k0_pay22 (F := Ideal) b (ix2 0 d) = lineOf b (chan 2 d) := by
  pointwise [k0_pay22, k0_pay19]
  exact congrArg (fun x => b (ix2 0 x)) (Fin.ext (by simp only [chan]; omega))
theorem w2_at (t x : Fin 128) : k0_pay26 (F := Ideal) W (ix2 t x) = W (ix3 2 t x) := by
  pointwise [k0_pay26]
theorem u3_at (t d : Fin 128) : k0_pay34 (F := Ideal) (k0_pay9 uv) (k0_pay33 (k0_pay9 uv)) (ix2 t d) = gelu (uv (ix2 t ⟨(chan 3 d).val, by omega⟩)) := by
  pointwise [k0_pay34, k0_pay33, k0_pay9]
  exact congrArg (fun x => gelu (uv (ix2 t x))) (Fin.ext (by simp only [chan]; omega))
theorem gain3_at (d : Fin 128) : k0_pay18 (F := Ideal) g (ix2 0 d) = lineOf g (chan 3 d) := by
  pointwise [k0_pay18, k0_pay14]
  exact congrArg (fun x => g (ix2 0 x)) (Fin.ext (by simp only [chan]; omega))
theorem shift3_at (d : Fin 128) : k0_pay23 (F := Ideal) b (ix2 0 d) = lineOf b (chan 3 d) := by
  pointwise [k0_pay23, k0_pay19]
  exact congrArg (fun x => b (ix2 0 x)) (Fin.ext (by simp only [chan]; omega))
theorem w3_at (t x : Fin 128) : k0_pay27 (F := Ideal) W (ix2 t x) = W (ix3 3 t x) := by
  pointwise [k0_pay27]
theorem bias_at (t x : Fin 128) : k0_pay28 (F := Ideal) bt (ix2 t x) = bt (ix2 t x) := by
  pointwise [k0_pay28]

/-- What position `t` gets in channel `d` of group `p`. -/
def mixed (p : Fin 4) (t d : Fin 128) : EReal :=
  gelu (uv (ix2 t ⟨(chan p d).val, by omega⟩))
    * ((∑ s, W (ix3 p t s) * below t s * norm (gateRow uv s) (lineOf g) (lineOf b) (chan p d)) + bt (ix2 t ⟨p.val, by omega⟩))

theorem gated0 (t d : Fin 128) : gated (F := Ideal) uv g b W bt (ix2 t (chan 0 d)) = mixed uv g b W bt 0 t d := by
  unfold gated
  refine (join0 ..).trans ?_
  rw [pay49_at]
  simp only [u0_at, gain0_at, shift0_at, w0_at, bias_at, p0_at, scale_at, mask_at]
  rfl
theorem gated1 (t d : Fin 128) : gated (F := Ideal) uv g b W bt (ix2 t (chan 1 d)) = mixed uv g b W bt 1 t d := by
  unfold gated
  refine (join1 ..).trans ?_
  rw [pay52_at]
  simp only [pay50_at, pay51_at]
  simp only [u1_at, gain1_at, shift1_at, w1_at, bias_at, p1_at, scale_at, mask_at]
  rfl
theorem gated2 (t d : Fin 128) : gated (F := Ideal) uv g b W bt (ix2 t (chan 2 d)) = mixed uv g b W bt 2 t d := by
  unfold gated
  refine (join2 ..).trans ?_
  rw [pay53_at]
  simp only [u2_at, gain2_at, shift2_at, w2_at, bias_at, p2_at, scale_at, mask_at]
  rfl
theorem gated3 (t d : Fin 128) : gated (F := Ideal) uv g b W bt (ix2 t (chan 3 d)) = mixed uv g b W bt 3 t d := by
  unfold gated
  refine (join3 ..).trans ?_
  rw [pay54_at, pay55_at]
  simp only [u3_at, gain3_at, shift3_at, w3_at, bias_at, p3_at, scale_at, mask_at]
  rfl
/-- The block a point leaves. -/
theorem gated_at (p : Fin 4) (t d : Fin 128) : gated (F := Ideal) uv g b W bt (ix2 t (chan p d)) = mixed uv g b W bt p t d := by
  match p with
  | 0 => exact gated0 uv g b W bt t d
  | 1 => exact gated1 uv g b W bt t d
  | 2 => exact gated2 uv g b W bt t d
  | 3 => exact gated3 uv g b W bt t d

end

end Cert.SpatialGate

end
-- ==== Proof.Gate.lean ====
/-
  The spatial gate's forward kernel over all tokens: what its blocks hold of the arrays the program was given, and the
  result array after the run. The 4096 tokens are 32 stretches of 128 positions, and the kernel takes one at a time.
-/
module

public import proofs.«01_k».proof.Proof.GateFrame
public import proofs.«01_k».proof.Proof.GateBlock
public import Idealize.ShloMosaic.Lib.StableHlo.ReadAt
public import Idealize.ShloMosaic.Lib.Pipeline.ValueKit

@[expose] public section

set_option maxRecDepth 16384

noncomputable section

namespace Cert.SpatialGate

open Cert.Merge (Mat)
open Cert.Kernel14Ideal Cert.Kernel14Ideal.Gen Idealize.ShloMosaic Idealize.ShloMosaic.TcCoe Idealize.SL.Sem

/-! ## What is computed -/

/-- The token at position `t` of stretch `n`. -/
def tokenAt (n : Fin 32) (t : Fin 128) : Fin 4096 := ⟨128 * n.val + t.val, by omega⟩

section
variable (uv : Mat 4096 1024) (g b : Chan) (w : (⟨3, ![4, 128, 128]⟩ : Shape).Idx → EReal) (β : Mat 4 128)

/-- The activations of the gate's half, of token `l`. -/
def gateOf (l : Fin 4096) : Chan := fun q => gelu (uv (ix2 l ⟨512 + q.val, by omega⟩))

/-- What the token at position `t` of stretch `n` gets in channel `d` of group `p`: its own activation there, times what
    the group's lower-triangular matrix mixes of the normalised gates of the positions up to it, with the position's shift. -/
def gatedOf (n : Fin 32) (t : Fin 128) (p : Fin 4) (d : Fin 128) : EReal :=
  gelu (uv (ix2 (tokenAt n t) ⟨(chan p d).val, by omega⟩))
    * ((∑ s, w (ix3 p t s) * below t s * norm (gateOf uv (tokenAt n s)) g b (chan p d)) + β (ix2 p t))

/-- The result. -/
def resY : Mat 4096 512 := fun y =>
  gatedOf uv g b w β ⟨(y 0).val / 128, by have : (y 0).val < 4096 := (y 0).isLt; omega⟩ ⟨(y 0).val % 128, by omega⟩
    ⟨(y 1).val / 128, by have : (y 1).val < 512 := (y 1).isLt; omega⟩ ⟨(y 1).val % 128, by omega⟩

theorem resY_at (n : Fin 32) (t : Fin 128) (p : Fin 4) (d : Fin 128) :
    resY uv g b w β (ix2 (tokenAt n t) (chan p d)) = gatedOf uv g b w β n t p d := by
  have e0 : (128 * n.val + t.val) / 128 = n.val := by omega
  have e1 : (128 * n.val + t.val) % 128 = t.val := by omega
  have e2 : (128 * p.val + d.val) / 128 = p.val := by omega
  have e3 : (128 * p.val + d.val) % 128 = d.val := by omega
  show gatedOf uv g b w β ⟨(128 * n.val + t.val) / 128, _⟩ ⟨(128 * n.val + t.val) % 128, _⟩ ⟨(128 * p.val + d.val) / 128, _⟩
    ⟨(128 * p.val + d.val) % 128, _⟩ = _
  simp only [e0, e1, e2, e3]

/-- Every token is a position of a stretch, and every channel one of a group. -/
theorem token_split (l : Fin 4096) : ∃ (n : Fin 32) (t : Fin 128), l = tokenAt n t :=
  ⟨⟨l.val / 128, by omega⟩, ⟨l.val % 128, by omega⟩, Fin.ext (by show l.val = 128 * (l.val / 128) + l.val % 128; omega)⟩
theorem chan_split (q : Fin 512) : ∃ (p : Fin 4) (d : Fin 128), q = chan p d :=
  ⟨⟨q.val / 128, by omega⟩, ⟨q.val % 128, by omega⟩, Fin.ext (by show q.val = 128 * (q.val / 128) + q.val % 128; omega)⟩
end

/-! ## The arrays the program was given -/

variable (m : (ℓ : Loc nD τ sig) → Buf (Elt Ideal) ℓ)

abbrev UV (c : Dev nD) : Mat 4096 1024 := m (c.tc.loc main_arg0)
abbrev Gain (c : Dev nD) : Chan := fun q => (m (c.tc.loc main_arg1) : (⟨1, ![512]⟩ : Shape).Idx → EReal) (ix1 q)
abbrev Shift (c : Dev nD) : Chan := fun q => (m (c.tc.loc main_arg2) : (⟨1, ![512]⟩ : Shape).Idx → EReal) (ix1 q)
abbrev Mix (c : Dev nD) : (⟨3, ![4, 128, 128]⟩ : Shape).Idx → EReal := m (c.tc.loc main_arg3)
abbrev Bias (c : Dev nD) : Mat 4 128 := m (c.tc.loc main_arg4)

/-- The stretch of a point. -/
abbrev at32 (t : Fin cfg0.N) : Fin 32 := ⟨t.val, lt_of_lt_of_eq t.isLt N_0⟩

theorem V_args (c : Dev nD) : V m c main_arg0 = m (c.tc.loc main_arg0) ∧ V m c main_arg3 = m (c.tc.loc main_arg3) := by
  refine ⟨?_, ?_⟩ <;> unfold V <;> after_reads_at
theorem V_gain (c : Dev nD) (z : Fin 1) (q : Fin 512) : (V m c main_v0 : Mat 1 512) (ix2 z q) = Gain m c q := by
  unfold V
  after_reads_at
theorem V_shift (c : Dev nD) (z : Fin 1) (q : Fin 512) : (V m c main_v1 : Mat 1 512) (ix2 z q) = Shift m c q := by
  unfold V
  after_reads_at
/-- The shifts, transposed and padded: lane `p` of the first four holds group `p`'s. -/
theorem V_bias (c : Dev nD) (t : Fin 128) (p : Fin 4) :
    (V m c main_v3 : Mat 128 128) (ix2 t ⟨p.val, by omega⟩) = Bias m c (ix2 p t) := by
  unfold V
  after_reads_at

/-! ## The blocks a point takes -/

/-- An index into a block of 128 rows. -/
theorem rows_pos {n : ℕ} {t : Fin 32} {i : Fin 2 → ℕ} (hi : i 0 = t.val ∧ i 1 = 0) (r : Fin 128) (j : Fin n)
    (y : (⟨2, ![4096, n]⟩ : Shape).Idx) (h0 : (y 0).val = i 0 * 128 + 1 * r.val) (h1 : (y 1).val = i 1 * n + 1 * j.val) :
    y = ix2 (tokenAt t r) j := by
  funext a
  apply Fin.ext
  match a with
  | ⟨0, _⟩ => show (y 0).val = 128 * t.val + r.val; rw [h0, hi.1]; omega
  | ⟨1, _⟩ => show (y 1).val = j.val; rw [h1, hi.2, Nat.zero_mul]; omega
/-- An index into a window over a whole array. -/
theorem whole_pos {a n : ℕ} {i : Fin 2 → ℕ} (hi : i 0 = 0 ∧ i 1 = 0) (r : Fin a) (j : Fin n)
    (y : (⟨2, ![a, n]⟩ : Shape).Idx) (h0 : (y 0).val = i 0 * a + 1 * r.val) (h1 : (y 1).val = i 1 * n + 1 * j.val) :
    y = ix2 r j := by
  funext x
  apply Fin.ext
  match x with
  | ⟨0, _⟩ => show (y 0).val = r.val; rw [h0, hi.1, Nat.zero_mul]; omega
  | ⟨1, _⟩ => show (y 1).val = j.val; rw [h1, hi.2, Nat.zero_mul]; omega

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 ∧ win0_3.index t 2 = 0 := by decide +kernel
theorem idx4 : ∀ t : Fin cfg0.N, win0_4.index t 0 = 0 ∧ win0_4.index t 1 = 0 := by decide +kernel
theorem idx5 : ∀ t : Fin cfg0.N, win0_5.index t 0 = t.val ∧ win0_5.index t 1 = 0 := by decide +kernel

theorem iblk0 (c : Dev nD) (t : Fin cfg0.N) (r : Fin 128) (j : Fin 1024) :
    (iblk m c 0 t : (⟨2, ![128, 1024]⟩ : Shape).Idx → EReal) (ix2 r j) = UV m c (ix2 (tokenAt (at32 t) r) j) := by
  unfold iblk
  rw [View.read_apply]
  exact (congrFun (V_args m c).1 _).trans (congrArg (m (c.tc.loc main_arg0)) (rows_pos (t := at32 t) (idx0 t) r j _ rfl rfl))
theorem iblk1 (c : Dev nD) (t : Fin cfg0.N) (z : Fin 1) (q : Fin 512) :
    (iblk m c 1 t : (⟨2, ![1, 512]⟩ : Shape).Idx → EReal) (ix2 z q) = Gain m c q := by
  unfold iblk
  rw [View.read_apply]
  exact (congrArg (V m c main_v0 : Mat 1 512) (whole_pos (idx1 t) z q _ rfl rfl)).trans (V_gain m c z q)
theorem iblk2 (c : Dev nD) (t : Fin cfg0.N) (z : Fin 1) (q : Fin 512) :
    (iblk m c 2 t : (⟨2, ![1, 512]⟩ : Shape).Idx → EReal) (ix2 z q) = Shift m c q := by
  unfold iblk
  rw [View.read_apply]
  exact (congrArg (V m c main_v1 : Mat 1 512) (whole_pos (idx2 t) z q _ rfl rfl)).trans (V_shift m c z q)
theorem iblk3 (c : Dev nD) (t : Fin cfg0.N) (p : Fin 4) (r s : Fin 128) :
    (iblk m c 3 t : (⟨3, ![4, 128, 128]⟩ : Shape).Idx → EReal) (ix3 p r s) = Mix m c (ix3 p r s) := by
  unfold iblk
  rw [View.read_apply]
  refine (congrFun (V_args m c).2 _).trans (congrArg (m (c.tc.loc main_arg3)) ?_)
  have hi := idx3 t
  funext a
  apply Fin.ext
  match a with
  | ⟨0, _⟩ => show win0_3.index t 0 * 4 + 1 * p.val = p.val; rw [hi.1]; omega
  | ⟨1, _⟩ => show win0_3.index t 1 * 128 + 1 * r.val = r.val; rw [hi.2.1]; omega
  | ⟨2, _⟩ => show win0_3.index t 2 * 128 + 1 * s.val = s.val; rw [hi.2.2]; omega
theorem iblk4 (c : Dev nD) (t : Fin cfg0.N) (r : Fin 128) (p : Fin 4) :
    (iblk m c 4 t : (⟨2, ![128, 128]⟩ : Shape).Idx → EReal) (ix2 r ⟨p.val, by omega⟩) = Bias m c (ix2 p r) := by
  unfold iblk
  rw [View.read_apply]
  exact (congrArg (V m c main_v3 : Mat 128 128) (whole_pos (idx4 t) r ⟨p.val, by omega⟩ _ rfl rfl)).trans (V_bias m c r p)

/-! ## The result -/

theorem row_gate (c : Dev nD) (t : Fin cfg0.N) (s : Fin 128) :
    gateRow (iblk m c 0 t) s = gateOf (UV m c) (tokenAt (at32 t) s) :=
  funext fun _ => congrArg gelu (iblk0 m c t s _)
theorem line_gain (c : Dev nD) (t : Fin cfg0.N) : lineOf (iblk m c 1 t) = Gain m c := funext fun q => iblk1 m c t 0 q
theorem line_shift (c : Dev nD) (t : Fin cfg0.N) : lineOf (iblk m c 2 t) = Shift m c := funext fun q => iblk2 m c t 0 q

theorem after5 (c : Dev nD) (t : Fin cfg0.N) (r : Fin 128) (p : Fin 4) (d : Fin 128) :
    ((dats m 0 c).after 5 t : (⟨2, ![128, 512]⟩ : Shape).Idx → EReal) (ix2 r (chan p d))
      = gatedOf (UV m c) (Gain m c) (Shift m c) (Mix m c) (Bias m c) (at32 t) r p d := by
  rw [after_5]
  refine (gated_at (iblk m c 0 t) (iblk m c 1 t) (iblk m c 2 t) (iblk m c 3 t) (iblk m c 4 t) p r d).trans ?_
  unfold mixed gatedOf
  rw [iblk0, iblk4, line_gain, line_shift]
  simp only [iblk3, row_gate]

/-- The result array after the run. -/
theorem final5 (c : Dev nD) :
    (dats m 0 c).arrAt 5 cfg0.N = (resY (UV m c) (Gain m c) (Shift m c) (Mix m c) (Bias m c) : Vec Ideal S4096x512 .f32) :=
  (dats m 0 c).arrAt_eq_of_covers 5 (resY (UV m c) (Gain m c) (Shift m c) (Mix m c) (Bias m c) : Vec Ideal S4096x512 .f32)
    (by decide +kernel) fun t _ y => by
    obtain ⟨r, q, rfl⟩ : ∃ (r : Fin 128) (q : Fin 512), y = ix2 r q := ⟨y 0, y 1, eq_ix2 y⟩
    obtain ⟨p, d, rfl⟩ := chan_split q
    refine (after5 m c t r p d).trans ((resY_at (UV m c) (Gain m c) (Shift m c) (Mix m c) (Bias m c) (at32 t) r p d).symm.trans ?_)
    exact congrArg _ (rows_pos (t := at32 t) (idx5 t) r (chan p d) _ rfl rfl).symm

end Cert.SpatialGate

end
-- ==== Proof.GateRef.lean ====
/-
  What the reference for the spatial gate's forward pass computes, read element by element over the extended reals.
-/
module

public import proofs.«01_k».proof.Proof.Gen.Reference14Ideal.Read
public import proofs.«01_k».proof.Proof.Gate
public import Idealize.ShloMosaic.Lib.Pointwise

@[expose] public section

set_option maxRecDepth 16384

noncomputable section

namespace Cert.SpatialGate.Ref

open Cert.Merge (Mat)
open Cert.SpatialGate
open Cert.Reference14Ideal Cert.Reference14Ideal.Gen Cert.Reference14Ideal.Read Idealize.ShloMosaic

variable (uv : Mat 4096 1024) (g b : (⟨1, ![512]⟩ : Shape).Idx → EReal) (w : (⟨3, ![4, 128, 128]⟩ : Shape).Idx → EReal) (β : Mat 4 128)

/-- Gain or shift, as a row. -/
def rowOf (g : (⟨1, ![512]⟩ : Shape).Idx → EReal) : Chan := fun q => g (ix1 q)

/-- The activation: the cube is multiplied up in the other order. -/
theorem act_ref (l : Fin 4096) (k : Fin 1024) : val_main_v12 (F := Ideal) uv (ix2 l k) = gelu (uv (ix2 l k)) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]
  unfold gelu
  rw [mul_comm (uv (ix2 l k) * uv (ix2 l k)) (uv (ix2 l k))]
theorem own_ref (l : Fin 4096) (q : Fin 512) : val_main_v13 (F := Ideal) uv (ix2 l q) = gelu (uv (ix2 l ⟨q.val, by omega⟩)) := by
  pointwise [val_main_v13]
  exact act_ref uv l _
theorem gate_ref (l : Fin 4096) (q : Fin 512) : val_main_v14 (F := Ideal) uv (ix2 l q) = gateOf uv l q := by
  pointwise [val_main_v14]
  exact act_ref uv l _

/-! ## The layer norm -/

theorem centred_ref (l : Fin 4096) (q : Fin 512) : val_main_v20 (F := Ideal) uv (ix2 l q) = centred (gateOf uv l) q := by
  pointwise [val_main_v20, val_main_v19, val_main_v18, val_main_v17, val_main_v16, val_main_v15, val_main_cst_3, val_main_cst_4]
  simp only [gate_ref]
  rfl
theorem scale_ref (l : Fin 4096) (z : Fin 1) : val_main_v28 (F := Ideal) uv (ix2 l z) = scale (gateOf uv l) := by
  pointwise [val_main_v28, val_main_v27, val_main_v26, val_main_v25, val_main_v24, val_main_v23, val_main_v22, val_main_v21,
    val_main_cst_5, val_main_cst_6, val_main_cst_7]
  simp only [centred_ref]
  rfl
theorem norm_ref (l : Fin 4096) (q : Fin 512) :
    val_main_v36 (F := Ideal) uv g b (ix2 l q) = norm (gateOf uv l) (rowOf g) (rowOf b) q := by
  pointwise [val_main_v36, val_main_v35, val_main_v34, val_main_v33, val_main_v32, val_main_v31, val_main_v30, val_main_v29]
  simp only [centred_ref, scale_ref]
  rfl

/-! ## The mixing -/

theorem below_bits : ∀ t s : Fin 128, IntOp.cmpi .sge (IntOp.addi (BitVec.ofNat 32 t.val) 0#32) (BitVec.ofNat 32 s.val)
    = if s ≤ t then 1#1 else 0#1 := by decide +kernel
theorem below_ref (t s : Fin 128) : val_main_v39 (F := Ideal) (ix2 t s) = below t s := by
  pointwise [val_main_v39, val_main_call0_v5, val_main_call0_v4, val_main_call0_v3, val_main_call0_v2, val_main_call0_v1,
    val_main_call0_v0, val_main_call0_c, val_main_call0_cst, val_main_v38, val_main_cst_8]
  rw [below_bits]
  unfold below
  by_cases h : s ≤ t
  · rw [if_pos h, if_pos h]; rfl
  · rw [if_neg h, if_neg h]; rfl
theorem weight_ref (p : Fin 4) (t s : Fin 128) : val_main_v42 (F := Ideal) w (ix3 p t s) = w (ix3 p t s) * below t s := by
  pointwise [val_main_v42, val_main_v41, val_main_v40]
  rw [below_ref]

/-- The stretch, position, group and channel a place of the result is of. -/
theorem place (n : Fin 32) (t : Fin 128) (p : Fin 4) (d : Fin 128) :
    idx_main_v49 (ix2 (tokenAt n t) (chan p d)) = ix4 n t p d := by
  funext a
  apply Fin.ext
  match a with
  | ⟨0, _⟩ => show ((128 * n.val + t.val) * 512 + (128 * p.val + d.val)) / 65536 = n.val; omega
  | ⟨1, _⟩ => show ((128 * n.val + t.val) * 512 + (128 * p.val + d.val)) / 512 % 128 = t.val; omega
  | ⟨2, _⟩ => show ((128 * n.val + t.val) * 512 + (128 * p.val + d.val)) / 128 % 4 = p.val; omega
  | ⟨3, _⟩ => show ((128 * n.val + t.val) * 512 + (128 * p.val + d.val)) % 128 = d.val; omega
theorem place_back (n : Fin 32) (t : Fin 128) (p : Fin 4) (d : Fin 128) :
    idx_main_v37 (ix4 n t p d) = ix2 (tokenAt n t) (chan p d) := by
  funext a
  apply Fin.ext
  match a with
  | ⟨0, _⟩ => show (((n.val * 128 + t.val) * 4 + p.val) * 128 + d.val) / 512 = 128 * n.val + t.val; omega
  | ⟨1, _⟩ => show (((n.val * 128 + t.val) * 4 + p.val) * 128 + d.val) % 512 = 128 * p.val + d.val; omega

theorem split_ref (n : Fin 32) (t : Fin 128) (p : Fin 4) (d : Fin 128) :
    val_main_v37 (F := Ideal) uv g b (ix4 n t p d) = norm (gateOf uv (tokenAt n t)) (rowOf g) (rowOf b) (chan p d) := by
  rw [val_main_v37_apply, place_back, norm_ref]

theorem mixed_ref (n : Fin 32) (t : Fin 128) (p : Fin 4) (d : Fin 128) :
    val_main_v48 (F := Ideal) uv g b w β (ix4 n t p d)
      = (∑ s, w (ix3 p t s) * below t s * norm (gateOf uv (tokenAt n s)) (rowOf g) (rowOf b) (chan p d)) + β (ix2 p t) := by
  pointwise [val_main_v48, val_main_v47, val_main_v46, val_main_v45, val_main_v44, val_main_v43]
  refine congrArg (· + β (ix2 p t)) (Finset.sum_congr rfl fun s _ => ?_)
  rw [split_ref, weight_ref, mul_comm]

/-- The result. -/
theorem result_ref (l : Fin 4096) (q : Fin 512) :
    val_main_v50 (F := Ideal) uv g b w β (ix2 l q) = resY uv (rowOf g) (rowOf b) w β (ix2 l q) := by
  obtain ⟨n, t, rfl⟩ := token_split l
  obtain ⟨p, d, rfl⟩ := chan_split q
  rw [resY_at, val_main_v50_apply, val_main_v49_apply, place, mixed_ref, own_ref]
  rfl

end Cert.SpatialGate.Ref

end
-- ==== Proof.GateClaim.lean ====
/-
  The claims about the spatial gate's forward pass: the kernel's gated array and the reference's hold the same numbers.
-/
module

public import proofs.«01_k».proof.Defs
public import proofs.«01_k».proof.Proof.GateRef
public import proofs.«01_k».proof.Proof.Gen.Kernel14
public import proofs.«01_k».proof.Proof.Gen.Reference14Ideal.Run
public import Idealize.ShloMosaic.Lib.Quiescent

@[expose] public section

set_option maxRecDepth 16384

noncomputable section

namespace Cert.Proof.SpatialGate

open Idealize.ShloMosaic Idealize.ShloMosaic.TcCoe Idealize.SL.Sem
open Cert.SpatialGate Cert.SpatialGate.Ref Cert.Reference14Ideal.Read

/-- The kernel, at bit patterns, runs to the end and leaves its arguments alone: the run of GateFrame.lean, the two programs
    having the same text. -/
theorem frame_kernel : Cert.quiescent_Kernel14 :=
  cast (by sl_kernel_rfl) (fun (m : (ℓ : Loc Cert.Kernel14Ideal.nD Cert.Kernel14Ideal.τ Cert.Kernel14Ideal.sig) → Buf (Elt Bits) ℓ)
    (ρ : Dev Cert.Kernel14Ideal.nD → PrngReg) (_ : True) => frame_ends (F := Bits) m ρ)
/-- So does its idealization, at extended reals. -/
theorem frame_ideal : Cert.quiescent_Kernel14Ideal := fun m ρ _ => frame_ends (F := Ideal) m ρ
/-- And the reference. -/
theorem frame_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)
/-- The idealization rewrote nothing. -/
theorem preserves : Cert.preserves_Kernel14_Kernel14Ideal := trivial

/-- Started from equal arguments, kernel and reference end with equal gated arrays. -/
theorem algebraic : Cert.algebraic_Kernel14Ideal_Reference14Ideal := by
  intro m ρ m' ρ' _ hagree
  refine ⟨fun c => resY (UV m c) (Gain m c) (Shift m c) (Mix m c) (Bias m c), ?_, ?_⟩
  · refine (θ_run Cert.Kernel14Ideal.defs _ _).mono (fun _ h c => ?_)
      (θ_run_and (run_main (F := Ideal) m ρ) (frame_ends (F := Ideal) m ρ))
    exact ⟨((h.1 c).1 5).trans (final5 m c), h.2.1 c⟩
  · refine (θ_run Cert.Reference14Ideal.defs _ _).mono (fun _ h c => ?_) (Cert.Reference14Ideal.Value.run (F := Ideal) m' ρ')
    obtain ⟨h0, hargs⟩ := h c
    obtain ⟨a0, a1, a2, a3, a4⟩ := hagree c
    refine ⟨h0.trans ?_, hargs⟩
    refine (val_main_v50_eq (F := Ideal) ..).trans ?_
    rw [a0, a1, a2, a3, a4]
    exact funext fun y => (congrArg _ (eq_ix2 y)).trans (result_ref (UV m c) ..)

end Cert.Proof.SpatialGate

end
-- ==== Proof.lean ====
/-
  The proof of `Cert.Claim`: every program runs to the end and leaves its arguments and its semaphore counters as they
  were, the idealization rewrote nothing, and the kernel's results equal the reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame.Runs
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.MergeClaim
public import proofs.«01_k».proof.Proof.FfClaim
public import proofs.«01_k».proof.Proof.DwUpClaim
public import proofs.«01_k».proof.Proof.DwDownClaim
public import proofs.«01_k».proof.Proof.OutClaim
public import proofs.«01_k».proof.Proof.InBackClaim
public import proofs.«01_k».proof.Proof.InProjClaim
public import proofs.«01_k».proof.Proof.FfForwardClaim
public import proofs.«01_k».proof.Proof.InNormClaim
public import proofs.«01_k».proof.Proof.DwOutClaim
public import proofs.«01_k».proof.Proof.OutForwardClaim
public import proofs.«01_k».proof.Proof.MergeForwardClaim
public import proofs.«01_k».proof.Proof.DwInClaim
public import proofs.«01_k».proof.Proof.GateClaim
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Merge.frame_kernel, Merge.frame_ideal, Merge.frame_reference,
  FeedForward.frame_kernel, FeedForward.frame_ideal, FeedForward.frame_reference,
  DwUp.frame_kernel, DwUp.frame_ideal, DwUp.frame_reference,
  DwDown.frame_kernel, DwDown.frame_ideal, DwDown.frame_reference,
  OutBack.frame_kernel, OutBack.frame_ideal, OutBack.frame_reference,
  InBack.frame_kernel, InBack.frame_ideal, InBack.frame_reference,
  InProj.frame_kernel, InProj.frame_ideal, InProj.frame_reference,
  FfForward.frame_kernel, FfForward.frame_ideal, FfForward.frame_reference,
  InNorm.frame_kernel, InNorm.frame_ideal, InNorm.frame_reference,
  DwOut.frame_kernel, DwOut.frame_ideal, DwOut.frame_reference,
  OutForward.frame_kernel, OutForward.frame_ideal, OutForward.frame_reference,
  MergeForward.frame_kernel, MergeForward.frame_ideal, MergeForward.frame_reference,
  DwIn.frame_kernel, DwIn.frame_ideal, DwIn.frame_reference,
  SpatialGate.frame_kernel, SpatialGate.frame_ideal, SpatialGate.frame_reference,
  Merge.preserves, Merge.algebraic,
  FeedForward.preserves, FeedForward.algebraic,
  DwUp.preserves, DwUp.algebraic,
  DwDown.preserves, DwDown.algebraic,
  OutBack.preserves, OutBack.algebraic,
  InBack.preserves, InBack.algebraic,
  InProj.preserves, InProj.algebraic,
  FfForward.preserves, FfForward.algebraic,
  InNorm.preserves, InNorm.algebraic,
  DwOut.preserves, DwOut.algebraic,
  OutForward.preserves, OutForward.algebraic,
  MergeForward.preserves, MergeForward.algebraic,
  DwIn.preserves, DwIn.algebraic,
  SpatialGate.preserves, SpatialGate.algebraic⟩

end Cert.Proof

end
